-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v26_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel) (hPre_lengths_fit := hPre_lengths_fit)
    ∧ quiescent_KernelIdeal (hKernelIdeal := hKernelIdeal) (hPre_lengths_fit := hPre_lengths_fit)
    ∧ quiescent_ReferenceIdeal (hReferenceIdeal := hReferenceIdeal) (hPre_lengths_fit := hPre_lengths_fit)
    ∧ preserves_Kernel_KernelIdeal
    ∧ algebraic_KernelIdeal_ReferenceIdeal (hKernelIdeal := hKernelIdeal) (hReferenceIdeal := hReferenceIdeal) (hPre_lengths_fit := hPre_lengths_fit)
-- ==== Pre_lengths_fit.lean ====
abbrev S24x1x4096 : Shape := ⟨3, ![24, 1, 4096]⟩
abbrev S24x1x4x128 : Shape := ⟨4, ![24, 1, 4, 128]⟩
abbrev S24x30720x4x128 : Shape := ⟨4, ![24, 30720, 4, 128]⟩
abbrev S24x4x128 : Shape := ⟨3, ![24, 4, 128]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S24x1x4096 .bf16) (main_arg1 : FVec F S24x1x4x128 .bf16) (main_arg2 : FVec F S24x1x4x128 .bf16) (main_arg3 : FVec F S24x30720x4x128 .bf16) (main_arg4 : FVec F S24x30720x4x128 .fp8e4m3) (main_arg5 : FVec F S24x4x128 .f32) (main_arg6 : IVec S24 32) : IVec S24 1 :=
  let main_c : IVec S_ 32 := constantI S_ 32 0#32
  let main_v0 : IVec S24 32 := broadcastInDim S24 ![] bcast_S_S24 main_c
  let main_v1 : IVec S24 1 := cmpi .sge main_arg6 main_v0
  let main_c_0 : IVec S_ 32 := constantI S_ 32 30720#32
  let main_v2 : IVec S24 32 := broadcastInDim S24 ![] bcast_S_S24 main_c_0
  let main_v3 : IVec S24 1 := cmpi .sle main_arg6 main_v2
  let main_v4 : IVec S24 1 := andi main_v1 main_v3
  main_v4
-- ==== Kernel.lean ====
abbrev S24x1x4096 : Shape := ⟨3, ![24, 1, 4096]⟩
abbrev S24x1x4x128 : Shape := ⟨4, ![24, 1, 4, 128]⟩
abbrev S24x30720x4x128 : Shape := ⟨4, ![24, 30720, 4, 128]⟩
abbrev S24x4x128 : Shape := ⟨3, ![24, 4, 128]⟩
abbrev S24 : Shape := ⟨1, ![24]⟩
abbrev S24x32x128 : Shape := ⟨3, ![24, 32, 128]⟩
abbrev S24x122880x128 : Shape := ⟨3, ![24, 122880, 128]⟩
abbrev S16x4096x128 : Shape := ⟨3, ![16, 4096, 128]⟩
abbrev S30x8x4096 : Shape := ⟨3, ![30, 8, 4096]⟩
abbrev S16 : Shape := ⟨1, ![16]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S8x256 : Shape := ⟨2, ![8, 256]⟩
abbrev S8x128 : Shape := ⟨2, ![8, 128]⟩
abbrev S1x32x128 : Shape := ⟨3, ![1, 32, 128]⟩
abbrev S32x128 : Shape := ⟨2, ![32, 128]⟩
abbrev S32x256 : Shape := ⟨2, ![32, 256]⟩
abbrev S64x256 : Shape := ⟨2, ![64, 256]⟩
abbrev S1x4x128 : Shape := ⟨3, ![1, 4, 128]⟩
abbrev S4x128 : Shape := ⟨2, ![4, 128]⟩
abbrev S1x128 : Shape := ⟨2, ![1, 128]⟩
abbrev S8 : Shape := ⟨1, ![8]⟩
abbrev S8x1 : Shape := ⟨2, ![8, 1]⟩
abbrev S1x256x128 : Shape := ⟨3, ![1, 256, 128]⟩
abbrev S256x128 : Shape := ⟨2, ![256, 128]⟩
abbrev S256x256 : Shape := ⟨2, ![256, 256]⟩
abbrev S1x8x256 : Shape := ⟨3, ![1, 8, 256]⟩
abbrev S1x8x128 : Shape := ⟨3, ![1, 8, 128]⟩

abbrev nBuf : Space → Nat
  | .hbm => 18
  | .vmem => 10
  | .smem => 1
  | _ => 0

abbrev bufTy : (tb : Table) → Fin (tcTables nBuf tb) → BufTy
  | .hbm, ⟨0, _⟩ => ⟨S24x1x4096, .bf16⟩
  | .hbm, ⟨1, _⟩ => ⟨S24x1x4x128, .bf16⟩
  | .hbm, ⟨2, _⟩ => ⟨S24x1x4x128, .bf16⟩
  | .hbm, ⟨3, _⟩ => ⟨S24x30720x4x128, .bf16⟩
  | .hbm, ⟨4, _⟩ => ⟨S24x30720x4x128, .fp8e4m3⟩
  | .hbm, ⟨5, _⟩ => ⟨S24x4x128, .f32⟩
  | .hbm, ⟨6, _⟩ => ⟨S24, .i32⟩
  | .hbm, ⟨7, _⟩ => ⟨S24x32x128, .bf16⟩
  | .hbm, ⟨8, _⟩ => ⟨S24x4x128, .bf16⟩
  | .hbm, ⟨9, _⟩ => ⟨S24x4x128, .bf16⟩
  | .hbm, ⟨10, _⟩ => ⟨S24x122880x128, .bf16⟩
  | .hbm, ⟨11, _⟩ => ⟨S24x122880x128, .fp8e4m3⟩
  | .hbm, ⟨12, _⟩ => ⟨S24x32x128, .bf16⟩
  | .hbm, ⟨13, _⟩ => ⟨S24x32x128, .f32⟩
  | .hbm, ⟨14, _⟩ => ⟨S24x4x128, .fp8e4m3⟩
  | .hbm, ⟨15, _⟩ => ⟨S24x1x4096, .bf16⟩
  | .hbm, ⟨16, _⟩ => ⟨S24x1x4096, .f32⟩
  | .hbm, ⟨17, _⟩ => ⟨S24x1x4x128, .fp8e4m3⟩
  | .local _ .vmem, ⟨0, _⟩ => ⟨S24x32x128, .bf16⟩
  | .local _ .vmem, ⟨1, _⟩ => ⟨S24x4x128, .bf16⟩
  | .local _ .vmem, ⟨2, _⟩ => ⟨S24x4x128, .bf16⟩
  | .local _ .vmem, ⟨3, _⟩ => ⟨S24x4x128, .f32⟩
  | .local _ .vmem, ⟨4, _⟩ => ⟨S24x32x128, .bf16⟩
  | .local _ .vmem, ⟨5, _⟩ => ⟨S24x32x128, .f32⟩
  | .local _ .vmem, ⟨6, _⟩ => ⟨S24x4x128, .fp8e4m3⟩
  | .local _ .vmem, ⟨7, _⟩ => ⟨S16x4096x128, .bf16⟩
  | .local _ .vmem, ⟨8, _⟩ => ⟨S16x4096x128, .fp8e4m3⟩
  | .local _ .vmem, ⟨9, _⟩ => ⟨S30x8x4096, .f32⟩
  | .local _ .smem, ⟨0, _⟩ => ⟨S24, .i32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c15_i32 : BitVec 32 := 15#32
  let v0 : BitVec 32 := Scalar.addi c0_i32_2 c15_i32
  let c1_i32 : BitVec 32 := 1#32
  ⟨c0_i32_2, v0, c1_i32⟩
def k0_mult1 (arg17 : BitVec 32) : BitVec 32 :=
  let c4096_i32 : BitVec 32 := 4096#32
  let v152 : BitVec 32 := Scalar.muli arg17 c4096_i32
  v152
def k0_cond1 (arg16 : BitVec 32) : BitVec 1 :=
  let c24_i32_55 : BitVec 32 := 24#32
  let v117 : BitVec 1 := Scalar.cmpi .slt arg16 c24_i32_55
  let v118 : BitVec 32 := Scalar.extui v117
  let c0_i32_56 : BitVec 32 := 0#32
  let v119 : BitVec 1 := Scalar.cmpi .ne v118 c0_i32_56
  v119

def k0_off1 (arg18 : BitVec 32) : Fin 1 → Nat :=
  ![arg18.toNat]

def k0_off2 (arg18 : BitVec 32) : Fin 3 → Nat :=
  let c0_i32_71 : BitVec 32 := 0#32
  let c0_i32_72 : BitVec 32 := 0#32
  ![arg18.toNat, 0, 0]
def k0_off3 (arg16 : BitVec 32) (arg17 : BitVec 32) : Fin 3 → Nat :=
  let c4096_i32 : BitVec 32 := 4096#32
  let v152 : BitVec 32 := Scalar.muli arg17 c4096_i32
  let v153 : BitVec 32 := v152
  let c0_i32_73 : BitVec 32 := 0#32
  ![arg16.toNat, v153.toNat, 0]

def k0_chk1 (arg16 : BitVec 32) (arg17 : BitVec 32) : Prop :=
  (∀ (k0_h1 : k0_cond1 arg16 = 1#1), 4096 ∣ (k0_mult1 arg17).toNat) ∧
  (∀ (k0_h1 : k0_cond1 arg16 = 1#1), ∀ a, (k0_off3 arg16 arg17) a + S1x4096x128.size a ≤ S24x122880x128.size a) ∧
  (∀ (k0_h1 : k0_cond1 arg16 = 1#1), ∀ (hinb : ∀ a, (k0_off3 arg16 arg17) a + S1x4096x128.size a ≤ S24x122880x128.size a), (Rect.unit (s := S24x122880x128) (k0_off3 arg16 arg17) S1x4096x128.size hinb).WholeWords (EltTy.packing .bf16))
theorem k0_mult1_dvd : ∀ (arg16 : BitVec 32) (arg17 : BitVec 32) (k0_hw1 : k0_chk1 arg16 arg17), ∀ (k0_h1 : k0_cond1 arg16 = 1#1), 4096 ∣ (k0_mult1 arg17).toNat := fun arg16 arg17 k0_hw1 k0_h1 => k0_hw1.1 k0_h1
theorem k0_off3_inb : ∀ (arg16 : BitVec 32) (arg17 : BitVec 32) (k0_hw1 : k0_chk1 arg16 arg17), ∀ (k0_h1 : k0_cond1 arg16 = 1#1), ∀ a, (k0_off3 arg16 arg17) a + S1x4096x128.size a ≤ S24x122880x128.size a := fun arg16 arg17 k0_hw1 k0_h1 => k0_hw1.2.1 k0_h1
theorem k0_off3_wordsbf16 : ∀ (arg16 : BitVec 32) (arg17 : BitVec 32) (k0_hw1 : k0_chk1 arg16 arg17), ∀ (k0_h1 : k0_cond1 arg16 = 1#1), (Rect.unit (s := S24x122880x128) (k0_off3 arg16 arg17) S1x4096x128.size (k0_off3_inb arg16 arg17 k0_hw1 k0_h1)).WholeWords (EltTy.packing .bf16) := fun arg16 arg17 k0_hw1 k0_h1 => k0_hw1.2.2 k0_h1 (k0_off3_inb arg16 arg17 k0_hw1 k0_h1)

def k0_chk2 (arg16 : BitVec 32) (arg18 : BitVec 32) : Prop :=
  (∀ (k0_h1 : k0_cond1 arg16 = 1#1), ∀ a, (k0_off1 arg18) a + S1.size a ≤ S16.size a) ∧
  (∀ (k0_h1 : k0_cond1 arg16 = 1#1), ∀ a, (k0_off2 arg18) a + S1x4096x128.size a ≤ S16x4096x128.size a) ∧
  (∀ (k0_h1 : k0_cond1 arg16 = 1#1), ∀ (hinb : ∀ a, (k0_off2 arg18) a + S1x4096x128.size a ≤ S16x4096x128.size a), (Rect.unit (s := S16x4096x128) (k0_off2 arg18) S1x4096x128.size hinb).WholeWords (EltTy.packing .bf16))
theorem k0_off1_inb : ∀ (arg16 : BitVec 32) (arg18 : BitVec 32) (k0_hw2 : k0_chk2 arg16 arg18), ∀ (k0_h1 : k0_cond1 arg16 = 1#1), ∀ a, (k0_off1 arg18) a + S1.size a ≤ S16.size a := fun arg16 arg18 k0_hw2 k0_h1 => k0_hw2.1 k0_h1
theorem k0_off2_inb : ∀ (arg16 : BitVec 32) (arg18 : BitVec 32) (k0_hw2 : k0_chk2 arg16 arg18), ∀ (k0_h1 : k0_cond1 arg16 = 1#1), ∀ a, (k0_off2 arg18) a + S1x4096x128.size a ≤ S16x4096x128.size a := fun arg16 arg18 k0_hw2 k0_h1 => k0_hw2.2.1 k0_h1
theorem k0_off2_wordsbf16 : ∀ (arg16 : BitVec 32) (arg18 : BitVec 32) (k0_hw2 : k0_chk2 arg16 arg18), ∀ (k0_h1 : k0_cond1 arg16 = 1#1), (Rect.unit (s := S16x4096x128) (k0_off2 arg18) S1x4096x128.size (k0_off2_inb arg16 arg18 k0_hw2 k0_h1)).WholeWords (EltTy.packing .bf16) := fun arg16 arg18 k0_hw2 k0_h1 => k0_hw2.2.2 k0_h1 (k0_off2_inb arg16 arg18 k0_hw2 k0_h1)

def k0_off4 (arg16 : BitVec 32) : Fin 1 → Nat :=
  let c23_i32 : BitVec 32 := 23#32
  let v120 : BitVec 32 := Scalar.minsi arg16 c23_i32
  let v122 : Index := Scalar.indexCast v120
  ![v122.toNat]

def k0_chk3 (arg16 : BitVec 32) : Prop :=
  (∀ a, (k0_off4 arg16) a + S1.size a ≤ S24.size a)
theorem k0_off4_inb : ∀ (arg16 : BitVec 32) (k0_hw3 : k0_chk3 arg16), ∀ a, (k0_off4 arg16) a + S1.size a ≤ S24.size a := fun arg16 k0_hw3 => k0_hw3

@[reducible] def k0_t2_loop : Scf.Loop 32 :=
  let c0_i32_6 : BitVec 32 := 0#32
  let c15_i32_7 : BitVec 32 := 15#32
  let v2 : BitVec 32 := Scalar.addi c0_i32_6 c15_i32_7
  let c1_i32_8 : BitVec 32 := 1#32
  ⟨c0_i32_6, v2, c1_i32_8⟩
def k0_mult2 (arg17 : BitVec 32) : BitVec 32 :=
  let c4096_i32 : BitVec 32 := 4096#32
  let v152 : BitVec 32 := Scalar.muli arg17 c4096_i32
  v152
def k0_cond2 (arg16 : BitVec 32) : BitVec 1 :=
  let c24_i32_55 : BitVec 32 := 24#32
  let v117 : BitVec 1 := Scalar.cmpi .slt arg16 c24_i32_55
  let v118 : BitVec 32 := Scalar.extui v117
  let c0_i32_56 : BitVec 32 := 0#32
  let v119 : BitVec 1 := Scalar.cmpi .ne v118 c0_i32_56
  v119

def k0_off5 (arg18 : BitVec 32) : Fin 1 → Nat :=
  ![arg18.toNat]

def k0_off6 (arg18 : BitVec 32) : Fin 3 → Nat :=
  let c0_i32_71 : BitVec 32 := 0#32
  let c0_i32_72 : BitVec 32 := 0#32
  ![arg18.toNat, 0, 0]
def k0_off7 (arg16 : BitVec 32) (arg17 : BitVec 32) : Fin 3 → Nat :=
  let c4096_i32 : BitVec 32 := 4096#32
  let v152 : BitVec 32 := Scalar.muli arg17 c4096_i32
  let v153 : BitVec 32 := v152
  let c0_i32_73 : BitVec 32 := 0#32
  ![arg16.toNat, v153.toNat, 0]

def k0_chk4 (arg16 : BitVec 32) (arg17 : BitVec 32) : Prop :=
  (∀ (k0_h2 : k0_cond2 arg16 = 1#1), 4096 ∣ (k0_mult2 arg17).toNat) ∧
  (∀ (k0_h2 : k0_cond2 arg16 = 1#1), ∀ a, (k0_off7 arg16 arg17) a + S1x4096x128.size a ≤ S24x122880x128.size a) ∧
  (∀ (k0_h2 : k0_cond2 arg16 = 1#1), ∀ (hinb : ∀ a, (k0_off7 arg16 arg17) a + S1x4096x128.size a ≤ S24x122880x128.size a), (Rect.unit (s := S24x122880x128) (k0_off7 arg16 arg17) S1x4096x128.size hinb).WholeWords (EltTy.packing .fp8e4m3))
theorem k0_mult2_dvd : ∀ (arg16 : BitVec 32) (arg17 : BitVec 32) (k0_hw4 : k0_chk4 arg16 arg17), ∀ (k0_h2 : k0_cond2 arg16 = 1#1), 4096 ∣ (k0_mult2 arg17).toNat := fun arg16 arg17 k0_hw4 k0_h2 => k0_hw4.1 k0_h2
theorem k0_off7_inb : ∀ (arg16 : BitVec 32) (arg17 : BitVec 32) (k0_hw4 : k0_chk4 arg16 arg17), ∀ (k0_h2 : k0_cond2 arg16 = 1#1), ∀ a, (k0_off7 arg16 arg17) a + S1x4096x128.size a ≤ S24x122880x128.size a := fun arg16 arg17 k0_hw4 k0_h2 => k0_hw4.2.1 k0_h2
theorem k0_off7_wordsfp8e4m3 : ∀ (arg16 : BitVec 32) (arg17 : BitVec 32) (k0_hw4 : k0_chk4 arg16 arg17), ∀ (k0_h2 : k0_cond2 arg16 = 1#1), (Rect.unit (s := S24x122880x128) (k0_off7 arg16 arg17) S1x4096x128.size (k0_off7_inb arg16 arg17 k0_hw4 k0_h2)).WholeWords (EltTy.packing .fp8e4m3) := fun arg16 arg17 k0_hw4 k0_h2 => k0_hw4.2.2 k0_h2 (k0_off7_inb arg16 arg17 k0_hw4 k0_h2)

def k0_chk5 (arg16 : BitVec 32) (arg18 : BitVec 32) : Prop :=
  (∀ (k0_h2 : k0_cond2 arg16 = 1#1), ∀ a, (k0_off5 arg18) a + S1.size a ≤ S16.size a) ∧
  (∀ (k0_h2 : k0_cond2 arg16 = 1#1), ∀ a, (k0_off6 arg18) a + S1x4096x128.size a ≤ S16x4096x128.size a) ∧
  (∀ (k0_h2 : k0_cond2 arg16 = 1#1), ∀ (hinb : ∀ a, (k0_off6 arg18) a + S1x4096x128.size a ≤ S16x4096x128.size a), (Rect.unit (s := S16x4096x128) (k0_off6 arg18) S1x4096x128.size hinb).WholeWords (EltTy.packing .fp8e4m3))
theorem k0_off5_inb : ∀ (arg16 : BitVec 32) (arg18 : BitVec 32) (k0_hw5 : k0_chk5 arg16 arg18), ∀ (k0_h2 : k0_cond2 arg16 = 1#1), ∀ a, (k0_off5 arg18) a + S1.size a ≤ S16.size a := fun arg16 arg18 k0_hw5 k0_h2 => k0_hw5.1 k0_h2
theorem k0_off6_inb : ∀ (arg16 : BitVec 32) (arg18 : BitVec 32) (k0_hw5 : k0_chk5 arg16 arg18), ∀ (k0_h2 : k0_cond2 arg16 = 1#1), ∀ a, (k0_off6 arg18) a + S1x4096x128.size a ≤ S16x4096x128.size a := fun arg16 arg18 k0_hw5 k0_h2 => k0_hw5.2.1 k0_h2
theorem k0_off6_wordsfp8e4m3 : ∀ (arg16 : BitVec 32) (arg18 : BitVec 32) (k0_hw5 : k0_chk5 arg16 arg18), ∀ (k0_h2 : k0_cond2 arg16 = 1#1), (Rect.unit (s := S16x4096x128) (k0_off6 arg18) S1x4096x128.size (k0_off6_inb arg16 arg18 k0_hw5 k0_h2)).WholeWords (EltTy.packing .fp8e4m3) := fun arg16 arg18 k0_hw5 k0_h2 => k0_hw5.2.2 k0_h2 (k0_off6_inb arg16 arg18 k0_hw5 k0_h2)

def k0_off8 (arg16 : BitVec 32) : Fin 1 → Nat :=
  let c23_i32 : BitVec 32 := 23#32
  let v120 : BitVec 32 := Scalar.minsi arg16 c23_i32
  let v122 : Index := Scalar.indexCast v120
  ![v122.toNat]

def k0_chk6 (arg16 : BitVec 32) : Prop :=
  (∀ a, (k0_off8 arg16) a + S1.size a ≤ S24.size a)
theorem k0_off8_inb : ∀ (arg16 : BitVec 32) (k0_hw6 : k0_chk6 arg16), ∀ a, (k0_off8 arg16) a + S1.size a ≤ S24.size a := fun arg16 k0_hw6 => k0_hw6

@[reducible] def k0_t3_loop : Scf.Loop 32 :=
  let c0_i32_52 : BitVec 32 := 0#32
  let c24_i32 : BitVec 32 := 24#32
  let v115 : BitVec 32 := Scalar.addi c0_i32_52 c24_i32
  let c1_i32_53 : BitVec 32 := 1#32
  ⟨c0_i32_52, v115, c1_i32_53⟩
def k0_off9 (k0_t3 : Fin k0_t3_loop.trips) : Fin 1 → Nat :=
  let c0_i32_52 : BitVec 32 := 0#32
  let c1_i32_53 : BitVec 32 := 1#32
  let arg15 : BitVec 32 := Scf.iv c0_i32_52 c1_i32_53 k0_t3
  let v117 : Index := Scalar.indexCast arg15
  ![v117.toNat]
def k0_off10 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v140 : Index := Scalar.indexCast arg15
  let c0_62 : Index := 0#32
  let c0_63 : Index := 0#32
  ![v140.toNat, 0, 0]
def k0_off11 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v147 : Index := Scalar.indexCast arg15
  let c0_65 : Index := 0#32
  let c0_66 : Index := 0#32
  ![v147.toNat, 0, 0]
@[reducible] def k0_t4_loop (v118 : BitVec 32) : Scf.Loop 32 :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_75 : BitVec 32 := 1#32
  ⟨c0_i32_73, v194, c1_i32_75⟩

def k0_mult3 (arg26 : BitVec 32) : BitVec 32 :=
  let c4096_i32_215 : BitVec 32 := 4096#32
  let v798 : BitVec 32 := Scalar.muli arg26 c4096_i32_215
  v798
def k0_cond3 (arg25 : BitVec 32) : BitVec 1 :=
  let c24_i32_113 : BitVec 32 := 24#32
  let v365 : BitVec 1 := Scalar.cmpi .slt arg25 c24_i32_113
  let v366 : BitVec 32 := Scalar.extui v365
  let c0_i32_114 : BitVec 32 := 0#32
  let v367 : BitVec 1 := Scalar.cmpi .ne v366 c0_i32_114
  v367

def k0_off12 (arg27 : BitVec 32) : Fin 1 → Nat :=
  ![arg27.toNat]

def k0_off13 (arg27 : BitVec 32) : Fin 3 → Nat :=
  let c0_i32_216 : BitVec 32 := 0#32
  let c0_i32_217 : BitVec 32 := 0#32
  ![arg27.toNat, 0, 0]
def k0_off14 (arg25 : BitVec 32) (arg26 : BitVec 32) : Fin 3 → Nat :=
  let c4096_i32_215 : BitVec 32 := 4096#32
  let v798 : BitVec 32 := Scalar.muli arg26 c4096_i32_215
  let v799 : BitVec 32 := v798
  let c0_i32_218 : BitVec 32 := 0#32
  ![arg25.toNat, v799.toNat, 0]

def k0_chk8 (arg25 : BitVec 32) (arg26 : BitVec 32) : Prop :=
  (∀ (k0_h3 : k0_cond3 arg25 = 1#1), 4096 ∣ (k0_mult3 arg26).toNat) ∧
  (∀ (k0_h3 : k0_cond3 arg25 = 1#1), ∀ a, (k0_off14 arg25 arg26) a + S1x4096x128.size a ≤ S24x122880x128.size a) ∧
  (∀ (k0_h3 : k0_cond3 arg25 = 1#1), ∀ (hinb : ∀ a, (k0_off14 arg25 arg26) a + S1x4096x128.size a ≤ S24x122880x128.size a), (Rect.unit (s := S24x122880x128) (k0_off14 arg25 arg26) S1x4096x128.size hinb).WholeWords (EltTy.packing .bf16))
theorem k0_mult3_dvd : ∀ (arg25 : BitVec 32) (arg26 : BitVec 32) (k0_hw8 : k0_chk8 arg25 arg26), ∀ (k0_h3 : k0_cond3 arg25 = 1#1), 4096 ∣ (k0_mult3 arg26).toNat := fun arg25 arg26 k0_hw8 k0_h3 => k0_hw8.1 k0_h3
theorem k0_off14_inb : ∀ (arg25 : BitVec 32) (arg26 : BitVec 32) (k0_hw8 : k0_chk8 arg25 arg26), ∀ (k0_h3 : k0_cond3 arg25 = 1#1), ∀ a, (k0_off14 arg25 arg26) a + S1x4096x128.size a ≤ S24x122880x128.size a := fun arg25 arg26 k0_hw8 k0_h3 => k0_hw8.2.1 k0_h3
theorem k0_off14_wordsbf16 : ∀ (arg25 : BitVec 32) (arg26 : BitVec 32) (k0_hw8 : k0_chk8 arg25 arg26), ∀ (k0_h3 : k0_cond3 arg25 = 1#1), (Rect.unit (s := S24x122880x128) (k0_off14 arg25 arg26) S1x4096x128.size (k0_off14_inb arg25 arg26 k0_hw8 k0_h3)).WholeWords (EltTy.packing .bf16) := fun arg25 arg26 k0_hw8 k0_h3 => k0_hw8.2.2 k0_h3 (k0_off14_inb arg25 arg26 k0_hw8 k0_h3)

def k0_chk9 (arg25 : BitVec 32) (arg27 : BitVec 32) : Prop :=
  (∀ (k0_h3 : k0_cond3 arg25 = 1#1), ∀ a, (k0_off12 arg27) a + S1.size a ≤ S16.size a) ∧
  (∀ (k0_h3 : k0_cond3 arg25 = 1#1), ∀ a, (k0_off13 arg27) a + S1x4096x128.size a ≤ S16x4096x128.size a) ∧
  (∀ (k0_h3 : k0_cond3 arg25 = 1#1), ∀ (hinb : ∀ a, (k0_off13 arg27) a + S1x4096x128.size a ≤ S16x4096x128.size a), (Rect.unit (s := S16x4096x128) (k0_off13 arg27) S1x4096x128.size hinb).WholeWords (EltTy.packing .bf16))
theorem k0_off12_inb : ∀ (arg25 : BitVec 32) (arg27 : BitVec 32) (k0_hw9 : k0_chk9 arg25 arg27), ∀ (k0_h3 : k0_cond3 arg25 = 1#1), ∀ a, (k0_off12 arg27) a + S1.size a ≤ S16.size a := fun arg25 arg27 k0_hw9 k0_h3 => k0_hw9.1 k0_h3
theorem k0_off13_inb : ∀ (arg25 : BitVec 32) (arg27 : BitVec 32) (k0_hw9 : k0_chk9 arg25 arg27), ∀ (k0_h3 : k0_cond3 arg25 = 1#1), ∀ a, (k0_off13 arg27) a + S1x4096x128.size a ≤ S16x4096x128.size a := fun arg25 arg27 k0_hw9 k0_h3 => k0_hw9.2.1 k0_h3
theorem k0_off13_wordsbf16 : ∀ (arg25 : BitVec 32) (arg27 : BitVec 32) (k0_hw9 : k0_chk9 arg25 arg27), ∀ (k0_h3 : k0_cond3 arg25 = 1#1), (Rect.unit (s := S16x4096x128) (k0_off13 arg27) S1x4096x128.size (k0_off13_inb arg25 arg27 k0_hw9 k0_h3)).WholeWords (EltTy.packing .bf16) := fun arg25 arg27 k0_hw9 k0_h3 => k0_hw9.2.2 k0_h3 (k0_off13_inb arg25 arg27 k0_hw9 k0_h3)

def k0_off15 (arg25 : BitVec 32) : Fin 1 → Nat :=
  let c23_i32 : BitVec 32 := 23#32
  let v368 : BitVec 32 := Scalar.minsi arg25 c23_i32
  let v370 : Index := Scalar.indexCast v368
  ![v370.toNat]

def k0_chk10 (arg25 : BitVec 32) : Prop :=
  (∀ a, (k0_off15 arg25) a + S1.size a ≤ S24.size a)
theorem k0_off15_inb : ∀ (arg25 : BitVec 32) (k0_hw10 : k0_chk10 arg25), ∀ a, (k0_off15 arg25) a + S1.size a ≤ S24.size a := fun arg25 k0_hw10 => k0_hw10

def k0_mult4 (v118 : BitVec 32) (k0_t4 : Fin (k0_t4_loop v118).trips) : BitVec 32 :=
  let c0_i32_73 : BitVec 32 := 0#32
  let c1_i32_75 : BitVec 32 := 1#32
  let arg24 : BitVec 32 := Scf.iv c0_i32_73 c1_i32_75 k0_t4
  let c4096_i32 : BitVec 32 := 4096#32
  let v400 : BitVec 32 := Scalar.muli arg24 c4096_i32
  v400
def k0_off16 (arg28 : BitVec 32) : Fin 1 → Nat :=
  ![arg28.toNat]

def k0_off17 (arg28 : BitVec 32) : Fin 3 → Nat :=
  let c0_i32_132 : BitVec 32 := 0#32
  let c0_i32_133 : BitVec 32 := 0#32
  ![arg28.toNat, 0, 0]
def k0_off18 (k0_t3 : Fin k0_t3_loop.trips) (v118 : BitVec 32) (k0_t4 : Fin (k0_t4_loop v118).trips) : Fin 3 → Nat :=
  let c0_i32_52 : BitVec 32 := 0#32
  let c1_i32_53 : BitVec 32 := 1#32
  let arg15 : BitVec 32 := Scf.iv c0_i32_52 c1_i32_53 k0_t3
  let c0_i32_73 : BitVec 32 := 0#32
  let c1_i32_75 : BitVec 32 := 1#32
  let arg24 : BitVec 32 := Scf.iv c0_i32_73 c1_i32_75 k0_t4
  let c4096_i32 : BitVec 32 := 4096#32
  let v400 : BitVec 32 := Scalar.muli arg24 c4096_i32
  let v401 : BitVec 32 := v400
  let c0_i32_134 : BitVec 32 := 0#32
  ![arg15.toNat, v401.toNat, 0]
def k0_off19 (arg28 : BitVec 32) : Fin 3 → Nat :=
  let v410 : Index := Scalar.indexCast arg28
  let c0_136 : Index := 0#32
  let c0_137 : Index := 0#32
  ![v410.toNat, 0, 0]
def k0_off20 (arg28 : BitVec 32) : Fin 3 → Nat :=
  let v413 : Index := Scalar.indexCast arg28
  let c256 : Index := 256#32
  let c0_138 : Index := 0#32
  ![v413.toNat, 256, 0]
def k0_off21 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v430 : Index := Scalar.indexCast arg24
  let c0_142 : Index := 0#32
  let c0_143 : Index := 0#32
  ![v430.toNat, 0, 0]
def k0_off22 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v450 : Index := Scalar.indexCast arg24
  let c0_146 : Index := 0#32
  let c256_147 : Index := 256#32
  ![v450.toNat, 0, 256]
def k0_off23 (arg28 : BitVec 32) : Fin 3 → Nat :=
  let v458 : Index := Scalar.indexCast arg28
  let c512 : Index := 512#32
  let c0_148 : Index := 0#32
  ![v458.toNat, 512, 0]
def k0_off24 (arg28 : BitVec 32) : Fin 3 → Nat :=
  let v461 : Index := Scalar.indexCast arg28
  let c768 : Index := 768#32
  let c0_149 : Index := 0#32
  ![v461.toNat, 768, 0]
def k0_off25 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v478 : Index := Scalar.indexCast arg24
  let c0_152 : Index := 0#32
  let c512_153 : Index := 512#32
  ![v478.toNat, 0, 512]
def k0_off26 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v498 : Index := Scalar.indexCast arg24
  let c0_155 : Index := 0#32
  let c768_156 : Index := 768#32
  ![v498.toNat, 0, 768]
def k0_off27 (arg28 : BitVec 32) : Fin 3 → Nat :=
  let v506 : Index := Scalar.indexCast arg28
  let c1024 : Index := 1024#32
  let c0_157 : Index := 0#32
  ![v506.toNat, 1024, 0]
def k0_off28 (arg28 : BitVec 32) : Fin 3 → Nat :=
  let v509 : Index := Scalar.indexCast arg28
  let c1280 : Index := 1280#32
  let c0_158 : Index := 0#32
  ![v509.toNat, 1280, 0]
def k0_off29 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v526 : Index := Scalar.indexCast arg24
  let c0_161 : Index := 0#32
  let c1024_162 : Index := 1024#32
  ![v526.toNat, 0, 1024]
def k0_off30 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v546 : Index := Scalar.indexCast arg24
  let c0_164 : Index := 0#32
  let c1280_165 : Index := 1280#32
  ![v546.toNat, 0, 1280]
def k0_off31 (arg28 : BitVec 32) : Fin 3 → Nat :=
  let v554 : Index := Scalar.indexCast arg28
  let c1536 : Index := 1536#32
  let c0_166 : Index := 0#32
  ![v554.toNat, 1536, 0]
def k0_off32 (arg28 : BitVec 32) : Fin 3 → Nat :=
  let v557 : Index := Scalar.indexCast arg28
  let c1792 : Index := 1792#32
  let c0_167 : Index := 0#32
  ![v557.toNat, 1792, 0]
def k0_off33 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v574 : Index := Scalar.indexCast arg24
  let c0_170 : Index := 0#32
  let c1536_171 : Index := 1536#32
  ![v574.toNat, 0, 1536]
def k0_off34 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v594 : Index := Scalar.indexCast arg24
  let c0_173 : Index := 0#32
  let c1792_174 : Index := 1792#32
  ![v594.toNat, 0, 1792]
def k0_off35 (arg28 : BitVec 32) : Fin 3 → Nat :=
  let v602 : Index := Scalar.indexCast arg28
  let c2048 : Index := 2048#32
  let c0_175 : Index := 0#32
  ![v602.toNat, 2048, 0]
def k0_off36 (arg28 : BitVec 32) : Fin 3 → Nat :=
  let v605 : Index := Scalar.indexCast arg28
  let c2304 : Index := 2304#32
  let c0_176 : Index := 0#32
  ![v605.toNat, 2304, 0]
def k0_off37 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v622 : Index := Scalar.indexCast arg24
  let c0_179 : Index := 0#32
  let c2048_180 : Index := 2048#32
  ![v622.toNat, 0, 2048]
def k0_off38 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v642 : Index := Scalar.indexCast arg24
  let c0_182 : Index := 0#32
  let c2304_183 : Index := 2304#32
  ![v642.toNat, 0, 2304]
def k0_off39 (arg28 : BitVec 32) : Fin 3 → Nat :=
  let v650 : Index := Scalar.indexCast arg28
  let c2560 : Index := 2560#32
  let c0_184 : Index := 0#32
  ![v650.toNat, 2560, 0]
def k0_off40 (arg28 : BitVec 32) : Fin 3 → Nat :=
  let v653 : Index := Scalar.indexCast arg28
  let c2816 : Index := 2816#32
  let c0_185 : Index := 0#32
  ![v653.toNat, 2816, 0]
def k0_off41 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v670 : Index := Scalar.indexCast arg24
  let c0_188 : Index := 0#32
  let c2560_189 : Index := 2560#32
  ![v670.toNat, 0, 2560]
def k0_off42 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v690 : Index := Scalar.indexCast arg24
  let c0_191 : Index := 0#32
  let c2816_192 : Index := 2816#32
  ![v690.toNat, 0, 2816]
def k0_off43 (arg28 : BitVec 32) : Fin 3 → Nat :=
  let v698 : Index := Scalar.indexCast arg28
  let c3072 : Index := 3072#32
  let c0_193 : Index := 0#32
  ![v698.toNat, 3072, 0]
def k0_off44 (arg28 : BitVec 32) : Fin 3 → Nat :=
  let v701 : Index := Scalar.indexCast arg28
  let c3328 : Index := 3328#32
  let c0_194 : Index := 0#32
  ![v701.toNat, 3328, 0]
def k0_off45 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v718 : Index := Scalar.indexCast arg24
  let c0_197 : Index := 0#32
  let c3072_198 : Index := 3072#32
  ![v718.toNat, 0, 3072]
def k0_off46 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v738 : Index := Scalar.indexCast arg24
  let c0_200 : Index := 0#32
  let c3328_201 : Index := 3328#32
  ![v738.toNat, 0, 3328]
def k0_off47 (arg28 : BitVec 32) : Fin 3 → Nat :=
  let v746 : Index := Scalar.indexCast arg28
  let c3584 : Index := 3584#32
  let c0_202 : Index := 0#32
  ![v746.toNat, 3584, 0]
def k0_off48 (arg28 : BitVec 32) : Fin 3 → Nat :=
  let v749 : Index := Scalar.indexCast arg28
  let c3840 : Index := 3840#32
  let c0_203 : Index := 0#32
  ![v749.toNat, 3840, 0]

def k0_chk11 (arg28 : BitVec 32) : Prop :=
  (∀ a, (k0_off16 arg28) a + S1.size a ≤ S16.size a) ∧
  (∀ a, (k0_off17 arg28) a + S1x4096x128.size a ≤ S16x4096x128.size a) ∧
  (∀ (hinb : ∀ a, (k0_off17 arg28) a + S1x4096x128.size a ≤ S16x4096x128.size a), (Rect.unit (s := S16x4096x128) (k0_off17 arg28) S1x4096x128.size hinb).WholeWords (EltTy.packing .bf16)) ∧
  (∀ a, (k0_off19 arg28) a + S1x256x128.size a ≤ S16x4096x128.size a) ∧
  (∀ a, (k0_off20 arg28) a + S1x256x128.size a ≤ S16x4096x128.size a) ∧
  (∀ a, (k0_off23 arg28) a + S1x256x128.size a ≤ S16x4096x128.size a) ∧
  (∀ a, (k0_off24 arg28) a + S1x256x128.size a ≤ S16x4096x128.size a) ∧
  (∀ a, (k0_off27 arg28) a + S1x256x128.size a ≤ S16x4096x128.size a) ∧
  (∀ a, (k0_off28 arg28) a + S1x256x128.size a ≤ S16x4096x128.size a) ∧
  (∀ a, (k0_off31 arg28) a + S1x256x128.size a ≤ S16x4096x128.size a) ∧
  (∀ a, (k0_off32 arg28) a + S1x256x128.size a ≤ S16x4096x128.size a) ∧
  (∀ a, (k0_off35 arg28) a + S1x256x128.size a ≤ S16x4096x128.size a) ∧
  (∀ a, (k0_off36 arg28) a + S1x256x128.size a ≤ S16x4096x128.size a) ∧
  (∀ a, (k0_off39 arg28) a + S1x256x128.size a ≤ S16x4096x128.size a) ∧
  (∀ a, (k0_off40 arg28) a + S1x256x128.size a ≤ S16x4096x128.size a) ∧
  (∀ a, (k0_off43 arg28) a + S1x256x128.size a ≤ S16x4096x128.size a) ∧
  (∀ a, (k0_off44 arg28) a + S1x256x128.size a ≤ S16x4096x128.size a) ∧
  (∀ a, (k0_off47 arg28) a + S1x256x128.size a ≤ S16x4096x128.size a) ∧
  (∀ a, (k0_off48 arg28) a + S1x256x128.size a ≤ S16x4096x128.size a)
theorem k0_off16_inb : ∀ (arg28 : BitVec 32) (k0_hw11 : k0_chk11 arg28), ∀ a, (k0_off16 arg28) a + S1.size a ≤ S16.size a := fun arg28 k0_hw11 => k0_hw11.1
theorem k0_off17_inb : ∀ (arg28 : BitVec 32) (k0_hw11 : k0_chk11 arg28), ∀ a, (k0_off17 arg28) a + S1x4096x128.size a ≤ S16x4096x128.size a := fun arg28 k0_hw11 => k0_hw11.2.1
theorem k0_off17_wordsbf16 : ∀ (arg28 : BitVec 32) (k0_hw11 : k0_chk11 arg28), (Rect.unit (s := S16x4096x128) (k0_off17 arg28) S1x4096x128.size (k0_off17_inb arg28 k0_hw11)).WholeWords (EltTy.packing .bf16) := fun arg28 k0_hw11 => k0_hw11.2.2.1 (k0_off17_inb arg28 k0_hw11)
theorem k0_off19_inb : ∀ (arg28 : BitVec 32) (k0_hw11 : k0_chk11 arg28), ∀ a, (k0_off19 arg28) a + S1x256x128.size a ≤ S16x4096x128.size a := fun arg28 k0_hw11 => k0_hw11.2.2.2.1
theorem k0_off20_inb : ∀ (arg28 : BitVec 32) (k0_hw11 : k0_chk11 arg28), ∀ a, (k0_off20 arg28) a + S1x256x128.size a ≤ S16x4096x128.size a := fun arg28 k0_hw11 => k0_hw11.2.2.2.2.1
theorem k0_off23_inb : ∀ (arg28 : BitVec 32) (k0_hw11 : k0_chk11 arg28), ∀ a, (k0_off23 arg28) a + S1x256x128.size a ≤ S16x4096x128.size a := fun arg28 k0_hw11 => k0_hw11.2.2.2.2.2.1
theorem k0_off24_inb : ∀ (arg28 : BitVec 32) (k0_hw11 : k0_chk11 arg28), ∀ a, (k0_off24 arg28) a + S1x256x128.size a ≤ S16x4096x128.size a := fun arg28 k0_hw11 => k0_hw11.2.2.2.2.2.2.1
theorem k0_off27_inb : ∀ (arg28 : BitVec 32) (k0_hw11 : k0_chk11 arg28), ∀ a, (k0_off27 arg28) a + S1x256x128.size a ≤ S16x4096x128.size a := fun arg28 k0_hw11 => k0_hw11.2.2.2.2.2.2.2.1
theorem k0_off28_inb : ∀ (arg28 : BitVec 32) (k0_hw11 : k0_chk11 arg28), ∀ a, (k0_off28 arg28) a + S1x256x128.size a ≤ S16x4096x128.size a := fun arg28 k0_hw11 => k0_hw11.2.2.2.2.2.2.2.2.1
theorem k0_off31_inb : ∀ (arg28 : BitVec 32) (k0_hw11 : k0_chk11 arg28), ∀ a, (k0_off31 arg28) a + S1x256x128.size a ≤ S16x4096x128.size a := fun arg28 k0_hw11 => k0_hw11.2.2.2.2.2.2.2.2.2.1
theorem k0_off32_inb : ∀ (arg28 : BitVec 32) (k0_hw11 : k0_chk11 arg28), ∀ a, (k0_off32 arg28) a + S1x256x128.size a ≤ S16x4096x128.size a := fun arg28 k0_hw11 => k0_hw11.2.2.2.2.2.2.2.2.2.2.1
theorem k0_off35_inb : ∀ (arg28 : BitVec 32) (k0_hw11 : k0_chk11 arg28), ∀ a, (k0_off35 arg28) a + S1x256x128.size a ≤ S16x4096x128.size a := fun arg28 k0_hw11 => k0_hw11.2.2.2.2.2.2.2.2.2.2.2.1
theorem k0_off36_inb : ∀ (arg28 : BitVec 32) (k0_hw11 : k0_chk11 arg28), ∀ a, (k0_off36 arg28) a + S1x256x128.size a ≤ S16x4096x128.size a := fun arg28 k0_hw11 => k0_hw11.2.2.2.2.2.2.2.2.2.2.2.2.1
theorem k0_off39_inb : ∀ (arg28 : BitVec 32) (k0_hw11 : k0_chk11 arg28), ∀ a, (k0_off39 arg28) a + S1x256x128.size a ≤ S16x4096x128.size a := fun arg28 k0_hw11 => k0_hw11.2.2.2.2.2.2.2.2.2.2.2.2.2.1
theorem k0_off40_inb : ∀ (arg28 : BitVec 32) (k0_hw11 : k0_chk11 arg28), ∀ a, (k0_off40 arg28) a + S1x256x128.size a ≤ S16x4096x128.size a := fun arg28 k0_hw11 => k0_hw11.2.2.2.2.2.2.2.2.2.2.2.2.2.2.1
theorem k0_off43_inb : ∀ (arg28 : BitVec 32) (k0_hw11 : k0_chk11 arg28), ∀ a, (k0_off43 arg28) a + S1x256x128.size a ≤ S16x4096x128.size a := fun arg28 k0_hw11 => k0_hw11.2.2.2.2.2.2.2.2.2.2.2.2.2.2.2.1
theorem k0_off44_inb : ∀ (arg28 : BitVec 32) (k0_hw11 : k0_chk11 arg28), ∀ a, (k0_off44 arg28) a + S1x256x128.size a ≤ S16x4096x128.size a := fun arg28 k0_hw11 => k0_hw11.2.2.2.2.2.2.2.2.2.2.2.2.2.2.2.2.1
theorem k0_off47_inb : ∀ (arg28 : BitVec 32) (k0_hw11 : k0_chk11 arg28), ∀ a, (k0_off47 arg28) a + S1x256x128.size a ≤ S16x4096x128.size a := fun arg28 k0_hw11 => k0_hw11.2.2.2.2.2.2.2.2.2.2.2.2.2.2.2.2.2.1
theorem k0_off48_inb : ∀ (arg28 : BitVec 32) (k0_hw11 : k0_chk11 arg28), ∀ a, (k0_off48 arg28) a + S1x256x128.size a ≤ S16x4096x128.size a := fun arg28 k0_hw11 => k0_hw11.2.2.2.2.2.2.2.2.2.2.2.2.2.2.2.2.2.2

def k0_off49 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v766 : Index := Scalar.indexCast arg24
  let c0_206 : Index := 0#32
  let c3584_207 : Index := 3584#32
  ![v766.toNat, 0, 3584]
def k0_off50 (v118 : BitVec 32) (k0_t4 : Fin (k0_t4_loop v118).trips) : Fin 3 → Nat :=
  let c0_i32_73 : BitVec 32 := 0#32
  let c1_i32_75 : BitVec 32 := 1#32
  let arg24 : BitVec 32 := Scf.iv c0_i32_73 c1_i32_75 k0_t4
  let v786 : Index := Scalar.indexCast arg24
  let c0_209 : Index := 0#32
  let c3840_210 : Index := 3840#32
  ![v786.toNat, 0, 3840]
@[reducible] def k0_t5_loop (v118 : BitVec 32) : Scf.Loop 32 :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let v191 : BitVec 32 := Scalar.addi c0_i32_73 v190
  let c1_i32_76 : BitVec 32 := 1#32
  ⟨v194, v191, c1_i32_76⟩
def k0_mult5 (arg26 : BitVec 32) : BitVec 32 :=
  let c4096_i32_215 : BitVec 32 := 4096#32
  let v798 : BitVec 32 := Scalar.muli arg26 c4096_i32_215
  v798
def k0_cond4 (arg25 : BitVec 32) : BitVec 1 :=
  let c24_i32_113 : BitVec 32 := 24#32
  let v365 : BitVec 1 := Scalar.cmpi .slt arg25 c24_i32_113
  let v366 : BitVec 32 := Scalar.extui v365
  let c0_i32_114 : BitVec 32 := 0#32
  let v367 : BitVec 1 := Scalar.cmpi .ne v366 c0_i32_114
  v367

def k0_off51 (arg27 : BitVec 32) : Fin 1 → Nat :=
  ![arg27.toNat]

def k0_off52 (arg27 : BitVec 32) : Fin 3 → Nat :=
  let c0_i32_216 : BitVec 32 := 0#32
  let c0_i32_217 : BitVec 32 := 0#32
  ![arg27.toNat, 0, 0]
def k0_off53 (arg25 : BitVec 32) (arg26 : BitVec 32) : Fin 3 → Nat :=
  let c4096_i32_215 : BitVec 32 := 4096#32
  let v798 : BitVec 32 := Scalar.muli arg26 c4096_i32_215
  let v799 : BitVec 32 := v798
  let c0_i32_218 : BitVec 32 := 0#32
  ![arg25.toNat, v799.toNat, 0]

def k0_chk12 (arg25 : BitVec 32) (arg26 : BitVec 32) : Prop :=
  (∀ (k0_h4 : k0_cond4 arg25 = 1#1), 4096 ∣ (k0_mult5 arg26).toNat) ∧
  (∀ (k0_h4 : k0_cond4 arg25 = 1#1), ∀ a, (k0_off53 arg25 arg26) a + S1x4096x128.size a ≤ S24x122880x128.size a) ∧
  (∀ (k0_h4 : k0_cond4 arg25 = 1#1), ∀ (hinb : ∀ a, (k0_off53 arg25 arg26) a + S1x4096x128.size a ≤ S24x122880x128.size a), (Rect.unit (s := S24x122880x128) (k0_off53 arg25 arg26) S1x4096x128.size hinb).WholeWords (EltTy.packing .bf16))
theorem k0_mult5_dvd : ∀ (arg25 : BitVec 32) (arg26 : BitVec 32) (k0_hw12 : k0_chk12 arg25 arg26), ∀ (k0_h4 : k0_cond4 arg25 = 1#1), 4096 ∣ (k0_mult5 arg26).toNat := fun arg25 arg26 k0_hw12 k0_h4 => k0_hw12.1 k0_h4
theorem k0_off53_inb : ∀ (arg25 : BitVec 32) (arg26 : BitVec 32) (k0_hw12 : k0_chk12 arg25 arg26), ∀ (k0_h4 : k0_cond4 arg25 = 1#1), ∀ a, (k0_off53 arg25 arg26) a + S1x4096x128.size a ≤ S24x122880x128.size a := fun arg25 arg26 k0_hw12 k0_h4 => k0_hw12.2.1 k0_h4
theorem k0_off53_wordsbf16 : ∀ (arg25 : BitVec 32) (arg26 : BitVec 32) (k0_hw12 : k0_chk12 arg25 arg26), ∀ (k0_h4 : k0_cond4 arg25 = 1#1), (Rect.unit (s := S24x122880x128) (k0_off53 arg25 arg26) S1x4096x128.size (k0_off53_inb arg25 arg26 k0_hw12 k0_h4)).WholeWords (EltTy.packing .bf16) := fun arg25 arg26 k0_hw12 k0_h4 => k0_hw12.2.2 k0_h4 (k0_off53_inb arg25 arg26 k0_hw12 k0_h4)

def k0_chk13 (arg25 : BitVec 32) (arg27 : BitVec 32) : Prop :=
  (∀ (k0_h4 : k0_cond4 arg25 = 1#1), ∀ a, (k0_off51 arg27) a + S1.size a ≤ S16.size a) ∧
  (∀ (k0_h4 : k0_cond4 arg25 = 1#1), ∀ a, (k0_off52 arg27) a + S1x4096x128.size a ≤ S16x4096x128.size a) ∧
  (∀ (k0_h4 : k0_cond4 arg25 = 1#1), ∀ (hinb : ∀ a, (k0_off52 arg27) a + S1x4096x128.size a ≤ S16x4096x128.size a), (Rect.unit (s := S16x4096x128) (k0_off52 arg27) S1x4096x128.size hinb).WholeWords (EltTy.packing .bf16))
theorem k0_off51_inb : ∀ (arg25 : BitVec 32) (arg27 : BitVec 32) (k0_hw13 : k0_chk13 arg25 arg27), ∀ (k0_h4 : k0_cond4 arg25 = 1#1), ∀ a, (k0_off51 arg27) a + S1.size a ≤ S16.size a := fun arg25 arg27 k0_hw13 k0_h4 => k0_hw13.1 k0_h4
theorem k0_off52_inb : ∀ (arg25 : BitVec 32) (arg27 : BitVec 32) (k0_hw13 : k0_chk13 arg25 arg27), ∀ (k0_h4 : k0_cond4 arg25 = 1#1), ∀ a, (k0_off52 arg27) a + S1x4096x128.size a ≤ S16x4096x128.size a := fun arg25 arg27 k0_hw13 k0_h4 => k0_hw13.2.1 k0_h4
theorem k0_off52_wordsbf16 : ∀ (arg25 : BitVec 32) (arg27 : BitVec 32) (k0_hw13 : k0_chk13 arg25 arg27), ∀ (k0_h4 : k0_cond4 arg25 = 1#1), (Rect.unit (s := S16x4096x128) (k0_off52 arg27) S1x4096x128.size (k0_off52_inb arg25 arg27 k0_hw13 k0_h4)).WholeWords (EltTy.packing .bf16) := fun arg25 arg27 k0_hw13 k0_h4 => k0_hw13.2.2 k0_h4 (k0_off52_inb arg25 arg27 k0_hw13 k0_h4)

def k0_off54 (arg25 : BitVec 32) : Fin 1 → Nat :=
  let c23_i32 : BitVec 32 := 23#32
  let v368 : BitVec 32 := Scalar.minsi arg25 c23_i32
  let v370 : Index := Scalar.indexCast v368
  ![v370.toNat]

def k0_chk14 (arg25 : BitVec 32) : Prop :=
  (∀ a, (k0_off54 arg25) a + S1.size a ≤ S24.size a)
theorem k0_off54_inb : ∀ (arg25 : BitVec 32) (k0_hw14 : k0_chk14 arg25), ∀ a, (k0_off54 arg25) a + S1.size a ≤ S24.size a := fun arg25 k0_hw14 => k0_hw14

def k0_mult6 (v118 : BitVec 32) (k0_t5 : Fin (k0_t5_loop v118).trips) : BitVec 32 :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let c4096_i32 : BitVec 32 := 4096#32
  let v400 : BitVec 32 := Scalar.muli arg24 c4096_i32
  v400
def k0_off55 (arg28 : BitVec 32) : Fin 1 → Nat :=
  ![arg28.toNat]

def k0_off56 (arg28 : BitVec 32) : Fin 3 → Nat :=
  let c0_i32_132 : BitVec 32 := 0#32
  let c0_i32_133 : BitVec 32 := 0#32
  ![arg28.toNat, 0, 0]
def k0_off57 (k0_t3 : Fin k0_t3_loop.trips) (v118 : BitVec 32) (k0_t5 : Fin (k0_t5_loop v118).trips) : Fin 3 → Nat :=
  let c0_i32_52 : BitVec 32 := 0#32
  let c1_i32_53 : BitVec 32 := 1#32
  let arg15 : BitVec 32 := Scf.iv c0_i32_52 c1_i32_53 k0_t3
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let c4096_i32 : BitVec 32 := 4096#32
  let v400 : BitVec 32 := Scalar.muli arg24 c4096_i32
  let v401 : BitVec 32 := v400
  let c0_i32_134 : BitVec 32 := 0#32
  ![arg15.toNat, v401.toNat, 0]
def k0_off58 (arg28 : BitVec 32) : Fin 3 → Nat :=
  let v410 : Index := Scalar.indexCast arg28
  let c0_136 : Index := 0#32
  let c0_137 : Index := 0#32
  ![v410.toNat, 0, 0]
def k0_off59 (arg28 : BitVec 32) : Fin 3 → Nat :=
  let v413 : Index := Scalar.indexCast arg28
  let c256 : Index := 256#32
  let c0_138 : Index := 0#32
  ![v413.toNat, 256, 0]
def k0_off60 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v430 : Index := Scalar.indexCast arg24
  let c0_142 : Index := 0#32
  let c0_143 : Index := 0#32
  ![v430.toNat, 0, 0]
def k0_off61 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v450 : Index := Scalar.indexCast arg24
  let c0_146 : Index := 0#32
  let c256_147 : Index := 256#32
  ![v450.toNat, 0, 256]
def k0_off62 (arg28 : BitVec 32) : Fin 3 → Nat :=
  let v458 : Index := Scalar.indexCast arg28
  let c512 : Index := 512#32
  let c0_148 : Index := 0#32
  ![v458.toNat, 512, 0]
def k0_off63 (arg28 : BitVec 32) : Fin 3 → Nat :=
  let v461 : Index := Scalar.indexCast arg28
  let c768 : Index := 768#32
  let c0_149 : Index := 0#32
  ![v461.toNat, 768, 0]
def k0_off64 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v478 : Index := Scalar.indexCast arg24
  let c0_152 : Index := 0#32
  let c512_153 : Index := 512#32
  ![v478.toNat, 0, 512]
def k0_off65 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v498 : Index := Scalar.indexCast arg24
  let c0_155 : Index := 0#32
  let c768_156 : Index := 768#32
  ![v498.toNat, 0, 768]
def k0_off66 (arg28 : BitVec 32) : Fin 3 → Nat :=
  let v506 : Index := Scalar.indexCast arg28
  let c1024 : Index := 1024#32
  let c0_157 : Index := 0#32
  ![v506.toNat, 1024, 0]
def k0_off67 (arg28 : BitVec 32) : Fin 3 → Nat :=
  let v509 : Index := Scalar.indexCast arg28
  let c1280 : Index := 1280#32
  let c0_158 : Index := 0#32
  ![v509.toNat, 1280, 0]
def k0_off68 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v526 : Index := Scalar.indexCast arg24
  let c0_161 : Index := 0#32
  let c1024_162 : Index := 1024#32
  ![v526.toNat, 0, 1024]
def k0_off69 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v546 : Index := Scalar.indexCast arg24
  let c0_164 : Index := 0#32
  let c1280_165 : Index := 1280#32
  ![v546.toNat, 0, 1280]
def k0_off70 (arg28 : BitVec 32) : Fin 3 → Nat :=
  let v554 : Index := Scalar.indexCast arg28
  let c1536 : Index := 1536#32
  let c0_166 : Index := 0#32
  ![v554.toNat, 1536, 0]
def k0_off71 (arg28 : BitVec 32) : Fin 3 → Nat :=
  let v557 : Index := Scalar.indexCast arg28
  let c1792 : Index := 1792#32
  let c0_167 : Index := 0#32
  ![v557.toNat, 1792, 0]
def k0_off72 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v574 : Index := Scalar.indexCast arg24
  let c0_170 : Index := 0#32
  let c1536_171 : Index := 1536#32
  ![v574.toNat, 0, 1536]
def k0_off73 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v594 : Index := Scalar.indexCast arg24
  let c0_173 : Index := 0#32
  let c1792_174 : Index := 1792#32
  ![v594.toNat, 0, 1792]
def k0_off74 (arg28 : BitVec 32) : Fin 3 → Nat :=
  let v602 : Index := Scalar.indexCast arg28
  let c2048 : Index := 2048#32
  let c0_175 : Index := 0#32
  ![v602.toNat, 2048, 0]
def k0_off75 (arg28 : BitVec 32) : Fin 3 → Nat :=
  let v605 : Index := Scalar.indexCast arg28
  let c2304 : Index := 2304#32
  let c0_176 : Index := 0#32
  ![v605.toNat, 2304, 0]
def k0_off76 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v622 : Index := Scalar.indexCast arg24
  let c0_179 : Index := 0#32
  let c2048_180 : Index := 2048#32
  ![v622.toNat, 0, 2048]
def k0_off77 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v642 : Index := Scalar.indexCast arg24
  let c0_182 : Index := 0#32
  let c2304_183 : Index := 2304#32
  ![v642.toNat, 0, 2304]
def k0_off78 (arg28 : BitVec 32) : Fin 3 → Nat :=
  let v650 : Index := Scalar.indexCast arg28
  let c2560 : Index := 2560#32
  let c0_184 : Index := 0#32
  ![v650.toNat, 2560, 0]
def k0_off79 (arg28 : BitVec 32) : Fin 3 → Nat :=
  let v653 : Index := Scalar.indexCast arg28
  let c2816 : Index := 2816#32
  let c0_185 : Index := 0#32
  ![v653.toNat, 2816, 0]
def k0_off80 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v670 : Index := Scalar.indexCast arg24
  let c0_188 : Index := 0#32
  let c2560_189 : Index := 2560#32
  ![v670.toNat, 0, 2560]
def k0_off81 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v690 : Index := Scalar.indexCast arg24
  let c0_191 : Index := 0#32
  let c2816_192 : Index := 2816#32
  ![v690.toNat, 0, 2816]
def k0_off82 (arg28 : BitVec 32) : Fin 3 → Nat :=
  let v698 : Index := Scalar.indexCast arg28
  let c3072 : Index := 3072#32
  let c0_193 : Index := 0#32
  ![v698.toNat, 3072, 0]
def k0_off83 (arg28 : BitVec 32) : Fin 3 → Nat :=
  let v701 : Index := Scalar.indexCast arg28
  let c3328 : Index := 3328#32
  let c0_194 : Index := 0#32
  ![v701.toNat, 3328, 0]
def k0_off84 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v718 : Index := Scalar.indexCast arg24
  let c0_197 : Index := 0#32
  let c3072_198 : Index := 3072#32
  ![v718.toNat, 0, 3072]
def k0_off85 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v738 : Index := Scalar.indexCast arg24
  let c0_200 : Index := 0#32
  let c3328_201 : Index := 3328#32
  ![v738.toNat, 0, 3328]
def k0_off86 (arg28 : BitVec 32) : Fin 3 → Nat :=
  let v746 : Index := Scalar.indexCast arg28
  let c3584 : Index := 3584#32
  let c0_202 : Index := 0#32
  ![v746.toNat, 3584, 0]
def k0_off87 (arg28 : BitVec 32) : Fin 3 → Nat :=
  let v749 : Index := Scalar.indexCast arg28
  let c3840 : Index := 3840#32
  let c0_203 : Index := 0#32
  ![v749.toNat, 3840, 0]

def k0_chk15 (arg28 : BitVec 32) : Prop :=
  (∀ a, (k0_off55 arg28) a + S1.size a ≤ S16.size a) ∧
  (∀ a, (k0_off56 arg28) a + S1x4096x128.size a ≤ S16x4096x128.size a) ∧
  (∀ (hinb : ∀ a, (k0_off56 arg28) a + S1x4096x128.size a ≤ S16x4096x128.size a), (Rect.unit (s := S16x4096x128) (k0_off56 arg28) S1x4096x128.size hinb).WholeWords (EltTy.packing .bf16)) ∧
  (∀ a, (k0_off58 arg28) a + S1x256x128.size a ≤ S16x4096x128.size a) ∧
  (∀ a, (k0_off59 arg28) a + S1x256x128.size a ≤ S16x4096x128.size a) ∧
  (∀ a, (k0_off62 arg28) a + S1x256x128.size a ≤ S16x4096x128.size a) ∧
  (∀ a, (k0_off63 arg28) a + S1x256x128.size a ≤ S16x4096x128.size a) ∧
  (∀ a, (k0_off66 arg28) a + S1x256x128.size a ≤ S16x4096x128.size a) ∧
  (∀ a, (k0_off67 arg28) a + S1x256x128.size a ≤ S16x4096x128.size a) ∧
  (∀ a, (k0_off70 arg28) a + S1x256x128.size a ≤ S16x4096x128.size a) ∧
  (∀ a, (k0_off71 arg28) a + S1x256x128.size a ≤ S16x4096x128.size a) ∧
  (∀ a, (k0_off74 arg28) a + S1x256x128.size a ≤ S16x4096x128.size a) ∧
  (∀ a, (k0_off75 arg28) a + S1x256x128.size a ≤ S16x4096x128.size a) ∧
  (∀ a, (k0_off78 arg28) a + S1x256x128.size a ≤ S16x4096x128.size a) ∧
  (∀ a, (k0_off79 arg28) a + S1x256x128.size a ≤ S16x4096x128.size a) ∧
  (∀ a, (k0_off82 arg28) a + S1x256x128.size a ≤ S16x4096x128.size a) ∧
  (∀ a, (k0_off83 arg28) a + S1x256x128.size a ≤ S16x4096x128.size a) ∧
  (∀ a, (k0_off86 arg28) a + S1x256x128.size a ≤ S16x4096x128.size a) ∧
  (∀ a, (k0_off87 arg28) a + S1x256x128.size a ≤ S16x4096x128.size a)
theorem k0_off55_inb : ∀ (arg28 : BitVec 32) (k0_hw15 : k0_chk15 arg28), ∀ a, (k0_off55 arg28) a + S1.size a ≤ S16.size a := fun arg28 k0_hw15 => k0_hw15.1
theorem k0_off56_inb : ∀ (arg28 : BitVec 32) (k0_hw15 : k0_chk15 arg28), ∀ a, (k0_off56 arg28) a + S1x4096x128.size a ≤ S16x4096x128.size a := fun arg28 k0_hw15 => k0_hw15.2.1
theorem k0_off56_wordsbf16 : ∀ (arg28 : BitVec 32) (k0_hw15 : k0_chk15 arg28), (Rect.unit (s := S16x4096x128) (k0_off56 arg28) S1x4096x128.size (k0_off56_inb arg28 k0_hw15)).WholeWords (EltTy.packing .bf16) := fun arg28 k0_hw15 => k0_hw15.2.2.1 (k0_off56_inb arg28 k0_hw15)
theorem k0_off58_inb : ∀ (arg28 : BitVec 32) (k0_hw15 : k0_chk15 arg28), ∀ a, (k0_off58 arg28) a + S1x256x128.size a ≤ S16x4096x128.size a := fun arg28 k0_hw15 => k0_hw15.2.2.2.1
theorem k0_off59_inb : ∀ (arg28 : BitVec 32) (k0_hw15 : k0_chk15 arg28), ∀ a, (k0_off59 arg28) a + S1x256x128.size a ≤ S16x4096x128.size a := fun arg28 k0_hw15 => k0_hw15.2.2.2.2.1
theorem k0_off62_inb : ∀ (arg28 : BitVec 32) (k0_hw15 : k0_chk15 arg28), ∀ a, (k0_off62 arg28) a + S1x256x128.size a ≤ S16x4096x128.size a := fun arg28 k0_hw15 => k0_hw15.2.2.2.2.2.1
theorem k0_off63_inb : ∀ (arg28 : BitVec 32) (k0_hw15 : k0_chk15 arg28), ∀ a, (k0_off63 arg28) a + S1x256x128.size a ≤ S16x4096x128.size a := fun arg28 k0_hw15 => k0_hw15.2.2.2.2.2.2.1
theorem k0_off66_inb : ∀ (arg28 : BitVec 32) (k0_hw15 : k0_chk15 arg28), ∀ a, (k0_off66 arg28) a + S1x256x128.size a ≤ S16x4096x128.size a := fun arg28 k0_hw15 => k0_hw15.2.2.2.2.2.2.2.1
theorem k0_off67_inb : ∀ (arg28 : BitVec 32) (k0_hw15 : k0_chk15 arg28), ∀ a, (k0_off67 arg28) a + S1x256x128.size a ≤ S16x4096x128.size a := fun arg28 k0_hw15 => k0_hw15.2.2.2.2.2.2.2.2.1
theorem k0_off70_inb : ∀ (arg28 : BitVec 32) (k0_hw15 : k0_chk15 arg28), ∀ a, (k0_off70 arg28) a + S1x256x128.size a ≤ S16x4096x128.size a := fun arg28 k0_hw15 => k0_hw15.2.2.2.2.2.2.2.2.2.1
theorem k0_off71_inb : ∀ (arg28 : BitVec 32) (k0_hw15 : k0_chk15 arg28), ∀ a, (k0_off71 arg28) a + S1x256x128.size a ≤ S16x4096x128.size a := fun arg28 k0_hw15 => k0_hw15.2.2.2.2.2.2.2.2.2.2.1
theorem k0_off74_inb : ∀ (arg28 : BitVec 32) (k0_hw15 : k0_chk15 arg28), ∀ a, (k0_off74 arg28) a + S1x256x128.size a ≤ S16x4096x128.size a := fun arg28 k0_hw15 => k0_hw15.2.2.2.2.2.2.2.2.2.2.2.1
theorem k0_off75_inb : ∀ (arg28 : BitVec 32) (k0_hw15 : k0_chk15 arg28), ∀ a, (k0_off75 arg28) a + S1x256x128.size a ≤ S16x4096x128.size a := fun arg28 k0_hw15 => k0_hw15.2.2.2.2.2.2.2.2.2.2.2.2.1
theorem k0_off78_inb : ∀ (arg28 : BitVec 32) (k0_hw15 : k0_chk15 arg28), ∀ a, (k0_off78 arg28) a + S1x256x128.size a ≤ S16x4096x128.size a := fun arg28 k0_hw15 => k0_hw15.2.2.2.2.2.2.2.2.2.2.2.2.2.1
theorem k0_off79_inb : ∀ (arg28 : BitVec 32) (k0_hw15 : k0_chk15 arg28), ∀ a, (k0_off79 arg28) a + S1x256x128.size a ≤ S16x4096x128.size a := fun arg28 k0_hw15 => k0_hw15.2.2.2.2.2.2.2.2.2.2.2.2.2.2.1
theorem k0_off82_inb : ∀ (arg28 : BitVec 32) (k0_hw15 : k0_chk15 arg28), ∀ a, (k0_off82 arg28) a + S1x256x128.size a ≤ S16x4096x128.size a := fun arg28 k0_hw15 => k0_hw15.2.2.2.2.2.2.2.2.2.2.2.2.2.2.2.1
theorem k0_off83_inb : ∀ (arg28 : BitVec 32) (k0_hw15 : k0_chk15 arg28), ∀ a, (k0_off83 arg28) a + S1x256x128.size a ≤ S16x4096x128.size a := fun arg28 k0_hw15 => k0_hw15.2.2.2.2.2.2.2.2.2.2.2.2.2.2.2.2.1
theorem k0_off86_inb : ∀ (arg28 : BitVec 32) (k0_hw15 : k0_chk15 arg28), ∀ a, (k0_off86 arg28) a + S1x256x128.size a ≤ S16x4096x128.size a := fun arg28 k0_hw15 => k0_hw15.2.2.2.2.2.2.2.2.2.2.2.2.2.2.2.2.2.1
theorem k0_off87_inb : ∀ (arg28 : BitVec 32) (k0_hw15 : k0_chk15 arg28), ∀ a, (k0_off87 arg28) a + S1x256x128.size a ≤ S16x4096x128.size a := fun arg28 k0_hw15 => k0_hw15.2.2.2.2.2.2.2.2.2.2.2.2.2.2.2.2.2.2

def k0_off88 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v766 : Index := Scalar.indexCast arg24
  let c0_206 : Index := 0#32
  let c3584_207 : Index := 3584#32
  ![v766.toNat, 0, 3584]
def k0_off89 (v118 : BitVec 32) (k0_t5 : Fin (k0_t5_loop v118).trips) : Fin 3 → Nat :=
  let c0_i32_73 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v190 : BitVec 32 := Scalar.subi v137 c0_i32_73
  let c1_i32_74 : BitVec 32 := 1#32
  let v192 : BitVec 32 := Scalar.divsi v190 c1_i32_74
  let v193 : BitVec 32 := Scalar.muli v192 c1_i32_74
  let v194 : BitVec 32 := Scalar.addi c0_i32_73 v193
  let c1_i32_76 : BitVec 32 := 1#32
  let arg24 : BitVec 32 := Scf.iv v194 c1_i32_76 k0_t5
  let v786 : Index := Scalar.indexCast arg24
  let c0_209 : Index := 0#32
  let c3840_210 : Index := 3840#32
  ![v786.toNat, 0, 3840]
@[reducible] def k0_t6_loop (v118 : BitVec 32) : Scf.Loop 32 :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_83 : BitVec 32 := 1#32
  ⟨c0_i32_81, v216, c1_i32_83⟩
def k0_mult7 (arg26 : BitVec 32) : BitVec 32 :=
  let c4096_i32_308 : BitVec 32 := 4096#32
  let v869 : BitVec 32 := Scalar.muli arg26 c4096_i32_308
  v869
def k0_cond5 (arg25 : BitVec 32) : BitVec 1 :=
  let c24_i32_113 : BitVec 32 := 24#32
  let v365 : BitVec 1 := Scalar.cmpi .slt arg25 c24_i32_113
  let v366 : BitVec 32 := Scalar.extui v365
  let c0_i32_114 : BitVec 32 := 0#32
  let v367 : BitVec 1 := Scalar.cmpi .ne v366 c0_i32_114
  v367

def k0_off90 (arg27 : BitVec 32) : Fin 1 → Nat :=
  ![arg27.toNat]

def k0_off91 (arg27 : BitVec 32) : Fin 3 → Nat :=
  let c0_i32_309 : BitVec 32 := 0#32
  let c0_i32_310 : BitVec 32 := 0#32
  ![arg27.toNat, 0, 0]
def k0_off92 (arg25 : BitVec 32) (arg26 : BitVec 32) : Fin 3 → Nat :=
  let c4096_i32_308 : BitVec 32 := 4096#32
  let v869 : BitVec 32 := Scalar.muli arg26 c4096_i32_308
  let v870 : BitVec 32 := v869
  let c0_i32_311 : BitVec 32 := 0#32
  ![arg25.toNat, v870.toNat, 0]

def k0_chk16 (arg25 : BitVec 32) (arg26 : BitVec 32) : Prop :=
  (∀ (k0_h5 : k0_cond5 arg25 = 1#1), 4096 ∣ (k0_mult7 arg26).toNat) ∧
  (∀ (k0_h5 : k0_cond5 arg25 = 1#1), ∀ a, (k0_off92 arg25 arg26) a + S1x4096x128.size a ≤ S24x122880x128.size a) ∧
  (∀ (k0_h5 : k0_cond5 arg25 = 1#1), ∀ (hinb : ∀ a, (k0_off92 arg25 arg26) a + S1x4096x128.size a ≤ S24x122880x128.size a), (Rect.unit (s := S24x122880x128) (k0_off92 arg25 arg26) S1x4096x128.size hinb).WholeWords (EltTy.packing .fp8e4m3))
theorem k0_mult7_dvd : ∀ (arg25 : BitVec 32) (arg26 : BitVec 32) (k0_hw16 : k0_chk16 arg25 arg26), ∀ (k0_h5 : k0_cond5 arg25 = 1#1), 4096 ∣ (k0_mult7 arg26).toNat := fun arg25 arg26 k0_hw16 k0_h5 => k0_hw16.1 k0_h5
theorem k0_off92_inb : ∀ (arg25 : BitVec 32) (arg26 : BitVec 32) (k0_hw16 : k0_chk16 arg25 arg26), ∀ (k0_h5 : k0_cond5 arg25 = 1#1), ∀ a, (k0_off92 arg25 arg26) a + S1x4096x128.size a ≤ S24x122880x128.size a := fun arg25 arg26 k0_hw16 k0_h5 => k0_hw16.2.1 k0_h5
theorem k0_off92_wordsfp8e4m3 : ∀ (arg25 : BitVec 32) (arg26 : BitVec 32) (k0_hw16 : k0_chk16 arg25 arg26), ∀ (k0_h5 : k0_cond5 arg25 = 1#1), (Rect.unit (s := S24x122880x128) (k0_off92 arg25 arg26) S1x4096x128.size (k0_off92_inb arg25 arg26 k0_hw16 k0_h5)).WholeWords (EltTy.packing .fp8e4m3) := fun arg25 arg26 k0_hw16 k0_h5 => k0_hw16.2.2 k0_h5 (k0_off92_inb arg25 arg26 k0_hw16 k0_h5)

def k0_chk17 (arg25 : BitVec 32) (arg27 : BitVec 32) : Prop :=
  (∀ (k0_h5 : k0_cond5 arg25 = 1#1), ∀ a, (k0_off90 arg27) a + S1.size a ≤ S16.size a) ∧
  (∀ (k0_h5 : k0_cond5 arg25 = 1#1), ∀ a, (k0_off91 arg27) a + S1x4096x128.size a ≤ S16x4096x128.size a) ∧
  (∀ (k0_h5 : k0_cond5 arg25 = 1#1), ∀ (hinb : ∀ a, (k0_off91 arg27) a + S1x4096x128.size a ≤ S16x4096x128.size a), (Rect.unit (s := S16x4096x128) (k0_off91 arg27) S1x4096x128.size hinb).WholeWords (EltTy.packing .fp8e4m3))
theorem k0_off90_inb : ∀ (arg25 : BitVec 32) (arg27 : BitVec 32) (k0_hw17 : k0_chk17 arg25 arg27), ∀ (k0_h5 : k0_cond5 arg25 = 1#1), ∀ a, (k0_off90 arg27) a + S1.size a ≤ S16.size a := fun arg25 arg27 k0_hw17 k0_h5 => k0_hw17.1 k0_h5
theorem k0_off91_inb : ∀ (arg25 : BitVec 32) (arg27 : BitVec 32) (k0_hw17 : k0_chk17 arg25 arg27), ∀ (k0_h5 : k0_cond5 arg25 = 1#1), ∀ a, (k0_off91 arg27) a + S1x4096x128.size a ≤ S16x4096x128.size a := fun arg25 arg27 k0_hw17 k0_h5 => k0_hw17.2.1 k0_h5
theorem k0_off91_wordsfp8e4m3 : ∀ (arg25 : BitVec 32) (arg27 : BitVec 32) (k0_hw17 : k0_chk17 arg25 arg27), ∀ (k0_h5 : k0_cond5 arg25 = 1#1), (Rect.unit (s := S16x4096x128) (k0_off91 arg27) S1x4096x128.size (k0_off91_inb arg25 arg27 k0_hw17 k0_h5)).WholeWords (EltTy.packing .fp8e4m3) := fun arg25 arg27 k0_hw17 k0_h5 => k0_hw17.2.2 k0_h5 (k0_off91_inb arg25 arg27 k0_hw17 k0_h5)

def k0_off93 (arg25 : BitVec 32) : Fin 1 → Nat :=
  let c23_i32 : BitVec 32 := 23#32
  let v368 : BitVec 32 := Scalar.minsi arg25 c23_i32
  let v370 : Index := Scalar.indexCast v368
  ![v370.toNat]

def k0_chk18 (arg25 : BitVec 32) : Prop :=
  (∀ a, (k0_off93 arg25) a + S1.size a ≤ S24.size a)
theorem k0_off93_inb : ∀ (arg25 : BitVec 32) (k0_hw18 : k0_chk18 arg25), ∀ a, (k0_off93 arg25) a + S1.size a ≤ S24.size a := fun arg25 k0_hw18 => k0_hw18

def k0_mult8 (v118 : BitVec 32) (k0_t6 : Fin (k0_t6_loop v118).trips) : BitVec 32 :=
  let c0_i32_81 : BitVec 32 := 0#32
  let c1_i32_83 : BitVec 32 := 1#32
  let arg24 : BitVec 32 := Scf.iv c0_i32_81 c1_i32_83 k0_t6
  let c4096_i32 : BitVec 32 := 4096#32
  let v400 : BitVec 32 := Scalar.muli arg24 c4096_i32
  v400
def k0_off94 (arg28 : BitVec 32) : Fin 1 → Nat :=
  ![arg28.toNat]

def k0_off95 (arg28 : BitVec 32) : Fin 3 → Nat :=
  let c0_i32_132 : BitVec 32 := 0#32
  let c0_i32_133 : BitVec 32 := 0#32
  ![arg28.toNat, 0, 0]
def k0_off96 (k0_t3 : Fin k0_t3_loop.trips) (v118 : BitVec 32) (k0_t6 : Fin (k0_t6_loop v118).trips) : Fin 3 → Nat :=
  let c0_i32_52 : BitVec 32 := 0#32
  let c1_i32_53 : BitVec 32 := 1#32
  let arg15 : BitVec 32 := Scf.iv c0_i32_52 c1_i32_53 k0_t3
  let c0_i32_81 : BitVec 32 := 0#32
  let c1_i32_83 : BitVec 32 := 1#32
  let arg24 : BitVec 32 := Scf.iv c0_i32_81 c1_i32_83 k0_t6
  let c4096_i32 : BitVec 32 := 4096#32
  let v400 : BitVec 32 := Scalar.muli arg24 c4096_i32
  let v401 : BitVec 32 := v400
  let c0_i32_134 : BitVec 32 := 0#32
  ![arg15.toNat, v401.toNat, 0]
def k0_off97 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v409 : Index := Scalar.indexCast arg24
  let c0_135 : Index := 0#32
  let c0_136 : Index := 0#32
  ![v409.toNat, 0, 0]
def k0_off98 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v432 : Index := Scalar.indexCast arg24
  let c0_144 : Index := 0#32
  let c256 : Index := 256#32
  ![v432.toNat, 0, 256]
def k0_off99 (arg28 : BitVec 32) : Fin 3 → Nat :=
  let v457 : Index := Scalar.indexCast arg28
  let c0_152 : Index := 0#32
  let c0_153 : Index := 0#32
  ![v457.toNat, 0, 0]
def k0_off100 (arg28 : BitVec 32) : Fin 3 → Nat :=
  let v460 : Index := Scalar.indexCast arg28
  let c256_154 : Index := 256#32
  let c0_155 : Index := 0#32
  ![v460.toNat, 256, 0]
def k0_off101 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v466 : Index := Scalar.indexCast arg24
  let c0_157 : Index := 0#32
  let c512 : Index := 512#32
  ![v466.toNat, 0, 512]
def k0_off102 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v489 : Index := Scalar.indexCast arg24
  let c0_165 : Index := 0#32
  let c768 : Index := 768#32
  ![v489.toNat, 0, 768]
def k0_off103 (arg28 : BitVec 32) : Fin 3 → Nat :=
  let v514 : Index := Scalar.indexCast arg28
  let c512_173 : Index := 512#32
  let c0_174 : Index := 0#32
  ![v514.toNat, 512, 0]
def k0_off104 (arg28 : BitVec 32) : Fin 3 → Nat :=
  let v517 : Index := Scalar.indexCast arg28
  let c768_175 : Index := 768#32
  let c0_176 : Index := 0#32
  ![v517.toNat, 768, 0]
def k0_off105 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v523 : Index := Scalar.indexCast arg24
  let c0_178 : Index := 0#32
  let c1024 : Index := 1024#32
  ![v523.toNat, 0, 1024]
def k0_off106 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v546 : Index := Scalar.indexCast arg24
  let c0_186 : Index := 0#32
  let c1280 : Index := 1280#32
  ![v546.toNat, 0, 1280]
def k0_off107 (arg28 : BitVec 32) : Fin 3 → Nat :=
  let v571 : Index := Scalar.indexCast arg28
  let c1024_194 : Index := 1024#32
  let c0_195 : Index := 0#32
  ![v571.toNat, 1024, 0]
def k0_off108 (arg28 : BitVec 32) : Fin 3 → Nat :=
  let v574 : Index := Scalar.indexCast arg28
  let c1280_196 : Index := 1280#32
  let c0_197 : Index := 0#32
  ![v574.toNat, 1280, 0]
def k0_off109 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v580 : Index := Scalar.indexCast arg24
  let c0_199 : Index := 0#32
  let c1536 : Index := 1536#32
  ![v580.toNat, 0, 1536]
def k0_off110 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v603 : Index := Scalar.indexCast arg24
  let c0_207 : Index := 0#32
  let c1792 : Index := 1792#32
  ![v603.toNat, 0, 1792]
def k0_off111 (arg28 : BitVec 32) : Fin 3 → Nat :=
  let v628 : Index := Scalar.indexCast arg28
  let c1536_215 : Index := 1536#32
  let c0_216 : Index := 0#32
  ![v628.toNat, 1536, 0]
def k0_off112 (arg28 : BitVec 32) : Fin 3 → Nat :=
  let v631 : Index := Scalar.indexCast arg28
  let c1792_217 : Index := 1792#32
  let c0_218 : Index := 0#32
  ![v631.toNat, 1792, 0]
def k0_off113 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v637 : Index := Scalar.indexCast arg24
  let c0_220 : Index := 0#32
  let c2048 : Index := 2048#32
  ![v637.toNat, 0, 2048]
def k0_off114 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v660 : Index := Scalar.indexCast arg24
  let c0_228 : Index := 0#32
  let c2304 : Index := 2304#32
  ![v660.toNat, 0, 2304]
def k0_off115 (arg28 : BitVec 32) : Fin 3 → Nat :=
  let v685 : Index := Scalar.indexCast arg28
  let c2048_236 : Index := 2048#32
  let c0_237 : Index := 0#32
  ![v685.toNat, 2048, 0]
def k0_off116 (arg28 : BitVec 32) : Fin 3 → Nat :=
  let v688 : Index := Scalar.indexCast arg28
  let c2304_238 : Index := 2304#32
  let c0_239 : Index := 0#32
  ![v688.toNat, 2304, 0]
def k0_off117 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v694 : Index := Scalar.indexCast arg24
  let c0_241 : Index := 0#32
  let c2560 : Index := 2560#32
  ![v694.toNat, 0, 2560]
def k0_off118 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v717 : Index := Scalar.indexCast arg24
  let c0_249 : Index := 0#32
  let c2816 : Index := 2816#32
  ![v717.toNat, 0, 2816]
def k0_off119 (arg28 : BitVec 32) : Fin 3 → Nat :=
  let v742 : Index := Scalar.indexCast arg28
  let c2560_257 : Index := 2560#32
  let c0_258 : Index := 0#32
  ![v742.toNat, 2560, 0]
def k0_off120 (arg28 : BitVec 32) : Fin 3 → Nat :=
  let v745 : Index := Scalar.indexCast arg28
  let c2816_259 : Index := 2816#32
  let c0_260 : Index := 0#32
  ![v745.toNat, 2816, 0]
def k0_off121 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v751 : Index := Scalar.indexCast arg24
  let c0_262 : Index := 0#32
  let c3072 : Index := 3072#32
  ![v751.toNat, 0, 3072]
def k0_off122 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v774 : Index := Scalar.indexCast arg24
  let c0_270 : Index := 0#32
  let c3328 : Index := 3328#32
  ![v774.toNat, 0, 3328]
def k0_off123 (arg28 : BitVec 32) : Fin 3 → Nat :=
  let v799 : Index := Scalar.indexCast arg28
  let c3072_278 : Index := 3072#32
  let c0_279 : Index := 0#32
  ![v799.toNat, 3072, 0]
def k0_off124 (arg28 : BitVec 32) : Fin 3 → Nat :=
  let v802 : Index := Scalar.indexCast arg28
  let c3328_280 : Index := 3328#32
  let c0_281 : Index := 0#32
  ![v802.toNat, 3328, 0]
def k0_off125 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v808 : Index := Scalar.indexCast arg24
  let c0_283 : Index := 0#32
  let c3584 : Index := 3584#32
  ![v808.toNat, 0, 3584]
def k0_off126 (v118 : BitVec 32) (k0_t6 : Fin (k0_t6_loop v118).trips) : Fin 3 → Nat :=
  let c0_i32_81 : BitVec 32 := 0#32
  let c1_i32_83 : BitVec 32 := 1#32
  let arg24 : BitVec 32 := Scf.iv c0_i32_81 c1_i32_83 k0_t6
  let v831 : Index := Scalar.indexCast arg24
  let c0_291 : Index := 0#32
  let c3840 : Index := 3840#32
  ![v831.toNat, 0, 3840]
def k0_off127 (arg28 : BitVec 32) : Fin 3 → Nat :=
  let v856 : Index := Scalar.indexCast arg28
  let c3584_299 : Index := 3584#32
  let c0_300 : Index := 0#32
  ![v856.toNat, 3584, 0]
def k0_off128 (arg28 : BitVec 32) : Fin 3 → Nat :=
  let v859 : Index := Scalar.indexCast arg28
  let c3840_301 : Index := 3840#32
  let c0_302 : Index := 0#32
  ![v859.toNat, 3840, 0]

def k0_chk19 (arg28 : BitVec 32) : Prop :=
  (∀ a, (k0_off94 arg28) a + S1.size a ≤ S16.size a) ∧
  (∀ a, (k0_off95 arg28) a + S1x4096x128.size a ≤ S16x4096x128.size a) ∧
  (∀ (hinb : ∀ a, (k0_off95 arg28) a + S1x4096x128.size a ≤ S16x4096x128.size a), (Rect.unit (s := S16x4096x128) (k0_off95 arg28) S1x4096x128.size hinb).WholeWords (EltTy.packing .fp8e4m3)) ∧
  (∀ a, (k0_off99 arg28) a + S1x256x128.size a ≤ S16x4096x128.size a) ∧
  (∀ a, (k0_off100 arg28) a + S1x256x128.size a ≤ S16x4096x128.size a) ∧
  (∀ a, (k0_off103 arg28) a + S1x256x128.size a ≤ S16x4096x128.size a) ∧
  (∀ a, (k0_off104 arg28) a + S1x256x128.size a ≤ S16x4096x128.size a) ∧
  (∀ a, (k0_off107 arg28) a + S1x256x128.size a ≤ S16x4096x128.size a) ∧
  (∀ a, (k0_off108 arg28) a + S1x256x128.size a ≤ S16x4096x128.size a) ∧
  (∀ a, (k0_off111 arg28) a + S1x256x128.size a ≤ S16x4096x128.size a) ∧
  (∀ a, (k0_off112 arg28) a + S1x256x128.size a ≤ S16x4096x128.size a) ∧
  (∀ a, (k0_off115 arg28) a + S1x256x128.size a ≤ S16x4096x128.size a) ∧
  (∀ a, (k0_off116 arg28) a + S1x256x128.size a ≤ S16x4096x128.size a) ∧
  (∀ a, (k0_off119 arg28) a + S1x256x128.size a ≤ S16x4096x128.size a) ∧
  (∀ a, (k0_off120 arg28) a + S1x256x128.size a ≤ S16x4096x128.size a) ∧
  (∀ a, (k0_off123 arg28) a + S1x256x128.size a ≤ S16x4096x128.size a) ∧
  (∀ a, (k0_off124 arg28) a + S1x256x128.size a ≤ S16x4096x128.size a) ∧
  (∀ a, (k0_off127 arg28) a + S1x256x128.size a ≤ S16x4096x128.size a) ∧
  (∀ a, (k0_off128 arg28) a + S1x256x128.size a ≤ S16x4096x128.size a)
theorem k0_off94_inb : ∀ (arg28 : BitVec 32) (k0_hw19 : k0_chk19 arg28), ∀ a, (k0_off94 arg28) a + S1.size a ≤ S16.size a := fun arg28 k0_hw19 => k0_hw19.1
theorem k0_off95_inb : ∀ (arg28 : BitVec 32) (k0_hw19 : k0_chk19 arg28), ∀ a, (k0_off95 arg28) a + S1x4096x128.size a ≤ S16x4096x128.size a := fun arg28 k0_hw19 => k0_hw19.2.1
theorem k0_off95_wordsfp8e4m3 : ∀ (arg28 : BitVec 32) (k0_hw19 : k0_chk19 arg28), (Rect.unit (s := S16x4096x128) (k0_off95 arg28) S1x4096x128.size (k0_off95_inb arg28 k0_hw19)).WholeWords (EltTy.packing .fp8e4m3) := fun arg28 k0_hw19 => k0_hw19.2.2.1 (k0_off95_inb arg28 k0_hw19)
theorem k0_off99_inb : ∀ (arg28 : BitVec 32) (k0_hw19 : k0_chk19 arg28), ∀ a, (k0_off99 arg28) a + S1x256x128.size a ≤ S16x4096x128.size a := fun arg28 k0_hw19 => k0_hw19.2.2.2.1
theorem k0_off100_inb : ∀ (arg28 : BitVec 32) (k0_hw19 : k0_chk19 arg28), ∀ a, (k0_off100 arg28) a + S1x256x128.size a ≤ S16x4096x128.size a := fun arg28 k0_hw19 => k0_hw19.2.2.2.2.1
theorem k0_off103_inb : ∀ (arg28 : BitVec 32) (k0_hw19 : k0_chk19 arg28), ∀ a, (k0_off103 arg28) a + S1x256x128.size a ≤ S16x4096x128.size a := fun arg28 k0_hw19 => k0_hw19.2.2.2.2.2.1
theorem k0_off104_inb : ∀ (arg28 : BitVec 32) (k0_hw19 : k0_chk19 arg28), ∀ a, (k0_off104 arg28) a + S1x256x128.size a ≤ S16x4096x128.size a := fun arg28 k0_hw19 => k0_hw19.2.2.2.2.2.2.1
theorem k0_off107_inb : ∀ (arg28 : BitVec 32) (k0_hw19 : k0_chk19 arg28), ∀ a, (k0_off107 arg28) a + S1x256x128.size a ≤ S16x4096x128.size a := fun arg28 k0_hw19 => k0_hw19.2.2.2.2.2.2.2.1
theorem k0_off108_inb : ∀ (arg28 : BitVec 32) (k0_hw19 : k0_chk19 arg28), ∀ a, (k0_off108 arg28) a + S1x256x128.size a ≤ S16x4096x128.size a := fun arg28 k0_hw19 => k0_hw19.2.2.2.2.2.2.2.2.1
theorem k0_off111_inb : ∀ (arg28 : BitVec 32) (k0_hw19 : k0_chk19 arg28), ∀ a, (k0_off111 arg28) a + S1x256x128.size a ≤ S16x4096x128.size a := fun arg28 k0_hw19 => k0_hw19.2.2.2.2.2.2.2.2.2.1
theorem k0_off112_inb : ∀ (arg28 : BitVec 32) (k0_hw19 : k0_chk19 arg28), ∀ a, (k0_off112 arg28) a + S1x256x128.size a ≤ S16x4096x128.size a := fun arg28 k0_hw19 => k0_hw19.2.2.2.2.2.2.2.2.2.2.1
theorem k0_off115_inb : ∀ (arg28 : BitVec 32) (k0_hw19 : k0_chk19 arg28), ∀ a, (k0_off115 arg28) a + S1x256x128.size a ≤ S16x4096x128.size a := fun arg28 k0_hw19 => k0_hw19.2.2.2.2.2.2.2.2.2.2.2.1
theorem k0_off116_inb : ∀ (arg28 : BitVec 32) (k0_hw19 : k0_chk19 arg28), ∀ a, (k0_off116 arg28) a + S1x256x128.size a ≤ S16x4096x128.size a := fun arg28 k0_hw19 => k0_hw19.2.2.2.2.2.2.2.2.2.2.2.2.1
theorem k0_off119_inb : ∀ (arg28 : BitVec 32) (k0_hw19 : k0_chk19 arg28), ∀ a, (k0_off119 arg28) a + S1x256x128.size a ≤ S16x4096x128.size a := fun arg28 k0_hw19 => k0_hw19.2.2.2.2.2.2.2.2.2.2.2.2.2.1
theorem k0_off120_inb : ∀ (arg28 : BitVec 32) (k0_hw19 : k0_chk19 arg28), ∀ a, (k0_off120 arg28) a + S1x256x128.size a ≤ S16x4096x128.size a := fun arg28 k0_hw19 => k0_hw19.2.2.2.2.2.2.2.2.2.2.2.2.2.2.1
theorem k0_off123_inb : ∀ (arg28 : BitVec 32) (k0_hw19 : k0_chk19 arg28), ∀ a, (k0_off123 arg28) a + S1x256x128.size a ≤ S16x4096x128.size a := fun arg28 k0_hw19 => k0_hw19.2.2.2.2.2.2.2.2.2.2.2.2.2.2.2.1
theorem k0_off124_inb : ∀ (arg28 : BitVec 32) (k0_hw19 : k0_chk19 arg28), ∀ a, (k0_off124 arg28) a + S1x256x128.size a ≤ S16x4096x128.size a := fun arg28 k0_hw19 => k0_hw19.2.2.2.2.2.2.2.2.2.2.2.2.2.2.2.2.1
theorem k0_off127_inb : ∀ (arg28 : BitVec 32) (k0_hw19 : k0_chk19 arg28), ∀ a, (k0_off127 arg28) a + S1x256x128.size a ≤ S16x4096x128.size a := fun arg28 k0_hw19 => k0_hw19.2.2.2.2.2.2.2.2.2.2.2.2.2.2.2.2.2.1
theorem k0_off128_inb : ∀ (arg28 : BitVec 32) (k0_hw19 : k0_chk19 arg28), ∀ a, (k0_off128 arg28) a + S1x256x128.size a ≤ S16x4096x128.size a := fun arg28 k0_hw19 => k0_hw19.2.2.2.2.2.2.2.2.2.2.2.2.2.2.2.2.2.2

@[reducible] def k0_t7_loop (v118 : BitVec 32) : Scf.Loop 32 :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let v213 : BitVec 32 := Scalar.addi c0_i32_81 v212
  let c1_i32_84 : BitVec 32 := 1#32
  ⟨v216, v213, c1_i32_84⟩
def k0_mult9 (arg26 : BitVec 32) : BitVec 32 :=
  let c4096_i32_308 : BitVec 32 := 4096#32
  let v869 : BitVec 32 := Scalar.muli arg26 c4096_i32_308
  v869
def k0_cond6 (arg25 : BitVec 32) : BitVec 1 :=
  let c24_i32_113 : BitVec 32 := 24#32
  let v365 : BitVec 1 := Scalar.cmpi .slt arg25 c24_i32_113
  let v366 : BitVec 32 := Scalar.extui v365
  let c0_i32_114 : BitVec 32 := 0#32
  let v367 : BitVec 1 := Scalar.cmpi .ne v366 c0_i32_114
  v367

def k0_off129 (arg27 : BitVec 32) : Fin 1 → Nat :=
  ![arg27.toNat]

def k0_off130 (arg27 : BitVec 32) : Fin 3 → Nat :=
  let c0_i32_309 : BitVec 32 := 0#32
  let c0_i32_310 : BitVec 32 := 0#32
  ![arg27.toNat, 0, 0]
def k0_off131 (arg25 : BitVec 32) (arg26 : BitVec 32) : Fin 3 → Nat :=
  let c4096_i32_308 : BitVec 32 := 4096#32
  let v869 : BitVec 32 := Scalar.muli arg26 c4096_i32_308
  let v870 : BitVec 32 := v869
  let c0_i32_311 : BitVec 32 := 0#32
  ![arg25.toNat, v870.toNat, 0]

def k0_chk20 (arg25 : BitVec 32) (arg26 : BitVec 32) : Prop :=
  (∀ (k0_h6 : k0_cond6 arg25 = 1#1), 4096 ∣ (k0_mult9 arg26).toNat) ∧
  (∀ (k0_h6 : k0_cond6 arg25 = 1#1), ∀ a, (k0_off131 arg25 arg26) a + S1x4096x128.size a ≤ S24x122880x128.size a) ∧
  (∀ (k0_h6 : k0_cond6 arg25 = 1#1), ∀ (hinb : ∀ a, (k0_off131 arg25 arg26) a + S1x4096x128.size a ≤ S24x122880x128.size a), (Rect.unit (s := S24x122880x128) (k0_off131 arg25 arg26) S1x4096x128.size hinb).WholeWords (EltTy.packing .fp8e4m3))
theorem k0_mult9_dvd : ∀ (arg25 : BitVec 32) (arg26 : BitVec 32) (k0_hw20 : k0_chk20 arg25 arg26), ∀ (k0_h6 : k0_cond6 arg25 = 1#1), 4096 ∣ (k0_mult9 arg26).toNat := fun arg25 arg26 k0_hw20 k0_h6 => k0_hw20.1 k0_h6
theorem k0_off131_inb : ∀ (arg25 : BitVec 32) (arg26 : BitVec 32) (k0_hw20 : k0_chk20 arg25 arg26), ∀ (k0_h6 : k0_cond6 arg25 = 1#1), ∀ a, (k0_off131 arg25 arg26) a + S1x4096x128.size a ≤ S24x122880x128.size a := fun arg25 arg26 k0_hw20 k0_h6 => k0_hw20.2.1 k0_h6
theorem k0_off131_wordsfp8e4m3 : ∀ (arg25 : BitVec 32) (arg26 : BitVec 32) (k0_hw20 : k0_chk20 arg25 arg26), ∀ (k0_h6 : k0_cond6 arg25 = 1#1), (Rect.unit (s := S24x122880x128) (k0_off131 arg25 arg26) S1x4096x128.size (k0_off131_inb arg25 arg26 k0_hw20 k0_h6)).WholeWords (EltTy.packing .fp8e4m3) := fun arg25 arg26 k0_hw20 k0_h6 => k0_hw20.2.2 k0_h6 (k0_off131_inb arg25 arg26 k0_hw20 k0_h6)

def k0_chk21 (arg25 : BitVec 32) (arg27 : BitVec 32) : Prop :=
  (∀ (k0_h6 : k0_cond6 arg25 = 1#1), ∀ a, (k0_off129 arg27) a + S1.size a ≤ S16.size a) ∧
  (∀ (k0_h6 : k0_cond6 arg25 = 1#1), ∀ a, (k0_off130 arg27) a + S1x4096x128.size a ≤ S16x4096x128.size a) ∧
  (∀ (k0_h6 : k0_cond6 arg25 = 1#1), ∀ (hinb : ∀ a, (k0_off130 arg27) a + S1x4096x128.size a ≤ S16x4096x128.size a), (Rect.unit (s := S16x4096x128) (k0_off130 arg27) S1x4096x128.size hinb).WholeWords (EltTy.packing .fp8e4m3))
theorem k0_off129_inb : ∀ (arg25 : BitVec 32) (arg27 : BitVec 32) (k0_hw21 : k0_chk21 arg25 arg27), ∀ (k0_h6 : k0_cond6 arg25 = 1#1), ∀ a, (k0_off129 arg27) a + S1.size a ≤ S16.size a := fun arg25 arg27 k0_hw21 k0_h6 => k0_hw21.1 k0_h6
theorem k0_off130_inb : ∀ (arg25 : BitVec 32) (arg27 : BitVec 32) (k0_hw21 : k0_chk21 arg25 arg27), ∀ (k0_h6 : k0_cond6 arg25 = 1#1), ∀ a, (k0_off130 arg27) a + S1x4096x128.size a ≤ S16x4096x128.size a := fun arg25 arg27 k0_hw21 k0_h6 => k0_hw21.2.1 k0_h6
theorem k0_off130_wordsfp8e4m3 : ∀ (arg25 : BitVec 32) (arg27 : BitVec 32) (k0_hw21 : k0_chk21 arg25 arg27), ∀ (k0_h6 : k0_cond6 arg25 = 1#1), (Rect.unit (s := S16x4096x128) (k0_off130 arg27) S1x4096x128.size (k0_off130_inb arg25 arg27 k0_hw21 k0_h6)).WholeWords (EltTy.packing .fp8e4m3) := fun arg25 arg27 k0_hw21 k0_h6 => k0_hw21.2.2 k0_h6 (k0_off130_inb arg25 arg27 k0_hw21 k0_h6)

def k0_off132 (arg25 : BitVec 32) : Fin 1 → Nat :=
  let c23_i32 : BitVec 32 := 23#32
  let v368 : BitVec 32 := Scalar.minsi arg25 c23_i32
  let v370 : Index := Scalar.indexCast v368
  ![v370.toNat]

def k0_chk22 (arg25 : BitVec 32) : Prop :=
  (∀ a, (k0_off132 arg25) a + S1.size a ≤ S24.size a)
theorem k0_off132_inb : ∀ (arg25 : BitVec 32) (k0_hw22 : k0_chk22 arg25), ∀ a, (k0_off132 arg25) a + S1.size a ≤ S24.size a := fun arg25 k0_hw22 => k0_hw22

def k0_mult10 (v118 : BitVec 32) (k0_t7 : Fin (k0_t7_loop v118).trips) : BitVec 32 :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let c4096_i32 : BitVec 32 := 4096#32
  let v400 : BitVec 32 := Scalar.muli arg24 c4096_i32
  v400
def k0_off133 (arg28 : BitVec 32) : Fin 1 → Nat :=
  ![arg28.toNat]

def k0_off134 (arg28 : BitVec 32) : Fin 3 → Nat :=
  let c0_i32_132 : BitVec 32 := 0#32
  let c0_i32_133 : BitVec 32 := 0#32
  ![arg28.toNat, 0, 0]
def k0_off135 (k0_t3 : Fin k0_t3_loop.trips) (v118 : BitVec 32) (k0_t7 : Fin (k0_t7_loop v118).trips) : Fin 3 → Nat :=
  let c0_i32_52 : BitVec 32 := 0#32
  let c1_i32_53 : BitVec 32 := 1#32
  let arg15 : BitVec 32 := Scf.iv c0_i32_52 c1_i32_53 k0_t3
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let c4096_i32 : BitVec 32 := 4096#32
  let v400 : BitVec 32 := Scalar.muli arg24 c4096_i32
  let v401 : BitVec 32 := v400
  let c0_i32_134 : BitVec 32 := 0#32
  ![arg15.toNat, v401.toNat, 0]
def k0_off136 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v409 : Index := Scalar.indexCast arg24
  let c0_135 : Index := 0#32
  let c0_136 : Index := 0#32
  ![v409.toNat, 0, 0]
def k0_off137 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v432 : Index := Scalar.indexCast arg24
  let c0_144 : Index := 0#32
  let c256 : Index := 256#32
  ![v432.toNat, 0, 256]
def k0_off138 (arg28 : BitVec 32) : Fin 3 → Nat :=
  let v457 : Index := Scalar.indexCast arg28
  let c0_152 : Index := 0#32
  let c0_153 : Index := 0#32
  ![v457.toNat, 0, 0]
def k0_off139 (arg28 : BitVec 32) : Fin 3 → Nat :=
  let v460 : Index := Scalar.indexCast arg28
  let c256_154 : Index := 256#32
  let c0_155 : Index := 0#32
  ![v460.toNat, 256, 0]
def k0_off140 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v466 : Index := Scalar.indexCast arg24
  let c0_157 : Index := 0#32
  let c512 : Index := 512#32
  ![v466.toNat, 0, 512]
def k0_off141 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v489 : Index := Scalar.indexCast arg24
  let c0_165 : Index := 0#32
  let c768 : Index := 768#32
  ![v489.toNat, 0, 768]
def k0_off142 (arg28 : BitVec 32) : Fin 3 → Nat :=
  let v514 : Index := Scalar.indexCast arg28
  let c512_173 : Index := 512#32
  let c0_174 : Index := 0#32
  ![v514.toNat, 512, 0]
def k0_off143 (arg28 : BitVec 32) : Fin 3 → Nat :=
  let v517 : Index := Scalar.indexCast arg28
  let c768_175 : Index := 768#32
  let c0_176 : Index := 0#32
  ![v517.toNat, 768, 0]
def k0_off144 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v523 : Index := Scalar.indexCast arg24
  let c0_178 : Index := 0#32
  let c1024 : Index := 1024#32
  ![v523.toNat, 0, 1024]
def k0_off145 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v546 : Index := Scalar.indexCast arg24
  let c0_186 : Index := 0#32
  let c1280 : Index := 1280#32
  ![v546.toNat, 0, 1280]
def k0_off146 (arg28 : BitVec 32) : Fin 3 → Nat :=
  let v571 : Index := Scalar.indexCast arg28
  let c1024_194 : Index := 1024#32
  let c0_195 : Index := 0#32
  ![v571.toNat, 1024, 0]
def k0_off147 (arg28 : BitVec 32) : Fin 3 → Nat :=
  let v574 : Index := Scalar.indexCast arg28
  let c1280_196 : Index := 1280#32
  let c0_197 : Index := 0#32
  ![v574.toNat, 1280, 0]
def k0_off148 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v580 : Index := Scalar.indexCast arg24
  let c0_199 : Index := 0#32
  let c1536 : Index := 1536#32
  ![v580.toNat, 0, 1536]
def k0_off149 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v603 : Index := Scalar.indexCast arg24
  let c0_207 : Index := 0#32
  let c1792 : Index := 1792#32
  ![v603.toNat, 0, 1792]
def k0_off150 (arg28 : BitVec 32) : Fin 3 → Nat :=
  let v628 : Index := Scalar.indexCast arg28
  let c1536_215 : Index := 1536#32
  let c0_216 : Index := 0#32
  ![v628.toNat, 1536, 0]
def k0_off151 (arg28 : BitVec 32) : Fin 3 → Nat :=
  let v631 : Index := Scalar.indexCast arg28
  let c1792_217 : Index := 1792#32
  let c0_218 : Index := 0#32
  ![v631.toNat, 1792, 0]
def k0_off152 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v637 : Index := Scalar.indexCast arg24
  let c0_220 : Index := 0#32
  let c2048 : Index := 2048#32
  ![v637.toNat, 0, 2048]
def k0_off153 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v660 : Index := Scalar.indexCast arg24
  let c0_228 : Index := 0#32
  let c2304 : Index := 2304#32
  ![v660.toNat, 0, 2304]
def k0_off154 (arg28 : BitVec 32) : Fin 3 → Nat :=
  let v685 : Index := Scalar.indexCast arg28
  let c2048_236 : Index := 2048#32
  let c0_237 : Index := 0#32
  ![v685.toNat, 2048, 0]
def k0_off155 (arg28 : BitVec 32) : Fin 3 → Nat :=
  let v688 : Index := Scalar.indexCast arg28
  let c2304_238 : Index := 2304#32
  let c0_239 : Index := 0#32
  ![v688.toNat, 2304, 0]
def k0_off156 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v694 : Index := Scalar.indexCast arg24
  let c0_241 : Index := 0#32
  let c2560 : Index := 2560#32
  ![v694.toNat, 0, 2560]
def k0_off157 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v717 : Index := Scalar.indexCast arg24
  let c0_249 : Index := 0#32
  let c2816 : Index := 2816#32
  ![v717.toNat, 0, 2816]
def k0_off158 (arg28 : BitVec 32) : Fin 3 → Nat :=
  let v742 : Index := Scalar.indexCast arg28
  let c2560_257 : Index := 2560#32
  let c0_258 : Index := 0#32
  ![v742.toNat, 2560, 0]
def k0_off159 (arg28 : BitVec 32) : Fin 3 → Nat :=
  let v745 : Index := Scalar.indexCast arg28
  let c2816_259 : Index := 2816#32
  let c0_260 : Index := 0#32
  ![v745.toNat, 2816, 0]
def k0_off160 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v751 : Index := Scalar.indexCast arg24
  let c0_262 : Index := 0#32
  let c3072 : Index := 3072#32
  ![v751.toNat, 0, 3072]
def k0_off161 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v774 : Index := Scalar.indexCast arg24
  let c0_270 : Index := 0#32
  let c3328 : Index := 3328#32
  ![v774.toNat, 0, 3328]
def k0_off162 (arg28 : BitVec 32) : Fin 3 → Nat :=
  let v799 : Index := Scalar.indexCast arg28
  let c3072_278 : Index := 3072#32
  let c0_279 : Index := 0#32
  ![v799.toNat, 3072, 0]
def k0_off163 (arg28 : BitVec 32) : Fin 3 → Nat :=
  let v802 : Index := Scalar.indexCast arg28
  let c3328_280 : Index := 3328#32
  let c0_281 : Index := 0#32
  ![v802.toNat, 3328, 0]
def k0_off164 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v808 : Index := Scalar.indexCast arg24
  let c0_283 : Index := 0#32
  let c3584 : Index := 3584#32
  ![v808.toNat, 0, 3584]
def k0_off165 (v118 : BitVec 32) (k0_t7 : Fin (k0_t7_loop v118).trips) : Fin 3 → Nat :=
  let c0_i32_81 : BitVec 32 := 0#32
  let c1023_i32 : BitVec 32 := 1023#32
  let v119 : BitVec 32 := Scalar.addi v118 c1023_i32
  let c0_i32_55 : BitVec 32 := 0#32
  let v121 : BitVec 1 := Scalar.cmpi .sgt v119 c0_i32_55
  let v122 : BitVec 32 := Scalar.extui v121
  let c0_i32_56 : BitVec 32 := 0#32
  let v123 : BitVec 1 := Scalar.cmpi .slt v119 c0_i32_56
  let v124 : BitVec 32 := Scalar.extui v123
  let v125 : BitVec 32 := Scalar.subi v122 v124
  let c1024_i32 : BitVec 32 := 1024#32
  let c0_i32_57 : BitVec 32 := 0#32
  let v126 : BitVec 1 := Scalar.cmpi .sgt c1024_i32 c0_i32_57
  let v127 : BitVec 32 := Scalar.extui v126
  let c0_i32_58 : BitVec 32 := 0#32
  let v128 : BitVec 1 := Scalar.cmpi .slt c1024_i32 c0_i32_58
  let v129 : BitVec 32 := Scalar.extui v128
  let v130 : BitVec 32 := Scalar.subi v127 v129
  let v131 : BitVec 1 := Scalar.cmpi .ne v125 v130
  let v132 : BitVec 32 := Scalar.remsi v119 c1024_i32
  let c0_i32_59 : BitVec 32 := 0#32
  let v133 : BitVec 1 := Scalar.cmpi .ne v132 c0_i32_59
  let v134 : BitVec 1 := Scalar.andi v131 v133
  let v120 : BitVec 32 := Scalar.divsi v119 c1024_i32
  let c1_i32_60 : BitVec 32 := 1#32
  let v135 : BitVec 32 := Scalar.subi v120 c1_i32_60
  let v136 : BitVec 32 := Scalar.select v134 v135 v120
  let c1_i32_61 : BitVec 32 := 1#32
  let v137 : BitVec 32 := Scalar.maxsi v136 c1_i32_61
  let v212 : BitVec 32 := Scalar.subi v137 c0_i32_81
  let c1_i32_82 : BitVec 32 := 1#32
  let v214 : BitVec 32 := Scalar.divsi v212 c1_i32_82
  let v215 : BitVec 32 := Scalar.muli v214 c1_i32_82
  let v216 : BitVec 32 := Scalar.addi c0_i32_81 v215
  let c1_i32_84 : BitVec 32 := 1#32
  let arg24 : BitVec 32 := Scf.iv v216 c1_i32_84 k0_t7
  let v831 : Index := Scalar.indexCast arg24
  let c0_291 : Index := 0#32
  let c3840 : Index := 3840#32
  ![v831.toNat, 0, 3840]

def k0_chk7_0 (k0_t3 : Fin k0_t3_loop.trips) (v118 : BitVec 32) : Prop :=
  ((k0_t4_loop v118).OK) ∧
  (∀ k0_t4 : Fin (k0_t4_loop v118).trips, 4096 ∣ (k0_mult4 v118 k0_t4).toNat) ∧
  (∀ k0_t4 : Fin (k0_t4_loop v118).trips, ∀ a, (k0_off18 k0_t3 v118 k0_t4) a + S1x4096x128.size a ≤ S24x122880x128.size a) ∧
  (∀ k0_t4 : Fin (k0_t4_loop v118).trips, ∀ (hinb : ∀ a, (k0_off18 k0_t3 v118 k0_t4) a + S1x4096x128.size a ≤ S24x122880x128.size a), (Rect.unit (s := S24x122880x128) (k0_off18 k0_t3 v118 k0_t4) S1x4096x128.size hinb).WholeWords (EltTy.packing .bf16)) ∧
  (∀ k0_t4 : Fin (k0_t4_loop v118).trips, ∀ a, (k0_off21 v118 k0_t4) a + S1x8x256.size a ≤ S30x8x4096.size a) ∧
  (∀ k0_t4 : Fin (k0_t4_loop v118).trips, ∀ a, (k0_off22 v118 k0_t4) a + S1x8x256.size a ≤ S30x8x4096.size a) ∧
  (∀ k0_t4 : Fin (k0_t4_loop v118).trips, ∀ a, (k0_off25 v118 k0_t4) a + S1x8x256.size a ≤ S30x8x4096.size a) ∧
  (∀ k0_t4 : Fin (k0_t4_loop v118).trips, ∀ a, (k0_off26 v118 k0_t4) a + S1x8x256.size a ≤ S30x8x4096.size a) ∧
  (∀ k0_t4 : Fin (k0_t4_loop v118).trips, ∀ a, (k0_off29 v118 k0_t4) a + S1x8x256.size a ≤ S30x8x4096.size a) ∧
  (∀ k0_t4 : Fin (k0_t4_loop v118).trips, ∀ a, (k0_off30 v118 k0_t4) a + S1x8x256.size a ≤ S30x8x4096.size a) ∧
  (∀ k0_t4 : Fin (k0_t4_loop v118).trips, ∀ a, (k0_off33 v118 k0_t4) a + S1x8x256.size a ≤ S30x8x4096.size a) ∧
  (∀ k0_t4 : Fin (k0_t4_loop v118).trips, ∀ a, (k0_off34 v118 k0_t4) a + S1x8x256.size a ≤ S30x8x4096.size a) ∧
  (∀ k0_t4 : Fin (k0_t4_loop v118).trips, ∀ a, (k0_off37 v118 k0_t4) a + S1x8x256.size a ≤ S30x8x4096.size a) ∧
  (∀ k0_t4 : Fin (k0_t4_loop v118).trips, ∀ a, (k0_off38 v118 k0_t4) a + S1x8x256.size a ≤ S30x8x4096.size a) ∧
  (∀ k0_t4 : Fin (k0_t4_loop v118).trips, ∀ a, (k0_off41 v118 k0_t4) a + S1x8x256.size a ≤ S30x8x4096.size a) ∧
  (∀ k0_t4 : Fin (k0_t4_loop v118).trips, ∀ a, (k0_off42 v118 k0_t4) a + S1x8x256.size a ≤ S30x8x4096.size a) ∧
  (∀ k0_t4 : Fin (k0_t4_loop v118).trips, ∀ a, (k0_off45 v118 k0_t4) a + S1x8x256.size a ≤ S30x8x4096.size a) ∧
  (∀ k0_t4 : Fin (k0_t4_loop v118).trips, ∀ a, (k0_off46 v118 k0_t4) a + S1x8x256.size a ≤ S30x8x4096.size a) ∧
  (∀ k0_t4 : Fin (k0_t4_loop v118).trips, ∀ a, (k0_off49 v118 k0_t4) a + S1x8x256.size a ≤ S30x8x4096.size a) ∧
  (∀ k0_t4 : Fin (k0_t4_loop v118).trips, ∀ a, (k0_off50 v118 k0_t4) a + S1x8x256.size a ≤ S30x8x4096.size a) ∧
  ((k0_t5_loop v118).OK) ∧
  (∀ k0_t5 : Fin (k0_t5_loop v118).trips, 4096 ∣ (k0_mult6 v118 k0_t5).toNat) ∧
  (∀ k0_t5 : Fin (k0_t5_loop v118).trips, ∀ a, (k0_off57 k0_t3 v118 k0_t5) a + S1x4096x128.size a ≤ S24x122880x128.size a) ∧
  (∀ k0_t5 : Fin (k0_t5_loop v118).trips, ∀ (hinb : ∀ a, (k0_off57 k0_t3 v118 k0_t5) a + S1x4096x128.size a ≤ S24x122880x128.size a), (Rect.unit (s := S24x122880x128) (k0_off57 k0_t3 v118 k0_t5) S1x4096x128.size hinb).WholeWords (EltTy.packing .bf16)) ∧
  (∀ k0_t5 : Fin (k0_t5_loop v118).trips, ∀ a, (k0_off60 v118 k0_t5) a + S1x8x256.size a ≤ S30x8x4096.size a) ∧
  (∀ k0_t5 : Fin (k0_t5_loop v118).trips, ∀ a, (k0_off61 v118 k0_t5) a + S1x8x256.size a ≤ S30x8x4096.size a) ∧
  (∀ k0_t5 : Fin (k0_t5_loop v118).trips, ∀ a, (k0_off64 v118 k0_t5) a + S1x8x256.size a ≤ S30x8x4096.size a) ∧
  (∀ k0_t5 : Fin (k0_t5_loop v118).trips, ∀ a, (k0_off65 v118 k0_t5) a + S1x8x256.size a ≤ S30x8x4096.size a) ∧
  (∀ k0_t5 : Fin (k0_t5_loop v118).trips, ∀ a, (k0_off68 v118 k0_t5) a + S1x8x256.size a ≤ S30x8x4096.size a) ∧
  (∀ k0_t5 : Fin (k0_t5_loop v118).trips, ∀ a, (k0_off69 v118 k0_t5) a + S1x8x256.size a ≤ S30x8x4096.size a) ∧
  (∀ k0_t5 : Fin (k0_t5_loop v118).trips, ∀ a, (k0_off72 v118 k0_t5) a + S1x8x256.size a ≤ S30x8x4096.size a) ∧
  (∀ k0_t5 : Fin (k0_t5_loop v118).trips, ∀ a, (k0_off73 v118 k0_t5) a + S1x8x256.size a ≤ S30x8x4096.size a)
def k0_chk7_1 (k0_t3 : Fin k0_t3_loop.trips) (v118 : BitVec 32) : Prop :=
  (∀ k0_t5 : Fin (k0_t5_loop v118).trips, ∀ a, (k0_off76 v118 k0_t5) a + S1x8x256.size a ≤ S30x8x4096.size a) ∧
  (∀ k0_t5 : Fin (k0_t5_loop v118).trips, ∀ a, (k0_off77 v118 k0_t5) a + S1x8x256.size a ≤ S30x8x4096.size a) ∧
  (∀ k0_t5 : Fin (k0_t5_loop v118).trips, ∀ a, (k0_off80 v118 k0_t5) a + S1x8x256.size a ≤ S30x8x4096.size a) ∧
  (∀ k0_t5 : Fin (k0_t5_loop v118).trips, ∀ a, (k0_off81 v118 k0_t5) a + S1x8x256.size a ≤ S30x8x4096.size a) ∧
  (∀ k0_t5 : Fin (k0_t5_loop v118).trips, ∀ a, (k0_off84 v118 k0_t5) a + S1x8x256.size a ≤ S30x8x4096.size a) ∧
  (∀ k0_t5 : Fin (k0_t5_loop v118).trips, ∀ a, (k0_off85 v118 k0_t5) a + S1x8x256.size a ≤ S30x8x4096.size a) ∧
  (∀ k0_t5 : Fin (k0_t5_loop v118).trips, ∀ a, (k0_off88 v118 k0_t5) a + S1x8x256.size a ≤ S30x8x4096.size a) ∧
  (∀ k0_t5 : Fin (k0_t5_loop v118).trips, ∀ a, (k0_off89 v118 k0_t5) a + S1x8x256.size a ≤ S30x8x4096.size a) ∧
  ((k0_t6_loop v118).OK) ∧
  (∀ k0_t6 : Fin (k0_t6_loop v118).trips, 4096 ∣ (k0_mult8 v118 k0_t6).toNat) ∧
  (∀ k0_t6 : Fin (k0_t6_loop v118).trips, ∀ a, (k0_off96 k0_t3 v118 k0_t6) a + S1x4096x128.size a ≤ S24x122880x128.size a) ∧
  (∀ k0_t6 : Fin (k0_t6_loop v118).trips, ∀ (hinb : ∀ a, (k0_off96 k0_t3 v118 k0_t6) a + S1x4096x128.size a ≤ S24x122880x128.size a), (Rect.unit (s := S24x122880x128) (k0_off96 k0_t3 v118 k0_t6) S1x4096x128.size hinb).WholeWords (EltTy.packing .fp8e4m3)) ∧
  (∀ k0_t6 : Fin (k0_t6_loop v118).trips, ∀ a, (k0_off97 v118 k0_t6) a + S1x8x256.size a ≤ S30x8x4096.size a) ∧
  (∀ k0_t6 : Fin (k0_t6_loop v118).trips, ∀ a, (k0_off98 v118 k0_t6) a + S1x8x256.size a ≤ S30x8x4096.size a) ∧
  (∀ k0_t6 : Fin (k0_t6_loop v118).trips, ∀ a, (k0_off101 v118 k0_t6) a + S1x8x256.size a ≤ S30x8x4096.size a) ∧
  (∀ k0_t6 : Fin (k0_t6_loop v118).trips, ∀ a, (k0_off102 v118 k0_t6) a + S1x8x256.size a ≤ S30x8x4096.size a) ∧
  (∀ k0_t6 : Fin (k0_t6_loop v118).trips, ∀ a, (k0_off105 v118 k0_t6) a + S1x8x256.size a ≤ S30x8x4096.size a) ∧
  (∀ k0_t6 : Fin (k0_t6_loop v118).trips, ∀ a, (k0_off106 v118 k0_t6) a + S1x8x256.size a ≤ S30x8x4096.size a) ∧
  (∀ k0_t6 : Fin (k0_t6_loop v118).trips, ∀ a, (k0_off109 v118 k0_t6) a + S1x8x256.size a ≤ S30x8x4096.size a) ∧
  (∀ k0_t6 : Fin (k0_t6_loop v118).trips, ∀ a, (k0_off110 v118 k0_t6) a + S1x8x256.size a ≤ S30x8x4096.size a) ∧
  (∀ k0_t6 : Fin (k0_t6_loop v118).trips, ∀ a, (k0_off113 v118 k0_t6) a + S1x8x256.size a ≤ S30x8x4096.size a) ∧
  (∀ k0_t6 : Fin (k0_t6_loop v118).trips, ∀ a, (k0_off114 v118 k0_t6) a + S1x8x256.size a ≤ S30x8x4096.size a) ∧
  (∀ k0_t6 : Fin (k0_t6_loop v118).trips, ∀ a, (k0_off117 v118 k0_t6) a + S1x8x256.size a ≤ S30x8x4096.size a) ∧
  (∀ k0_t6 : Fin (k0_t6_loop v118).trips, ∀ a, (k0_off118 v118 k0_t6) a + S1x8x256.size a ≤ S30x8x4096.size a) ∧
  (∀ k0_t6 : Fin (k0_t6_loop v118).trips, ∀ a, (k0_off121 v118 k0_t6) a + S1x8x256.size a ≤ S30x8x4096.size a) ∧
  (∀ k0_t6 : Fin (k0_t6_loop v118).trips, ∀ a, (k0_off122 v118 k0_t6) a + S1x8x256.size a ≤ S30x8x4096.size a) ∧
  (∀ k0_t6 : Fin (k0_t6_loop v118).trips, ∀ a, (k0_off125 v118 k0_t6) a + S1x8x256.size a ≤ S30x8x4096.size a) ∧
  (∀ k0_t6 : Fin (k0_t6_loop v118).trips, ∀ a, (k0_off126 v118 k0_t6) a + S1x8x256.size a ≤ S30x8x4096.size a) ∧
  ((k0_t7_loop v118).OK) ∧
  (∀ k0_t7 : Fin (k0_t7_loop v118).trips, 4096 ∣ (k0_mult10 v118 k0_t7).toNat) ∧
  (∀ k0_t7 : Fin (k0_t7_loop v118).trips, ∀ a, (k0_off135 k0_t3 v118 k0_t7) a + S1x4096x128.size a ≤ S24x122880x128.size a) ∧
  (∀ k0_t7 : Fin (k0_t7_loop v118).trips, ∀ (hinb : ∀ a, (k0_off135 k0_t3 v118 k0_t7) a + S1x4096x128.size a ≤ S24x122880x128.size a), (Rect.unit (s := S24x122880x128) (k0_off135 k0_t3 v118 k0_t7) S1x4096x128.size hinb).WholeWords (EltTy.packing .fp8e4m3))
def k0_chk7_2 (k0_t3 : Fin k0_t3_loop.trips) (v118 : BitVec 32) : Prop :=
  (∀ k0_t7 : Fin (k0_t7_loop v118).trips, ∀ a, (k0_off136 v118 k0_t7) a + S1x8x256.size a ≤ S30x8x4096.size a) ∧
  (∀ k0_t7 : Fin (k0_t7_loop v118).trips, ∀ a, (k0_off137 v118 k0_t7) a + S1x8x256.size a ≤ S30x8x4096.size a) ∧
  (∀ k0_t7 : Fin (k0_t7_loop v118).trips, ∀ a, (k0_off140 v118 k0_t7) a + S1x8x256.size a ≤ S30x8x4096.size a) ∧
  (∀ k0_t7 : Fin (k0_t7_loop v118).trips, ∀ a, (k0_off141 v118 k0_t7) a + S1x8x256.size a ≤ S30x8x4096.size a) ∧
  (∀ k0_t7 : Fin (k0_t7_loop v118).trips, ∀ a, (k0_off144 v118 k0_t7) a + S1x8x256.size a ≤ S30x8x4096.size a) ∧
  (∀ k0_t7 : Fin (k0_t7_loop v118).trips, ∀ a, (k0_off145 v118 k0_t7) a + S1x8x256.size a ≤ S30x8x4096.size a) ∧
  (∀ k0_t7 : Fin (k0_t7_loop v118).trips, ∀ a, (k0_off148 v118 k0_t7) a + S1x8x256.size a ≤ S30x8x4096.size a) ∧
  (∀ k0_t7 : Fin (k0_t7_loop v118).trips, ∀ a, (k0_off149 v118 k0_t7) a + S1x8x256.size a ≤ S30x8x4096.size a) ∧
  (∀ k0_t7 : Fin (k0_t7_loop v118).trips, ∀ a, (k0_off152 v118 k0_t7) a + S1x8x256.size a ≤ S30x8x4096.size a) ∧
  (∀ k0_t7 : Fin (k0_t7_loop v118).trips, ∀ a, (k0_off153 v118 k0_t7) a + S1x8x256.size a ≤ S30x8x4096.size a) ∧
  (∀ k0_t7 : Fin (k0_t7_loop v118).trips, ∀ a, (k0_off156 v118 k0_t7) a + S1x8x256.size a ≤ S30x8x4096.size a) ∧
  (∀ k0_t7 : Fin (k0_t7_loop v118).trips, ∀ a, (k0_off157 v118 k0_t7) a + S1x8x256.size a ≤ S30x8x4096.size a) ∧
  (∀ k0_t7 : Fin (k0_t7_loop v118).trips, ∀ a, (k0_off160 v118 k0_t7) a + S1x8x256.size a ≤ S30x8x4096.size a) ∧
  (∀ k0_t7 : Fin (k0_t7_loop v118).trips, ∀ a, (k0_off161 v118 k0_t7) a + S1x8x256.size a ≤ S30x8x4096.size a) ∧
  (∀ k0_t7 : Fin (k0_t7_loop v118).trips, ∀ a, (k0_off164 v118 k0_t7) a + S1x8x256.size a ≤ S30x8x4096.size a) ∧
  (∀ k0_t7 : Fin (k0_t7_loop v118).trips, ∀ a, (k0_off165 v118 k0_t7) a + S1x8x256.size a ≤ S30x8x4096.size a)
def k0_chk7 (k0_t3 : Fin k0_t3_loop.trips) (v118 : BitVec 32) : Prop :=
  k0_chk7_0 k0_t3 v118 ∧
  k0_chk7_1 k0_t3 v118 ∧
  k0_chk7_2 k0_t3 v118
theorem k0_t4_ok : ∀ (k0_t3 : Fin k0_t3_loop.trips) (v118 : BitVec 32) (k0_hw7 : k0_chk7 k0_t3 v118), (k0_t4_loop v118).OK := fun k0_t3 v118 k0_hw7 => k0_hw7.1.1
theorem k0_mult4_dvd : ∀ (k0_t3 : Fin k0_t3_loop.trips) (v118 : BitVec 32) (k0_hw7 : k0_chk7 k0_t3 v118) (k0_t4 : Fin (k0_t4_loop v118).trips), 4096 ∣ (k0_mult4 v118 k0_t4).toNat := fun k0_t3 v118 k0_hw7 k0_t4 => k0_hw7.1.2.1 k0_t4
theorem k0_off18_inb : ∀ (k0_t3 : Fin k0_t3_loop.trips) (v118 : BitVec 32) (k0_hw7 : k0_chk7 k0_t3 v118) (k0_t4 : Fin (k0_t4_loop v118).trips), ∀ a, (k0_off18 k0_t3 v118 k0_t4) a + S1x4096x128.size a ≤ S24x122880x128.size a := fun k0_t3 v118 k0_hw7 k0_t4 => k0_hw7.1.2.2.1 k0_t4
theorem k0_off18_wordsbf16 : ∀ (k0_t3 : Fin k0_t3_loop.trips) (v118 : BitVec 32) (k0_hw7 : k0_chk7 k0_t3 v118) (k0_t4 : Fin (k0_t4_loop v118).trips), (Rect.unit (s := S24x122880x128) (k0_off18 k0_t3 v118 k0_t4) S1x4096x128.size (k0_off18_inb k0_t3 v118 k0_hw7 k0_t4)).WholeWords (EltTy.packing .bf16) := fun k0_t3 v118 k0_hw7 k0_t4 => k0_hw7.1.2.2.2.1 k0_t4 (k0_off18_inb k0_t3 v118 k0_hw7 k0_t4)
theorem k0_off21_inb : ∀ (k0_t3 : Fin k0_t3_loop.trips) (v118 : BitVec 32) (k0_hw7 : k0_chk7 k0_t3 v118) (k0_t4 : Fin (k0_t4_loop v118).trips), ∀ a, (k0_off21 v118 k0_t4) a + S1x8x256.size a ≤ S30x8x4096.size a := fun k0_t3 v118 k0_hw7 k0_t4 => k0_hw7.1.2.2.2.2.1 k0_t4
theorem k0_off22_inb : ∀ (k0_t3 : Fin k0_t3_loop.trips) (v118 : BitVec 32) (k0_hw7 : k0_chk7 k0_t3 v118) (k0_t4 : Fin (k0_t4_loop v118).trips), ∀ a, (k0_off22 v118 k0_t4) a + S1x8x256.size a ≤ S30x8x4096.size a := fun k0_t3 v118 k0_hw7 k0_t4 => k0_hw7.1.2.2.2.2.2.1 k0_t4
theorem k0_off25_inb : ∀ (k0_t3 : Fin k0_t3_loop.trips) (v118 : BitVec 32) (k0_hw7 : k0_chk7 k0_t3 v118) (k0_t4 : Fin (k0_t4_loop v118).trips), ∀ a, (k0_off25 v118 k0_t4) a + S1x8x256.size a ≤ S30x8x4096.size a := fun k0_t3 v118 k0_hw7 k0_t4 => k0_hw7.1.2.2.2.2.2.2.1 k0_t4
theorem k0_off26_inb : ∀ (k0_t3 : Fin k0_t3_loop.trips) (v118 : BitVec 32) (k0_hw7 : k0_chk7 k0_t3 v118) (k0_t4 : Fin (k0_t4_loop v118).trips), ∀ a, (k0_off26 v118 k0_t4) a + S1x8x256.size a ≤ S30x8x4096.size a := fun k0_t3 v118 k0_hw7 k0_t4 => k0_hw7.1.2.2.2.2.2.2.2.1 k0_t4
theorem k0_off29_inb : ∀ (k0_t3 : Fin k0_t3_loop.trips) (v118 : BitVec 32) (k0_hw7 : k0_chk7 k0_t3 v118) (k0_t4 : Fin (k0_t4_loop v118).trips), ∀ a, (k0_off29 v118 k0_t4) a + S1x8x256.size a ≤ S30x8x4096.size a := fun k0_t3 v118 k0_hw7 k0_t4 => k0_hw7.1.2.2.2.2.2.2.2.2.1 k0_t4
theorem k0_off30_inb : ∀ (k0_t3 : Fin k0_t3_loop.trips) (v118 : BitVec 32) (k0_hw7 : k0_chk7 k0_t3 v118) (k0_t4 : Fin (k0_t4_loop v118).trips), ∀ a, (k0_off30 v118 k0_t4) a + S1x8x256.size a ≤ S30x8x4096.size a := fun k0_t3 v118 k0_hw7 k0_t4 => k0_hw7.1.2.2.2.2.2.2.2.2.2.1 k0_t4
theorem k0_off33_inb : ∀ (k0_t3 : Fin k0_t3_loop.trips) (v118 : BitVec 32) (k0_hw7 : k0_chk7 k0_t3 v118) (k0_t4 : Fin (k0_t4_loop v118).trips), ∀ a, (k0_off33 v118 k0_t4) a + S1x8x256.size a ≤ S30x8x4096.size a := fun k0_t3 v118 k0_hw7 k0_t4 => k0_hw7.1.2.2.2.2.2.2.2.2.2.2.1 k0_t4
theorem k0_off34_inb : ∀ (k0_t3 : Fin k0_t3_loop.trips) (v118 : BitVec 32) (k0_hw7 : k0_chk7 k0_t3 v118) (k0_t4 : Fin (k0_t4_loop v118).trips), ∀ a, (k0_off34 v118 k0_t4) a + S1x8x256.size a ≤ S30x8x4096.size a := fun k0_t3 v118 k0_hw7 k0_t4 => k0_hw7.1.2.2.2.2.2.2.2.2.2.2.2.1 k0_t4
theorem k0_off37_inb : ∀ (k0_t3 : Fin k0_t3_loop.trips) (v118 : BitVec 32) (k0_hw7 : k0_chk7 k0_t3 v118) (k0_t4 : Fin (k0_t4_loop v118).trips), ∀ a, (k0_off37 v118 k0_t4) a + S1x8x256.size a ≤ S30x8x4096.size a := fun k0_t3 v118 k0_hw7 k0_t4 => k0_hw7.1.2.2.2.2.2.2.2.2.2.2.2.2.1 k0_t4
theorem k0_off38_inb : ∀ (k0_t3 : Fin k0_t3_loop.trips) (v118 : BitVec 32) (k0_hw7 : k0_chk7 k0_t3 v118) (k0_t4 : Fin (k0_t4_loop v118).trips), ∀ a, (k0_off38 v118 k0_t4) a + S1x8x256.size a ≤ S30x8x4096.size a := fun k0_t3 v118 k0_hw7 k0_t4 => k0_hw7.1.2.2.2.2.2.2.2.2.2.2.2.2.2.1 k0_t4
theorem k0_off41_inb : ∀ (k0_t3 : Fin k0_t3_loop.trips) (v118 : BitVec 32) (k0_hw7 : k0_chk7 k0_t3 v118) (k0_t4 : Fin (k0_t4_loop v118).trips), ∀ a, (k0_off41 v118 k0_t4) a + S1x8x256.size a ≤ S30x8x4096.size a := fun k0_t3 v118 k0_hw7 k0_t4 => k0_hw7.1.2.2.2.2.2.2.2.2.2.2.2.2.2.2.1 k0_t4
theorem k0_off42_inb : ∀ (k0_t3 : Fin k0_t3_loop.trips) (v118 : BitVec 32) (k0_hw7 : k0_chk7 k0_t3 v118) (k0_t4 : Fin (k0_t4_loop v118).trips), ∀ a, (k0_off42 v118 k0_t4) a + S1x8x256.size a ≤ S30x8x4096.size a := fun k0_t3 v118 k0_hw7 k0_t4 => k0_hw7.1.2.2.2.2.2.2.2.2.2.2.2.2.2.2.2.1 k0_t4
theorem k0_off45_inb : ∀ (k0_t3 : Fin k0_t3_loop.trips) (v118 : BitVec 32) (k0_hw7 : k0_chk7 k0_t3 v118) (k0_t4 : Fin (k0_t4_loop v118).trips), ∀ a, (k0_off45 v118 k0_t4) a + S1x8x256.size a ≤ S30x8x4096.size a := fun k0_t3 v118 k0_hw7 k0_t4 => k0_hw7.1.2.2.2.2.2.2.2.2.2.2.2.2.2.2.2.2.1 k0_t4
theorem k0_off46_inb : ∀ (k0_t3 : Fin k0_t3_loop.trips) (v118 : BitVec 32) (k0_hw7 : k0_chk7 k0_t3 v118) (k0_t4 : Fin (k0_t4_loop v118).trips), ∀ a, (k0_off46 v118 k0_t4) a + S1x8x256.size a ≤ S30x8x4096.size a := fun k0_t3 v118 k0_hw7 k0_t4 => k0_hw7.1.2.2.2.2.2.2.2.2.2.2.2.2.2.2.2.2.2.1 k0_t4
theorem k0_off49_inb : ∀ (k0_t3 : Fin k0_t3_loop.trips) (v118 : BitVec 32) (k0_hw7 : k0_chk7 k0_t3 v118) (k0_t4 : Fin (k0_t4_loop v118).trips), ∀ a, (k0_off49 v118 k0_t4) a + S1x8x256.size a ≤ S30x8x4096.size a := fun k0_t3 v118 k0_hw7 k0_t4 => k0_hw7.1.2.2.2.2.2.2.2.2.2.2.2.2.2.2.2.2.2.2.1 k0_t4
theorem k0_off50_inb : ∀ (k0_t3 : Fin k0_t3_loop.trips) (v118 : BitVec 32) (k0_hw7 : k0_chk7 k0_t3 v118) (k0_t4 : Fin (k0_t4_loop v118).trips), ∀ a, (k0_off50 v118 k0_t4) a + S1x8x256.size a ≤ S30x8x4096.size a := fun k0_t3 v118 k0_hw7 k0_t4 => k0_hw7.1.2.2.2.2.2.2.2.2.2.2.2.2.2.2.2.2.2.2.2.1 k0_t4
theorem k0_t5_ok : ∀ (k0_t3 : Fin k0_t3_loop.trips) (v118 : BitVec 32) (k0_hw7 : k0_chk7 k0_t3 v118), (k0_t5_loop v118).OK := fun k0_t3 v118 k0_hw7 => k0_hw7.1.2.2.2.2.2.2.2.2.2.2.2.2.2.2.2.2.2.2.2.2.1
theorem k0_mult6_dvd : ∀ (k0_t3 : Fin k0_t3_loop.trips) (v118 : BitVec 32) (k0_hw7 : k0_chk7 k0_t3 v118) (k0_t5 : Fin (k0_t5_loop v118).trips), 4096 ∣ (k0_mult6 v118 k0_t5).toNat := fun k0_t3 v118 k0_hw7 k0_t5 => k0_hw7.1.2.2.2.2.2.2.2.2.2.2.2.2.2.2.2.2.2.2.2.2.2.1 k0_t5
theorem k0_off57_inb : ∀ (k0_t3 : Fin k0_t3_loop.trips) (v118 : BitVec 32) (k0_hw7 : k0_chk7 k0_t3 v118) (k0_t5 : Fin (k0_t5_loop v118).trips), ∀ a, (k0_off57 k0_t3 v118 k0_t5) a + S1x4096x128.size a ≤ S24x122880x128.size a := fun k0_t3 v118 k0_hw7 k0_t5 => k0_hw7.1.2.2.2.2.2.2.2.2.2.2.2.2.2.2.2.2.2.2.2.2.2.2.1 k0_t5
theorem k0_off57_wordsbf16 : ∀ (k0_t3 : Fin k0_t3_loop.trips) (v118 : BitVec 32) (k0_hw7 : k0_chk7 k0_t3 v118) (k0_t5 : Fin (k0_t5_loop v118).trips), (Rect.unit (s := S24x122880x128) (k0_off57 k0_t3 v118 k0_t5) S1x4096x128.size (k0_off57_inb k0_t3 v118 k0_hw7 k0_t5)).WholeWords (EltTy.packing .bf16) := fun k0_t3 v118 k0_hw7 k0_t5 => k0_hw7.1.2.2.2.2.2.2.2.2.2.2.2.2.2.2.2.2.2.2.2.2.2.2.2.1 k0_t5 (k0_off57_inb k0_t3 v118 k0_hw7 k0_t5)
theorem k0_off60_inb : ∀ (k0_t3 : Fin k0_t3_loop.trips) (v118 : BitVec 32) (k0_hw7 : k0_chk7 k0_t3 v118) (k0_t5 : Fin (k0_t5_loop v118).trips), ∀ a, (k0_off60 v118 k0_t5) a + S1x8x256.size a ≤ S30x8x4096.size a := fun k0_t3 v118 k0_hw7 k0_t5 => k0_hw7.1.2.2.2.2.2.2.2.2.2.2.2.2.2.2.2.2.2.2.2.2.2.2.2.2.1 k0_t5
theorem k0_off61_inb : ∀ (k0_t3 : Fin k0_t3_loop.trips) (v118 : BitVec 32) (k0_hw7 : k0_chk7 k0_t3 v118) (k0_t5 : Fin (k0_t5_loop v118).trips), ∀ a, (k0_off61 v118 k0_t5) a + S1x8x256.size a ≤ S30x8x4096.size a := fun k0_t3 v118 k0_hw7 k0_t5 => k0_hw7.1.2.2.2.2.2.2.2.2.2.2.2.2.2.2.2.2.2.2.2.2.2.2.2.2.2.1 k0_t5
theorem k0_off64_inb : ∀ (k0_t3 : Fin k0_t3_loop.trips) (v118 : BitVec 32) (k0_hw7 : k0_chk7 k0_t3 v118) (k0_t5 : Fin (k0_t5_loop v118).trips), ∀ a, (k0_off64 v118 k0_t5) a + S1x8x256.size a ≤ S30x8x4096.size a := fun k0_t3 v118 k0_hw7 k0_t5 => k0_hw7.1.2.2.2.2.2.2.2.2.2.2.2.2.2.2.2.2.2.2.2.2.2.2.2.2.2.2.1 k0_t5
theorem k0_off65_inb : ∀ (k0_t3 : Fin k0_t3_loop.trips) (v118 : BitVec 32) (k0_hw7 : k0_chk7 k0_t3 v118) (k0_t5 : Fin (k0_t5_loop v118).trips), ∀ a, (k0_off65 v118 k0_t5) a + S1x8x256.size a ≤ S30x8x4096.size a := fun k0_t3 v118 k0_hw7 k0_t5 => k0_hw7.1.2.2.2.2.2.2.2.2.2.2.2.2.2.2.2.2.2.2.2.2.2.2.2.2.2.2.2.1 k0_t5
theorem k0_off68_inb : ∀ (k0_t3 : Fin k0_t3_loop.trips) (v118 : BitVec 32) (k0_hw7 : k0_chk7 k0_t3 v118) (k0_t5 : Fin (k0_t5_loop v118).trips), ∀ a, (k0_off68 v118 k0_t5) a + S1x8x256.size a ≤ S30x8x4096.size a := fun k0_t3 v118 k0_hw7 k0_t5 => k0_hw7.1.2.2.2.2.2.2.2.2.2.2.2.2.2.2.2.2.2.2.2.2.2.2.2.2.2.2.2.2.1 k0_t5
theorem k0_off69_inb : ∀ (k0_t3 : Fin k0_t3_loop.trips) (v118 : BitVec 32) (k0_hw7 : k0_chk7 k0_t3 v118) (k0_t5 : Fin (k0_t5_loop v118).trips), ∀ a, (k0_off69 v118 k0_t5) a + S1x8x256.size a ≤ S30x8x4096.size a := fun k0_t3 v118 k0_hw7 k0_t5 => k0_hw7.1.2.2.2.2.2.2.2.2.2.2.2.2.2.2.2.2.2.2.2.2.2.2.2.2.2.2.2.2.2.1 k0_t5
theorem k0_off72_inb : ∀ (k0_t3 : Fin k0_t3_loop.trips) (v118 : BitVec 32) (k0_hw7 : k0_chk7 k0_t3 v118) (k0_t5 : Fin (k0_t5_loop v118).trips), ∀ a, (k0_off72 v118 k0_t5) a + S1x8x256.size a ≤ S30x8x4096.size a := fun k0_t3 v118 k0_hw7 k0_t5 => k0_hw7.1.2.2.2.2.2.2.2.2.2.2.2.2.2.2.2.2.2.2.2.2.2.2.2.2.2.2.2.2.2.2.1 k0_t5
theorem k0_off73_inb : ∀ (k0_t3 : Fin k0_t3_loop.trips) (v118 : BitVec 32) (k0_hw7 : k0_chk7 k0_t3 v118) (k0_t5 : Fin (k0_t5_loop v118).trips), ∀ a, (k0_off73 v118 k0_t5) a + S1x8x256.size a ≤ S30x8x4096.size a := fun k0_t3 v118 k0_hw7 k0_t5 => k0_hw7.1.2.2.2.2.2.2.2.2.2.2.2.2.2.2.2.2.2.2.2.2.2.2.2.2.2.2.2.2.2.2.2 k0_t5
theorem k0_off76_inb : ∀ (k0_t3 : Fin k0_t3_loop.trips) (v118 : BitVec 32) (k0_hw7 : k0_chk7 k0_t3 v118) (k0_t5 : Fin (k0_t5_loop v118).trips), ∀ a, (k0_off76 v118 k0_t5) a + S1x8x256.size a ≤ S30x8x4096.size a := fun k0_t3 v118 k0_hw7 k0_t5 => k0_hw7.2.1.1 k0_t5
theorem k0_off77_inb : ∀ (k0_t3 : Fin k0_t3_loop.trips) (v118 : BitVec 32) (k0_hw7 : k0_chk7 k0_t3 v118) (k0_t5 : Fin (k0_t5_loop v118).trips), ∀ a, (k0_off77 v118 k0_t5) a + S1x8x256.size a ≤ S30x8x4096.size a := fun k0_t3 v118 k0_hw7 k0_t5 => k0_hw7.2.1.2.1 k0_t5
theorem k0_off80_inb : ∀ (k0_t3 : Fin k0_t3_loop.trips) (v118 : BitVec 32) (k0_hw7 : k0_chk7 k0_t3 v118) (k0_t5 : Fin (k0_t5_loop v118).trips), ∀ a, (k0_off80 v118 k0_t5) a + S1x8x256.size a ≤ S30x8x4096.size a := fun k0_t3 v118 k0_hw7 k0_t5 => k0_hw7.2.1.2.2.1 k0_t5
theorem k0_off81_inb : ∀ (k0_t3 : Fin k0_t3_loop.trips) (v118 : BitVec 32) (k0_hw7 : k0_chk7 k0_t3 v118) (k0_t5 : Fin (k0_t5_loop v118).trips), ∀ a, (k0_off81 v118 k0_t5) a + S1x8x256.size a ≤ S30x8x4096.size a := fun k0_t3 v118 k0_hw7 k0_t5 => k0_hw7.2.1.2.2.2.1 k0_t5
theorem k0_off84_inb : ∀ (k0_t3 : Fin k0_t3_loop.trips) (v118 : BitVec 32) (k0_hw7 : k0_chk7 k0_t3 v118) (k0_t5 : Fin (k0_t5_loop v118).trips), ∀ a, (k0_off84 v118 k0_t5) a + S1x8x256.size a ≤ S30x8x4096.size a := fun k0_t3 v118 k0_hw7 k0_t5 => k0_hw7.2.1.2.2.2.2.1 k0_t5
theorem k0_off85_inb : ∀ (k0_t3 : Fin k0_t3_loop.trips) (v118 : BitVec 32) (k0_hw7 : k0_chk7 k0_t3 v118) (k0_t5 : Fin (k0_t5_loop v118).trips), ∀ a, (k0_off85 v118 k0_t5) a + S1x8x256.size a ≤ S30x8x4096.size a := fun k0_t3 v118 k0_hw7 k0_t5 => k0_hw7.2.1.2.2.2.2.2.1 k0_t5
theorem k0_off88_inb : ∀ (k0_t3 : Fin k0_t3_loop.trips) (v118 : BitVec 32) (k0_hw7 : k0_chk7 k0_t3 v118) (k0_t5 : Fin (k0_t5_loop v118).trips), ∀ a, (k0_off88 v118 k0_t5) a + S1x8x256.size a ≤ S30x8x4096.size a := fun k0_t3 v118 k0_hw7 k0_t5 => k0_hw7.2.1.2.2.2.2.2.2.1 k0_t5
theorem k0_off89_inb : ∀ (k0_t3 : Fin k0_t3_loop.trips) (v118 : BitVec 32) (k0_hw7 : k0_chk7 k0_t3 v118) (k0_t5 : Fin (k0_t5_loop v118).trips), ∀ a, (k0_off89 v118 k0_t5) a + S1x8x256.size a ≤ S30x8x4096.size a := fun k0_t3 v118 k0_hw7 k0_t5 => k0_hw7.2.1.2.2.2.2.2.2.2.1 k0_t5
theorem k0_t6_ok : ∀ (k0_t3 : Fin k0_t3_loop.trips) (v118 : BitVec 32) (k0_hw7 : k0_chk7 k0_t3 v118), (k0_t6_loop v118).OK := fun k0_t3 v118 k0_hw7 => k0_hw7.2.1.2.2.2.2.2.2.2.2.1
theorem k0_mult8_dvd : ∀ (k0_t3 : Fin k0_t3_loop.trips) (v118 : BitVec 32) (k0_hw7 : k0_chk7 k0_t3 v118) (k0_t6 : Fin (k0_t6_loop v118).trips), 4096 ∣ (k0_mult8 v118 k0_t6).toNat := fun k0_t3 v118 k0_hw7 k0_t6 => k0_hw7.2.1.2.2.2.2.2.2.2.2.2.1 k0_t6
theorem k0_off96_inb : ∀ (k0_t3 : Fin k0_t3_loop.trips) (v118 : BitVec 32) (k0_hw7 : k0_chk7 k0_t3 v118) (k0_t6 : Fin (k0_t6_loop v118).trips), ∀ a, (k0_off96 k0_t3 v118 k0_t6) a + S1x4096x128.size a ≤ S24x122880x128.size a := fun k0_t3 v118 k0_hw7 k0_t6 => k0_hw7.2.1.2.2.2.2.2.2.2.2.2.2.1 k0_t6
theorem k0_off96_wordsfp8e4m3 : ∀ (k0_t3 : Fin k0_t3_loop.trips) (v118 : BitVec 32) (k0_hw7 : k0_chk7 k0_t3 v118) (k0_t6 : Fin (k0_t6_loop v118).trips), (Rect.unit (s := S24x122880x128) (k0_off96 k0_t3 v118 k0_t6) S1x4096x128.size (k0_off96_inb k0_t3 v118 k0_hw7 k0_t6)).WholeWords (EltTy.packing .fp8e4m3) := fun k0_t3 v118 k0_hw7 k0_t6 => k0_hw7.2.1.2.2.2.2.2.2.2.2.2.2.2.1 k0_t6 (k0_off96_inb k0_t3 v118 k0_hw7 k0_t6)
theorem k0_off97_inb : ∀ (k0_t3 : Fin k0_t3_loop.trips) (v118 : BitVec 32) (k0_hw7 : k0_chk7 k0_t3 v118) (k0_t6 : Fin (k0_t6_loop v118).trips), ∀ a, (k0_off97 v118 k0_t6) a + S1x8x256.size a ≤ S30x8x4096.size a := fun k0_t3 v118 k0_hw7 k0_t6 => k0_hw7.2.1.2.2.2.2.2.2.2.2.2.2.2.2.1 k0_t6
theorem k0_off98_inb : ∀ (k0_t3 : Fin k0_t3_loop.trips) (v118 : BitVec 32) (k0_hw7 : k0_chk7 k0_t3 v118) (k0_t6 : Fin (k0_t6_loop v118).trips), ∀ a, (k0_off98 v118 k0_t6) a + S1x8x256.size a ≤ S30x8x4096.size a := fun k0_t3 v118 k0_hw7 k0_t6 => k0_hw7.2.1.2.2.2.2.2.2.2.2.2.2.2.2.2.1 k0_t6
theorem k0_off101_inb : ∀ (k0_t3 : Fin k0_t3_loop.trips) (v118 : BitVec 32) (k0_hw7 : k0_chk7 k0_t3 v118) (k0_t6 : Fin (k0_t6_loop v118).trips), ∀ a, (k0_off101 v118 k0_t6) a + S1x8x256.size a ≤ S30x8x4096.size a := fun k0_t3 v118 k0_hw7 k0_t6 => k0_hw7.2.1.2.2.2.2.2.2.2.2.2.2.2.2.2.2.1 k0_t6
theorem k0_off102_inb : ∀ (k0_t3 : Fin k0_t3_loop.trips) (v118 : BitVec 32) (k0_hw7 : k0_chk7 k0_t3 v118) (k0_t6 : Fin (k0_t6_loop v118).trips), ∀ a, (k0_off102 v118 k0_t6) a + S1x8x256.size a ≤ S30x8x4096.size a := fun k0_t3 v118 k0_hw7 k0_t6 => k0_hw7.2.1.2.2.2.2.2.2.2.2.2.2.2.2.2.2.2.1 k0_t6
theorem k0_off105_inb : ∀ (k0_t3 : Fin k0_t3_loop.trips) (v118 : BitVec 32) (k0_hw7 : k0_chk7 k0_t3 v118) (k0_t6 : Fin (k0_t6_loop v118).trips), ∀ a, (k0_off105 v118 k0_t6) a + S1x8x256.size a ≤ S30x8x4096.size a := fun k0_t3 v118 k0_hw7 k0_t6 => k0_hw7.2.1.2.2.2.2.2.2.2.2.2.2.2.2.2.2.2.2.1 k0_t6
theorem k0_off106_inb : ∀ (k0_t3 : Fin k0_t3_loop.trips) (v118 : BitVec 32) (k0_hw7 : k0_chk7 k0_t3 v118) (k0_t6 : Fin (k0_t6_loop v118).trips), ∀ a, (k0_off106 v118 k0_t6) a + S1x8x256.size a ≤ S30x8x4096.size a := fun k0_t3 v118 k0_hw7 k0_t6 => k0_hw7.2.1.2.2.2.2.2.2.2.2.2.2.2.2.2.2.2.2.2.1 k0_t6
theorem k0_off109_inb : ∀ (k0_t3 : Fin k0_t3_loop.trips) (v118 : BitVec 32) (k0_hw7 : k0_chk7 k0_t3 v118) (k0_t6 : Fin (k0_t6_loop v118).trips), ∀ a, (k0_off109 v118 k0_t6) a + S1x8x256.size a ≤ S30x8x4096.size a := fun k0_t3 v118 k0_hw7 k0_t6 => k0_hw7.2.1.2.2.2.2.2.2.2.2.2.2.2.2.2.2.2.2.2.2.1 k0_t6
theorem k0_off110_inb : ∀ (k0_t3 : Fin k0_t3_loop.trips) (v118 : BitVec 32) (k0_hw7 : k0_chk7 k0_t3 v118) (k0_t6 : Fin (k0_t6_loop v118).trips), ∀ a, (k0_off110 v118 k0_t6) a + S1x8x256.size a ≤ S30x8x4096.size a := fun k0_t3 v118 k0_hw7 k0_t6 => k0_hw7.2.1.2.2.2.2.2.2.2.2.2.2.2.2.2.2.2.2.2.2.2.1 k0_t6
theorem k0_off113_inb : ∀ (k0_t3 : Fin k0_t3_loop.trips) (v118 : BitVec 32) (k0_hw7 : k0_chk7 k0_t3 v118) (k0_t6 : Fin (k0_t6_loop v118).trips), ∀ a, (k0_off113 v118 k0_t6) a + S1x8x256.size a ≤ S30x8x4096.size a := fun k0_t3 v118 k0_hw7 k0_t6 => k0_hw7.2.1.2.2.2.2.2.2.2.2.2.2.2.2.2.2.2.2.2.2.2.2.1 k0_t6
theorem k0_off114_inb : ∀ (k0_t3 : Fin k0_t3_loop.trips) (v118 : BitVec 32) (k0_hw7 : k0_chk7 k0_t3 v118) (k0_t6 : Fin (k0_t6_loop v118).trips), ∀ a, (k0_off114 v118 k0_t6) a + S1x8x256.size a ≤ S30x8x4096.size a := fun k0_t3 v118 k0_hw7 k0_t6 => k0_hw7.2.1.2.2.2.2.2.2.2.2.2.2.2.2.2.2.2.2.2.2.2.2.2.1 k0_t6
theorem k0_off117_inb : ∀ (k0_t3 : Fin k0_t3_loop.trips) (v118 : BitVec 32) (k0_hw7 : k0_chk7 k0_t3 v118) (k0_t6 : Fin (k0_t6_loop v118).trips), ∀ a, (k0_off117 v118 k0_t6) a + S1x8x256.size a ≤ S30x8x4096.size a := fun k0_t3 v118 k0_hw7 k0_t6 => k0_hw7.2.1.2.2.2.2.2.2.2.2.2.2.2.2.2.2.2.2.2.2.2.2.2.2.1 k0_t6
theorem k0_off118_inb : ∀ (k0_t3 : Fin k0_t3_loop.trips) (v118 : BitVec 32) (k0_hw7 : k0_chk7 k0_t3 v118) (k0_t6 : Fin (k0_t6_loop v118).trips), ∀ a, (k0_off118 v118 k0_t6) a + S1x8x256.size a ≤ S30x8x4096.size a := fun k0_t3 v118 k0_hw7 k0_t6 => k0_hw7.2.1.2.2.2.2.2.2.2.2.2.2.2.2.2.2.2.2.2.2.2.2.2.2.2.1 k0_t6
theorem k0_off121_inb : ∀ (k0_t3 : Fin k0_t3_loop.trips) (v118 : BitVec 32) (k0_hw7 : k0_chk7 k0_t3 v118) (k0_t6 : Fin (k0_t6_loop v118).trips), ∀ a, (k0_off121 v118 k0_t6) a + S1x8x256.size a ≤ S30x8x4096.size a := fun k0_t3 v118 k0_hw7 k0_t6 => k0_hw7.2.1.2.2.2.2.2.2.2.2.2.2.2.2.2.2.2.2.2.2.2.2.2.2.2.2.1 k0_t6
theorem k0_off122_inb : ∀ (k0_t3 : Fin k0_t3_loop.trips) (v118 : BitVec 32) (k0_hw7 : k0_chk7 k0_t3 v118) (k0_t6 : Fin (k0_t6_loop v118).trips), ∀ a, (k0_off122 v118 k0_t6) a + S1x8x256.size a ≤ S30x8x4096.size a := fun k0_t3 v118 k0_hw7 k0_t6 => k0_hw7.2.1.2.2.2.2.2.2.2.2.2.2.2.2.2.2.2.2.2.2.2.2.2.2.2.2.2.1 k0_t6
theorem k0_off125_inb : ∀ (k0_t3 : Fin k0_t3_loop.trips) (v118 : BitVec 32) (k0_hw7 : k0_chk7 k0_t3 v118) (k0_t6 : Fin (k0_t6_loop v118).trips), ∀ a, (k0_off125 v118 k0_t6) a + S1x8x256.size a ≤ S30x8x4096.size a := fun k0_t3 v118 k0_hw7 k0_t6 => k0_hw7.2.1.2.2.2.2.2.2.2.2.2.2.2.2.2.2.2.2.2.2.2.2.2.2.2.2.2.2.1 k0_t6
theorem k0_off126_inb : ∀ (k0_t3 : Fin k0_t3_loop.trips) (v118 : BitVec 32) (k0_hw7 : k0_chk7 k0_t3 v118) (k0_t6 : Fin (k0_t6_loop v118).trips), ∀ a, (k0_off126 v118 k0_t6) a + S1x8x256.size a ≤ S30x8x4096.size a := fun k0_t3 v118 k0_hw7 k0_t6 => k0_hw7.2.1.2.2.2.2.2.2.2.2.2.2.2.2.2.2.2.2.2.2.2.2.2.2.2.2.2.2.2.1 k0_t6
theorem k0_t7_ok : ∀ (k0_t3 : Fin k0_t3_loop.trips) (v118 : BitVec 32) (k0_hw7 : k0_chk7 k0_t3 v118), (k0_t7_loop v118).OK := fun k0_t3 v118 k0_hw7 => k0_hw7.2.1.2.2.2.2.2.2.2.2.2.2.2.2.2.2.2.2.2.2.2.2.2.2.2.2.2.2.2.2.1
theorem k0_mult10_dvd : ∀ (k0_t3 : Fin k0_t3_loop.trips) (v118 : BitVec 32) (k0_hw7 : k0_chk7 k0_t3 v118) (k0_t7 : Fin (k0_t7_loop v118).trips), 4096 ∣ (k0_mult10 v118 k0_t7).toNat := fun k0_t3 v118 k0_hw7 k0_t7 => k0_hw7.2.1.2.2.2.2.2.2.2.2.2.2.2.2.2.2.2.2.2.2.2.2.2.2.2.2.2.2.2.2.2.1 k0_t7
theorem k0_off135_inb : ∀ (k0_t3 : Fin k0_t3_loop.trips) (v118 : BitVec 32) (k0_hw7 : k0_chk7 k0_t3 v118) (k0_t7 : Fin (k0_t7_loop v118).trips), ∀ a, (k0_off135 k0_t3 v118 k0_t7) a + S1x4096x128.size a ≤ S24x122880x128.size a := fun k0_t3 v118 k0_hw7 k0_t7 => k0_hw7.2.1.2.2.2.2.2.2.2.2.2.2.2.2.2.2.2.2.2.2.2.2.2.2.2.2.2.2.2.2.2.2.1 k0_t7
theorem k0_off135_wordsfp8e4m3 : ∀ (k0_t3 : Fin k0_t3_loop.trips) (v118 : BitVec 32) (k0_hw7 : k0_chk7 k0_t3 v118) (k0_t7 : Fin (k0_t7_loop v118).trips), (Rect.unit (s := S24x122880x128) (k0_off135 k0_t3 v118 k0_t7) S1x4096x128.size (k0_off135_inb k0_t3 v118 k0_hw7 k0_t7)).WholeWords (EltTy.packing .fp8e4m3) := fun k0_t3 v118 k0_hw7 k0_t7 => k0_hw7.2.1.2.2.2.2.2.2.2.2.2.2.2.2.2.2.2.2.2.2.2.2.2.2.2.2.2.2.2.2.2.2.2 k0_t7 (k0_off135_inb k0_t3 v118 k0_hw7 k0_t7)
theorem k0_off136_inb : ∀ (k0_t3 : Fin k0_t3_loop.trips) (v118 : BitVec 32) (k0_hw7 : k0_chk7 k0_t3 v118) (k0_t7 : Fin (k0_t7_loop v118).trips), ∀ a, (k0_off136 v118 k0_t7) a + S1x8x256.size a ≤ S30x8x4096.size a := fun k0_t3 v118 k0_hw7 k0_t7 => k0_hw7.2.2.1 k0_t7
theorem k0_off137_inb : ∀ (k0_t3 : Fin k0_t3_loop.trips) (v118 : BitVec 32) (k0_hw7 : k0_chk7 k0_t3 v118) (k0_t7 : Fin (k0_t7_loop v118).trips), ∀ a, (k0_off137 v118 k0_t7) a + S1x8x256.size a ≤ S30x8x4096.size a := fun k0_t3 v118 k0_hw7 k0_t7 => k0_hw7.2.2.2.1 k0_t7
theorem k0_off140_inb : ∀ (k0_t3 : Fin k0_t3_loop.trips) (v118 : BitVec 32) (k0_hw7 : k0_chk7 k0_t3 v118) (k0_t7 : Fin (k0_t7_loop v118).trips), ∀ a, (k0_off140 v118 k0_t7) a + S1x8x256.size a ≤ S30x8x4096.size a := fun k0_t3 v118 k0_hw7 k0_t7 => k0_hw7.2.2.2.2.1 k0_t7
theorem k0_off141_inb : ∀ (k0_t3 : Fin k0_t3_loop.trips) (v118 : BitVec 32) (k0_hw7 : k0_chk7 k0_t3 v118) (k0_t7 : Fin (k0_t7_loop v118).trips), ∀ a, (k0_off141 v118 k0_t7) a + S1x8x256.size a ≤ S30x8x4096.size a := fun k0_t3 v118 k0_hw7 k0_t7 => k0_hw7.2.2.2.2.2.1 k0_t7
theorem k0_off144_inb : ∀ (k0_t3 : Fin k0_t3_loop.trips) (v118 : BitVec 32) (k0_hw7 : k0_chk7 k0_t3 v118) (k0_t7 : Fin (k0_t7_loop v118).trips), ∀ a, (k0_off144 v118 k0_t7) a + S1x8x256.size a ≤ S30x8x4096.size a := fun k0_t3 v118 k0_hw7 k0_t7 => k0_hw7.2.2.2.2.2.2.1 k0_t7
theorem k0_off145_inb : ∀ (k0_t3 : Fin k0_t3_loop.trips) (v118 : BitVec 32) (k0_hw7 : k0_chk7 k0_t3 v118) (k0_t7 : Fin (k0_t7_loop v118).trips), ∀ a, (k0_off145 v118 k0_t7) a + S1x8x256.size a ≤ S30x8x4096.size a := fun k0_t3 v118 k0_hw7 k0_t7 => k0_hw7.2.2.2.2.2.2.2.1 k0_t7
theorem k0_off148_inb : ∀ (k0_t3 : Fin k0_t3_loop.trips) (v118 : BitVec 32) (k0_hw7 : k0_chk7 k0_t3 v118) (k0_t7 : Fin (k0_t7_loop v118).trips), ∀ a, (k0_off148 v118 k0_t7) a + S1x8x256.size a ≤ S30x8x4096.size a := fun k0_t3 v118 k0_hw7 k0_t7 => k0_hw7.2.2.2.2.2.2.2.2.1 k0_t7
theorem k0_off149_inb : ∀ (k0_t3 : Fin k0_t3_loop.trips) (v118 : BitVec 32) (k0_hw7 : k0_chk7 k0_t3 v118) (k0_t7 : Fin (k0_t7_loop v118).trips), ∀ a, (k0_off149 v118 k0_t7) a + S1x8x256.size a ≤ S30x8x4096.size a := fun k0_t3 v118 k0_hw7 k0_t7 => k0_hw7.2.2.2.2.2.2.2.2.2.1 k0_t7
theorem k0_off152_inb : ∀ (k0_t3 : Fin k0_t3_loop.trips) (v118 : BitVec 32) (k0_hw7 : k0_chk7 k0_t3 v118) (k0_t7 : Fin (k0_t7_loop v118).trips), ∀ a, (k0_off152 v118 k0_t7) a + S1x8x256.size a ≤ S30x8x4096.size a := fun k0_t3 v118 k0_hw7 k0_t7 => k0_hw7.2.2.2.2.2.2.2.2.2.2.1 k0_t7
theorem k0_off153_inb : ∀ (k0_t3 : Fin k0_t3_loop.trips) (v118 : BitVec 32) (k0_hw7 : k0_chk7 k0_t3 v118) (k0_t7 : Fin (k0_t7_loop v118).trips), ∀ a, (k0_off153 v118 k0_t7) a + S1x8x256.size a ≤ S30x8x4096.size a := fun k0_t3 v118 k0_hw7 k0_t7 => k0_hw7.2.2.2.2.2.2.2.2.2.2.2.1 k0_t7
theorem k0_off156_inb : ∀ (k0_t3 : Fin k0_t3_loop.trips) (v118 : BitVec 32) (k0_hw7 : k0_chk7 k0_t3 v118) (k0_t7 : Fin (k0_t7_loop v118).trips), ∀ a, (k0_off156 v118 k0_t7) a + S1x8x256.size a ≤ S30x8x4096.size a := fun k0_t3 v118 k0_hw7 k0_t7 => k0_hw7.2.2.2.2.2.2.2.2.2.2.2.2.1 k0_t7
theorem k0_off157_inb : ∀ (k0_t3 : Fin k0_t3_loop.trips) (v118 : BitVec 32) (k0_hw7 : k0_chk7 k0_t3 v118) (k0_t7 : Fin (k0_t7_loop v118).trips), ∀ a, (k0_off157 v118 k0_t7) a + S1x8x256.size a ≤ S30x8x4096.size a := fun k0_t3 v118 k0_hw7 k0_t7 => k0_hw7.2.2.2.2.2.2.2.2.2.2.2.2.2.1 k0_t7
theorem k0_off160_inb : ∀ (k0_t3 : Fin k0_t3_loop.trips) (v118 : BitVec 32) (k0_hw7 : k0_chk7 k0_t3 v118) (k0_t7 : Fin (k0_t7_loop v118).trips), ∀ a, (k0_off160 v118 k0_t7) a + S1x8x256.size a ≤ S30x8x4096.size a := fun k0_t3 v118 k0_hw7 k0_t7 => k0_hw7.2.2.2.2.2.2.2.2.2.2.2.2.2.2.1 k0_t7
theorem k0_off161_inb : ∀ (k0_t3 : Fin k0_t3_loop.trips) (v118 : BitVec 32) (k0_hw7 : k0_chk7 k0_t3 v118) (k0_t7 : Fin (k0_t7_loop v118).trips), ∀ a, (k0_off161 v118 k0_t7) a + S1x8x256.size a ≤ S30x8x4096.size a := fun k0_t3 v118 k0_hw7 k0_t7 => k0_hw7.2.2.2.2.2.2.2.2.2.2.2.2.2.2.2.1 k0_t7
theorem k0_off164_inb : ∀ (k0_t3 : Fin k0_t3_loop.trips) (v118 : BitVec 32) (k0_hw7 : k0_chk7 k0_t3 v118) (k0_t7 : Fin (k0_t7_loop v118).trips), ∀ a, (k0_off164 v118 k0_t7) a + S1x8x256.size a ≤ S30x8x4096.size a := fun k0_t3 v118 k0_hw7 k0_t7 => k0_hw7.2.2.2.2.2.2.2.2.2.2.2.2.2.2.2.2.1 k0_t7
theorem k0_off165_inb : ∀ (k0_t3 : Fin k0_t3_loop.trips) (v118 : BitVec 32) (k0_hw7 : k0_chk7 k0_t3 v118) (k0_t7 : Fin (k0_t7_loop v118).trips), ∀ a, (k0_off165 v118 k0_t7) a + S1x8x256.size a ≤ S30x8x4096.size a := fun k0_t3 v118 k0_hw7 k0_t7 => k0_hw7.2.2.2.2.2.2.2.2.2.2.2.2.2.2.2.2.2 k0_t7

def k0_off166 (arg28 : BitVec 32) : Fin 3 → Nat :=
  let v856 : Index := Scalar.indexCast arg28
  let c3584_299 : Index := 3584#32
  let c0_300 : Index := 0#32
  ![v856.toNat, 3584, 0]
def k0_off167 (arg28 : BitVec 32) : Fin 3 → Nat :=
  let v859 : Index := Scalar.indexCast arg28
  let c3840_301 : Index := 3840#32
  let c0_302 : Index := 0#32
  ![v859.toNat, 3840, 0]

def k0_chk23 (arg28 : BitVec 32) : Prop :=
  (∀ a, (k0_off133 arg28) a + S1.size a ≤ S16.size a) ∧
  (∀ a, (k0_off134 arg28) a + S1x4096x128.size a ≤ S16x4096x128.size a) ∧
  (∀ (hinb : ∀ a, (k0_off134 arg28) a + S1x4096x128.size a ≤ S16x4096x128.size a), (Rect.unit (s := S16x4096x128) (k0_off134 arg28) S1x4096x128.size hinb).WholeWords (EltTy.packing .fp8e4m3)) ∧
  (∀ a, (k0_off138 arg28) a + S1x256x128.size a ≤ S16x4096x128.size a) ∧
  (∀ a, (k0_off139 arg28) a + S1x256x128.size a ≤ S16x4096x128.size a) ∧
  (∀ a, (k0_off142 arg28) a + S1x256x128.size a ≤ S16x4096x128.size a) ∧
  (∀ a, (k0_off143 arg28) a + S1x256x128.size a ≤ S16x4096x128.size a) ∧
  (∀ a, (k0_off146 arg28) a + S1x256x128.size a ≤ S16x4096x128.size a) ∧
  (∀ a, (k0_off147 arg28) a + S1x256x128.size a ≤ S16x4096x128.size a) ∧
  (∀ a, (k0_off150 arg28) a + S1x256x128.size a ≤ S16x4096x128.size a) ∧
  (∀ a, (k0_off151 arg28) a + S1x256x128.size a ≤ S16x4096x128.size a) ∧
  (∀ a, (k0_off154 arg28) a + S1x256x128.size a ≤ S16x4096x128.size a) ∧
  (∀ a, (k0_off155 arg28) a + S1x256x128.size a ≤ S16x4096x128.size a) ∧
  (∀ a, (k0_off158 arg28) a + S1x256x128.size a ≤ S16x4096x128.size a) ∧
  (∀ a, (k0_off159 arg28) a + S1x256x128.size a ≤ S16x4096x128.size a) ∧
  (∀ a, (k0_off162 arg28) a + S1x256x128.size a ≤ S16x4096x128.size a) ∧
  (∀ a, (k0_off163 arg28) a + S1x256x128.size a ≤ S16x4096x128.size a) ∧
  (∀ a, (k0_off166 arg28) a + S1x256x128.size a ≤ S16x4096x128.size a) ∧
  (∀ a, (k0_off167 arg28) a + S1x256x128.size a ≤ S16x4096x128.size a)
theorem k0_off133_inb : ∀ (arg28 : BitVec 32) (k0_hw23 : k0_chk23 arg28), ∀ a, (k0_off133 arg28) a + S1.size a ≤ S16.size a := fun arg28 k0_hw23 => k0_hw23.1
theorem k0_off134_inb : ∀ (arg28 : BitVec 32) (k0_hw23 : k0_chk23 arg28), ∀ a, (k0_off134 arg28) a + S1x4096x128.size a ≤ S16x4096x128.size a := fun arg28 k0_hw23 => k0_hw23.2.1
theorem k0_off134_wordsfp8e4m3 : ∀ (arg28 : BitVec 32) (k0_hw23 : k0_chk23 arg28), (Rect.unit (s := S16x4096x128) (k0_off134 arg28) S1x4096x128.size (k0_off134_inb arg28 k0_hw23)).WholeWords (EltTy.packing .fp8e4m3) := fun arg28 k0_hw23 => k0_hw23.2.2.1 (k0_off134_inb arg28 k0_hw23)
theorem k0_off138_inb : ∀ (arg28 : BitVec 32) (k0_hw23 : k0_chk23 arg28), ∀ a, (k0_off138 arg28) a + S1x256x128.size a ≤ S16x4096x128.size a := fun arg28 k0_hw23 => k0_hw23.2.2.2.1
theorem k0_off139_inb : ∀ (arg28 : BitVec 32) (k0_hw23 : k0_chk23 arg28), ∀ a, (k0_off139 arg28) a + S1x256x128.size a ≤ S16x4096x128.size a := fun arg28 k0_hw23 => k0_hw23.2.2.2.2.1
theorem k0_off142_inb : ∀ (arg28 : BitVec 32) (k0_hw23 : k0_chk23 arg28), ∀ a, (k0_off142 arg28) a + S1x256x128.size a ≤ S16x4096x128.size a := fun arg28 k0_hw23 => k0_hw23.2.2.2.2.2.1
theorem k0_off143_inb : ∀ (arg28 : BitVec 32) (k0_hw23 : k0_chk23 arg28), ∀ a, (k0_off143 arg28) a + S1x256x128.size a ≤ S16x4096x128.size a := fun arg28 k0_hw23 => k0_hw23.2.2.2.2.2.2.1
theorem k0_off146_inb : ∀ (arg28 : BitVec 32) (k0_hw23 : k0_chk23 arg28), ∀ a, (k0_off146 arg28) a + S1x256x128.size a ≤ S16x4096x128.size a := fun arg28 k0_hw23 => k0_hw23.2.2.2.2.2.2.2.1
theorem k0_off147_inb : ∀ (arg28 : BitVec 32) (k0_hw23 : k0_chk23 arg28), ∀ a, (k0_off147 arg28) a + S1x256x128.size a ≤ S16x4096x128.size a := fun arg28 k0_hw23 => k0_hw23.2.2.2.2.2.2.2.2.1
theorem k0_off150_inb : ∀ (arg28 : BitVec 32) (k0_hw23 : k0_chk23 arg28), ∀ a, (k0_off150 arg28) a + S1x256x128.size a ≤ S16x4096x128.size a := fun arg28 k0_hw23 => k0_hw23.2.2.2.2.2.2.2.2.2.1
theorem k0_off151_inb : ∀ (arg28 : BitVec 32) (k0_hw23 : k0_chk23 arg28), ∀ a, (k0_off151 arg28) a + S1x256x128.size a ≤ S16x4096x128.size a := fun arg28 k0_hw23 => k0_hw23.2.2.2.2.2.2.2.2.2.2.1
theorem k0_off154_inb : ∀ (arg28 : BitVec 32) (k0_hw23 : k0_chk23 arg28), ∀ a, (k0_off154 arg28) a + S1x256x128.size a ≤ S16x4096x128.size a := fun arg28 k0_hw23 => k0_hw23.2.2.2.2.2.2.2.2.2.2.2.1
theorem k0_off155_inb : ∀ (arg28 : BitVec 32) (k0_hw23 : k0_chk23 arg28), ∀ a, (k0_off155 arg28) a + S1x256x128.size a ≤ S16x4096x128.size a := fun arg28 k0_hw23 => k0_hw23.2.2.2.2.2.2.2.2.2.2.2.2.1
theorem k0_off158_inb : ∀ (arg28 : BitVec 32) (k0_hw23 : k0_chk23 arg28), ∀ a, (k0_off158 arg28) a + S1x256x128.size a ≤ S16x4096x128.size a := fun arg28 k0_hw23 => k0_hw23.2.2.2.2.2.2.2.2.2.2.2.2.2.1
theorem k0_off159_inb : ∀ (arg28 : BitVec 32) (k0_hw23 : k0_chk23 arg28), ∀ a, (k0_off159 arg28) a + S1x256x128.size a ≤ S16x4096x128.size a := fun arg28 k0_hw23 => k0_hw23.2.2.2.2.2.2.2.2.2.2.2.2.2.2.1
theorem k0_off162_inb : ∀ (arg28 : BitVec 32) (k0_hw23 : k0_chk23 arg28), ∀ a, (k0_off162 arg28) a + S1x256x128.size a ≤ S16x4096x128.size a := fun arg28 k0_hw23 => k0_hw23.2.2.2.2.2.2.2.2.2.2.2.2.2.2.2.1
theorem k0_off163_inb : ∀ (arg28 : BitVec 32) (k0_hw23 : k0_chk23 arg28), ∀ a, (k0_off163 arg28) a + S1x256x128.size a ≤ S16x4096x128.size a := fun arg28 k0_hw23 => k0_hw23.2.2.2.2.2.2.2.2.2.2.2.2.2.2.2.2.1
theorem k0_off166_inb : ∀ (arg28 : BitVec 32) (k0_hw23 : k0_chk23 arg28), ∀ a, (k0_off166 arg28) a + S1x256x128.size a ≤ S16x4096x128.size a := fun arg28 k0_hw23 => k0_hw23.2.2.2.2.2.2.2.2.2.2.2.2.2.2.2.2.2.1
theorem k0_off167_inb : ∀ (arg28 : BitVec 32) (k0_hw23 : k0_chk23 arg28), ∀ a, (k0_off167 arg28) a + S1x256x128.size a ≤ S16x4096x128.size a := fun arg28 k0_hw23 => k0_hw23.2.2.2.2.2.2.2.2.2.2.2.2.2.2.2.2.2.2

def k0_off168 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v235 : Index := Scalar.indexCast arg15
  let c0_90 : Index := 0#32
  let c0_91 : Index := 0#32
  ![v235.toNat, 0, 0]
def k0_off169 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v262 : Index := Scalar.indexCast arg15
  let c0_97 : Index := 0#32
  let c0_98 : Index := 0#32
  ![v262.toNat, 0, 0]
def k0_off170 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v291 : Index := Scalar.indexCast arg15
  let c8 : Index := 8#32
  let c0_102 : Index := 0#32
  ![v291.toNat, 8, 0]
def k0_off171 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v320 : Index := Scalar.indexCast arg15
  let c16 : Index := 16#32
  let c0_106 : Index := 0#32
  ![v320.toNat, 16, 0]
def k0_off172 (k0_t3 : Fin k0_t3_loop.trips) : Fin 3 → Nat :=
  let c0_i32_52 : BitVec 32 := 0#32
  let c1_i32_53 : BitVec 32 := 1#32
  let arg15 : BitVec 32 := Scf.iv c0_i32_52 c1_i32_53 k0_t3
  let v349 : Index := Scalar.indexCast arg15
  let c24 : Index := 24#32
  let c0_110 : Index := 0#32
  ![v349.toNat, 24, 0]
abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x4x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S24x1x4096 : Shape := ⟨3, ![24, 1, 4096]⟩
abbrev S24x1x4x128 : Shape := ⟨4, ![24, 1, 4, 128]⟩
abbrev S24x30720x4x128 : Shape := ⟨4, ![24, 30720, 4, 128]⟩
abbrev S24x4x128 : Shape := ⟨3, ![24, 4, 128]⟩
abbrev S24 : Shape := ⟨1, ![24]⟩
abbrev S24x1x4x8x128 : Shape := ⟨5, ![24, 1, 4, 8, 128]⟩
abbrev S24x4x30720x1x8 : Shape := ⟨5, ![24, 4, 30720, 1, 8]⟩
abbrev S24x1x4x8x30720 : Shape := ⟨5, ![24, 1, 4, 8, 30720]⟩
abbrev S_ : Shape := ⟨0, ![]⟩
abbrev S30720 : Shape := ⟨1, ![30720]⟩
abbrev S1x30720 : Shape := ⟨2, ![1, 30720]⟩
abbrev S24x1 : Shape := ⟨2, ![24, 1]⟩
abbrev S24x30720 : Shape := ⟨2, ![24, 30720]⟩
abbrev S24x1x1x1x30720 : Shape := ⟨5, ![24, 1, 1, 1, 30720]⟩
abbrev S24x1x4x8 : Shape := ⟨4, ![24, 1, 4, 8]⟩
abbrev S24x1x4x8x1 : Shape := ⟨5, ![24, 1, 4, 8, 1]⟩
abbrev S24x4x128x1x8 : Shape := ⟨5, ![24, 4, 128, 1, 8]⟩
abbrev S24x1x4x1x128 : Shape := ⟨5, ![24, 1, 4, 1, 128]⟩

abbrev nBuf : Space → Nat
  | .hbm => 46
  | .vmem => 9
  | .smem => 0
  | _ => 0

abbrev bufTy : (tb : Table) → Fin (tcTables nBuf tb) → BufTy
  | .hbm, ⟨0, _⟩ => ⟨S24x1x4096, .bf16⟩
  | .hbm, ⟨1, _⟩ => ⟨S24x1x4x128, .bf16⟩
  | .hbm, ⟨2, _⟩ => ⟨S24x1x4x128, .bf16⟩
  | .hbm, ⟨3, _⟩ => ⟨S24x30720x4x128, .bf16⟩
  | .hbm, ⟨4, _⟩ => ⟨S24x30720x4x128, .fp8e4m3⟩
  | .hbm, ⟨5, _⟩ => ⟨S24x4x128, .f32⟩
  | .hbm, ⟨6, _⟩ => ⟨S24, .i32⟩
  | .hbm, ⟨7, _⟩ => ⟨S24x1x4x8x128, .bf16⟩
  | .hbm, ⟨8, _⟩ => ⟨S24x4x30720x1x8, .f32⟩
  | .hbm, ⟨9, _⟩ => ⟨S24x1x4x8x30720, .f32⟩
  | .hbm, ⟨10, _⟩ => ⟨S_, .f32⟩
  | .hbm, ⟨11, _⟩ => ⟨S24x1x4x8x30720, .f32⟩
  | .hbm, ⟨12, _⟩ => ⟨S24x1x4x8x30720, .f32⟩
  | .hbm, ⟨13, _⟩ => ⟨S30720, .i32⟩
  | .hbm, ⟨14, _⟩ => ⟨S1x30720, .i32⟩
  | .hbm, ⟨15, _⟩ => ⟨S24x1, .i32⟩
  | .hbm, ⟨16, _⟩ => ⟨S24x30720, .i32⟩
  | .hbm, ⟨17, _⟩ => ⟨S24x30720, .i32⟩
  | .hbm, ⟨18, _⟩ => ⟨S24x30720, .i1⟩
  | .hbm, ⟨19, _⟩ => ⟨S24x1x1x1x30720, .i1⟩
  | .hbm, ⟨20, _⟩ => ⟨S_, .f32⟩
  | .hbm, ⟨21, _⟩ => ⟨S_, .f32⟩
  | .hbm, ⟨22, _⟩ => ⟨S24x1x4x8x30720, .i1⟩
  | .hbm, ⟨23, _⟩ => ⟨S24x1x4x8x30720, .f32⟩
  | .hbm, ⟨24, _⟩ => ⟨S24x1x4x8x30720, .f32⟩
  | .hbm, ⟨25, _⟩ => ⟨S24x1x4x8, .f32⟩
  | .hbm, ⟨26, _⟩ => ⟨S_, .f32⟩
  | .hbm, ⟨27, _⟩ => ⟨S24x1x4x8, .f32⟩
  | .hbm, ⟨28, _⟩ => ⟨S24x1x4x8, .f32⟩
  | .hbm, ⟨29, _⟩ => ⟨S_, .f32⟩
  | .hbm, ⟨30, _⟩ => ⟨S24x1x4x8, .f32⟩
  | .hbm, ⟨31, _⟩ => ⟨S24x1x4x8, .f32⟩
  | .hbm, ⟨32, _⟩ => ⟨S24x1x4x8x1, .f32⟩
  | .hbm, ⟨33, _⟩ => ⟨S24x1x4x8x30720, .f32⟩
  | .hbm, ⟨34, _⟩ => ⟨S24x1x4x8x30720, .f32⟩
  | .hbm, ⟨35, _⟩ => ⟨S24x1x4x8x30720, .f32⟩
  | .hbm, ⟨36, _⟩ => ⟨S24x1x4x8, .f32⟩
  | .hbm, ⟨37, _⟩ => ⟨S24x1x4x8, .f32⟩
  | .hbm, ⟨38, _⟩ => ⟨S_, .f32⟩
  | .hbm, ⟨39, _⟩ => ⟨S24x1x4x8, .f32⟩
  | .hbm, ⟨40, _⟩ => ⟨S24x1x4x8, .f32⟩
  | .hbm, ⟨41, _⟩ => ⟨S24x1x4x8x128, .bf16⟩
  | .hbm, ⟨42, _⟩ => ⟨S24x1x4x8x128, .f32⟩
  | .hbm, ⟨43, _⟩ => ⟨S24x1x4x128, .fp8e4m3⟩
  | .hbm, ⟨44, _⟩ => ⟨S24x1x4096, .bf16⟩
  | .hbm, ⟨45, _⟩ => ⟨S24x1x4096, .f32⟩
  | .local _ .vmem, ⟨0, _⟩ => ⟨S24x1x4x8x30720, .f32⟩
  | .local _ .vmem, ⟨1, _⟩ => ⟨S24x1x4x8, .f32⟩
  | .local _ .vmem, ⟨2, _⟩ => ⟨S24x1x4x8, .f32⟩
  | .local _ .vmem, ⟨3, _⟩ => ⟨S24x1x4x128, .bf16⟩
  | .local _ .vmem, ⟨4, _⟩ => ⟨S24x30720x4x128, .fp8e4m3⟩
  | .local _ .vmem, ⟨5, _⟩ => ⟨S24x4x128, .f32⟩
  | .local _ .vmem, ⟨6, _⟩ => ⟨S24x1x4x8x128, .bf16⟩
  | .local _ .vmem, ⟨7, _⟩ => ⟨S24x1x4x8x128, .f32⟩
  | .local _ .vmem, ⟨8, _⟩ => ⟨S24x1x4x128, .fp8e4m3⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24x1x4x8x30720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x30720x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x4x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x4x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x4x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Schedule.lean ====
/-
  The order in which the chunks of a cache are copied: sequence by sequence, within a sequence chunk by chunk. Position `p`
  of that order is the chunk `pos n p = (b, i)`, where `n b` is the number of chunks of sequence `b`; the copy at position
  `p` goes through slot `p % 16`. Here are the order itself, the words in which the kernel carries a position, and which
  positions are in flight in a ring of sixteen slots (`ringSt`).
-/
module

public import Idealize.ShloMosaic.Lib.StableHlo.ReadAt
public import Idealize.ShloMosaic.Lib.Tactic.WordOmega
public import Idealize.ShloMosaic.Lib.Ring
public import Idealize.ShloMosaic.Lib.Routing.Words

@[expose] public section

noncomputable section

namespace Cert.Schedule

open Idealize.ShloMosaic

/-- The number of chunks of 1024 tokens that `len` cached tokens take, at least one. -/
def chunks (len : ℕ) : ℕ := max ((len + 1023) / 1024) 1

theorem one_le_chunks (len : ℕ) : 1 ≤ chunks len := le_max_right _ _

theorem chunks_le {len : ℕ} (h : len ≤ 30720) : chunks len ≤ 30 := by
  unfold chunks; omega

/-- The chunk after `q`, `n b` the number of chunks of sequence `b` (a sequence past the last counted as the last). -/
def next (n : ℕ → ℕ) (q : ℕ × ℕ) : ℕ × ℕ := if n (min q.1 23) ≤ q.2 + 1 then (q.1 + 1, 0) else (q.1, q.2 + 1)

/-- The chunk at position `p`: its sequence and its number within the sequence. -/
def pos (n : ℕ → ℕ) : ℕ → ℕ × ℕ
  | 0 => (0, 0)
  | p + 1 => next n (pos n p)

/-- The position of the first chunk of sequence `b`. -/
def start (n : ℕ → ℕ) : ℕ → ℕ
  | 0 => 0
  | b + 1 => start n b + n b

variable {n : ℕ → ℕ}

theorem pos_snd_lt (hn : ∀ b, 1 ≤ n b) (p : ℕ) : (pos n p).2 < n (min (pos n p).1 23) := by
  induction p with
  | zero => exact hn _
  | succ p ih =>
    show (next n (pos n p)).2 < n (min (next n (pos n p)).1 23)
    unfold next
    split
    · exact hn _
    · show (pos n p).2 + 1 < n (min (pos n p).1 23); omega

theorem pos_fst_le (p : ℕ) : (pos n p).1 ≤ p := by
  induction p with
  | zero => exact le_rfl
  | succ p ih =>
    show (next n (pos n p)).1 ≤ p + 1
    unfold next
    split
    · show (pos n p).1 + 1 ≤ p + 1; omega
    · show (pos n p).1 ≤ p + 1; omega

theorem pos_fst_mono {p q : ℕ} (h : p ≤ q) : (pos n p).1 ≤ (pos n q).1 := by
  induction q, h using Nat.le_induction with
  | base => exact le_rfl
  | succ q _ ih =>
    refine ih.trans ?_
    show (pos n q).1 ≤ (next n (pos n q)).1
    unfold next
    split
    · exact Nat.le_succ _
    · exact le_rfl

theorem pos_start_add (b : ℕ) (h : pos n (start n b) = (b, 0)) (i : ℕ) (hi : i < n (min b 23)) : pos n (start n b + i) = (b, i) := by
  induction i with
  | zero => exact h
  | succ i ih =>
    show next n (pos n (start n b + i)) = _
    rw [ih (by omega)]
    unfold next
    rw [if_neg (show ¬(n (min b 23) ≤ i + 1) by omega)]

/-- The first position of a sequence is that sequence's chunk zero. -/
theorem pos_start (hn : ∀ b, 1 ≤ n b) (b : ℕ) (hb : b ≤ 24) : pos n (start n b) = (b, 0) := by
  induction b with
  | zero => rfl
  | succ b ih =>
    have e : start n (b + 1) = (start n b + (n b - 1)) + 1 := by have := hn b; show start n b + n b = _; omega
    have hm : min b 23 = b := by omega
    rw [e]
    show next n (pos n (start n b + (n b - 1))) = _
    rw [pos_start_add b (ih (by omega)) (n b - 1) (by rw [hm]; have := hn b; omega)]
    unfold next
    rw [if_pos (show n (min b 23) ≤ n b - 1 + 1 by rw [hm]; omega)]

/-- Chunk `i` of sequence `b` is at the sequence's first position plus `i`. -/
theorem pos_at (hn : ∀ b, 1 ≤ n b) (b : ℕ) (hb : b < 24) (i : ℕ) (hi : i < n b) : pos n (start n b + i) = (b, i) :=
  pos_start_add b (pos_start hn b (by omega)) i (by rw [show min b 23 = b by omega]; exact hi)

theorem start_mono {a b : ℕ} (h : a ≤ b) : start n a ≤ start n b := by
  induction b, h using Nat.le_induction with
  | base => exact le_rfl
  | succ b _ ih => exact ih.trans (Nat.le_add_right _ _)

theorem start_le (hn : ∀ b, n b ≤ 30) (b : ℕ) : start n b ≤ 30 * b := by
  induction b with
  | zero => exact le_rfl
  | succ b ih => have := hn b; show start n b + n b ≤ _; omega

theorem pos_fst_lt (hn : ∀ b, 1 ≤ n b) (p : ℕ) : (pos n p).1 < 24 ↔ p < start n 24 := by
  constructor
  · intro h
    by_contra h'
    have := pos_fst_mono (n := n) (not_lt.mp h')
    rw [pos_start hn 24 le_rfl] at this
    exact absurd h (not_lt.mpr this)
  · intro h
    have h1 := hn 23
    have e : start n 24 = start n 23 + n 23 := rfl
    have h2 : pos n (start n 23 + (n 23 - 1)) = (23, n 23 - 1) := pos_at hn 23 (by omega) (n 23 - 1) (by omega)
    have h3 := pos_fst_mono (n := n) (show p ≤ start n 23 + (n 23 - 1) by omega)
    rw [h2] at h3
    exact lt_of_le_of_lt h3 (by show 23 < 24; omega)

/-! ## What is in flight -/

/-- The position from `W` on, below `W + 16`, that goes through slot `k`. -/
def at' (W : ℕ) (k : Fin 16) : ℕ := W + (k.val + 16 - W % 16) % 16

/-- The chunk in flight in slot `k` once the copies at positions below `I` are started and those below `W` are waited for. -/
def ringSt (n : ℕ → ℕ) (W I : ℕ) (k : Fin 16) : Option (ℕ × ℕ) :=
  if at' W k < I ∧ at' W k < start n 24 then some (pos n (at' W k)) else none

theorem at'_spec (W : ℕ) (k : Fin 16) : at' W k % 16 = k.val ∧ W ≤ at' W k ∧ at' W k < W + 16 := by
  have := k.isLt; unfold at'; omega

theorem at'_eq (W p : ℕ) (k : Fin 16) (h : p % 16 = k.val) (h1 : W ≤ p) (h2 : p < W + 16) : at' W k = p := by
  have := at'_spec W k; omega

theorem ringSt_wait (W I : ℕ) (k : Fin 16) (hk : W % 16 = k.val) (h : W < I) (hT : W < start n 24) : ringSt n W I k = some (pos n W) := by
  unfold ringSt
  rw [at'_eq W W k hk le_rfl (by omega), if_pos ⟨h, hT⟩]

theorem ringSt_issue (W I : ℕ) (k : Fin 16) (hk : I % 16 = k.val) (h1 : W ≤ I) (h : I < W + 16) : ringSt n W I k = none := by
  unfold ringSt
  rw [at'_eq W I k hk h1 (by omega), if_neg (by omega)]

/-- Starting the copy at position `I` puts its chunk in flight. -/
theorem ringSt_issued (W I : ℕ) (k : Fin 16) (hk : I % 16 = k.val) (h1 : W ≤ I) (h : I < W + 16) (hT : I < start n 24) :
    Function.update (ringSt n W I) k (some (pos n I)) = ringSt n W (I + 1) := by
  funext j
  by_cases hj : j = k
  · subst hj
    rw [Function.update_self]
    unfold ringSt
    rw [at'_eq W I j hk h1 h, if_pos ⟨Nat.lt_succ_self _, hT⟩]
  · rw [Function.update_of_ne hj]
    unfold ringSt
    have hs := at'_spec W j
    have hne : at' W j ≠ I := fun e => hj (Fin.ext (by omega))
    by_cases hc : at' W j < I
    · simp only [hc, true_and, show at' W j < I + 1 by omega]
    · simp only [hc, false_and, show ¬(at' W j < I + 1) by omega]

/-- Past the last chunk nothing is started. -/
theorem ringSt_past (W I : ℕ) (hT : start n 24 ≤ I) : ringSt n W I = ringSt n W (I + 1) := by
  funext j
  unfold ringSt
  by_cases hc : at' W j < start n 24
  · simp only [hc, and_true, show at' W j < I by omega, show at' W j < I + 1 by omega]
  · simp only [hc, and_false]

/-- Waiting for the copy at position `W` frees its slot. -/
theorem ringSt_waited (W I : ℕ) (k : Fin 16) (hk : W % 16 = k.val) (hI : I ≤ W + 16) : Function.update (ringSt n W I) k none = ringSt n (W + 1) I := by
  funext j
  by_cases hj : j = k
  · subst hj
    rw [Function.update_self]
    unfold ringSt
    rw [at'_eq (W + 1) (W + 16) j (by omega) (by omega) (by omega), if_neg (by omega)]
  · rw [Function.update_of_ne hj]
    unfold ringSt
    have hs := at'_spec W j
    have hne : at' W j ≠ W := fun e => hj (Fin.ext (by omega))
    rw [at'_eq (W + 1) (at' W j) j hs.1 (by omega) (by omega)]

theorem ringSt_start (n : ℕ → ℕ) : ringSt n 0 0 = fun _ => none := by
  funext j; unfold ringSt; rw [if_neg (by omega)]

theorem ringSt_end (W I : ℕ) (h : start n 24 ≤ W) : ringSt n W I = fun _ => none := by
  funext j; have := at'_spec W j; unfold ringSt; rw [if_neg (by omega)]

/-! ## The words -/

/-- The number of chunks as the kernel computes it, of a length that fits: a floor division by 1024, at least one. -/
abbrev chunksW (v : BitVec 32) : BitVec 32 :=
  Scalar.maxsi (Scalar.select
    (Scalar.andi
      (Scalar.cmpi .ne (Scalar.subi (Scalar.extui (Scalar.cmpi .sgt (Scalar.addi v 1023#32) 0#32) : BitVec 32) (Scalar.extui (Scalar.cmpi .slt (Scalar.addi v 1023#32) 0#32)))
        (Scalar.subi (Scalar.extui (Scalar.cmpi .sgt 1024#32 0#32) : BitVec 32) (Scalar.extui (Scalar.cmpi .slt 1024#32 0#32))))
      (Scalar.cmpi .ne (Scalar.remsi (Scalar.addi v 1023#32) 1024#32) 0#32))
    (Scalar.subi (Scalar.divsi (Scalar.addi v 1023#32) 1024#32) 1#32) (Scalar.divsi (Scalar.addi v 1023#32) 1024#32)) 1#32

theorem chunksW_eq (v : BitVec 32) (h : v.toNat ≤ 30720) : chunksW v = BitVec.ofNat 32 (chunks v.toNat) := by
  have e : Scalar.addi v 1023#32 = BitVec.ofNat 32 (v.toNat + 1023) := by
    unfold Scalar.addi IntOp.addi
    apply BitVec.eq_of_toNat_eq
    rw [BitVec.toNat_add, BitVec.toNat_ofNat]; rfl
  have hd : Scalar.divsi (BitVec.ofNat 32 (v.toNat + 1023)) 1024#32 = BitVec.ofNat 32 ((v.toNat + 1023) / 1024) := by
    unfold Scalar.divsi
    exact Routing.divsi_word _ (by omega) (by omega) (by omega)
  have hr : Scalar.remsi (BitVec.ofNat 32 (v.toNat + 1023)) 1024#32 = BitVec.ofNat 32 ((v.toNat + 1023) % 1024) := by
    unfold Scalar.remsi
    exact Routing.remsi_word _ (by omega) (by omega) (by omega)
  unfold chunksW chunks
  rw [e, hd, hr]
  generalize v.toNat = a at h
  have hq : (a + 1023) / 1024 ≤ 30 := by omega
  have hq0 : 0 ≤ (a + 1023) / 1024 := Nat.zero_le _
  generalize (a + 1023) / 1024 = q at hq hq0
  have hm : (a + 1023) % 1024 < 1024 := Nat.mod_lt _ (by omega)
  generalize (a + 1023) % 1024 = r at hm
  have c1 : Scalar.cmpi .sgt (BitVec.ofNat 32 (a + 1023)) 0#32 = 1#1 := by unfold Scalar.cmpi; word_omega
  have c2 : Scalar.cmpi .slt (BitVec.ofNat 32 (a + 1023)) 0#32 = 0#1 := by unfold Scalar.cmpi; word_omega
  rw [c1, c2]
  have c3 : Scalar.cmpi .ne (Scalar.subi (Scalar.extui (1#1) : BitVec 32) (Scalar.extui (0#1)))
      (Scalar.subi (Scalar.extui (Scalar.cmpi .sgt 1024#32 0#32) : BitVec 32) (Scalar.extui (Scalar.cmpi .slt 1024#32 0#32))) = 0#1 := by decide
  rw [c3]
  have c4 : ∀ x : BitVec 1, Scalar.andi 0#1 x = 0#1 := by decide
  rw [c4]
  have c5 : ∀ x y : BitVec 32, Scalar.select 0#1 x y = y := fun _ _ => if_neg (by decide)
  rw [c5]
  interval_cases q <;> decide

/-- The next chunk as the kernel computes it: `bw`, `iw` the words of chunk `q`, `nw` the number of chunks of its sequence. -/
theorem next_words (n : ℕ → ℕ) (q : ℕ × ℕ) (hb : q.1 ≤ 1000) (hi : q.2 ≤ 30) (hn : n (min q.1 23) ≤ 30) (c : BitVec 1)
    (hc : c = Scalar.cmpi .sge (Scalar.addi (BitVec.ofNat 32 q.2) 1#32) (BitVec.ofNat 32 (n (min q.1 23)))) :
    Scalar.select c (Scalar.addi (BitVec.ofNat 32 q.1) 1#32) (BitVec.ofNat 32 q.1) = BitVec.ofNat 32 (next n q).1
      ∧ Scalar.select c 0#32 (Scalar.addi (BitVec.ofNat 32 q.2) 1#32) = BitVec.ofNat 32 (next n q).2 := by
  obtain ⟨b, i⟩ := q
  dsimp only at hb hi hn hc ⊢
  have ha : ∀ x : ℕ, Scalar.addi (BitVec.ofNat 32 x) 1#32 = BitVec.ofNat 32 (x + 1) := fun x => (BitVec.ofNat_add ..).symm
  rw [ha, ha]
  rw [ha] at hc
  unfold next
  dsimp only
  generalize n (min b 23) = k at hn hc
  by_cases h : k ≤ i + 1
  · have e : c = 1#1 := by subst hc; unfold Scalar.cmpi; word_omega
    rw [if_pos h, e]; exact ⟨rfl, rfl⟩
  · have e : c = 0#1 := by subst hc; unfold Scalar.cmpi; word_omega
    rw [if_neg h, e]; exact ⟨rfl, rfl⟩

/-- The next slot as the kernel computes it. -/
theorem next_slot (p : ℕ) :
    Scalar.select (Scalar.cmpi .eq (Scalar.addi (BitVec.ofNat 32 (p % 16)) 1#32) 16#32) 0#32 (Scalar.addi (BitVec.ofNat 32 (p % 16)) 1#32)
      = BitVec.ofNat 32 ((p + 1) % 16) := by
  have h : p % 16 < 16 := Nat.mod_lt _ (by omega)
  have e : (p + 1) % 16 = (p % 16 + 1) % 16 := by omega
  rw [e]
  generalize p % 16 = k at h
  interval_cases k <;> decide

end Cert.Schedule

end
-- ==== Proof.K.Ring.lean ====
module

public import proofs.«01_k».proof.Proof.Gen.Kernel.Frame
public import proofs.«01_k».proof.Proof.Gen.Kernel.Loops
public import proofs.«01_k».proof.Proof.Schedule
public import Idealize.ShloMosaic.Lib.LoopRemainder
public import Idealize.ShloMosaic.Lib.Tactic.Disch

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline's beside the counters of the copies in flight. -/
abbrev UU (nD : Nat) (τ : Topo) : Type := Pipeline.UD sig nD τ
local notation "𝕄" => MT nD τ sig Unit (Elt F) ℕ (UU nD τ) ℕ
abbrev 𝒱₀ : Variants := Variants.none

/-! ## The checks of the words that name a chunk and a slot -/

theorem toInt_ofNat (n : ℕ) (h : n < 2000) : (BitVec.ofNat 32 n).toInt = n := by
  rw [BitVec.toInt_eq_toNat_of_lt (by rw [BitVec.toNat_ofNat]; omega), BitVec.toNat_ofNat]; omega

/-- The offsets of a chunk of a live sequence are in bounds, and its rows are whole words at either width. -/
theorem chunk_in (b i : BitVec 32) (h : k0_cond1 b = 1#1) (hb : 0 ≤ b.toInt) (hi : 0 ≤ i.toInt) (hi' : i.toInt < 30) :
    4096 ∣ (k0_mult1 i).toNat ∧ ∀ a, (k0_off3 b i) a + S1x4096x128.size a ≤ S24x122880x128.size a := by
  have hm : (k0_mult1 i).toNat = i.toNat * 4096 := by
    show (i * 4096#32).toNat = _
    rw [BitVec.toNat_mul]
    have := i.isLt
    rw [BitVec.toInt_eq_toNat_cond] at hi hi'
    show i.toNat * 4096 % 2 ^ 32 = _
    split at hi <;> split at hi' <;> omega
  refine ⟨hm ▸ Dvd.intro_left _ rfl, ?_⟩
  have hb' : b.toNat < 24 := by
    by_contra hc
    have e : b.slt 24#32 = false := by
      rw [BitVec.slt, show (24#32 : BitVec 32).toInt = 24 by decide]
      have := b.isLt
      rw [BitVec.toInt_eq_toNat_cond] at hb ⊢
      split at hb <;> simp_all <;> omega
    have e' : k0_cond1 b = Scalar.cmpi .ne (Scalar.extui (BitVec.ofBool (b.slt 24#32)) : BitVec 32) 0#32 := rfl
    rw [e', e] at h
    exact absurd h (by decide)
  have hi2 : i.toNat < 30 := by
    rw [BitVec.toInt_eq_toNat_cond] at hi hi'
    have := i.isLt
    split at hi <;> split at hi' <;> omega
  intro a; fin_cases a
  · show b.toNat + 1 ≤ 24; omega
  · show (k0_mult1 i).toNat + 4096 ≤ 122880; omega
  · show 0 + 128 ≤ 128; omega

theorem chunk_words (p : ℕ) (hp : p ∣ 4096) (b i : BitVec 32) (h : 4096 ∣ (k0_mult1 i).toNat) (hinb : ∀ a, (k0_off3 b i) a + S1x4096x128.size a ≤ S24x122880x128.size a) :
    (Rect.unit (s := S24x122880x128) (k0_off3 b i) S1x4096x128.size hinb).WholeWords p := by
  refine .inl (.inr ⟨by decide, rfl, .inl ⟨?_, ?_⟩⟩)
  · show p ∣ (k0_mult1 i).toNat; exact hp.trans h
  · show p ∣ 4096; exact hp

theorem chk1 (b i : BitVec 32) (hb : 0 ≤ b.toInt) (hi : 0 ≤ i.toInt) (hi' : i.toInt < 30) : k0_chk1 b i :=
  ⟨fun h => (chunk_in b i h hb hi hi').1, fun h => (chunk_in b i h hb hi hi').2, fun h hinb => chunk_words _ (by decide) b i (chunk_in b i h hb hi hi').1 hinb⟩
theorem chk4 (b i : BitVec 32) (hb : 0 ≤ b.toInt) (hi : 0 ≤ i.toInt) (hi' : i.toInt < 30) : k0_chk4 b i :=
  ⟨fun h => (chunk_in b i h hb hi hi').1, fun h => (chunk_in b i h hb hi hi').2, fun h hinb => chunk_words _ (by decide) b i (chunk_in b i h hb hi hi').1 hinb⟩
theorem chk5 (b i : BitVec 32) (hi : 0 ≤ i.toInt) (hi' : i.toInt < 16) : k0_chk5 b i := by
  sl_disch
theorem chk2 (b i : BitVec 32) (hi : 0 ≤ i.toInt) (hi' : i.toInt < 16) : k0_chk2 b i := by
  sl_disch
theorem chk3 (b : BitVec 32) (hb : 0 ≤ b.toInt) (hb' : b.toInt < 2000) : k0_chk3 b := by
  sl_disch

/-! ## A ring of sixteen slots -/

theorem inbK (k : Fin 16) : ∀ a, (![k.val, 0, 0] : Fin 3 → Nat) a + S1x4096x128.size a ≤ S16x4096x128.size a := by
  have := k.isLt; intro a; fin_cases a
  · show k.val + 1 ≤ 16; omega
  · show 0 + 4096 ≤ 4096; omega
  · show 0 + 128 ≤ 128; omega

section Ring
variable {e : EltTy} (A : Memref sig .tc .hbm S24x122880x128 e) (R : Memref sig .tc .vmem S16x4096x128 e) (cell : Fin 16 → SemLoc sig) (N : ℕ)

/-- Slot `k` of the ring. -/
def slot (k : Fin 16) : Memref sig .tc .vmem S4096x128 e :=
  (R.slice (Rect.unit ![k.val, 0, 0] S1x4096x128.size (inbK k)) (fun _ => rfl)).squeeze S4096x128 squeezes_S1x4096x128_S4096x128
/-- The 4096 rows of the cache from the offsets `off`. -/
abbrev blk (off : Fin 3 → Nat) (h : ∀ a, off a + S1x4096x128.size a ≤ S24x122880x128.size a) : Memref sig .tc .hbm S4096x128 e :=
  (A.slice (Rect.unit off S1x4096x128.size h) (fun _ => rfl)).squeeze S4096x128 squeezes_S1x4096x128_S4096x128
/-- Slot `k`'s read share of the cache, on the elements `S`. -/
abbrev tok (c : Dev nD) (k : Fin 16) (S : Finset (Idx (A.view.loc (c : Thread nD τ)))) (fa : Buf (Elt F) (A.view.loc (c : Thread nD τ))) : sProp 𝕄 :=
  A.view.loc (c : Thread nD τ) ↦[S]{Transfers.shareTok fullShare 16 k} fa
/-- Slot `k` free. -/
abbrev free (c : Dev nD) (fa : Buf (Elt F) (A.view.loc (c : Thread nD τ))) (k : Fin 16) : sProp 𝕄 :=
  iprop(semVal ((c : Thread nD τ), cell k) 0 ∗ (∃ f, (slot R k).view.loc (c : Thread nD τ) ↦[(slot R k).view.set]{fullShare} f) ∗ tok A c k Finset.univ fa)
/-- Slot `k` being filled with chunk `q.2` of sequence `q.1`. -/
abbrev inflight (c : Dev nD) (fa : Buf (Elt F) (A.view.loc (c : Thread nD τ))) (k : Fin 16) (q : ℕ × ℕ) : sProp 𝕄 :=
  iprop(∃ off, ∃ h, ⌜off = ![q.1, q.2 * 4096, 0]⌝ ∗ (∃ f, Transfers.Flight (countersEmb (U := UU nD τ)) (c : Thread nD τ) (cell k) () N
            iprop(((slot R k).view.loc (c : Thread nD τ) ↦[(slot R k).view.set]{fullShare}
                    (slot R k).view.writes (Elt F) f [⟨Rect.whole S4096x128, ReadAs.same.apply ((blk A off h).view.read (Elt F) fa)⟩])
              ∗ tok A c k (blk A off h).view.set fa))
    ∗ tok A c k (Finset.univ \ (blk A off h).view.set) fa)
/-- Slot `k` in its state: free, or being filled. -/
abbrev Φ (c : Dev nD) (fa : Buf (Elt F) (A.view.loc (c : Thread nD τ))) (k : Fin 16) : Option (ℕ × ℕ) → sProp 𝕄
  | none => free A R cell c fa k
  | some q => inflight A R cell N c fa k q
end Ring

/-- The caches, the two rings and the lengths as the kernel is given them. -/
abbrev kA : Memref sig .tc .hbm S24x122880x128 .bf16 := Memref.whole main_v3
abbrev vA : Memref sig .tc .hbm S24x122880x128 .fp8e4m3 := Memref.whole main_v4
abbrev kR : Memref sig .tc .vmem S16x4096x128 .bf16 := Memref.whole cc0_scratch0
abbrev vR : Memref sig .tc .vmem S16x4096x128 .fp8e4m3 := Memref.whole cc0_scratch1
theorem inbC (k : Fin 16) : ∀ a, (![k.val] : Fin 1 → Nat) a + S1.size a ≤ S16.size a := by
  have := k.isLt; intro a; fin_cases a; show k.val + 1 ≤ 16; omega
/-- The semaphore of slot `k`, of the sixteen `C`. -/
abbrev cellOf (C : DmaSems sig S16) (k : Fin 16) : SemLoc sig :=
  SemLoc.dma ((C.slice (Rect.unit ![k.val] S1.size (inbC k))).squeeze S_ squeezes_S1_S_).sem
abbrev kcell (k : Fin 16) : SemLoc sig := cellOf cc0_scratch3 k
abbrev vcell (k : Fin 16) : SemLoc sig := cellOf cc0_scratch4 k
abbrev lenM : Memref sig .tc .smem S24 .i32 := Memref.whole cc0_stg0_0

/-- The length of sequence `b`, a sequence past the last counted as the last. -/
def len (c : Dev nD) (fl : Buf (Elt F) (lenM.view.loc (c : Thread nD τ))) (b : ℕ) : BitVec 32 :=
  fl (ix1 ⟨min b 23, by show _ < 24; omega⟩)
/-- The number of chunks of sequence `b`. -/
def nch (c : Dev nD) (fl : Buf (Elt F) (lenM.view.loc (c : Thread nD τ))) (b : ℕ) : ℕ := chunks (len c fl b).toNat

theorem one_le_nch (c : Dev nD) (fl : Buf (Elt F) (lenM.view.loc (c : Thread nD τ))) (b : ℕ) : 1 ≤ nch c fl b := one_le_chunks _
theorem nch_min (c : Dev nD) (fl : Buf (Elt F) (lenM.view.loc (c : Thread nD τ))) (b : ℕ) : nch c fl (min b 23) = nch c fl b := by
  unfold nch len; simp only [min_assoc, min_self]

/-- No length is above 30720. -/
abbrev Fits (c : Dev nD) (fl : Buf (Elt F) (lenM.view.loc (c : Thread nD τ))) : Prop := ∀ b, (len c fl b).toNat ≤ 30720

theorem nch_le {c : Dev nD} {fl : Buf (Elt F) (lenM.view.loc (c : Thread nD τ))} (h : Fits c fl) (b : ℕ) : nch c fl b ≤ 30 := chunks_le (h b)

/-- The words that name the chunk at position `p` and the slot it goes to. -/
def wordsAt (n : ℕ → ℕ) (p : ℕ) : BitVec 32 × BitVec 32 × BitVec 32 :=
  (BitVec.ofNat 32 (pos n p).1, BitVec.ofNat 32 (pos n p).2, BitVec.ofNat 32 (p % 16))

theorem live_iff (p : ℕ) (h : p < 2000) : k0_cond1 (BitVec.ofNat 32 p) = 1#1 ↔ p < 24 := by
  have hx := toInt_ofNat p h
  have hy : (24#32 : BitVec 32).toInt = 24 := by decide
  have e : (BitVec.ofNat 32 p).slt 24#32 = decide (p < 24) := by
    rw [BitVec.slt, hx, hy]; simp
  have e' : k0_cond1 (BitVec.ofNat 32 p) = Scalar.cmpi .ne (Scalar.extui (BitVec.ofBool ((BitVec.ofNat 32 p).slt 24#32)) : BitVec 32) 0#32 := rfl
  rw [e', e]
  by_cases hp : p < 24
  · simp only [hp, decide_true, iff_true]; decide
  · simp only [hp, decide_false, iff_false]; decide

theorem off4_eq (p : ℕ) (h : p < 2000) : k0_off4 (BitVec.ofNat 32 p) = ![min p 23] := by
  have hx := toInt_ofNat p h
  have e : Scalar.minsi (BitVec.ofNat 32 p) 23#32 = BitVec.ofNat 32 (min p 23) := by
    unfold Scalar.minsi IntOp.minsi
    rw [BitVec.slt, hx, show (23#32 : BitVec 32).toInt = 23 by decide]
    by_cases hp : p < 23
    · rw [min_eq_left (by omega)]; simp [hp]
    · rw [min_eq_right (by omega)]; simp [hp]
  show ![(Scalar.minsi (BitVec.ofNat 32 p) 23#32).toNat] = _
  rw [e, BitVec.toNat_ofNat, Nat.mod_eq_of_lt (by omega)]

/-- The ring of the key chunks, and of the value chunks. -/
abbrev kΦ (c : Dev nD) (fk : Buf (Elt F) (kA.view.loc (c : Thread nD τ))) := Φ kA kR kcell 32768 c fk
abbrev vΦ (c : Dev nD) (fv : Buf (Elt F) (vA.view.loc (c : Thread nD τ))) := Φ vA vR vcell 16384 c fv

theorem load_len (c : Dev nD) (fl : Buf (Elt F) (lenM.view.loc (c : Thread nD τ))) (off : Fin 1 → ℕ) (h) (b : ℕ) (hb : off = ![min b 23])  (i) :
    View.readAt (Elt F) lenM.view (Rect.unit (s := S24) off S1.size h).toLoadRect fl i = len c fl b := by
  subst hb
  unfold len
  show fl _ = fl _
  congr 1
  funext a
  fin_cases a
  apply Fin.ext
  have h1 : (i 0).val < 1 := (i 0).isLt
  show min b 23 + 1 * (i 0).val = min b 23
  omega

/-- The three words after those of position `p`, as the kernel computes them. -/
theorem words_next (c : Dev nD) (fl : Buf (Elt F) (lenM.view.loc (c : Thread nD τ))) (hfl : Fits c fl) (p : ℕ) (hp : p < 900) (off : Fin 1 → ℕ) (h)
    (hb : off = ![min (pos (nch c fl) p).1 23]) (i) :
    (Scalar.select (Scalar.cmpi .sge (Scalar.addi (BitVec.ofNat 32 (pos (nch c fl) p).2) 1#32)
        (chunksW (View.readAt (Elt F) lenM.view (Rect.unit (s := S24) off S1.size h).toLoadRect fl i)))
        (Scalar.addi (BitVec.ofNat 32 (pos (nch c fl) p).1) 1#32) (BitVec.ofNat 32 (pos (nch c fl) p).1),
     Scalar.select (Scalar.cmpi .sge (Scalar.addi (BitVec.ofNat 32 (pos (nch c fl) p).2) 1#32)
        (chunksW (View.readAt (Elt F) lenM.view (Rect.unit (s := S24) off S1.size h).toLoadRect fl i))) 0#32
        (Scalar.addi (BitVec.ofNat 32 (pos (nch c fl) p).2) 1#32),
     Scalar.select (Scalar.cmpi .eq (Scalar.addi (BitVec.ofNat 32 (p % 16)) 1#32) 16#32) 0#32 (Scalar.addi (BitVec.ofNat 32 (p % 16)) 1#32))
    = wordsAt (nch c fl) (p + 1) := by
  have e : View.readAt (Elt F) lenM.view (Rect.unit (s := S24) off S1.size h).toLoadRect fl i = len c fl (pos (nch c fl) p).1 := load_len c fl off h _ hb i
  rw [e, chunksW_eq _ (hfl _), next_slot]
  have hi : (pos (nch c fl) p).2 < 30 := (pos_snd_lt (one_le_nch c fl) p).trans_le (nch_le hfl _)
  have hb : (pos (nch c fl) p).1 ≤ p := pos_fst_le p
  obtain ⟨e1, e2⟩ := next_words (nch c fl) (pos (nch c fl) p) (by omega) (by omega) (nch_le hfl _) _ rfl
  rw [nch_min] at e1 e2
  unfold nch at e1 e2 ⊢
  rw [e1, e2]
  rfl

/-- What a position says of its words. -/
theorem word_facts {c : Dev nD} {fl : Buf (Elt F) (lenM.view.loc (c : Thread nD τ))} (hfl : Fits c fl) (p : ℕ) (hp : p < 900) :
    (0 ≤ (BitVec.ofNat 32 (pos (nch c fl) p).1).toInt ∧ (BitVec.ofNat 32 (pos (nch c fl) p).1).toInt < 2000)
    ∧ (0 ≤ (BitVec.ofNat 32 (pos (nch c fl) p).2).toInt ∧ (BitVec.ofNat 32 (pos (nch c fl) p).2).toInt < 30)
    ∧ (0 ≤ (BitVec.ofNat 32 (p % 16)).toInt ∧ (BitVec.ofNat 32 (p % 16)).toInt < 16)
    ∧ (BitVec.ofNat 32 (p % 16)).toNat = p % 16 := by
  have hb : (pos (nch c fl) p).1 ≤ p := pos_fst_le p
  have hi : (pos (nch c fl) p).2 < 30 := (pos_snd_lt (one_le_nch c fl) p).trans_le (nch_le hfl _)
  refine ⟨⟨?_, ?_⟩, ⟨?_, ?_⟩, ⟨?_, ?_⟩, ?_⟩
  · rw [toInt_ofNat _ (by omega)]; omega
  · rw [toInt_ofNat _ (by omega)]; omega
  · rw [toInt_ofNat _ (by omega)]; omega
  · rw [toInt_ofNat _ (by omega)]; omega
  · rw [toInt_ofNat _ (by omega)]; omega
  · rw [toInt_ofNat _ (by omega)]; omega
  · rw [BitVec.toNat_ofNat]; omega

theorem off3_eq (b i : ℕ) (hb : b < 2000) (hi : i < 30) : k0_off3 (BitVec.ofNat 32 b) (BitVec.ofNat 32 i) = ![b, i * 4096, 0] := by
  show ![(BitVec.ofNat 32 b).toNat, (BitVec.ofNat 32 i * 4096#32).toNat, 0] = _
  rw [BitVec.toNat_mul, BitVec.toNat_ofNat, BitVec.toNat_ofNat, Nat.mod_eq_of_lt (by omega : b < 2^32), Nat.mod_eq_of_lt (by omega : i < 2^32)]
  congr 2
  show i * 4096 % 2^32 = _
  omega

end Cert.Kernel.Hand
-- ==== Proof.K.Prologue.lean ====
module

public import proofs.«01_k».proof.Proof.K.Ring

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

/-- The loop that starts the first fifteen key copies: before trip `k` the words are those of position `k`, and the copies at the positions below `k` are started. -/
@[sl_loop, reducible] noncomputable def loopInv_k0_t1 (c : Dev nD) (fl : Buf (Elt F) (lenM.view.loc (c : Thread nD τ))) (fk : Buf (Elt F) (kA.view.loc (c : Thread nD τ))) (hfl : Fits c fl)  :
    Gen.LoopInvTy_k0_t1 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) (Memref.whole cc0_scratch2) (Memref.isWhole_whole _) cc0_scratch3 cc0_scratch4 (0#32, 0#32, 0#32) where
  inv := fun k acc => iprop(⌜acc = wordsAt (nch c fl) k⌝ ∗ (lenM.view.loc (c : Thread nD τ) ↦{fullShare} fl)
    ∗ Ring.AtW (kΦ c fk) (ringSt (nch c fl) 0 k))
  step := fun k acc => by
    have hk : k.val < 15 := k.isLt
    generalize hp : k.val = p at *
    obtain ⟨⟨hb0, hb1⟩, ⟨hi0, hi1⟩, ⟨hs0, hs1⟩, hsw⟩ := word_facts hfl p (by omega)
    have hc1 := chk1 _ _ hb0 hi0 hi1
    have hc2 := chk2 (BitVec.ofNat 32 (pos (nch c fl) p).1) _ hs0 hs1
    have hc3 := chk3 _ hb0 hb1
    have hpb := pos_fst_le (n := nch c fl) p
    have hpi := (pos_snd_lt (one_le_nch c fl) p).trans_le (nch_le hfl _)
    have hw : (BitVec.ofNat 32 (p % 16)).toNat < 16 := by omega
    have hoff := off4_eq (pos (nch c fl) p).1 (by omega)
    have hslot : p % 16 = (Ring.slotOfW (BitVec.ofNat 32 (p % 16)) hw).val := hsw.symm
    by_cases h1 : k0_cond1 (BitVec.ofNat 32 (pos (nch c fl) p).1) = 1#1
    · have hlt := (pos_fst_lt (one_le_nch c fl) p).mp ((live_iff _ (by omega)).mp h1)
      rw [Ring.AtW_focusW (kΦ c fk) _ _ hw, ringSt_issue 0 p _ hslot (by omega) (by omega)]
      iintro ⟨%hacc, HL, ⟨⟨Hcell, ⟨%f, Hslot⟩, Htok⟩, Hrest⟩⟩
      subst hacc
      unfold wordsAt k0_t1_body
      rw [k0_part1_eq_skeleton]
      unfold k0_part1_skel
      sl_exec
      sl_step
      isplitr
      · ipureintro; exact words_next c fl hfl p (by omega) _ _ hoff _
      isplitl [HL]; · iexact HL
      rw [← ringSt_issued 0 p _ hslot (by omega) (by omega) hlt]
      iapply (Ring.AtW_update (kΦ c fk) _ _ _)
      isplitr [Hrest]
      · iexists _, _
        isplitr
        · ipureintro; exact off3_eq _ _ (by omega) (by omega)
        isplitl [Hcell]
        · iexists f; iexact Hcell
        · iexact Htok
      · iexact Hrest
    · have hge : start (nch c fl) 24 ≤ p := by
        by_contra hlt
        exact h1 ((live_iff _ (by omega)).mpr ((pos_fst_lt (one_le_nch c fl) p).mpr (by omega)))
      iintro ⟨%hacc, HL, HR⟩
      subst hacc
      unfold wordsAt k0_t1_body
      rw [k0_part1_eq_skeleton]
      unfold k0_part1_skel
      sl_exec
      sl_step
      isplitr
      · ipureintro; exact words_next c fl hfl p (by omega) _ _ hoff _
      isplitl [HL]; · iexact HL
      rw [← ringSt_past 0 p hge]; iexact HR
/-- The loop that starts the first fifteen value copies: before trip `k` the words are those of position `k`, and the copies at the positions below `k` are started. -/
@[sl_loop, reducible] noncomputable def loopInv_k0_t2 (c : Dev nD) (fl : Buf (Elt F) (lenM.view.loc (c : Thread nD τ))) (fv : Buf (Elt F) (vA.view.loc (c : Thread nD τ))) (hfl : Fits c fl)  :
    Gen.LoopInvTy_k0_t2 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) (Memref.whole cc0_scratch2) (Memref.isWhole_whole _) cc0_scratch3 cc0_scratch4 (0#32, 0#32, 0#32) where
  inv := fun k acc => iprop(⌜acc = wordsAt (nch c fl) k⌝ ∗ (lenM.view.loc (c : Thread nD τ) ↦{fullShare} fl)
    ∗ Ring.AtW (vΦ c fv) (ringSt (nch c fl) 0 k))
  step := fun k acc => by
    have hk : k.val < 15 := k.isLt
    generalize hp : k.val = p at *
    obtain ⟨⟨hb0, hb1⟩, ⟨hi0, hi1⟩, ⟨hs0, hs1⟩, hsw⟩ := word_facts hfl p (by omega)
    have hc1 := chk4 _ _ hb0 hi0 hi1
    have hc2 := chk5 (BitVec.ofNat 32 (pos (nch c fl) p).1) _ hs0 hs1
    have hc3 := (show k0_chk6 _ from chk3 _ hb0 hb1)
    have hpb := pos_fst_le (n := nch c fl) p
    have hpi := (pos_snd_lt (one_le_nch c fl) p).trans_le (nch_le hfl _)
    have hw : (BitVec.ofNat 32 (p % 16)).toNat < 16 := by omega
    have hoff := off4_eq (pos (nch c fl) p).1 (by omega)
    have hslot : p % 16 = (Ring.slotOfW (BitVec.ofNat 32 (p % 16)) hw).val := hsw.symm
    by_cases h1 : k0_cond2 (BitVec.ofNat 32 (pos (nch c fl) p).1) = 1#1
    · have hlt := (pos_fst_lt (one_le_nch c fl) p).mp ((live_iff _ (by omega)).mp h1)
      rw [Ring.AtW_focusW (vΦ c fv) _ _ hw, ringSt_issue 0 p _ hslot (by omega) (by omega)]
      iintro ⟨%hacc, HL, ⟨⟨Hcell, ⟨%f, Hslot⟩, Htok⟩, Hrest⟩⟩
      subst hacc
      unfold wordsAt k0_t2_body
      rw [k0_part2_eq_skeleton]
      unfold k0_part2_skel
      sl_exec
      sl_step
      isplitr
      · ipureintro; exact words_next c fl hfl p (by omega) _ _ hoff _
      isplitl [HL]; · iexact HL
      rw [← ringSt_issued 0 p _ hslot (by omega) (by omega) hlt]
      iapply (Ring.AtW_update (vΦ c fv) _ _ _)
      isplitr [Hrest]
      · iexists _, _
        isplitr
        · ipureintro; exact off3_eq _ _ (by omega) (by omega)
        isplitl [Hcell]
        · iexists f; iexact Hcell
        · iexact Htok
      · iexact Hrest
    · have hge : start (nch c fl) 24 ≤ p := by
        by_contra hlt
        exact h1 ((live_iff _ (by omega)).mpr ((pos_fst_lt (one_le_nch c fl) p).mpr (by omega)))
      iintro ⟨%hacc, HL, HR⟩
      subst hacc
      unfold wordsAt k0_t2_body
      rw [k0_part2_eq_skeleton]
      unfold k0_part2_skel
      sl_exec
      sl_step
      isplitr
      · ipureintro; exact words_next c fl hfl p (by omega) _ _ hoff _
      isplitl [HL]; · iexact HL
      rw [← ringSt_past 0 p hge]; iexact HR
end

end Cert.Kernel.Hand
-- ==== Proof.K.Tile.lean ====
module

public import proofs.«01_k».proof.Proof.K.Prologue
public import Idealize.ShloMosaic.Lib.Ring.Pair
public import Idealize.ShloMosaic.Lib.WritesUnit
public import Idealize.ShloMosaic.Lib.PointwiseCore

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a load of a filled slot reads -/

/-- The 256 rows from row `o` of chunk `i` of sequence `b` of a cache `f`. -/
def tile {α : Type} (f : S24x122880x128.Idx → α) (b i o : ℕ) : S1x256x128.Idx → α := fun y =>
  f (ix3 ⟨min b 23, by show _ < 24; omega⟩ ⟨min (i * 4096 + o + (y 1).val) 122879, by show _ < 122880; omega⟩ ⟨(y 2).val, (y 2).isLt⟩)

/-- A box of 256 rows of slot `k` is within it. -/
theorem slot_incl {e : EltTy} (R : Memref sig .tc .vmem S16x4096x128 e) (k : Fin 16) (off : Fin 3 → ℕ) (h) (h0 : off 0 = k.val) :
    R.view.setOn (Rect.unit (s := S16x4096x128) off S1x256x128.size h).toLoadRect.set ≤ (slot R k).view.set := by
  refine (Memref.setOn_subset_slice_of_within R (Rect.unit ![k.val, 0, 0] S1x4096x128.size (inbK k)) (fun _ => rfl) _ ?_).trans ?_
  · refine decide_eq_true fun a => ?_
    have h1 := h 1
    have h2 := h 2
    change off 1 + 256 ≤ 4096 at h1
    change off 2 + 128 ≤ 128 at h2
    fin_cases a
    · show k.val ≤ off 0 ∧ off 0 + 1 * (1 - 1) < k.val + 1 * 1 ∧ (1 = 1 ∨ _)
      omega
    · show 0 ≤ off 1 ∧ off 1 + 1 * (256 - 1) < 0 + 1 * 4096 ∧ (1 = 1 ∨ _)
      omega
    · show 0 ≤ off 2 ∧ off 2 + 1 * (128 - 1) < 0 + 1 * 128 ∧ (1 = 1 ∨ _)
      omega
  · unfold slot; rw [Memref.set_view_squeeze]

theorem squeeze_idx (h : S4096x128.numel = S1x4096x128.numel) (a : Fin 4096) (b : Fin 128) :
    Shape.reshapeEquiv h (ix2 a b) = (ix3 (⟨0, by decide⟩ : Fin 1) a b : S1x4096x128.Idx) := by
  pointwise

theorem slot_load {e : EltTy} (A : Memref sig .tc .hbm S24x122880x128 e) (R : Memref sig .tc .vmem S16x4096x128 e) (k : Fin 16)
    (off : Fin 3 → ℕ) (h) (o : ℕ) (h0 : off = ![k.val, o, 0]) (g : (slot R k).view.ty.Contents (Elt F)) (offc : Fin 3 → ℕ) (hc) (b i : ℕ) (hoc : offc = ![b, i * 4096, 0])
    (fa : A.view.ty.Contents (Elt F)) :
    View.readAt (Elt F) R.view (Rect.unit (s := S16x4096x128) off S1x256x128.size h).toLoadRect
      ((slot R k).view.writes (Elt F) g [⟨Rect.whole S4096x128, ReadAs.same.apply ((blk A offc hc).view.read (Elt F) fa)⟩])
    = tile (View.read (Elt F) A.view fa) b i o := by
  subst h0 hoc
  have ho := h 1
  change o + 256 ≤ 4096 at ho
  have hb := hc 0
  change b + 1 ≤ 24 at hb
  have hi := hc 1
  change i * 4096 + 4096 ≤ 122880 at hi
  funext y
  have e := congrFun (View.read_writes_whole (slot R k).view g (ReadAs.same.apply ((blk A ![b, i * 4096, 0] hc).view.read (Elt F) fa)))
    (ix2 ⟨o + (y 1).val, by have : (y 1).val < 256 := (y 1).isLt; show _ < 4096; omega⟩ ⟨(y 2).val, (y 2).isLt⟩)
  refine Eq.trans ?_ (e.trans ?_)
  · show View.read (Elt F) R.view _ _ = View.read (Elt F) R.view _ _
    congr 1
    rw [show (Shape.reshapeEquiv _).toEmbedding _ = _ from squeeze_idx _ _ _]
    have h0 : (y 0).val < 1 := (y 0).isLt
    funext a; fin_cases a <;> apply Fin.ext
    · show k.val + 1 * (y 0).val = k.val + 1 * 0; omega
    · show o + 1 * (y 1).val = 0 + 1 * (o + (y 1).val); omega
    · show 0 + 1 * (y 2).val = 0 + 1 * (y 2).val; omega
  · show View.read (Elt F) A.view fa _ = View.read (Elt F) A.view fa _
    congr 1
    rw [show (Shape.reshapeEquiv _).toEmbedding _ = _ from squeeze_idx _ _ _]
    have hb := hc 0
    have hi := hc 1
    have h1 : (y 1).val < 256 := (y 1).isLt
    have ho := h 1
    funext a; fin_cases a <;> apply Fin.ext
    · have hb' : b + 1 ≤ 24 := hb
      show b + 1 * 0 = min b 23; omega
    · have hi' : i * 4096 + 4096 ≤ 122880 := hi
      have ho' : o + 256 ≤ 4096 := ho
      show i * 4096 + 1 * (o + (y 1).val) = min (i * 4096 + o + (y 1).val) 122879; omega
    · show 0 + 1 * (y 2).val = (y 2).val; omega

end Cert.Kernel.Hand
-- ==== Proof.K.Pieces.lean ====
module

public import proofs.«01_k».proof.Proof.K.Tile

@[expose] public section

set_option maxRecDepth 16384

noncomputable section

namespace Cert.Kernel.Hand

open Cert.Kernel Cert.Kernel.Gen Cert.Schedule
open Idealize.ShloMosaic Idealize.ShloMosaic.TcCoe Idealize.ShloMosaic.Tactic

variable {F : FTy → Type} [FloatOps F]

/-! ## The scores of a chunk -/

/-- The scratch array of scores. -/
abbrev sM : Memref sig .tc .vmem S30x8x4096 .f32 := Memref.whole cc0_scratch2

/-- Where head group `g`'s rows begin in half `h` of a product of 64 rows. -/
def groupOff (h : Fin 2) (g : Fin 4) : Fin 2 → ℕ := ![32 * h.val + 8 * g.val, 0]
theorem groupOff_slices (h : Fin 2) (g : Fin 4) : S64x256.Slices (groupOff h g) S8x256 := by
  refine ⟨rfl, fun a => ?_⟩
  fin_cases h <;> fin_cases g <;> fin_cases a <;> decide

/-- The scores of 256 columns: each column takes the rows of its own head group, and a column at or past `lim` tokens is minus infinity. -/
def halfScore (v51 v69 v87 : IVec S8x256 1) (v114 : IVec S8x256 32) (s2 : FVec F S64x256 .f32) (h : Fin 2) (lim : BitVec 32) : FVec F S8x256 .f32 :=
  select (cmpi .slt v114 (broadcast S8x256 lim))
    (select v87 (extractStridedSlice S8x256 (groupOff h 3) s2 (groupOff_slices h 3))
      (select v69 (extractStridedSlice S8x256 (groupOff h 2) s2 (groupOff_slices h 2))
        (select v51 (extractStridedSlice S8x256 (groupOff h 1) s2 (groupOff_slices h 1)) (extractStridedSlice S8x256 (groupOff h 0) s2 (groupOff_slices h 0)))))
    (broadcast S8x256 (Scalar.ofBits .f32 0xFF800000#32))

/-- The scores of columns `256 j` to `256 j + 255` of a chunk whose sixteen blocks of 256 rows are `T`. -/
def scoreOf (v51 v69 v87 : IVec S8x256 1) (v114 : IVec S8x256 32) (q2 : FVec F S64x256 .bf16) (left : BitVec 32) (T : Fin 16 → Vec F S1x256x128 .bf16)
    (j : Fin 16) : FVec F S8x256 .f32 :=
  halfScore v51 v69 v87 v114 (k0_pay4 q2 (T ⟨2 * (j.val / 2), by omega⟩) (T ⟨2 * (j.val / 2) + 1, by omega⟩)) ⟨j.val % 2, by omega⟩
    (Scalar.subi left (BitVec.ofNat 32 (64 * j.val)))

/-- The running maximum over the lanes after `n` of a chunk's sixteen score blocks. -/
def maxOf (H : Fin 16 → FVec F S8x256 .f32) (m : FVec F S8x128 .f32) : (n : ℕ) → n ≤ 16 → FVec F S8x128 .f32
  | 0, _ => m
  | n + 1, h => maximumf (maxOf H m n (by omega))
      (maximumf (extractStridedSlice S8x128 ![0, 0] (H ⟨n, h⟩) slices_S8x256_o0_0_S8x128) (extractStridedSlice S8x128 ![0, 128] (H ⟨n, h⟩) slices_S8x256_o0_128_S8x128))

/-- A score block as it is stored. -/
def stored (H : FVec F S8x256 .f32) : Vec F S1x8x256 .f32 := shapeCast S1x8x256 H shapeCasts_S8x256_S1x8x256

/-! ## The stores of a chunk's scores -/

/-- Where block `j` of chunk `w` is stored. -/
def sOff (w : BitVec 32) (j : ℕ) : Fin 3 → ℕ := ![w.toNat, 0, 256 * j]
theorem sOff_inb (w : BitVec 32) (hw : w.toNat < 30) (j : ℕ) (hj : j < 16) : ∀ a, sOff w j a + S1x8x256.size a ≤ S30x8x4096.size a := by
  intro a; fin_cases a
  · show w.toNat + 1 ≤ 30; omega
  · show 0 + 8 ≤ 8; omega
  · show 256 * j + 256 ≤ 4096; omega

/-- The first `n` block stores of chunk `w`, the newest first. -/
def pcs (w : BitVec 32) (hw : w.toNat < 30) (P : Fin 16 → Vec F S1x8x256 .f32) : (n : ℕ) → n ≤ 16 → List (View.Piece (Elt F) S30x8x4096 .f32)
  | 0, _ => []
  | n + 1, h => ⟨Rect.unit (s := S30x8x4096) (sOff w n) S1x8x256.size (sOff_inb w hw n h), P ⟨n, h⟩⟩ :: pcs w hw P n (by omega)

/-- The element of block `j` of chunk `i` at `y`. -/
abbrev sIx (i : ℕ) (hi : i < 30) (j : Fin 16) (y : S1x8x256.Idx) : S30x8x4096.Idx :=
  ix3 ⟨i, hi⟩ ⟨(y 1).val, (y 1).isLt⟩ ⟨256 * j.val + (y 2).val, by have h : (y 2).val < 256 := (y 2).isLt; omega⟩

/-- The scratch array holds the blocks `P` of the chunks below `k`. -/
def SInv (fs : sM.view.ty.Contents (Elt F)) (k : ℕ) (P : ℕ → Fin 16 → Vec F S1x8x256 .f32) : Prop :=
  ∀ i (hi : i < 30), i < k → ∀ j y, View.read (Elt F) sM.view fs (sIx i hi j y) = P i j y

/-- Another chunk's elements are as they were. -/
theorem pcs_other (w : BitVec 32) (hw) (P : Fin 16 → Vec F S1x8x256 .f32) (fs : sM.view.ty.Contents (Elt F)) (i : ℕ) (hi) (hne : i ≠ w.toNat) (j) (y) :
    ∀ n h, View.read (Elt F) sM.view (sM.view.writes (Elt F) fs (pcs w hw P n h)) (sIx i hi j y) = View.read (Elt F) sM.view fs (sIx i hi j y)
  | 0, _ => rfl
  | n + 1, h => by
    rw [show pcs w hw P (n + 1) h = ⟨Rect.unit (s := S30x8x4096) (sOff w n) S1x8x256.size (sOff_inb w hw n h), P ⟨n, h⟩⟩ :: pcs w hw P n (by omega) from rfl,
      View.read_writes_cons_unit_of_not_mem sM.view fs (sOff_inb w hw n h) _ _ _ rfl 0 (by show i < w.toNat ∨ w.toNat + 1 ≤ i; omega)]
    exact pcs_other w hw P fs i hi hne j y n _

/-- The chunk's own elements are the blocks stored. -/
theorem pcs_own (w : BitVec 32) (hw) (P : Fin 16 → Vec F S1x8x256 .f32) (fs : sM.view.ty.Contents (Elt F)) (hi) (j) (y) :
    ∀ n h, j.val < n → View.read (Elt F) sM.view (sM.view.writes (Elt F) fs (pcs w hw P n h)) (sIx w.toNat hi j y) = P j y
  | 0, _, hj => absurd hj (Nat.not_lt_zero _)
  | n + 1, h, hj => by
    have h0 : (y 0).val < 1 := (y 0).isLt
    have h2 : (y 2).val < 256 := (y 2).isLt
    rw [show pcs w hw P (n + 1) h = ⟨Rect.unit (s := S30x8x4096) (sOff w n) S1x8x256.size (sOff_inb w hw n h), P ⟨n, h⟩⟩ :: pcs w hw P n (by omega) from rfl]
    by_cases e : j.val = n
    · have ej : j = ⟨n, h⟩ := Fin.ext e
      rw [View.read_writes_cons_unit_of_mem sM.view fs (sOff_inb w hw n h) _ _ _ y rfl (fun a => by
        fin_cases a
        · show w.toNat = w.toNat + (y 0).val; omega
        · show (y 1).val = 0 + (y 1).val; omega
        · show 256 * j.val + (y 2).val = 256 * n + (y 2).val; omega), ej]
    · rw [View.read_writes_cons_unit_of_not_mem sM.view fs (sOff_inb w hw n h) _ _ _ rfl 2
        (by show 256 * j.val + (y 2).val < 256 * n ∨ 256 * n + 256 ≤ 256 * j.val + (y 2).val; omega)]
      exact pcs_own w hw P fs hi j y n _ (by omega)

theorem SInv_step (fs : sM.view.ty.Contents (Elt F)) (k : ℕ) (P : ℕ → Fin 16 → Vec F S1x8x256 .f32) (w : BitVec 32) (hw) (hk : w.toNat = k) (h : SInv fs k P) :
    SInv (sM.view.writes (Elt F) fs (pcs w hw (P k) 16 le_rfl)) (k + 1) P := by
  intro i hi hlt j y
  by_cases e : i = k
  · subst e
    subst hk
    exact pcs_own w hw _ fs hi j y 16 le_rfl j.isLt
  · rw [pcs_other w hw _ fs i hi (by omega) j y]
    exact h i hi (by omega) j y

/-- A load of block `j` of chunk `w` reads the block. -/
theorem SInv_load {fs : sM.view.ty.Contents (Elt F)} {k : ℕ} {P : ℕ → Fin 16 → Vec F S1x8x256 .f32} (h : SInv fs k P) (w : BitVec 32) (hw : w.toNat < k) (hk : k ≤ 30)
    (j : Fin 16) (off : Fin 3 → ℕ) (hinb) (hoff : off = sOff w j.val) :
    View.readAt (Elt F) sM.view (Rect.unit (s := S30x8x4096) off S1x8x256.size hinb).toLoadRect fs = P w.toNat j := by
  subst hoff
  funext y
  have h0 : (y 0).val < 1 := (y 0).isLt
  refine Eq.trans ?_ (h w.toNat (by omega) hw j y)
  show View.read (Elt F) sM.view fs _ = View.read (Elt F) sM.view fs _
  congr 1
  funext a; fin_cases a <;> apply Fin.ext
  · show w.toNat + 1 * (y 0).val = w.toNat; omega
  · show 0 + 1 * (y 1).val = (y 1).val; omega
  · show 256 * j.val + 1 * (y 2).val = 256 * j.val + (y 2).val; omega

end Cert.Kernel.Hand
-- ==== Proof.K.Scores.lean ====
module

public import proofs.«01_k».proof.Proof.K.Pieces
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem iv_word (k : ℕ) : Scf.iv 0#32 1#32 k = BitVec.ofNat 32 k := by
  unfold Scf.iv; rw [BitVec.mul_one, BitVec.zero_add]

/-- The loops over the chunks of a sequence make one trip for each chunk. -/
theorem t4_trips (v : BitVec 32) (h : v.toNat ≤ 30720) : (k0_t4_loop v).trips = chunks v.toNat := by
  show Scf.trips 0#32 (Scalar.addi 0#32 (Scalar.muli (Scalar.divsi (Scalar.subi (chunksW v) 0#32) 1#32) 1#32)) 1#32 = _
  rw [Scalar.muli_divsi_one, chunksW_eq v h]
  have hc := chunks_le h
  generalize chunks v.toNat = q at hc
  interval_cases q <;> decide

theorem chk11 (w : BitVec 32) (hi : 0 ≤ w.toInt) (hi' : w.toInt < 16) : k0_chk11 w := by
  sl_disch

/-- Where the 256 rows from row `o` of slot `k` are. -/
def rowsOff (k o : ℕ) : Fin 3 → ℕ := ![k, o, 0]
theorem rowsOff_inb (k : Fin 16) (n : Fin 16) : ∀ a, rowsOff k.val (256 * n.val) a + S1x256x128.size a ≤ S16x4096x128.size a := by
  intro a; fin_cases a
  · show k.val + 1 ≤ 16; omega
  · show 256 * n.val + 256 ≤ 4096; omega
  · show 0 + 128 ≤ 128; omega

/-- The sixteen blocks of 256 rows of a slot that a chunk has been copied to. -/
def landed {e : EltTy} (A : Memref sig .tc .hbm S24x122880x128 e) (R : Memref sig .tc .vmem S16x4096x128 e) (k : Fin 16) (offc : Fin 3 → ℕ) (hc : ∀ a, offc a + S1x4096x128.size a ≤ S24x122880x128.size a)
    (fa : A.view.ty.Contents (Elt F)) (n : Fin 16) : Vec F S1x256x128 e :=
  View.readAt (Elt F) R.view (Rect.unit (s := S16x4096x128) (rowsOff k.val (256 * n.val)) S1x256x128.size (rowsOff_inb k n)).toLoadRect
    ((slot R k).view.writes (Elt F) (slot R k).view.junk [⟨Rect.whole S4096x128, ReadAs.same.apply ((blk A offc hc).view.read (Elt F) fa)⟩])

/-- They are the chunk's. -/
theorem landed_eq {e : EltTy} (A : Memref sig .tc .hbm S24x122880x128 e) (R : Memref sig .tc .vmem S16x4096x128 e) (k : Fin 16) (offc : Fin 3 → ℕ) (hc : ∀ a, offc a + S1x4096x128.size a ≤ S24x122880x128.size a)
    (fa : A.view.ty.Contents (Elt F)) (b i : ℕ) (h : offc = ![b, i * 4096, 0]) :
    landed A R k offc hc fa = fun n => tile (View.read (Elt F) A.view fa) b i (256 * n.val) := by
  funext n
  exact slot_load A R k _ _ _ rfl _ offc hc b i h fa

/-! ## The values of a sequence's scores -/

/-- The scores of chunk `i` of sequence `b`. -/
def scoresAt (v51 v69 v87 : IVec S8x256 1) (v114 : IVec S8x256 32) (q2 : FVec F S64x256 .bf16) (len : BitVec 32) (fa : S24x122880x128.Idx → Elt F .bf16) (b i : ℕ) :
    Fin 16 → FVec F S8x256 .f32 :=
  scoreOf v51 v69 v87 v114 q2 (Scalar.subi len (Scalar.muli (BitVec.ofNat 32 i) 1024#32)) fun n => tile fa b i (256 * n.val)

/-- The running maximum over the lanes after the chunks below `k`. -/
def maxAt (S : ℕ → Fin 16 → FVec F S8x256 .f32) : ℕ → FVec F S8x128 .f32
  | 0 => k0_pay250
  | k + 1 => maxOf (S k) (maxAt S k) 16 le_rfl

section
variable (v51 v69 v87 : IVec S8x256 1) (v114 : IVec S8x256 32) (v146 : FVec F S64x256 .bf16) (v139 arg24 left : BitVec 32) (hleft : left = Scalar.subi v139 (Scalar.muli arg24 1024#32)) (T : Fin 16 → Vec F S1x256x128 .bf16) (m : FVec F S8x128 .f32)
include hleft

/-- The maximum the printed body carries on from a chunk is the running maximum over its blocks. -/
theorem max_nest : k0_pay255 v51 v69 v87 v114 left
        (k0_pay54 v51 v69 v87 v114 left
          (k0_pay46 v51 v69 v87 v114 left
            (k0_pay40 v51 v69 v87 v114 left
              (k0_pay34 v51 v69 v87 v114 left
                (k0_pay28 v51 v69 v87 v114 left
                  (k0_pay21 v51 v69 v87 v114 left
                    (k0_pay13 v146 (T 2)
                      (T 3))
                    (k0_pay16 v51 v69 v87 v114 v146 left
                      (k0_pay7 v51 v69 v87 v114 v139 v146 m arg24 (T 0) (T 1))
                      (k0_pay8 v146 (T 0) (T 1))
                      (k0_pay9 v146 (T 0) (T 1))
                      (k0_pay10 v51 v146 (T 0) (T 1))
                      (T 2) (T 3))
                    (k0_pay17 v146 (T 2) (T 3))
                    (k0_pay18 v146 (T 2) (T 3)))
                  (k0_pay22 v146 (T 4) (T 5))
                  (k0_pay25 v51 v69 v87 v114 v146 left (T 4) (T 5)))
                (k0_pay29 v146 (T 6) (T 7))
                (k0_pay30 v51 v69 v87 v114 v146 left (T 6) (T 7)))
              (k0_pay35 v146 (T 8) (T 9))
              (k0_pay36 v51 v69 v87 v114 v146 left (T 8) (T 9)))
            (k0_pay41 v146 (T 10) (T 11))
            (k0_pay42 v51 v69 v87 v114 v146 left (T 10) (T 11)))
          (k0_pay47 v146 (T 12) (T 13))
          (k0_pay48 v51 v69 v87 v146 (T 12) (T 13))
          (k0_pay49 v114 left) (Scalar.ofBits .f32 0xFF800000#32))
        (k0_pay55 v146 (T 14) (T 15))
        (k0_pay56 v51 v69 v87 v146 (T 14) (T 15))
        (Scalar.subi left 896#32)
   = maxOf (scoreOf v51 v69 v87 v114 v146 left T) m 16 le_rfl := by
  subst hleft
  rfl
end

/-- One more block store. -/
theorem cons_pcs (w : BitVec 32) (hw : w.toNat < 30) (P : Fin 16 → Vec F S1x8x256 .f32) (n : ℕ) (h : n + 1 ≤ 16) (off : Fin 3 → ℕ) (inb : ∀ a, off a + S1x8x256.size a ≤ S30x8x4096.size a)
    (p : Vec F S1x8x256 .f32) (L : List (View.Piece (Elt F) S30x8x4096 .f32)) (j : Fin 16) (hj : j = ⟨n, h⟩) (ho : off = sOff w n) (hp : p = P j) (hL : L = pcs w hw P n (by omega)) :
    (⟨Rect.unit (s := S30x8x4096) off S1x8x256.size inb, p⟩ : View.Piece (Elt F) S30x8x4096 .f32) :: L = pcs w hw P (n + 1) h := by
  subst ho hj hp hL; rfl

/-- The scores the body stores for chunk `k`: sixteen blocks. -/
def stores4 (v51 v69 v87 : IVec S8x256 1) (v114 : IVec S8x256 32) (v146 : FVec F S64x256 .bf16) (v139 left : BitVec 32) (T : Fin 16 → Vec F S1x256x128 .bf16)
    (t : Fin k0_t3_loop.trips) (v118 : BitVec 32) (hw7 : k0_chk7 t v118) (k : Fin (k0_t4_loop v118).trips) : List (View.Piece (Elt F) S30x8x4096 .f32) :=
    [⟨Rect.unit (s := S30x8x4096) (k0_off50 v118 k) S1x8x256.size (k0_off50_inb t v118 hw7 k), k0_pay254 v51 v69 v87 v114 left (k0_pay55 v146 (T 14) (T 15))⟩,
     ⟨Rect.unit (s := S30x8x4096) (k0_off49 v118 k) S1x8x256.size (k0_off49_inb t v118 hw7 k), k0_pay252 v114 (k0_pay56 v51 v69 v87 v146 (T 14) (T 15)) (Scalar.subi left 896#32)⟩,
     ⟨Rect.unit (s := S30x8x4096) (k0_off46 v118 k) S1x8x256.size (k0_off46_inb t v118 hw7 k), k0_pay53 v51 v69 v87 v114 left (k0_pay47 v146 (T 12) (T 13))⟩,
     ⟨Rect.unit (s := S30x8x4096) (k0_off45 v118 k) S1x8x256.size (k0_off45_inb t v118 hw7 k), k0_pay51 (k0_pay48 v51 v69 v87 v146 (T 12) (T 13)) (k0_pay49 v114 left) (Scalar.ofBits .f32 0xFF800000#32)⟩,
     ⟨Rect.unit (s := S30x8x4096) (k0_off42 v118 k) S1x8x256.size (k0_off42_inb t v118 hw7 k), k0_pay45 v51 v69 v87 v114 left (k0_pay41 v146 (T 10) (T 11))⟩,
     ⟨Rect.unit (s := S30x8x4096) (k0_off41 v118 k) S1x8x256.size (k0_off41_inb t v118 hw7 k), k0_pay43 (k0_pay42 v51 v69 v87 v114 v146 left (T 10) (T 11))⟩,
     ⟨Rect.unit (s := S30x8x4096) (k0_off38 v118 k) S1x8x256.size (k0_off38_inb t v118 hw7 k), k0_pay39 v51 v69 v87 v114 left (k0_pay35 v146 (T 8) (T 9))⟩,
     ⟨Rect.unit (s := S30x8x4096) (k0_off37 v118 k) S1x8x256.size (k0_off37_inb t v118 hw7 k), k0_pay37 (k0_pay36 v51 v69 v87 v114 v146 left (T 8) (T 9))⟩,
     ⟨Rect.unit (s := S30x8x4096) (k0_off34 v118 k) S1x8x256.size (k0_off34_inb t v118 hw7 k), k0_pay33 v51 v69 v87 v114 left (k0_pay29 v146 (T 6) (T 7))⟩,
     ⟨Rect.unit (s := S30x8x4096) (k0_off33 v118 k) S1x8x256.size (k0_off33_inb t v118 hw7 k), k0_pay31 v51 v69 v87 v114 v146 left (T 6) (T 7)⟩,
     ⟨Rect.unit (s := S30x8x4096) (k0_off30 v118 k) S1x8x256.size (k0_off30_inb t v118 hw7 k), k0_pay27 v51 v69 v87 v114 left (k0_pay22 v146 (T 4) (T 5))⟩,
     ⟨Rect.unit (s := S30x8x4096) (k0_off29 v118 k) S1x8x256.size (k0_off29_inb t v118 hw7 k), k0_pay24 v51 v69 v87 v114 v146 left (T 4) (T 5)⟩,
     ⟨Rect.unit (s := S30x8x4096) (k0_off26 v118 k) S1x8x256.size (k0_off26_inb t v118 hw7 k), k0_pay20 v51 v69 v87 v114 left (k0_pay13 v146 (T 2) (T 3)) (k0_pay17 v146 (T 2) (T 3)) (k0_pay18 v146 (T 2) (T 3))⟩,
     ⟨Rect.unit (s := S30x8x4096) (k0_off25 v118 k) S1x8x256.size (k0_off25_inb t v118 hw7 k), k0_pay15 v51 v69 v87 v114 v146 left (T 2) (T 3)⟩,
     ⟨Rect.unit (s := S30x8x4096) (k0_off22 v118 k) S1x8x256.size (k0_off22_inb t v118 hw7 k), k0_pay12 v69 v87 v114 left (k0_pay8 v146 (T 0) (T 1)) (k0_pay9 v146 (T 0) (T 1)) (k0_pay10 v51 v146 (T 0) (T 1))⟩,
     ⟨Rect.unit (s := S30x8x4096) (k0_off21 v118 k) S1x8x256.size (k0_off21_inb t v118 hw7 k), k0_pay6 v51 v69 v87 v114 v139 v146 (Scf.iv 0#32 1#32 k.val) (T 0) (T 1)⟩]

theorem stores4_eq (v51 v69 v87 : IVec S8x256 1) (v114 : IVec S8x256 32) (v146 : FVec F S64x256 .bf16) (v139 left : BitVec 32) (T : Fin 16 → Vec F S1x256x128 .bf16)
    (t : Fin k0_t3_loop.trips) (v118 : BitVec 32) (hw7 : k0_chk7 t v118) (k : Fin (k0_t4_loop v118).trips) (hleft : left = Scalar.subi v139 (Scalar.muli (Scf.iv 0#32 1#32 k.val) 1024#32))
    (hw : (Scf.iv 0#32 1#32 k.val).toNat < 30) :
    stores4 v51 v69 v87 v114 v146 v139 left T t v118 hw7 k = pcs (Scf.iv 0#32 1#32 k.val) hw (fun j => stored (scoreOf v51 v69 v87 v114 v146 left T j)) 16 le_rfl := by
  subst hleft
  unfold stores4
  refine cons_pcs _ _ _ _ _ _ _ _ _ 15 rfl rfl (show _ = stored (scoreOf v51 v69 v87 v114 v146 (Scalar.subi v139 (Scalar.muli (Scf.iv 0#32 1#32 k.val) 1024#32)) T 15) from rfl) ?_
  refine cons_pcs _ _ _ _ _ _ _ _ _ 14 rfl rfl (show _ = stored (scoreOf v51 v69 v87 v114 v146 (Scalar.subi v139 (Scalar.muli (Scf.iv 0#32 1#32 k.val) 1024#32)) T 14) from rfl) ?_
  refine cons_pcs _ _ _ _ _ _ _ _ _ 13 rfl rfl (show _ = stored (scoreOf v51 v69 v87 v114 v146 (Scalar.subi v139 (Scalar.muli (Scf.iv 0#32 1#32 k.val) 1024#32)) T 13) from rfl) ?_
  refine cons_pcs _ _ _ _ _ _ _ _ _ 12 rfl rfl (show _ = stored (scoreOf v51 v69 v87 v114 v146 (Scalar.subi v139 (Scalar.muli (Scf.iv 0#32 1#32 k.val) 1024#32)) T 12) from rfl) ?_
  refine cons_pcs _ _ _ _ _ _ _ _ _ 11 rfl rfl (show _ = stored (scoreOf v51 v69 v87 v114 v146 (Scalar.subi v139 (Scalar.muli (Scf.iv 0#32 1#32 k.val) 1024#32)) T 11) from rfl) ?_
  refine cons_pcs _ _ _ _ _ _ _ _ _ 10 rfl rfl (show _ = stored (scoreOf v51 v69 v87 v114 v146 (Scalar.subi v139 (Scalar.muli (Scf.iv 0#32 1#32 k.val) 1024#32)) T 10) from rfl) ?_
  refine cons_pcs _ _ _ _ _ _ _ _ _ 9 rfl rfl (show _ = stored (scoreOf v51 v69 v87 v114 v146 (Scalar.subi v139 (Scalar.muli (Scf.iv 0#32 1#32 k.val) 1024#32)) T 9) from rfl) ?_
  refine cons_pcs _ _ _ _ _ _ _ _ _ 8 rfl rfl (show _ = stored (scoreOf v51 v69 v87 v114 v146 (Scalar.subi v139 (Scalar.muli (Scf.iv 0#32 1#32 k.val) 1024#32)) T 8) from rfl) ?_
  refine cons_pcs _ _ _ _ _ _ _ _ _ 7 rfl rfl (show _ = stored (scoreOf v51 v69 v87 v114 v146 (Scalar.subi v139 (Scalar.muli (Scf.iv 0#32 1#32 k.val) 1024#32)) T 7) from rfl) ?_
  refine cons_pcs _ _ _ _ _ _ _ _ _ 6 rfl rfl (show _ = stored (scoreOf v51 v69 v87 v114 v146 (Scalar.subi v139 (Scalar.muli (Scf.iv 0#32 1#32 k.val) 1024#32)) T 6) from rfl) ?_
  refine cons_pcs _ _ _ _ _ _ _ _ _ 5 rfl rfl (show _ = stored (scoreOf v51 v69 v87 v114 v146 (Scalar.subi v139 (Scalar.muli (Scf.iv 0#32 1#32 k.val) 1024#32)) T 5) from rfl) ?_
  refine cons_pcs _ _ _ _ _ _ _ _ _ 4 rfl rfl (show _ = stored (scoreOf v51 v69 v87 v114 v146 (Scalar.subi v139 (Scalar.muli (Scf.iv 0#32 1#32 k.val) 1024#32)) T 4) from rfl) ?_
  refine cons_pcs _ _ _ _ _ _ _ _ _ 3 rfl rfl (show _ = stored (scoreOf v51 v69 v87 v114 v146 (Scalar.subi v139 (Scalar.muli (Scf.iv 0#32 1#32 k.val) 1024#32)) T 3) from rfl) ?_
  refine cons_pcs _ _ _ _ _ _ _ _ _ 2 rfl rfl (show _ = stored (scoreOf v51 v69 v87 v114 v146 (Scalar.subi v139 (Scalar.muli (Scf.iv 0#32 1#32 k.val) 1024#32)) T 2) from rfl) ?_
  refine cons_pcs _ _ _ _ _ _ _ _ _ 1 rfl rfl (show _ = stored (scoreOf v51 v69 v87 v114 v146 (Scalar.subi v139 (Scalar.muli (Scf.iv 0#32 1#32 k.val) 1024#32)) T 1) from rfl) ?_
  refine cons_pcs _ _ _ _ _ _ _ _ _ 0 rfl rfl (show _ = stored (scoreOf v51 v69 v87 v114 v146 (Scalar.subi v139 (Scalar.muli (Scf.iv 0#32 1#32 k.val) 1024#32)) T 0) from rfl) ?_
  rfl

/-- Five values equal one by one are equal together. -/
theorem five_eq {A B C D E : Type} {a a' : A} {b b' : B} {x x' : C} {y y' : D} {z z' : E} (h1 : a = a') (h2 : b = b') (h3 : x = x') (h4 : y = y') (h5 : z = z') :
    (a, b, x, y, z) = (a', b', x', y', z') := by
  subst h1 h2 h3 h4 h5; rfl

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 400000 in
/-- The loop over a sequence's key chunks: before trip `k` the scores of the chunks below `k` are in the scratch array and the carried maximum is theirs. -/
@[sl_loop, reducible] noncomputable def loopInv_k0_t4 (c : Dev nD) (fl : Buf (Elt F) (lenM.view.loc (c : Thread nD τ))) (fk : Buf (Elt F) (kA.view.loc (c : Thread nD τ))) (hfl : Fits c fl)
   (v51 v69 v87 : IVec S8x256 1) (v88 v89 v90 : IVec S8x128 1) (v114 : IVec S8x256 32) (t : Fin k0_t3_loop.trips) (a16 a17 a18 a22 : BitVec 32) (v118 : Elt F .i32) (hv : v118 = len c fl t.val) (hw7 : k0_chk7 t v118)
   (v137 : BitVec 32) (v139 : Elt F .i32) (v146 : FVec F S64x256 .bf16) (v150 : FVec F S4x128 .f32) (v151 : FVec F S32x128 .f32) (v159 : FVec F S8x128 .f32) :
    Gen.LoopInvTy_k0_t4 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v51 v69 v87 v88 v89 v90 v114 t a16 a17 a18 a22 v118 hw7 v137 v139 v146 v150 v151 v159 (a16, a17, a18, a22, k0_pay250 (F := F)) where
  inv := fun k acc => iprop(⌜acc = (BitVec.ofNat 32 (pos (nch c fl) (start (nch c fl) t.val + k + 15)).1, BitVec.ofNat 32 (pos (nch c fl) (start (nch c fl) t.val + k + 15)).2,
        BitVec.ofNat 32 ((start (nch c fl) t.val + k + 15) % 16), BitVec.ofNat 32 ((start (nch c fl) t.val + k) % 16),
        maxAt (scoresAt v51 v69 v87 v114 v146 v139 (View.read (Elt F) kA.view fk) t.val) k)⌝
    ∗ (lenM.view.loc (c : Thread nD τ) ↦{fullShare} fl)
    ∗ Ring.AtW (kΦ c fk) (ringSt (nch c fl) (start (nch c fl) t.val + k) (start (nch c fl) t.val + k + 15))
    ∗ (∃ fs, (sM.view.loc (c : Thread nD τ) ↦{fullShare} fs) ∗ ⌜SInv fs k fun i j => stored (scoresAt v51 v69 v87 v114 v146 v139 (View.read (Elt F) kA.view fk) t.val i j)⌝)
    ∗ ∃ W0, owes (c : Thread nD τ) 0 W0)
  step := fun k acc => by
    subst hv
    have ht : t.val < 24 := t.isLt
    have hkn : k.val < nch c fl t.val := lt_of_lt_of_eq k.isLt (t4_trips _ (hfl _))
    have hn30 := nch_le hfl t.val
    have hst := start_le (fun b => nch_le hfl b) t.val
    have hss : start (nch c fl) (t.val + 1) = start (nch c fl) t.val + nch c fl t.val := rfl
    have hs24 := start_mono (n := nch c fl) (show t.val + 1 ≤ 24 by omega)
    have hpos := pos_at (one_le_nch c fl) t.val ht k.val hkn
    have hP : SInv (F := F) = SInv (F := F) := rfl
    generalize hWW : start (nch c fl) t.val + k.val = W at *
    have hWk : start (nch c fl) t.val + (k.val + 1) = W + 1 := by omega
    obtain ⟨I, hI⟩ : ∃ I, I = W + 15 := ⟨_, rfl⟩
    rw [hWk, show W + 1 + 15 = I + 1 by omega, ← hI]
    obtain ⟨⟨hb0, hb1⟩, ⟨hi0, hi1⟩, ⟨hs0, hs1⟩, hsw⟩ := word_facts hfl I (by omega)
    obtain ⟨-, -, ⟨hz0, hz1⟩, hzw⟩ := word_facts hfl W (by omega)
    have hc1 : k0_chk8 _ _ := chk1 _ _ hb0 hi0 hi1
    have hc2 : k0_chk9 _ _ := chk2 (BitVec.ofNat 32 (pos (nch c fl) I).1) _ hs0 hs1
    have hc3 : k0_chk10 _ := chk3 _ hb0 hb1
    have hc4 := chk11 _ hz0 hz1
    have hpb := pos_fst_le (n := nch c fl) I
    have hpi := (pos_snd_lt (one_le_nch c fl) I).trans_le (nch_le hfl _)
    have hw : (BitVec.ofNat 32 (I % 16)).toNat < 16 := by omega
    have hz : (BitVec.ofNat 32 (W % 16)).toNat < 16 := by omega
    have hoffL := off4_eq (pos (nch c fl) I).1 (by omega)
    have hslot : I % 16 = (Ring.slotOfW (BitVec.ofNat 32 (I % 16)) hw).val := hsw.symm
    have hslotW : W % 16 = (Ring.slotOfW (BitVec.ofNat 32 (W % 16)) hz).val := hzw.symm
    have hne : Ring.slotOfW (BitVec.ofNat 32 (W % 16)) hz ≠ Ring.slotOfW (BitVec.ofNat 32 (I % 16)) hw := by
      intro e; rw [Fin.ext_iff, ← hslot, ← hslotW] at e; omega
    have hltW : W < start (nch c fl) 24 := by omega
    have hkw : (Scf.iv 0#32 1#32 k.val).toNat = k.val := by rw [iv_word, BitVec.toNat_ofNat, Nat.mod_eq_of_lt (by omega)]
    have hk30 : (Scf.iv 0#32 1#32 k.val).toNat < 30 := by omega
    have hval : ∀ off hoff, off = ![(pos (nch c fl) W).1, (pos (nch c fl) W).2 * 4096, 0] →
        scoreOf v51 v69 v87 v114 v146 (Scalar.subi v139 (Scalar.muli (Scf.iv 0#32 1#32 k.val) 1024#32)) (landed (F := F) kA kR (Ring.slotOfW (BitVec.ofNat 32 (W % 16)) hz) off hoff fk)
          = scoresAt v51 v69 v87 v114 v146 v139 (View.read (Elt F) kA.view fk) t.val k.val := by
      intro off hoff e
      rw [hpos] at e
      rw [landed_eq kA kR _ off hoff fk t.val k.val e, iv_word]; rfl
    have hq19 := slot_incl kR (Ring.slotOfW (BitVec.ofNat 32 (W % 16)) hz) (k0_off19 (BitVec.ofNat 32 (W % 16))) (k0_off19_inb _ hc4) rfl
    have hq20 := slot_incl kR (Ring.slotOfW (BitVec.ofNat 32 (W % 16)) hz) (k0_off20 (BitVec.ofNat 32 (W % 16))) (k0_off20_inb _ hc4) rfl
    have hq23 := slot_incl kR (Ring.slotOfW (BitVec.ofNat 32 (W % 16)) hz) (k0_off23 (BitVec.ofNat 32 (W % 16))) (k0_off23_inb _ hc4) rfl
    have hq24 := slot_incl kR (Ring.slotOfW (BitVec.ofNat 32 (W % 16)) hz) (k0_off24 (BitVec.ofNat 32 (W % 16))) (k0_off24_inb _ hc4) rfl
    have hq27 := slot_incl kR (Ring.slotOfW (BitVec.ofNat 32 (W % 16)) hz) (k0_off27 (BitVec.ofNat 32 (W % 16))) (k0_off27_inb _ hc4) rfl
    have hq28 := slot_incl kR (Ring.slotOfW (BitVec.ofNat 32 (W % 16)) hz) (k0_off28 (BitVec.ofNat 32 (W % 16))) (k0_off28_inb _ hc4) rfl
    have hq31 := slot_incl kR (Ring.slotOfW (BitVec.ofNat 32 (W % 16)) hz) (k0_off31 (BitVec.ofNat 32 (W % 16))) (k0_off31_inb _ hc4) rfl
    have hq32 := slot_incl kR (Ring.slotOfW (BitVec.ofNat 32 (W % 16)) hz) (k0_off32 (BitVec.ofNat 32 (W % 16))) (k0_off32_inb _ hc4) rfl
    have hq35 := slot_incl kR (Ring.slotOfW (BitVec.ofNat 32 (W % 16)) hz) (k0_off35 (BitVec.ofNat 32 (W % 16))) (k0_off35_inb _ hc4) rfl
    have hq36 := slot_incl kR (Ring.slotOfW (BitVec.ofNat 32 (W % 16)) hz) (k0_off36 (BitVec.ofNat 32 (W % 16))) (k0_off36_inb _ hc4) rfl
    have hq39 := slot_incl kR (Ring.slotOfW (BitVec.ofNat 32 (W % 16)) hz) (k0_off39 (BitVec.ofNat 32 (W % 16))) (k0_off39_inb _ hc4) rfl
    have hq40 := slot_incl kR (Ring.slotOfW (BitVec.ofNat 32 (W % 16)) hz) (k0_off40 (BitVec.ofNat 32 (W % 16))) (k0_off40_inb _ hc4) rfl
    have hq43 := slot_incl kR (Ring.slotOfW (BitVec.ofNat 32 (W % 16)) hz) (k0_off43 (BitVec.ofNat 32 (W % 16))) (k0_off43_inb _ hc4) rfl
    have hq44 := slot_incl kR (Ring.slotOfW (BitVec.ofNat 32 (W % 16)) hz) (k0_off44 (BitVec.ofNat 32 (W % 16))) (k0_off44_inb _ hc4) rfl
    have hq47 := slot_incl kR (Ring.slotOfW (BitVec.ofNat 32 (W % 16)) hz) (k0_off47 (BitVec.ofNat 32 (W % 16))) (k0_off47_inb _ hc4) rfl
    have hq48 := slot_incl kR (Ring.slotOfW (BitVec.ofNat 32 (W % 16)) hz) (k0_off48 (BitVec.ofNat 32 (W % 16))) (k0_off48_inb _ hc4) rfl
    by_cases h1 : k0_cond3 (BitVec.ofNat 32 (pos (nch c fl) I).1) = 1#1
    · have hlt := (pos_fst_lt (one_le_nch c fl) I).mp ((live_iff _ (by omega)).mp h1)
      rw [Ring.AtW_focus2 (kΦ c fk) _ hne, ringSt_issue W I _ hslot (by omega) (by omega), ringSt_wait W I _ hslotW (by omega) hltW]
      iintro ⟨%hacc, HL, ⟨⟨Hcell, ⟨%f, Hslot⟩, Htok⟩, ⟨%off, %hoff, %hq, ⟨%g, HF⟩, Htw⟩, Hrest⟩, ⟨%fs, Hs, %hS⟩, ⟨%W0, Howe⟩⟩
      subst hacc
      unfold k0_t4_body
      rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
      unfold k0_part3_skel k0_part4_skel k0_part5_skel k0_part6_skel k0_part7_skel k0_part8_skel k0_part9_skel k0_part10_skel k0_part11_skel
      sl_exec
      sl_step
      have hH := hval off hoff hq
      isplitr
      · ipureintro
        refine five_eq ?_ ?_ (next_slot I) (next_slot W) ?_
        · exact congrArg Prod.fst (words_next c fl hfl I (by omega) _ _ hoffL _)
        · exact congrArg (fun x => x.2.1) (words_next c fl hfl I (by omega) _ _ hoffL _)
        · exact (max_nest v51 v69 v87 v114 v146 v139 (Scf.iv 0#32 1#32 k.val) _ rfl (landed (F := F) kA kR (Ring.slotOfW (BitVec.ofNat 32 (W % 16)) hz) off hoff fk) _).trans (by rw [hH]; rfl)
      isplitl [HL]; · iexact HL
      isplitl [Hcell Htok HF_dst Htw HF Hrest]
      · rw [← ringSt_waited W (I + 1) _ hslotW (by omega), ← ringSt_issued W I _ hslot (by omega) (by omega) hlt]
        iapply (Ring.AtW_update2 (kΦ c fk) _ hne _ _)
        isplitl [Hcell Htok]
        · iexists _, _
          isplitr
          · ipureintro; exact off3_eq _ _ (by omega) (by omega)
          isplitl [Hcell]
          · iexists f; iexact Hcell
          · iexact Htok
        isplitr [Hrest]
        · isplitl [HF]; · iexact HF
          isplitl [HF_dst]
          · iexists _; iexact HF_dst
          · iexact Htw
        · iexact Hrest
      isplitl [Hs]
      · iexists (sM.view.writes (Elt F) fs (stores4 v51 v69 v87 v114 v146 v139 (Scalar.subi v139 (Scalar.muli (Scf.iv 0#32 1#32 k.val) 1024#32)) (landed (F := F) kA kR (Ring.slotOfW (BitVec.ofNat 32 (W % 16)) hz) off hoff fk) t (len c fl t.val) hw7 k))
        isplitl [Hs]; · iexact Hs
        ipureintro
        rw [stores4_eq v51 v69 v87 v114 v146 v139 _ _ t (len c fl t.val) hw7 k rfl hk30, hH]
        exact SInv_step fs k.val (fun i j => stored (scoresAt v51 v69 v87 v114 v146 v139 (View.read (Elt F) kA.view fk) t.val i j)) _ hk30 hkw hS
      · iexists _; iexact Howe
    · have hge : start (nch c fl) 24 ≤ I := by
        by_contra hlt
        exact h1 ((live_iff _ (by omega)).mpr ((pos_fst_lt (one_le_nch c fl) I).mpr (by omega)))
      rw [Ring.AtW_focusW (kΦ c fk) _ _ hz, ringSt_wait W I _ hslotW (by omega) hltW]
      iintro ⟨%hacc, HL, ⟨⟨%off, %hoff, %hq, ⟨%g, HF⟩, Htw⟩, Hrest⟩, ⟨%fs, Hs, %hS⟩, ⟨%W0, Howe⟩⟩
      subst hacc
      unfold k0_t4_body
      rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
      unfold k0_part3_skel k0_part4_skel k0_part5_skel k0_part6_skel k0_part7_skel k0_part8_skel k0_part9_skel k0_part10_skel k0_part11_skel
      sl_exec
      sl_step
      have hH := hval off hoff hq
      isplitr
      · ipureintro
        refine five_eq ?_ ?_ (next_slot I) (next_slot W) ?_
        · exact congrArg Prod.fst (words_next c fl hfl I (by omega) _ _ hoffL _)
        · exact congrArg (fun x => x.2.1) (words_next c fl hfl I (by omega) _ _ hoffL _)
        · exact (max_nest v51 v69 v87 v114 v146 v139 (Scf.iv 0#32 1#32 k.val) _ rfl (landed (F := F) kA kR (Ring.slotOfW (BitVec.ofNat 32 (W % 16)) hz) off hoff fk) _).trans (by rw [hH]; rfl)
      isplitl [HL]; · iexact HL
      isplitl [HF_dst Htw HF Hrest]
      · rw [← ringSt_past (W + 1) I hge, ← ringSt_waited W I _ hslotW (by omega)]
        iapply (Ring.AtW_update (kΦ c fk) _ _ _)
        isplitr [Hrest]
        · isplitl [HF]; · iexact HF
          isplitl [HF_dst]
          · iexists _; iexact HF_dst
          · iexact Htw
        · iexact Hrest
      isplitl [Hs]
      · iexists (sM.view.writes (Elt F) fs (stores4 v51 v69 v87 v114 v146 v139 (Scalar.subi v139 (Scalar.muli (Scf.iv 0#32 1#32 k.val) 1024#32)) (landed (F := F) kA kR (Ring.slotOfW (BitVec.ofNat 32 (W % 16)) hz) off hoff fk) t (len c fl t.val) hw7 k))
        isplitl [Hs]; · iexact Hs
        ipureintro
        rw [stores4_eq v51 v69 v87 v114 v146 v139 _ _ t (len c fl t.val) hw7 k rfl hk30, hH]
        exact SInv_step fs k.val (fun i j => stored (scoresAt v51 v69 v87 v114 v146 v139 (View.read (Elt F) kA.view fk) t.val i j)) _ hk30 hkw hS
      · iexists _; iexact Howe
end
end Cert.Kernel.Hand
-- ==== Proof.K.Values.lean ====
module

public import proofs.«01_k».proof.Proof.K.Scores
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The second loop over the chunks of a sequence makes as many trips. -/
theorem t6_trips (v : BitVec 32) (h : v.toNat ≤ 30720) : (k0_t6_loop v).trips = chunks v.toNat := t4_trips v h

theorem chk19 (w : BitVec 32) (hi : 0 ≤ w.toInt) (hi' : w.toInt < 16) : k0_chk19 w := by
  sl_disch

/-- A sequence's running sum of the weights after the first `2 * n` blocks of a chunk whose scaled scores are `S`. -/
def sumOf (m : FVec F S8x128 .f32) (S : Fin 16 → Vec F S1x8x256 .f32) (l : FVec F S8x128 .f32) : (n : ℕ) → n ≤ 8 → FVec F S8x128 .f32
  | 0, _ => l
  | n + 1, h => addf (k0_pay118 m (sumOf m S l n (by omega)) (S ⟨2 * n, by omega⟩) (S ⟨2 * n + 1, by omega⟩)) (k0_pay119 m (S ⟨2 * n + 1, by omega⟩))

/-- A sequence's running sum of the weighted values after the first `2 * n` blocks of a chunk: each pair of blocks adds the product of its masked weights with its tiles `T`. -/
def accOf (v33 v51 v69 v87 : IVec S8x256 1) (m : FVec F S8x128 .f32) (S : Fin 16 → Vec F S1x8x256 .f32) (T : Fin 16 → Vec F S1x256x128 .fp8e4m3) (a : FVec F S64x256 .f32) : (n : ℕ) → n ≤ 8 → FVec F S64x256 .f32
  | 0, _ => a
  | n + 1, h => k0_pay120 v33 v51 v69 v87 (accOf v33 v51 v69 v87 m S T a n (by omega)) (k0_pay113 v33 m (S ⟨2 * n, by omega⟩)) (k0_pay114 v51 m (S ⟨2 * n, by omega⟩))
      (k0_pay115 v69 m (S ⟨2 * n, by omega⟩)) (k0_pay116 v87 m (S ⟨2 * n, by omega⟩)) (k0_pay117 m (S ⟨2 * n + 1, by omega⟩)) (T ⟨2 * n, by omega⟩) (T ⟨2 * n + 1, by omega⟩)

/-- The running sum of the weights after the chunks below `k`, chunk `i`'s scores being `S i`. -/
def sumAt (m : FVec F S8x128 .f32) (S : ℕ → Fin 16 → Vec F S1x8x256 .f32) : ℕ → FVec F S8x128 .f32
  | 0 => k0_pay264
  | k + 1 => sumOf m (S k) (sumAt m S k) 8 le_rfl

/-- The running sum of the weighted values after the chunks below `k`, chunk `i`'s tiles being `T i`. -/
def accAt (v33 v51 v69 v87 : IVec S8x256 1) (m : FVec F S8x128 .f32) (S : ℕ → Fin 16 → Vec F S1x8x256 .f32) (T : ℕ → Fin 16 → Vec F S1x256x128 .fp8e4m3) : ℕ → FVec F S64x256 .f32
  | 0 => k0_pay265
  | k + 1 => accOf v33 v51 v69 v87 m (S k) (T k) (accAt v33 v51 v69 v87 m S T k) 8 le_rfl

/-- Six values equal one by one are equal together. -/
theorem six_eq {A B C D E G : Type} {a a' : A} {b b' : B} {x x' : C} {y y' : D} {z z' : E} {u u' : G} (h1 : a = a') (h2 : b = b') (h3 : x = x') (h4 : y = y') (h5 : z = z') (h6 : u = u') :
    (a, b, x, y, z, u) = (a', b', x', y', z', u') := by
  subst h1 h2 h3 h4 h5 h6; rfl

section
variable (v33 v51 v69 v87 : IVec S8x256 1) (m : FVec F S8x128 .f32) (S : Fin 16 → Vec F S1x8x256 .f32) (T : Fin 16 → Vec F S1x256x128 .fp8e4m3) (l : FVec F S8x128 .f32) (a : FVec F S64x256 .f32)

/-- The sum of weights the printed body carries on from a chunk is the running sum over its blocks. -/
theorem sum_nest :
     (k0_pay175 (k0_pay110 m) (k0_pay170 (k0_pay110 m) (k0_pay166 (k0_pay110 m) (k0_pay156 (k0_pay110 m) (k0_pay151 (k0_pay110 m) (k0_pay146 (k0_pay110 m) (k0_pay142 (k0_pay110 m)
      (k0_pay132 (k0_pay110 m) (k0_pay127 (k0_pay110 m) (k0_pay122 (k0_pay110 m) (k0_pay118 m l (S 0) (S 1)) (k0_pay119 m (S 1)) (S 2)) (S 3)) (k0_pay129 (S 4)) (S 5)) (S 6) (S 7))
      (k0_pay143 (k0_pay110 m) (S 7)) (S 8)) (S 9)) (k0_pay153 (S 10)) (S 11)) (S 12) (S 13)) (k0_pay167 (k0_pay110 m) (S 13)) (S 14)) (S 15))
      = sumOf m S l 8 le_rfl := by
  rfl

/-- The weighted sum the printed body carries on from a chunk is the running sum over its pairs of blocks. -/
theorem acc_nest :
     (k0_pay176 v33 v51 v69 v87 (k0_pay110 m) (k0_pay168 v33 v51 v69 v87 (k0_pay158 (k0_pay152 v33 v51 v69 v87 (k0_pay110 m) (k0_pay144 v33 v51 v69 v87 (k0_pay134 (k0_pay128 v33 v51
      v69 v87 (k0_pay110 m) (k0_pay120 v33 v51 v69 v87 a (k0_pay113 v33 m (S 0)) (k0_pay114 v51 m (S 0)) (k0_pay115 v69 m (S 0)) (k0_pay116 v87 m (S 0)) (k0_pay117 m (S 1)) (T 0) (T
      1)) (k0_pay123 (k0_pay110 m) (S 2)) (k0_pay124 v33 (k0_pay110 m) (S 2)) (k0_pay125) (S 3) (T 2) (T 3)) (k0_pay133 v33 v51 v69 v87 (k0_pay110 m) (k0_pay129 (S 4)) (S 5)) (T 4)
      (T 5)) (k0_pay137 v33 (k0_pay110 m) (S 6)) (k0_pay138 v51 (k0_pay110 m) (S 6)) (k0_pay139 v69 (k0_pay110 m) (S 6)) (k0_pay140 v87 (k0_pay110 m) (S 6)) (k0_pay141 (k0_pay110 m)
      (S 7)) (T 6) (T 7)) (k0_pay147 (k0_pay110 m) (S 8)) (k0_pay148 v33 (k0_pay110 m) (S 8)) (k0_pay149) (S 9) (T 8) (T 9)) (k0_pay157 v33 v51 v69 v87 (k0_pay110 m) (k0_pay153 (S
      10)) (S 11)) (T 10) (T 11)) (k0_pay161 v33 (k0_pay110 m) (S 12)) (k0_pay162 v51 (k0_pay110 m) (S 12)) (k0_pay163 v69 (k0_pay110 m) (S 12)) (k0_pay164 v87 (k0_pay110 m) (S 12))
      (k0_pay165 (k0_pay110 m) (S 13)) (T 12) (T 13)) (k0_pay171 (k0_pay110 m) (S 14)) (k0_pay172 v33 (k0_pay110 m) (S 14)) (k0_pay173) (S 15) (T 14) (T 15))
      = accOf v33 v51 v69 v87 m S T a 8 le_rfl := by
  rfl
end

/-- The blocks of scores of row `w` as the scratch array holds them. -/
def rowsAt (fs : BufTy.Contents (Elt F) sM.view.ty) (w : BitVec 32) (hw : w.toNat < 30) (j : Fin 16) : Vec F S1x8x256 .f32 :=
  View.readAt (Elt F) sM.view (Rect.unit (s := S30x8x4096) (sOff w j.val) S1x8x256.size (sOff_inb w hw j.val j.isLt)).toLoadRect fs

theorem rowsAt_eq (fs : BufTy.Contents (Elt F) sM.view.ty) (k : ℕ) (P : ℕ → Fin 16 → Vec F S1x8x256 .f32) (h : SInv fs k P) (w : BitVec 32) (hw : w.toNat < 30) (hwk : w.toNat < k) (hk : k ≤ 30) :
    rowsAt fs w hw = P w.toNat := by
  funext j; exact SInv_load h w hwk hk j _ _ rfl

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 400000 in
/-- The loop over a sequence's value chunks: before trip `k` the carried sums are those over the chunks below `k`. -/
@[sl_loop, reducible] noncomputable def loopInv_k0_t6 (c : Dev nD) (fl : Buf (Elt F) (lenM.view.loc (c : Thread nD τ))) (fv : Buf (Elt F) (vA.view.loc (c : Thread nD τ))) (hfl : Fits c fl)
   (v33 v51 v69 v87 : IVec S8x256 1) (t : Fin k0_t3_loop.trips) (a19 a20 a21 a23 arg15 : BitVec 32) (v118 : Elt F .i32) (hv : v118 = len c fl t.val) (hw7 : k0_chk7 t v118)
   (v137 : BitVec 32) (v188 v204 v205 : FVec F S8x128 .f32) (P : ℕ → Fin 16 → Vec F S1x8x256 .f32) (fs : Buf (Elt F) (sM.view.loc (c : Thread nD τ))) (hS : SInv fs (nch c fl t.val) P) :
    Gen.LoopInvTy_k0_t6 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v33 v51 v69 v87 t a19 a20 a21 a23 arg15 v118 hw7 v137 v188 v204 v205 (a19, a20, a21, a23, k0_pay264 (F := F), k0_pay265 (F := F)) where
  inv := fun k acc => iprop(⌜acc = (BitVec.ofNat 32 (pos (nch c fl) (start (nch c fl) t.val + k + 15)).1, BitVec.ofNat 32 (pos (nch c fl) (start (nch c fl) t.val + k + 15)).2,
        BitVec.ofNat 32 ((start (nch c fl) t.val + k + 15) % 16), BitVec.ofNat 32 ((start (nch c fl) t.val + k) % 16),
        sumAt (k0_pay263 v188 v204 v205) P k, accAt v33 v51 v69 v87 (k0_pay263 v188 v204 v205) P (fun i n => tile (View.read (Elt F) vA.view fv) t.val i (256 * n.val)) k)⌝
    ∗ (lenM.view.loc (c : Thread nD τ) ↦{fullShare} fl)
    ∗ Ring.AtW (vΦ c fv) (ringSt (nch c fl) (start (nch c fl) t.val + k) (start (nch c fl) t.val + k + 15))
    ∗ (sM.view.loc (c : Thread nD τ) ↦{fullShare} fs)
    ∗ ∃ W0, owes (c : Thread nD τ) 0 W0)
  step := fun k acc => by
    subst hv
    have ht : t.val < 24 := t.isLt
    have hkn : k.val < nch c fl t.val := lt_of_lt_of_eq k.isLt (t6_trips _ (hfl _))
    have hn30 := nch_le hfl t.val
    have hst := start_le (fun b => nch_le hfl b) t.val
    have hss : start (nch c fl) (t.val + 1) = start (nch c fl) t.val + nch c fl t.val := rfl
    have hs24 := start_mono (n := nch c fl) (show t.val + 1 ≤ 24 by omega)
    have hpos := pos_at (one_le_nch c fl) t.val ht k.val hkn
    have hP : SInv (F := F) = SInv (F := F) := rfl
    generalize hWW : start (nch c fl) t.val + k.val = W at *
    have hWk : start (nch c fl) t.val + (k.val + 1) = W + 1 := by omega
    obtain ⟨I, hI⟩ : ∃ I, I = W + 15 := ⟨_, rfl⟩
    rw [hWk, show W + 1 + 15 = I + 1 by omega, ← hI]
    obtain ⟨⟨hb0, hb1⟩, ⟨hi0, hi1⟩, ⟨hs0, hs1⟩, hsw⟩ := word_facts hfl I (by omega)
    obtain ⟨-, -, ⟨hz0, hz1⟩, hzw⟩ := word_facts hfl W (by omega)
    have hc1 : k0_chk16 _ _ := chk4 _ _ hb0 hi0 hi1
    have hc2 : k0_chk17 _ _ := chk5 (BitVec.ofNat 32 (pos (nch c fl) I).1) _ hs0 hs1
    have hc3 : k0_chk18 _ := chk3 _ hb0 hb1
    have hc4 := chk19 _ hz0 hz1
    have hpb := pos_fst_le (n := nch c fl) I
    have hpi := (pos_snd_lt (one_le_nch c fl) I).trans_le (nch_le hfl _)
    have hw : (BitVec.ofNat 32 (I % 16)).toNat < 16 := by omega
    have hz : (BitVec.ofNat 32 (W % 16)).toNat < 16 := by omega
    have hoffL := off4_eq (pos (nch c fl) I).1 (by omega)
    have hslot : I % 16 = (Ring.slotOfW (BitVec.ofNat 32 (I % 16)) hw).val := hsw.symm
    have hslotW : W % 16 = (Ring.slotOfW (BitVec.ofNat 32 (W % 16)) hz).val := hzw.symm
    have hne : Ring.slotOfW (BitVec.ofNat 32 (W % 16)) hz ≠ Ring.slotOfW (BitVec.ofNat 32 (I % 16)) hw := by
      intro e; rw [Fin.ext_iff, ← hslot, ← hslotW] at e; omega
    have hltW : W < start (nch c fl) 24 := by omega
    have hkw : (Scf.iv 0#32 1#32 k.val).toNat = k.val := by rw [iv_word, BitVec.toNat_ofNat, Nat.mod_eq_of_lt (by omega)]
    have hk30 : (Scf.iv 0#32 1#32 k.val).toNat < 30 := by omega
    have hval : ∀ off hoff, off = ![(pos (nch c fl) W).1, (pos (nch c fl) W).2 * 4096, 0] →
        landed (F := F) vA vR (Ring.slotOfW (BitVec.ofNat 32 (W % 16)) hz) off hoff fv
          = fun n => tile (View.read (Elt F) vA.view fv) t.val k.val (256 * n.val) := by
      intro off hoff e
      rw [hpos] at e
      exact landed_eq vA vR _ off hoff fv t.val k.val e
    have hrows : rowsAt fs (Scf.iv 0#32 1#32 k.val) hk30 = P k.val := by
      rw [rowsAt_eq fs _ P hS _ hk30 (by omega) hn30, hkw]
    have hq99 := slot_incl vR (Ring.slotOfW (BitVec.ofNat 32 (W % 16)) hz) (k0_off99 (BitVec.ofNat 32 (W % 16))) (k0_off99_inb _ hc4) rfl
    have hq100 := slot_incl vR (Ring.slotOfW (BitVec.ofNat 32 (W % 16)) hz) (k0_off100 (BitVec.ofNat 32 (W % 16))) (k0_off100_inb _ hc4) rfl
    have hq103 := slot_incl vR (Ring.slotOfW (BitVec.ofNat 32 (W % 16)) hz) (k0_off103 (BitVec.ofNat 32 (W % 16))) (k0_off103_inb _ hc4) rfl
    have hq104 := slot_incl vR (Ring.slotOfW (BitVec.ofNat 32 (W % 16)) hz) (k0_off104 (BitVec.ofNat 32 (W % 16))) (k0_off104_inb _ hc4) rfl
    have hq107 := slot_incl vR (Ring.slotOfW (BitVec.ofNat 32 (W % 16)) hz) (k0_off107 (BitVec.ofNat 32 (W % 16))) (k0_off107_inb _ hc4) rfl
    have hq108 := slot_incl vR (Ring.slotOfW (BitVec.ofNat 32 (W % 16)) hz) (k0_off108 (BitVec.ofNat 32 (W % 16))) (k0_off108_inb _ hc4) rfl
    have hq111 := slot_incl vR (Ring.slotOfW (BitVec.ofNat 32 (W % 16)) hz) (k0_off111 (BitVec.ofNat 32 (W % 16))) (k0_off111_inb _ hc4) rfl
    have hq112 := slot_incl vR (Ring.slotOfW (BitVec.ofNat 32 (W % 16)) hz) (k0_off112 (BitVec.ofNat 32 (W % 16))) (k0_off112_inb _ hc4) rfl
    have hq115 := slot_incl vR (Ring.slotOfW (BitVec.ofNat 32 (W % 16)) hz) (k0_off115 (BitVec.ofNat 32 (W % 16))) (k0_off115_inb _ hc4) rfl
    have hq116 := slot_incl vR (Ring.slotOfW (BitVec.ofNat 32 (W % 16)) hz) (k0_off116 (BitVec.ofNat 32 (W % 16))) (k0_off116_inb _ hc4) rfl
    have hq119 := slot_incl vR (Ring.slotOfW (BitVec.ofNat 32 (W % 16)) hz) (k0_off119 (BitVec.ofNat 32 (W % 16))) (k0_off119_inb _ hc4) rfl
    have hq120 := slot_incl vR (Ring.slotOfW (BitVec.ofNat 32 (W % 16)) hz) (k0_off120 (BitVec.ofNat 32 (W % 16))) (k0_off120_inb _ hc4) rfl
    have hq123 := slot_incl vR (Ring.slotOfW (BitVec.ofNat 32 (W % 16)) hz) (k0_off123 (BitVec.ofNat 32 (W % 16))) (k0_off123_inb _ hc4) rfl
    have hq124 := slot_incl vR (Ring.slotOfW (BitVec.ofNat 32 (W % 16)) hz) (k0_off124 (BitVec.ofNat 32 (W % 16))) (k0_off124_inb _ hc4) rfl
    have hq127 := slot_incl vR (Ring.slotOfW (BitVec.ofNat 32 (W % 16)) hz) (k0_off127 (BitVec.ofNat 32 (W % 16))) (k0_off127_inb _ hc4) rfl
    have hq128 := slot_incl vR (Ring.slotOfW (BitVec.ofNat 32 (W % 16)) hz) (k0_off128 (BitVec.ofNat 32 (W % 16))) (k0_off128_inb _ hc4) rfl
    by_cases h1 : k0_cond5 (BitVec.ofNat 32 (pos (nch c fl) I).1) = 1#1
    · have hlt := (pos_fst_lt (one_le_nch c fl) I).mp ((live_iff _ (by omega)).mp h1)
      rw [Ring.AtW_focus2 (vΦ c fv) _ hne, ringSt_issue W I _ hslot (by omega) (by omega), ringSt_wait W I _ hslotW (by omega) hltW]
      iintro ⟨%hacc, HL, ⟨⟨Hcell, ⟨%f, Hslot⟩, Htok⟩, ⟨%off, %hoff, %hq, ⟨%g, HF⟩, Htw⟩, Hrest⟩, Hs, ⟨%W0, Howe⟩⟩
      subst hacc
      unfold k0_t6_body
      rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
      unfold k0_part21_skel k0_part22_skel k0_part23_skel k0_part24_skel k0_part25_skel k0_part26_skel k0_part27_skel k0_part28_skel k0_part29_skel k0_part30_skel k0_part31_skel k0_part32_skel
      sl_exec
      sl_step
      have hH := hval off hoff hq
      isplitr
      · ipureintro
        refine six_eq ?_ ?_ (next_slot I) (next_slot W) ?_ ?_
        · exact congrArg Prod.fst (words_next c fl hfl I (by omega) _ _ hoffL _)
        · exact congrArg (fun x => x.2.1) (words_next c fl hfl I (by omega) _ _ hoffL _)
        · exact (sum_nest (k0_pay263 v188 v204 v205) (rowsAt fs (Scf.iv 0#32 1#32 k.val) hk30) _).trans (by rw [hrows]; rfl)
        · exact (acc_nest v33 v51 v69 v87 (k0_pay263 v188 v204 v205) (rowsAt fs (Scf.iv 0#32 1#32 k.val) hk30) (landed (F := F) vA vR (Ring.slotOfW (BitVec.ofNat 32 (W % 16)) hz) off hoff fv) _).trans (by rw [hH, hrows]; rfl)
      isplitl [HL]; · iexact HL
      isplitl [Hcell Htok HF_dst Htw HF Hrest]
      · rw [← ringSt_waited W (I + 1) _ hslotW (by omega), ← ringSt_issued W I _ hslot (by omega) (by omega) hlt]
        iapply (Ring.AtW_update2 (vΦ c fv) _ hne _ _)
        isplitl [Hcell Htok]
        · iexists _, _
          isplitr
          · ipureintro; exact off3_eq _ _ (by omega) (by omega)
          isplitl [Hcell]
          · iexists f; iexact Hcell
          · iexact Htok
        isplitr [Hrest]
        · isplitl [HF]; · iexact HF
          isplitl [HF_dst]
          · iexists _; iexact HF_dst
          · iexact Htw
        · iexact Hrest
      isplitl [Hs]; · iexact Hs
      iexists _; iexact Howe
    · have hge : start (nch c fl) 24 ≤ I := by
        by_contra hlt
        exact h1 ((live_iff _ (by omega)).mpr ((pos_fst_lt (one_le_nch c fl) I).mpr (by omega)))
      rw [Ring.AtW_focusW (vΦ c fv) _ _ hz, ringSt_wait W I _ hslotW (by omega) hltW]
      iintro ⟨%hacc, HL, ⟨⟨%off, %hoff, %hq, ⟨%g, HF⟩, Htw⟩, Hrest⟩, Hs, ⟨%W0, Howe⟩⟩
      subst hacc
      unfold k0_t6_body
      rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
      unfold k0_part21_skel k0_part22_skel k0_part23_skel k0_part24_skel k0_part25_skel k0_part26_skel k0_part27_skel k0_part28_skel k0_part29_skel k0_part30_skel k0_part31_skel k0_part32_skel
      sl_exec
      sl_step
      have hH := hval off hoff hq
      isplitr
      · ipureintro
        refine six_eq ?_ ?_ (next_slot I) (next_slot W) ?_ ?_
        · exact congrArg Prod.fst (words_next c fl hfl I (by omega) _ _ hoffL _)
        · exact congrArg (fun x => x.2.1) (words_next c fl hfl I (by omega) _ _ hoffL _)
        · exact (sum_nest (k0_pay263 v188 v204 v205) (rowsAt fs (Scf.iv 0#32 1#32 k.val) hk30) _).trans (by rw [hrows]; rfl)
        · exact (acc_nest v33 v51 v69 v87 (k0_pay263 v188 v204 v205) (rowsAt fs (Scf.iv 0#32 1#32 k.val) hk30) (landed (F := F) vA vR (Ring.slotOfW (BitVec.ofNat 32 (W % 16)) hz) off hoff fv) _).trans (by rw [hH, hrows]; rfl)
      isplitl [HL]; · iexact HL
      isplitl [HF_dst Htw HF Hrest]
      · rw [← ringSt_past (W + 1) I hge, ← ringSt_waited W I _ hslotW (by omega)]
        iapply (Ring.AtW_update (vΦ c fv) _ _ _)
        isplitr [Hrest]
        · isplitl [HF]; · iexact HF
          isplitl [HF_dst]
          · iexists _; iexact HF_dst
          · iexact Htw
        · iexact Hrest
      isplitl [Hs]; · iexact Hs
      iexists _; iexact Howe
end
end Cert.Kernel.Hand
-- ==== Proof.K.Check.lean ====
module

public import proofs.«01_k».proof.Proof.K.Values
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Blocks of a row of the score array. -/
theorem row_in (k : ℕ) (hk : k < 30) (o : ℕ) (ho : o + 256 ≤ 4096) : ∀ a, (![(Scf.iv 0#32 1#32 k).toNat, 0, o] : Fin 3 → ℕ) a + S1x8x256.size a ≤ S30x8x4096.size a := by
  have e : (Scf.iv 0#32 1#32 k).toNat = k := by rw [iv_word, BitVec.toNat_ofNat, Nat.mod_eq_of_lt (by omega)]
  intro a; fin_cases a
  · show (Scf.iv 0#32 1#32 k).toNat + 1 ≤ 30; omega
  · show 0 + 8 ≤ 8; omega
  · show o + 256 ≤ 4096; omega

/-- The facts the run assumes of a sequence's length hold of every length the cache has room for. -/
theorem chk7 (t : Fin k0_t3_loop.trips) (v : BitVec 32) (h : v.toNat ≤ 30720) : k0_chk7 t v := by
  have ht : t.val < 24 := t.isLt
  have lt4 : ∀ k : Fin (k0_t4_loop v).trips, k.val < 30 := fun k => (lt_of_lt_of_eq k.isLt (t4_trips v h)).trans_le (chunks_le h)
  have lt6 : ∀ k : Fin (k0_t6_loop v).trips, k.val < 30 := lt4
  have hiv : ∀ k, Scf.iv 0#32 1#32 k = BitVec.ofNat 32 k := iv_word
  have hc : k0_cond1 (Scf.iv 0#32 1#32 t.val) = 1#1 := by rw [hiv]; exact (live_iff _ (by omega)).mpr ht
  have ht0 : 0 ≤ (Scf.iv 0#32 1#32 t.val).toInt := by rw [hiv, toInt_ofNat _ (by omega)]; omega
  have hin : ∀ k, k < 30 → _ := fun k hk => chunk_in (Scf.iv 0#32 1#32 t.val) (Scf.iv 0#32 1#32 k) hc ht0 (by rw [hiv, toInt_ofNat _ (by omega)]; omega) (by rw [hiv, toInt_ofNat _ (by omega)]; omega)
  have ok : (k0_t4_loop v).OK := by
    show Scf.OK 0#32 (Scalar.addi 0#32 (Scalar.muli (Scalar.divsi (Scalar.subi (chunksW v) 0#32) 1#32) 1#32)) 1#32
    rw [Scalar.muli_divsi_one, chunksW_eq v h]
    have hc := chunks_le h
    generalize chunks v.toNat = q at hc
    interval_cases q <;> decide
  have dv : ∀ k : Fin (k0_t4_loop v).trips, 4096 ∣ (k0_mult4 v k).toNat := fun k => (hin k.val (lt4 k)).1
  have inb : ∀ k : Fin (k0_t4_loop v).trips, ∀ a, (k0_off18 t v k) a + S1x4096x128.size a ≤ S24x122880x128.size a := fun k => (hin k.val (lt4 k)).2
  have none5 : Fin (k0_t5_loop v).trips → False := fun k => Scf.rem_no_trip _ _ k
  have none7 : Fin (k0_t7_loop v).trips → False := fun k => Scf.rem_no_trip _ _ k
  have ww : ∀ k : Fin (k0_t4_loop v).trips, ∀ (hinb : ∀ a, (k0_off18 t v k) a + S1x4096x128.size a ≤ S24x122880x128.size a), (Rect.unit (s := S24x122880x128) (k0_off18 t v k) S1x4096x128.size hinb).WholeWords 2 :=
    fun k hinb => chunk_words _ (by decide) _ _ (dv k) hinb
  have ww' : ∀ k : Fin (k0_t4_loop v).trips, ∀ (hinb : ∀ a, (k0_off18 t v k) a + S1x4096x128.size a ≤ S24x122880x128.size a), (Rect.unit (s := S24x122880x128) (k0_off18 t v k) S1x4096x128.size hinb).WholeWords 4 :=
    fun k hinb => chunk_words _ (by decide) _ _ (dv k) hinb
  refine ⟨?_, ?_, ?_⟩
  · refine And.intro ok (And.intro dv (And.intro inb (And.intro ww ?_)))
    iterate 16 refine And.intro (fun k => row_in k.val (lt4 k) _ (by decide)) ?_
    refine And.intro (Scf.rem_ok _ _) ?_
    iterate 10 refine And.intro (fun k => (none5 k).elim) ?_
    exact fun k => (none5 k).elim
  · iterate 8 refine And.intro (fun k => (none5 k).elim) ?_
    refine And.intro ok (And.intro dv (And.intro inb (And.intro ww' ?_)))
    iterate 16 refine And.intro (fun k => row_in k.val (lt4 k) _ (by decide)) ?_
    refine And.intro (Scf.rem_ok _ _) ?_
    iterate 2 refine And.intro (fun k => (none7 k).elim) ?_
    exact fun k => (none7 k).elim
  · iterate 15 refine And.intro (fun k => (none7 k).elim) ?_
    exact fun k => (none7 k).elim

end Cert.Kernel.Hand
-- ==== Proof.K.Rows.lean ====
module

public import proofs.«01_k».proof.Proof.K.Check
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The rows of the inputs -/

/-- Row `b` of a 24x32x128 array, and of a 24x4x128 array. -/
def row32 {e : EltTy} (g : S24x32x128.Idx → Elt F e) (b : ℕ) : Vec F S1x32x128 e := fun y => g (ix3 ⟨min b 23, by show _ < 24; omega⟩ ⟨(y 1).val, (y 1).isLt⟩ ⟨(y 2).val, (y 2).isLt⟩)
def row4 {e : EltTy} (g : S24x4x128.Idx → Elt F e) (b : ℕ) : Vec F S1x4x128 e := fun y => g (ix3 ⟨min b 23, by show _ < 24; omega⟩ ⟨(y 1).val, (y 1).isLt⟩ ⟨(y 2).val, (y 2).isLt⟩)

theorem load_row32 {e : EltTy} (M : Memref sig .tc .vmem S24x32x128 e) (f : M.view.ty.Contents (Elt F)) (b : ℕ) (hb : b < 24) (off : Fin 3 → ℕ) (hinb) (hoff : off = ![b, 0, 0]) :
    View.readAt (Elt F) M.view (Rect.unit (s := S24x32x128) off S1x32x128.size hinb).toLoadRect f = row32 (View.read (Elt F) M.view f) b := by
  subst hoff; funext y
  have h0 : (y 0).val < 1 := (y 0).isLt
  show View.read (Elt F) M.view f _ = View.read (Elt F) M.view f _
  congr 1
  funext a; fin_cases a <;> apply Fin.ext
  · show b + 1 * (y 0).val = min b 23; omega
  · show 0 + 1 * (y 1).val = (y 1).val; omega
  · show 0 + 1 * (y 2).val = (y 2).val; omega
theorem load_row4 {e : EltTy} (M : Memref sig .tc .vmem S24x4x128 e) (f : M.view.ty.Contents (Elt F)) (b : ℕ) (hb : b < 24) (off : Fin 3 → ℕ) (hinb) (hoff : off = ![b, 0, 0]) :
    View.readAt (Elt F) M.view (Rect.unit (s := S24x4x128) off S1x4x128.size hinb).toLoadRect f = row4 (View.read (Elt F) M.view f) b := by
  subst hoff; funext y
  have h0 : (y 0).val < 1 := (y 0).isLt
  show View.read (Elt F) M.view f _ = View.read (Elt F) M.view f _
  congr 1
  funext a; fin_cases a <;> apply Fin.ext
  · show b + 1 * (y 0).val = min b 23; omega
  · show 0 + 1 * (y 1).val = (y 1).val; omega
  · show 0 + 1 * (y 2).val = (y 2).val; omega

/-! ## The rows of the results -/

/-- Where group `g` of row `w` of a result is. -/
def oOff (w : BitVec 32) (g : ℕ) : Fin 3 → ℕ := ![w.toNat, 8 * g, 0]
theorem oOff_inb (w : BitVec 32) (hw : w.toNat < 24) (g : ℕ) (hg : g < 4) : ∀ a, oOff w g a + S1x8x128.size a ≤ S24x32x128.size a := by
  intro a; fin_cases a
  · show w.toNat + 1 ≤ 24; omega
  · show 8 * g + 8 ≤ 32; omega
  · show 0 + 128 ≤ 128; omega

/-- The first `n` group stores of row `w`, the newest first. -/
def opcs {e : EltTy} (w : BitVec 32) (hw : w.toNat < 24) (P : Fin 4 → Vec F S1x8x128 e) : (n : ℕ) → n ≤ 4 → List (View.Piece (Elt F) S24x32x128 e)
  | 0, _ => []
  | n + 1, h => ⟨Rect.unit (s := S24x32x128) (oOff w n) S1x8x128.size (oOff_inb w hw n h), P ⟨n, h⟩⟩ :: opcs w hw P n (by omega)

/-- The element of group `g` of row `b` at `y`. -/
abbrev oIx (b : ℕ) (hb : b < 24) (g : Fin 4) (y : S1x8x128.Idx) : S24x32x128.Idx :=
  ix3 ⟨b, hb⟩ ⟨8 * g.val + (y 1).val, by have h : (y 1).val < 8 := (y 1).isLt; show _ < 32; omega⟩ ⟨(y 2).val, (y 2).isLt⟩

/-- The result holds the groups `P` of the rows below `k`. -/
def OInv {e : EltTy} (M : Memref sig .tc .vmem S24x32x128 e) (f : M.view.ty.Contents (Elt F)) (k : ℕ) (P : ℕ → Fin 4 → Vec F S1x8x128 e) : Prop :=
  ∀ b (hb : b < 24), b < k → ∀ g y, View.read (Elt F) M.view f (oIx b hb g y) = P b g y

theorem opcs_other {e : EltTy} (M : Memref sig .tc .vmem S24x32x128 e) (w : BitVec 32) (hw) (P : Fin 4 → Vec F S1x8x128 e) (f : M.view.ty.Contents (Elt F)) (b : ℕ) (hb) (hne : b ≠ w.toNat) (g) (y) :
    ∀ n h, View.read (Elt F) M.view (M.view.writes (Elt F) f (opcs w hw P n h)) (oIx b hb g y) = View.read (Elt F) M.view f (oIx b hb g y)
  | 0, _ => rfl
  | n + 1, h => by
    rw [show opcs w hw P (n + 1) h = ⟨Rect.unit (s := S24x32x128) (oOff w n) S1x8x128.size (oOff_inb w hw n h), P ⟨n, h⟩⟩ :: opcs w hw P n (by omega) from rfl,
      View.read_writes_cons_unit_of_not_mem M.view f (oOff_inb w hw n h) _ _ _ rfl 0 (by show b < w.toNat ∨ w.toNat + 1 ≤ b; omega)]
    exact opcs_other M w hw P f b hb hne g y n _

theorem opcs_own {e : EltTy} (M : Memref sig .tc .vmem S24x32x128 e) (w : BitVec 32) (hw) (P : Fin 4 → Vec F S1x8x128 e) (f : M.view.ty.Contents (Elt F)) (hb) (g) (y) :
    ∀ n h, g.val < n → View.read (Elt F) M.view (M.view.writes (Elt F) f (opcs w hw P n h)) (oIx w.toNat hb g y) = P g y
  | 0, _, hj => absurd hj (Nat.not_lt_zero _)
  | n + 1, h, hj => by
    have h0 : (y 0).val < 1 := (y 0).isLt
    have h1 : (y 1).val < 8 := (y 1).isLt
    rw [show opcs w hw P (n + 1) h = ⟨Rect.unit (s := S24x32x128) (oOff w n) S1x8x128.size (oOff_inb w hw n h), P ⟨n, h⟩⟩ :: opcs w hw P n (by omega) from rfl]
    by_cases e : g.val = n
    · have ej : g = ⟨n, h⟩ := Fin.ext e
      rw [View.read_writes_cons_unit_of_mem M.view f (oOff_inb w hw n h) _ _ _ y rfl (fun a => by
        fin_cases a
        · show w.toNat = w.toNat + (y 0).val; omega
        · show 8 * g.val + (y 1).val = 8 * n + (y 1).val; omega
        · show (y 2).val = 0 + (y 2).val; omega), ej]
    · rw [View.read_writes_cons_unit_of_not_mem M.view f (oOff_inb w hw n h) _ _ _ rfl 1
        (by show 8 * g.val + (y 1).val < 8 * n ∨ 8 * n + 8 ≤ 8 * g.val + (y 1).val; omega)]
      exact opcs_own M w hw P f hb g y n _ (by omega)

/-- The four stores of a row's groups put the row beside those before it. -/
theorem OInv_step {e : EltTy} (M : Memref sig .tc .vmem S24x32x128 e) (f : M.view.ty.Contents (Elt F)) (k : ℕ) (P : ℕ → Fin 4 → Vec F S1x8x128 e) (w : BitVec 32) (hw) (hk : w.toNat = k) (h : OInv M f k P) :
    OInv M (M.view.writes (Elt F) f (opcs w hw (P k) 4 le_rfl)) (k + 1) P := by
  intro b hb hlt g y
  by_cases e : b = k
  · subst e
    subst hk
    exact opcs_own M w hw _ f hb g y 4 le_rfl g.isLt
  · rw [opcs_other M w hw _ f b hb (by omega) g y]
    exact h b hb (by omega) g y

/-! ## The results of a sequence -/

/-- The inputs as values: queries, new keys, new values and their scales, the two caches, and the lengths. -/
structure Ins (F : FTy → Type) where
  q : S24x32x128.Idx → Elt F .bf16
  kn : S24x4x128.Idx → Elt F .bf16
  vn : S24x4x128.Idx → Elt F .bf16
  vs : S24x4x128.Idx → Elt F .f32
  ka : S24x122880x128.Idx → Elt F .bf16
  va : S24x122880x128.Idx → Elt F .fp8e4m3
  ln : ℕ → BitVec 32

/-- The lane masks. -/
structure Masks where
  v33 : IVec S8x256 1
  v51 : IVec S8x256 1
  v69 : IVec S8x256 1
  v87 : IVec S8x256 1
  v88 : IVec S8x128 1
  v89 : IVec S8x128 1
  v90 : IVec S8x128 1
  v114 : IVec S8x256 32

namespace Ins
variable (K : Masks) (x : Ins F) (b : ℕ)

/-- The score of the new key. -/
def sn : FVec F S8x128 .f32 := k0_pay249 K.v88 K.v89 K.v90 (k0_pay246 (row4 x.kn b)) (k0_pay247 (row32 x.q b)) (k0_pay248 (row32 x.q b) (row4 x.kn b))
/-- The scores of chunk `i`. -/
def sc (i : ℕ) : Fin 16 → FVec F S8x256 .f32 := scoresAt K.v51 K.v69 K.v87 K.v114 (k0_pay245 (row32 x.q b)) (x.ln b) x.ka b i
/-- The running maximum of the cache's scores. -/
def mx : FVec F S8x128 .f32 := maxAt (x.sc K b) (chunks (x.ln b).toNat)
/-- The maximum of all scores, scaled. -/
def mm : FVec F S8x128 .f32 := k0_pay263 (x.sn K b) (k0_pay261 (x.mx K b)) (k0_pay262 (x.mx K b))
/-- The sum of the cache's weights, lane by lane. -/
def ls : FVec F S8x128 .f32 := sumAt (x.mm K b) (fun i j => stored (x.sc K b i j)) (chunks (x.ln b).toNat)
/-- The weighted sum of the cache's values. -/
def acc : FVec F S64x256 .f32 := accAt K.v33 K.v51 K.v69 K.v87 (x.mm K b) (fun i j => stored (x.sc K b i j)) (fun i n => tile x.va b i (256 * n.val)) (chunks (x.ln b).toNat)
def pn : FVec F S8x128 .f32 := k0_pay266 (x.sn K b) (k0_pay261 (x.mx K b)) (k0_pay262 (x.mx K b))
def den : FVec F S8x128 .f32 := k0_pay267 (x.sn K b) (k0_pay261 (x.mx K b)) (k0_pay262 (x.mx K b)) (x.ls K b)
def num : FVec F S32x128 .f32 := k0_pay268 (x.acc K b)
def sv : FVec F S4x128 .f32 := k0_pay269 (row4 x.vs b)
def vc : FVec F S4x128 .fp8e4m3 := k0_pay270 (row4 x.vs b) (row4 x.vn b)

/-- The groups of row `b` of the cache's part of the result. -/
def out8 : Fin 4 → Vec F S1x8x128 .f32
  | 0 => k0_pay275 (x.den K b) (x.num K b) (x.sv b)
  | 1 => k0_pay281 (x.den K b) (x.num K b) (x.sv b)
  | 2 => k0_pay287 (x.den K b) (x.num K b) (x.sv b)
  | 3 => k0_pay2 (k0_pay289 (x.den K b)) (k0_pay291 (x.sv b)) (k0_pay292 (x.num K b))
/-- The groups of row `b` of the result. -/
def out7 : Fin 4 → Vec F S1x8x128 .bf16
  | 0 => k0_pay276 (x.pn K b) (x.den K b) (x.num K b) (x.sv b) (x.vc b)
  | 1 => k0_pay283 (k0_pay277 (x.den K b)) (k0_pay278 (x.pn K b)) (k0_pay279 (x.sv b)) (k0_pay280 (x.den K b) (x.num K b) (x.sv b)) (k0_pay282 (x.vc b))
  | 2 => k0_pay288 (x.pn K b) (x.den K b) (x.num K b) (x.sv b) (k0_pay271 (x.vc b))
  | 3 => k0_pay3 (k0_pay271 (x.vc b)) (k0_pay289 (x.den K b)) (k0_pay290 (x.pn K b)) (k0_pay291 (x.sv b)) (k0_pay292 (x.num K b))
end Ins

end Cert.Kernel.Hand
-- ==== Proof.K.Seq.lean ====
module

public import proofs.«01_k».proof.Proof.K.Rows
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What the body's operands hold, as values. -/
abbrev insOf (arg1 : Memref sig .tc .vmem S24x32x128 .bf16) (arg2 : Memref sig .tc .vmem S24x4x128 .bf16) (arg3 : Memref sig .tc .vmem S24x4x128 .bf16) (arg4 : Memref sig .tc .vmem S24x4x128 .f32) (c : Dev nD) (fl : Buf (Elt F) (lenM.view.loc (c : Thread nD τ)))
    (f1 : arg1.view.ty.Contents (Elt F)) (f2 : arg2.view.ty.Contents (Elt F)) (f3 : arg3.view.ty.Contents (Elt F)) (f4 : arg4.view.ty.Contents (Elt F)) (fk : kA.view.ty.Contents (Elt F)) (fv : vA.view.ty.Contents (Elt F)) : Ins F :=
  ⟨View.read (Elt F) arg1.view f1, View.read (Elt F) arg2.view f2, View.read (Elt F) arg3.view f3, View.read (Elt F) arg4.view f4, View.read (Elt F) kA.view fk, View.read (Elt F) vA.view fv, len c fl⟩

/-- The eight words the loop over the sequences carries at sequence `b`. -/
def seqWords (n : ℕ → ℕ) (b : ℕ) : BitVec 32 × BitVec 32 × BitVec 32 × BitVec 32 × BitVec 32 × BitVec 32 × BitVec 32 × BitVec 32 :=
  (BitVec.ofNat 32 (pos n (start n b + 15)).1, BitVec.ofNat 32 (pos n (start n b + 15)).2, BitVec.ofNat 32 ((start n b + 15) % 16),
   BitVec.ofNat 32 (pos n (start n b + 15)).1, BitVec.ofNat 32 (pos n (start n b + 15)).2, BitVec.ofNat 32 ((start n b + 15) % 16),
   BitVec.ofNat 32 (start n b % 16), BitVec.ofNat 32 (start n b % 16))

variable {F : FTy → Type} [FloatOps F] in
/-- The stores of a row of the result, the newest first, put the row beside those before it. -/
theorem OInv_row7 (M : Memref sig .tc .vmem S24x32x128 .bf16) (f : M.view.ty.Contents (Elt F)) (K : Masks) (x : Ins F) (b : Fin k0_t3_loop.trips) (hb : b.val < 24) (h : OInv M f b.val fun b => x.out7 K b)
    (pn den : FVec F S8x128 .f32) (num : FVec F S32x128 .f32) (sv : FVec F S4x128 .f32) (vc : FVec F S4x128 .fp8e4m3)
    (e1 : pn = x.pn K b.val) (e2 : den = x.den K b.val) (e3 : num = x.num K b.val) (e4 : sv = x.sv b.val) (e5 : vc = x.vc b.val) :
    OInv M (M.view.writes (Elt F) f
      [⟨Rect.unit (s := S24x32x128) (k0_off172 b) S1x8x128.size (k0_off172_inb b), k0_pay3 (k0_pay271 vc) (k0_pay289 den) (k0_pay290 pn) (k0_pay291 sv) (k0_pay292 num)⟩,
       ⟨Rect.unit (s := S24x32x128) (k0_off171 b) S1x8x128.size (k0_off171_inb b), k0_pay288 pn den num sv (k0_pay271 vc)⟩,
       ⟨Rect.unit (s := S24x32x128) (k0_off170 b) S1x8x128.size (k0_off170_inb b), k0_pay283 (k0_pay277 den) (k0_pay278 pn) (k0_pay279 sv) (k0_pay280 den num sv) (k0_pay282 vc)⟩,
       ⟨Rect.unit (s := S24x32x128) (k0_off169 b) S1x8x128.size (k0_off169_inb b), k0_pay276 pn den num sv vc⟩]) (b.val + 1) fun b => x.out7 K b := by
  subst e1 e2 e3 e4 e5
  have hw : (Scf.iv 0#32 1#32 b.val).toNat = b.val := by rw [iv_word, BitVec.toNat_ofNat, Nat.mod_eq_of_lt (by omega)]
  exact OInv_step M f b.val (fun b => x.out7 K b) (Scf.iv 0#32 1#32 b.val) (by omega) hw h

variable {F : FTy → Type} [FloatOps F] in
/-- The same of the cache's part. -/
theorem OInv_row8 (M : Memref sig .tc .vmem S24x32x128 .f32) (f : M.view.ty.Contents (Elt F)) (K : Masks) (x : Ins F) (b : Fin k0_t3_loop.trips) (hb : b.val < 24) (h : OInv M f b.val fun b => x.out8 K b)
    (den : FVec F S8x128 .f32) (num : FVec F S32x128 .f32) (sv : FVec F S4x128 .f32)
    (e2 : den = x.den K b.val) (e3 : num = x.num K b.val) (e4 : sv = x.sv b.val) :
    OInv M (M.view.writes (Elt F) f
      [⟨Rect.unit (s := S24x32x128) (k0_off172 b) S1x8x128.size (k0_off172_inb b), k0_pay2 (k0_pay289 den) (k0_pay291 sv) (k0_pay292 num)⟩,
       ⟨Rect.unit (s := S24x32x128) (k0_off171 b) S1x8x128.size (k0_off171_inb b), k0_pay287 den num sv⟩,
       ⟨Rect.unit (s := S24x32x128) (k0_off170 b) S1x8x128.size (k0_off170_inb b), k0_pay281 den num sv⟩,
       ⟨Rect.unit (s := S24x32x128) (k0_off169 b) S1x8x128.size (k0_off169_inb b), k0_pay275 den num sv⟩]) (b.val + 1) fun b => x.out8 K b := by
  subst e2 e3 e4
  have hw : (Scf.iv 0#32 1#32 b.val).toNat = b.val := by rw [iv_word, BitVec.toNat_ofNat, Nat.mod_eq_of_lt (by omega)]
  exact OInv_step M f b.val (fun b => x.out8 K b) (Scf.iv 0#32 1#32 b.val) (by omega) hw h

section
variable {F : FTy → Type} [FloatOps F] (K : Masks) (x : Ins F) (b : ℕ) (Q : Vec F S1x32x128 .bf16) (Kn : Vec F S1x4x128 .bf16) (L : BitVec 32) (n : ℕ)
  (hQ : Q = row32 x.q b) (hK : Kn = row4 x.kn b) (hL : L = x.ln b) (hn : n = chunks (x.ln b).toNat)
include hQ hK hL hn

/-- What the body has for the new key's weight. -/
theorem pn_eq : k0_pay266 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n)) = x.pn K b := by
  subst hQ hK hL hn; rfl
/-- What the body has for the sum of the weights. -/
theorem den_eq : k0_pay267 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))
    (sumAt (k0_pay263 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))) (fun i j => stored (scoresAt K.v51 K.v69 K.v87 K.v114 (k0_pay245 Q) L x.ka b i j)) n) = x.den K b := by
  subst hQ hK hL hn; rfl
/-- What the body has for the weighted sum of the values. -/
theorem num_eq : k0_pay268 (accAt K.v33 K.v51 K.v69 K.v87 (k0_pay263 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))) (fun i j => stored (scoresAt K.v51 K.v69 K.v87 K.v114 (k0_pay245 Q) L x.ka b i j)) (fun i n => tile x.va b i (256 * n.val)) n) = x.num K b := by
  subst hQ hK hL hn; rfl
end

/-- The same fact at an equal count of chunks. -/
theorem SInv_cast {fs : sM.view.ty.Contents (Elt F)} {k k' : ℕ} {P : ℕ → Fin 16 → Vec F S1x8x256 .f32} (e : k = k') (h : SInv fs k P) : SInv fs k' P := e ▸ h

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 3000000 in
/-- The loop over the sequences: before trip `b` both rings wait for the sequence's first chunk and the results hold the rows below `b`. -/
@[sl_loop, reducible] noncomputable def loopInv_k0_t3 (c : Dev nD) (fl : Buf (Elt F) (lenM.view.loc (c : Thread nD τ))) (fk : Buf (Elt F) (kA.view.loc (c : Thread nD τ))) (fv : Buf (Elt F) (vA.view.loc (c : Thread nD τ))) (hfl : Fits c fl)
   (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
   (v33 v51 v69 v87 : IVec S8x256 1) (v88 v89 v90 : IVec S8x128 1) (v114 : IVec S8x256 32) :
    Gen.LoopInvTy_k0_t3 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v33 v51 v69 v87 v88 v89 v90 v114 0#32 1#32 (seqWords (nch c fl) 0) where
  inv := fun b acc => iprop(⌜acc = seqWords (nch c fl) b⌝
    ∗ (lenM.view.loc (c : Thread nD τ) ↦{fullShare} fl)
    ∗ (arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ Ring.AtW (kΦ c fk) (ringSt (nch c fl) (start (nch c fl) b) (start (nch c fl) b + 15))
    ∗ Ring.AtW (vΦ c fv) (ringSt (nch c fl) (start (nch c fl) b) (start (nch c fl) b + 15))
    ∗ (∃ fs, (sM.view.loc (c : Thread nD τ) ↦{fullShare} fs))
    ∗ (∃ f7, (arg7.view.loc (c : Thread nD τ) ↦[arg7.view.set]{fullShare} f7) ∗ ⌜OInv arg7 f7 b fun b => (insOf arg1 arg2 arg3 arg4 c fl f1 f2 f3 f4 fk fv).out7 ⟨v33, v51, v69, v87, v88, v89, v90, v114⟩ b⌝)
    ∗ (∃ f8, (arg8.view.loc (c : Thread nD τ) ↦[arg8.view.set]{fullShare} f8) ∗ ⌜OInv arg8 f8 b fun b => (insOf arg1 arg2 arg3 arg4 c fl f1 f2 f3 f4 fk fv).out8 ⟨v33, v51, v69, v87, v88, v89, v90, v114⟩ b⌝)
    ∗ ∃ W0, owes (c : Thread nD τ) 0 W0)
  step := fun b acc => by
    have hb : b.val < 24 := b.isLt
    have h7 : ∀ v : BitVec 32, v = len c fl b.val → k0_chk7 b v := fun v e => chk7 b v (e ▸ hfl _)
    have hL : ∀ i, View.readAt (Elt F) lenM.view (Rect.unit (s := S24) (k0_off9 b) S1.size (k0_off9_inb b)).toLoadRect fl i = len c fl b.val := by
      intro i
      refine load_len c fl _ _ b.val ?_ i
      show ![(Scf.iv 0#32 1#32 b.val).toNat] = _
      rw [iv_word, BitVec.toNat_ofNat, Nat.mod_eq_of_lt (by omega), Nat.min_eq_left (by omega)]
    have hc7 : ∀ i, k0_chk7 b (View.readAt (Elt F) lenM.view (Rect.unit (s := S24) (k0_off9 b) S1.size (k0_off9_inb b)).toLoadRect fl i) := fun i => h7 _ (hL i)
    iintro ⟨%hacc, HL, H1, H2, H3, H4, Hk, Hv, ⟨%fs, Hs⟩, ⟨%f7, Hf7, %hO7⟩, ⟨%f8, Hf8, %hO8⟩, ⟨%W0, Howe⟩⟩
    subst hacc
    unfold k0_t3_body seqWords
    rw [k0_part45_eq_skeleton, k0_part46_eq_skeleton, k0_part47_eq_skeleton, k0_part48_eq_skeleton, k0_part49_eq_skeleton]
    unfold k0_part45_skel k0_part46_skel k0_part47_skel k0_part48_skel k0_part49_skel
    sl_exec
    have hv : loopInv_k0_t3.sl.r c fl b = len c fl b.val := hL _
    have hS0 : SInv fs 0 fun i j => stored (scoresAt v51 v69 v87 v114 (k0_pay245 (View.readAt (Elt F) arg1.view (Rect.unit (s := S24x32x128) (k0_off10 b) S1x32x128.size (k0_off10_inb b)).toLoadRect f1)) (loopInv_k0_t3.sl.r c fl b) (View.read (Elt F) kA.view fk) b.val i j) := fun _ _ h => absurd h (Nat.not_lt_zero _)
    rw [Prog.bind_assoc]
    sl_exec
    have htr : (k0_t4_loop (loopInv_k0_t3.sl.r c fl b)).trips = nch c fl b.val := (t4_trips _ (hv ▸ hfl _)).trans (congrArg (fun v : BitVec 32 => chunks v.toNat) hv)
    have hS := SInv_cast htr hL4
    rw [Prog.bind_assoc]
    sl_exec
    rw [Prog.bind_assoc]
    sl_exec
    rw [Prog.bind_assoc]
    sl_exec
    sl_step
    have he : start (nch c fl) b.val + (k0_t4_loop (loopInv_k0_t3.sl.r c fl b)).trips = start (nch c fl) (b.val + 1) := by rw [htr]; rfl
    have hof : ![(Scf.iv 0#32 1#32 b.val).toNat, 0, 0] = ![b.val, 0, 0] := by rw [iv_word, BitVec.toNat_ofNat, Nat.mod_eq_of_lt (by omega)]
    have hrq := load_row32 arg1 f1 b.val hb (k0_off10 b) (k0_off10_inb b) hof
    have hrk := load_row4 arg2 f2 b.val hb (k0_off11 b) (k0_off11_inb b) hof
    have hrv := load_row4 arg3 f3 b.val hb (k0_off168 b) (k0_off168_inb b) hof
    have hrs := load_row4 arg4 f4 b.val hb (k0_off168 b) (k0_off168_inb b) hof
    isplitr
    · ipureintro
      exact congrArg (fun s => ((BitVec.ofNat 32 (pos (nch c fl) (s + 15)).1, BitVec.ofNat 32 (pos (nch c fl) (s + 15)).2, BitVec.ofNat 32 ((s + 15) % 16), BitVec.ofNat 32 (pos (nch c fl) (s + 15)).1, BitVec.ofNat 32 (pos (nch c fl) (s + 15)).2, BitVec.ofNat 32 ((s + 15) % 16), BitVec.ofNat 32 (s % 16), BitVec.ofNat 32 (s % 16)) : BitVec 32 × BitVec 32 × BitVec 32 × BitVec 32 × BitVec 32 × BitVec 32 × BitVec 32 × BitVec 32)) he
    isplitl [HL]; · iexact HL
    isplitl [H1]; · iexact H1
    isplitl [H2]; · iexact H2
    isplitl [H3]; · iexact H3
    isplitl [H4]; · iexact H4
    isplitl [Hk]
    · rw [← he]; iexact Hk
    isplitl [Hv]
    · rw [← he]; iexact Hv
    isplitl [Hs]
    · iexists fsL0; iexact Hs
    isplitl [Hf7]
    · iexists _
      isplitl [Hf7]; · iexact Hf7
      ipureintro
      refine OInv_row7 arg7 f7 ⟨v33, v51, v69, v87, v88, v89, v90, v114⟩ (insOf arg1 arg2 arg3 arg4 c fl f1 f2 f3 f4 fk fv) b hb hO7 _ _ _ _ _ ?_ ?_ ?_ ?_ ?_
      · exact pn_eq ⟨v33, v51, v69, v87, v88, v89, v90, v114⟩ (insOf arg1 arg2 arg3 arg4 c fl f1 f2 f3 f4 fk fv) b.val _ _ _ _ hrq hrk hv htr
      · exact den_eq ⟨v33, v51, v69, v87, v88, v89, v90, v114⟩ (insOf arg1 arg2 arg3 arg4 c fl f1 f2 f3 f4 fk fv) b.val _ _ _ _ hrq hrk hv htr
      · exact num_eq ⟨v33, v51, v69, v87, v88, v89, v90, v114⟩ (insOf arg1 arg2 arg3 arg4 c fl f1 f2 f3 f4 fk fv) b.val _ _ _ _ hrq hrk hv htr
      · exact congrArg k0_pay269 hrs
      · exact congr (congrArg k0_pay270 hrs) hrv
    isplitl [Hf8]
    · iexists _
      isplitl [Hf8]; · iexact Hf8
      ipureintro
      refine OInv_row8 arg8 f8 ⟨v33, v51, v69, v87, v88, v89, v90, v114⟩ (insOf arg1 arg2 arg3 arg4 c fl f1 f2 f3 f4 fk fv) b hb hO8 _ _ _ ?_ ?_ ?_
      · exact den_eq ⟨v33, v51, v69, v87, v88, v89, v90, v114⟩ (insOf arg1 arg2 arg3 arg4 c fl f1 f2 f3 f4 fk fv) b.val _ _ _ _ hrq hrk hv htr
      · exact num_eq ⟨v33, v51, v69, v87, v88, v89, v90, v114⟩ (insOf arg1 arg2 arg3 arg4 c fl f1 f2 f3 f4 fk fv) b.val _ _ _ _ hrq hrk hv htr
      · exact congrArg k0_pay269 hrs
    · iexists _; iexact Howe
end
end Cert.Kernel.Hand
-- ==== Proof.K.Body.lean ====
module

public import proofs.«01_k».proof.Proof.K.Seq
public import Idealize.ShloMosaic.Lib.LoopRemainder

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The lane masks the body computes. -/
def masks : Masks :=
  ⟨k0_pay297 k0_pay294 k0_pay295 k0_pay296, k0_pay298 (iota .tc S8x256 32 [1] iota_S8x256_d1_w32), k0_pay299 (iota .tc S8x256 32 [1] iota_S8x256_d1_w32),
    k0_pay300 (iota .tc S8x256 32 [1] iota_S8x256_d1_w32) 4#32,
    k0_pay301 (k0_pay298 (iota .tc S8x256 32 [1] iota_S8x256_d1_w32)), k0_pay302 (k0_pay299 (iota .tc S8x256 32 [1] iota_S8x256_d1_w32)),
    k0_pay303 (iota .tc S8x256 32 [1] iota_S8x256_d1_w32) 4#32,
    k0_pay304 (iota .tc S8x256 32 [1] iota_S8x256_d1_w32)⟩

/-- A fact of the rows before `k`, restated at an equal `k`. -/
theorem OInv_end {e : EltTy} {M : Memref sig .tc .vmem S24x32x128 e} {f : M.view.ty.Contents (Elt F)} {k k' : ℕ} {P : ℕ → Fin 4 → Vec F S1x8x128 e} (h : k = k') (hO : OInv M f k P) : OInv M f k' P := h ▸ hO

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 3000000 in
/-- The body, run from the operands at `fl`, `f1`..`f4` and the caches' shares at `fk`, `fv` with both rings free, ends with both rings free, the operands
    as they were, every row of the first two results in place, and the third result stored whole. -/
theorem body_run (c : Dev nD) (fl : Buf (Elt F) (lenM.view.loc (c : Thread nD τ))) (fk : Buf (Elt F) (kA.view.loc (c : Thread nD τ))) (fv : Buf (Elt F) (vA.view.loc (c : Thread nD τ))) (hfl : Fits c fl)
   (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
   (W : Waits sig Unit) (Kc : PUnit → sProp 𝕄) :
    iprop((lenM.view.loc (c : Thread nD τ) ↦{fullShare} fl)
      ∗ (arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3) ∗ (arg4.view.loc (c : Thread nD τ) ↦[arg4.view.set]{fullShare} f4)
      ∗ Ring.AtW (kΦ c fk) (fun _ => none) ∗ Ring.AtW (vΦ c fv) (fun _ => none)
      ∗ (∃ fs, (sM.view.loc (c : Thread nD τ) ↦{fullShare} fs))
      ∗ (∃ f7, (arg7.view.loc (c : Thread nD τ) ↦[arg7.view.set]{fullShare} f7))
      ∗ (∃ f8, (arg8.view.loc (c : Thread nD τ) ↦[arg8.view.set]{fullShare} f8))
      ∗ (∃ f9, (arg9.view.loc (c : Thread nD τ) ↦[arg9.view.set]{fullShare} f9))
      ∗ owes (c : Thread nD τ) 0 W
      ∗ (iprop((lenM.view.loc (c : Thread nD τ) ↦{fullShare} fl)
          ∗ (arg1.view.loc (c : Thread nD τ) ↦[arg1.view.set]{fullShare} f1) ∗ (arg2.view.loc (c : Thread nD τ) ↦[arg2.view.set]{fullShare} f2)
          ∗ (arg3.view.loc (c : Thread nD τ) ↦[arg3.view.set]{fullShare} f3) ∗ (arg4.view.loc (c : Thread nD τ) ↦[arg4.view.set]{fullShare} f4)
          ∗ Ring.AtW (kΦ c fk) (fun _ => none) ∗ Ring.AtW (vΦ c fv) (fun _ => none)
          ∗ (∃ fs, (sM.view.loc (c : Thread nD τ) ↦{fullShare} fs))
          ∗ (∃ f7, (arg7.view.loc (c : Thread nD τ) ↦[arg7.view.set]{fullShare} f7) ∗ ⌜OInv arg7 f7 24 fun b => (insOf arg1 arg2 arg3 arg4 c fl f1 f2 f3 f4 fk fv).out7 masks b⌝)
          ∗ (∃ f8, (arg8.view.loc (c : Thread nD τ) ↦[arg8.view.set]{fullShare} f8) ∗ ⌜OInv arg8 f8 24 fun b => (insOf arg1 arg2 arg3 arg4 c fl f1 f2 f3 f4 fk fv).out8 masks b⌝)
          ∗ (∃ f9, (arg9.view.loc (c : Thread nD τ) ↦[arg9.view.set]{fullShare} arg9.view.writes (Elt F) f9
              [⟨Rect.unit (s := S24x4x128) ![0, 0, 0] S24x4x128.size inb_S24x4x128_S24x4x128_0_0_0,
                k0_pay293 (View.readAt (Elt F) arg3.view (Rect.unit (s := S24x4x128) ![0, 0, 0] S24x4x128.size inb_S24x4x128_S24x4x128_0_0_0).toLoadRect f3)
                  (View.readAt (Elt F) arg4.view (Rect.unit (s := S24x4x128) ![0, 0, 0] S24x4x128.size inb_S24x4x128_S24x4x128_0_0_0).toLoadRect f4)⟩]))
          ∗ (∃ W', owes (c : Thread nD τ) 0 W')) -∗ Kc ⟨⟩))
    ⊢ wp frame (wpE (defs₀ (F := F)) 𝒱₀ c none) Set.univ
        (cc0_gqa_decode lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4) Kc := by
  rw [← ringSt_start (nch c fl)]
  iintro ⟨HL, H1, H2, H3, H4, Hk, Hv, ⟨%fs, Hs⟩, ⟨%f7, Hf7⟩, ⟨%f8, Hf8⟩, ⟨%f9, Hf9⟩, Howe, Hc⟩
  have h0 : (0#32, 0#32, 0#32) = wordsAt (nch c fl) 0 := rfl
  rw [cc0_gqa_decode_eq_skeleton]; unfold cc0_gqa_decode_skel
  rw [k0_part50_eq_skeleton, k0_part51_eq_skeleton, k0_part52_eq_skeleton]
  unfold k0_part50_skel k0_part51_skel k0_part52_skel
  rw [Prog.bind_assoc]
  sl_exec
  rw [Prog.bind_assoc]
  sl_exec
  have ht1 : Scf.trips k0_t1_loop.lb k0_t1_loop.ub k0_t1_loop.st = 15 := by decide
  rw [ht1]
  have hO7 : OInv arg7 f7 0 fun b => (insOf arg1 arg2 arg3 arg4 c fl f1 f2 f3 f4 fk fv).out7 ⟨k0_pay297 k0_pay294 k0_pay295 k0_pay296, k0_pay298 body_run.sl.v15, k0_pay299 body_run.sl.v15, k0_pay300 body_run.sl.v15 4#32, k0_pay301 (k0_pay298 body_run.sl.v15), k0_pay302 (k0_pay299 body_run.sl.v15), k0_pay303 body_run.sl.v15 4#32, k0_pay304 body_run.sl.v15⟩ b := fun _ _ h => absurd h (Nat.not_lt_zero _)
  have hO8 : OInv arg8 f8 0 fun b => (insOf arg1 arg2 arg3 arg4 c fl f1 f2 f3 f4 fk fv).out8 ⟨k0_pay297 k0_pay294 k0_pay295 k0_pay296, k0_pay298 body_run.sl.v15, k0_pay299 body_run.sl.v15, k0_pay300 body_run.sl.v15 4#32, k0_pay301 (k0_pay298 body_run.sl.v15), k0_pay302 (k0_pay299 body_run.sl.v15), k0_pay303 body_run.sl.v15 4#32, k0_pay304 body_run.sl.v15⟩ b := fun _ _ h => absurd h (Nat.not_lt_zero _)
  have hr : ringSt (nch c fl) 0 15 = ringSt (nch c fl) (start (nch c fl) 0) (start (nch c fl) 0 + 15) := rfl
  rw [hr, show (BitVec.ofNat 32 (pos (nch c fl) 15).1, BitVec.ofNat 32 (pos (nch c fl) 15).2, BitVec.ofNat 32 (15 % 16), BitVec.ofNat 32 (pos (nch c fl) 15).1, BitVec.ofNat 32 (pos (nch c fl) 15).2, BitVec.ofNat 32 (15 % 16), 0#32, 0#32) = seqWords (nch c fl) 0 from rfl]
  sl_exec
  sl_step
  have ht3 : k0_t3_loop.trips = 24 := by decide
  have hre : ∀ T, T = 24 → ringSt (nch c fl) (start (nch c fl) T) (start (nch c fl) T + 15) = ringSt (nch c fl) 0 0 := by
    intro T e; subst e; rw [ringSt_start, ringSt_end _ _ le_rfl]
  iapply Hc
  isplitl [HL]; · iexact HL
  isplitl [H1]; · iexact H1
  isplitl [H2]; · iexact H2
  isplitl [H3]; · iexact H3
  isplitl [H4]; · iexact H4
  isplitl [Hk]; · rw [← hre _ ht3]; iexact Hk
  isplitl [Hv]; · rw [← hre _ ht3]; iexact Hv
  isplitl [Hs]; · iexists _; iexact Hs
  isplitl [Hf7]
  · iexists _
    isplitl [Hf7]; · iexact Hf7
    ipureintro
    exact OInv_end ht3 hL10
  isplitl [Hf8]
  · iexists _
    isplitl [Hf8]; · iexact Hf8
    ipureintro
    exact OInv_end ht3 hL12
  isplitl [Hf9]; · iexists _; iexact Hf9
  iexists _; iexact Howe
end
end Cert.Kernel.Hand
-- ==== Proof.K.Cut.lean ====
module

public import proofs.«01_k».proof.Proof.K.Ring
public import Idealize.ShloMosaic.Lib.Ring.FamCut
public import Idealize.ShloMosaic.Lib.ViewIndex

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable {e : EltTy} (A : Memref sig .tc .hbm S24x122880x128 e) (R : Memref sig .tc .vmem S16x4096x128 e) (cell : Fin 16 → SemLoc sig) (N : ℕ)

/-- Two slots have no element in common. -/
theorem slot_disjoint (k k' : Fin 16) (h : k ≠ k') : Disjoint (slot R k).view.set (slot R k').view.set := by
  have e0 : ∀ k, (slot R k).view.set = (R.view.slice (Rect.unit ![k.val, 0, 0] S1x4096x128.size (inbK k))).set := fun k => View.set_reshape _ _
  rw [e0, e0]
  refine View.disjoint_slice (Rect.unit_disjoint (0 : Fin 3) ?_)
  have := fun h' => h (Fin.ext h')
  show k.val + 1 ≤ k'.val ∨ k'.val + 1 ≤ k.val
  omega

/-- What is left of the ring's buffer beside its slots, and of the cache beside the slots' read shares. -/
abbrev leftover (c : Dev nD) (fa : Buf (Elt F) (A.view.loc (c : Thread nD τ))) : sProp 𝕄 :=
  iprop((∃ f, R.view.loc (c : Thread nD τ) ↦[Ring.restOf fun k : Fin 16 => (slot R k).view.set]{fullShare} f)
    ∗ (A.view.loc (c : Thread nD τ) ↦[Finset.univ]{Transfers.shareDrop fullShare 16} fa))

/-- Sixteen free slots, part by part. -/
theorem free_eq (c : Dev nD) (fa : Buf (Elt F) (A.view.loc (c : Thread nD τ))) :
    (Ring.AtW (Φ A R cell N c fa) (fun _ => none) : sProp 𝕄)
      = iprop((bigSep Finset.univ fun k : Fin 16 => semVal ((c : Thread nD τ), cell k) 0)
        ∗ (bigSep Finset.univ fun k : Fin 16 => iprop(∃ f, (slot R k).view.loc (c : Thread nD τ) ↦[(slot R k).view.set]{fullShare} f))
        ∗ (bigSep Finset.univ fun k : Fin 16 => tok A c k Finset.univ fa)) := by
  exact (BI.bigSep_sep _ _ _).trans (congrArg _ (BI.bigSep_sep _ _ _))

/-- The counters at zero, the ring's buffer and the cache make sixteen free slots. -/
theorem ring_split (c : Dev nD) (fa : Buf (Elt F) (A.view.loc (c : Thread nD τ))) :
    iprop((bigSep Finset.univ fun k : Fin 16 => semVal ((c : Thread nD τ), cell k) 0)
      ∗ (∃ f, R.view.loc (c : Thread nD τ) ↦{fullShare} f) ∗ (A.view.loc (c : Thread nD τ) ↦{fullShare} fa))
    ⊢ (iprop(Ring.AtW (Φ A R cell N c fa) (fun _ => none) ∗ leftover A R c fa) : sProp 𝕄) := by
  iintro ⟨Hs, HR, HA⟩
  ihave HR2 := Ring.fam_split_ex (fun k : Fin 16 => (slot R k).view.set) (slot_disjoint R) $$ HR
  ihave HA2 := Transfers.pointsTo_toks_split fullShare 16 $$ HA
  icases HR2 with ⟨HR, Hr⟩
  icases HA2 with ⟨Hd, HA⟩
  isplitl [Hs HR HA]
  · rw [free_eq]
    isplitl [Hs]; · iexact Hs
    isplitl [HR]; · iexact HR
    iexact HA
  · isplitl [Hr]; · iexact Hr
    iexact Hd

/-- And sixteen free slots make them again. -/
theorem ring_join (c : Dev nD) (fa : Buf (Elt F) (A.view.loc (c : Thread nD τ))) (f₀ : Buf (Elt F) (R.view.loc (c : Thread nD τ))) :
    (iprop(Ring.AtW (Φ A R cell N c fa) (fun _ => none) ∗ leftover A R c fa) : sProp 𝕄)
    ⊢ iprop((bigSep Finset.univ fun k : Fin 16 => semVal ((c : Thread nD τ), cell k) 0)
      ∗ (∃ f, R.view.loc (c : Thread nD τ) ↦{fullShare} f) ∗ (A.view.loc (c : Thread nD τ) ↦{fullShare} fa)) := by
  rw [free_eq]
  iintro ⟨⟨Hs, HR, HA⟩, Hr, Hd⟩
  isplitl [Hs]; · iexact Hs
  isplitl [HR Hr]
  · iapply Ring.fam_join (fun k : Fin 16 => (slot R k).view.set) (slot_disjoint R) f₀
    isplitl [HR]; · iexact HR
    iexact Hr
  · iapply Transfers.pointsTo_toks_join fullShare 16
    isplitl [Hd]; · iexact Hd
    iexact HA
end

end Cert.Kernel.Hand

end
-- ==== Proof.K.Launch.lean ====
module

public import proofs.«01_k».proof.Proof.K.Body
public import proofs.«01_k».proof.Proof.K.Cut

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the region leaves in the results -/

/-- The array whose row `b` holds the four groups `P b`. -/
def rows {e : EltTy} (P : ℕ → Fin 4 → Vec F S1x8x128 e) : Vec F S24x32x128 e := fun i =>
  P (i 0).val ⟨(i 1).val / 8, by have h : (i 1).val < 32 := (i 1).isLt; omega⟩ (ix3 0 ⟨(i 1).val % 8, Nat.mod_lt _ (by decide)⟩ ⟨(i 2).val, (i 2).isLt⟩)

/-- With all 24 rows stored the result is that array. -/
theorem OInv.full {e : EltTy} {M : Memref sig .tc .vmem S24x32x128 e} {f : M.view.ty.Contents (Elt F)} {P : ℕ → Fin 4 → Vec F S1x8x128 e}
    (h : OInv M f 24 P) : View.read (Elt F) M.view f = rows P := by
  funext i
  have hb : (i 0).val < 24 := (i 0).isLt
  have hi : (i 1).val < 32 := (i 1).isLt
  refine Eq.trans (congrArg (View.read (Elt F) M.view f) ?_)
    (h (i 0).val hb hb ⟨(i 1).val / 8, by omega⟩ (ix3 0 ⟨(i 1).val % 8, Nat.mod_lt _ (by decide)⟩ ⟨(i 2).val, (i 2).isLt⟩))
  funext a; fin_cases a
  · rfl
  · exact Fin.ext (Nat.div_add_mod (i 1).val 8).symm
  · rfl

/-- A load of a whole array is its contents. -/
theorem readAt_full {e : EltTy} (M : Memref sig .tc .vmem S24x4x128 e) (f : M.view.ty.Contents (Elt F)) :
    View.readAt (Elt F) M.view (Rect.unit (s := S24x4x128) ![0, 0, 0] S24x4x128.size inb_S24x4x128_S24x4x128_0_0_0).toLoadRect f = View.read (Elt F) M.view f := by
  funext x
  refine congrArg (View.read (Elt F) M.view f) ?_
  funext a; fin_cases a <;> exact Fin.ext (by show 0 + 1 * (x _).val = (x _).val; omega)

/-- A store of a whole array leaves what it stored. -/
theorem read_full {e : EltTy} (M : Memref sig .tc .vmem S24x4x128 e) (f : M.view.ty.Contents (Elt F)) (w : Vec F S24x4x128 e) :
    View.read (Elt F) M.view (M.view.writes (Elt F) f [⟨Rect.unit (s := S24x4x128) ![0, 0, 0] S24x4x128.size inb_S24x4x128_S24x4x128_0_0_0, w⟩]) = w := by
  funext y
  exact View.read_writes_cons_unit_of_mem (v := M.view) (f := f) (off := ![0, 0, 0]) (size := S24x4x128.size) inb_S24x4x128_S24x4x128_0_0_0 w [] y y rfl
    (fun a => by fin_cases a <;> exact (Nat.zero_add _).symm)

/-- The inputs of the region on core `c`. -/
def ins (c : Dev nD) : Ins F :=
  ⟨iblk m c 1 t0_0, iblk m c 2 t0_0, iblk m c 3 t0_0, iblk m c 4 t0_0, V m c main_v3, V m c main_v4,
    fun b => iblk m c 0 t0_0 (ix1 ⟨min b 23, by show _ < 24; omega⟩)⟩

/-- The three results: the attention over the cache and the new row, the part of the cache alone, the new row's codes. -/
def res5 (c : Dev nD) : Vec F S24x32x128 .bf16 := rows fun b => (ins m c).out7 masks b
def res6 (c : Dev nD) : Vec F S24x32x128 .f32 := rows fun b => (ins m c).out8 masks b
def res7 (c : Dev nD) : Vec F S24x4x128 .fp8e4m3 := k0_pay293 (ins m c).vn (ins m c).vs

/-! ## The semaphores and the caches of the body's own copies -/

/-- The semaphores of the two rings. -/
abbrev osem0 : Fin 16 ⊕ Fin 16 → SemLoc sig := Sum.elim kcell vcell
theorem ownSemFacts0 : Pipeline.OwnSemFacts spec0 osem0 := by decide
theorem ownSems00_eq (c : Dev nD) :
    (Pipeline.ownSems0 (Ix := Unit) (Name := ℕ) (U := UU nD τ) (Lvl := ℕ) (Val := Elt F) (τ := τ) osem0 c : sProp 𝕄)
      = iprop((bigSep Finset.univ fun k : Fin 16 => semVal ((c : Thread nD τ), kcell k) 0) ∗ (bigSep Finset.univ fun k : Fin 16 => semVal ((c : Thread nD τ), vcell k) 0)) :=
  BI.bigSep_univ_sum _
/-- The caches, which the body's own copies read. -/
def H0 : Finset (Ref sig .tc) := {main_v3, main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v3) ↦{fullShare} V m c main_v3) ∗ (((c : Thread nD τ).loc main_v4) ↦{fullShare} V m c main_v4)) := by
  rw [BI.bigSep_eq_bigSepL_of_eq [main_v3, main_v4] (by decide) (by decide)]; rfl

/-! ## The region's proof data -/

/-- What the region is proved over: the windows' blocks, what the body leaves in the results, and what it keeps. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res5 m c
    | ⟨6, _⟩ => res6 m c
    | ⟨7, _⟩ => res7 m c
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0 (c : Dev nD) (t) : (dats m 0 c).after 0 t = iblk m c 0 t := by dsimp only [dats]
theorem after1 (c : Dev nD) (t) : (dats m 0 c).after 1 t = iblk m c 1 t := by dsimp only [dats]
theorem after2 (c : Dev nD) (t) : (dats m 0 c).after 2 t = iblk m c 2 t := by dsimp only [dats]
theorem after3 (c : Dev nD) (t) : (dats m 0 c).after 3 t = iblk m c 3 t := by dsimp only [dats]
theorem after4 (c : Dev nD) (t) : (dats m 0 c).after 4 t = iblk m c 4 t := by dsimp only [dats]
theorem after5 (c : Dev nD) (t) : (dats m 0 c).after 5 t = res5 m c := by dsimp only [dats]
theorem after6 (c : Dev nD) (t) : (dats m 0 c).after 6 t = res6 m c := by dsimp only [dats]
theorem after7 (c : Dev nD) (t) : (dats m 0 c).after 7 t = res7 m c := by dsimp only [dats]

theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- No length the kernel is given is above 30720. -/
abbrev AllFit : Prop := ∀ (c : Dev nD) (i : S24.Idx), (BitVec.toNat (w := 32) (m ((c : Thread nD τ).loc main_arg6) i)) ≤ 30720

theorem lens_le (hm : AllFit m) (c : Dev nD) (i : S24.Idx) : (BitVec.toNat (w := 32) (iblk m c 0 t0_0 i)) ≤ 30720 := by
  have h : ∀ j : S24.Idx, (BitVec.toNat (w := 32) (V m c main_arg6 j)) ≤ 30720 := by rw [V_main_arg6]; exact hm c
  exact h _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 3000000 in
/-- The body at the one grid point: it leaves the three results, and everything else as it was. -/
theorem sound_body (hm : AllFit m) (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before0, before1, before2, before3, before4, after0, after1, after2, after3, after4, after5, after6, after7]
  rw [show (dats m 0 c).Φ (Fin.succ t0_0) = (dats m 0 c).Φ (Fin.castSucc t0_0) from rfl]
  rw [show (dats m 0 c).Φ (Fin.castSucc t0_0) = Pipeline.ΦD osem0 spec0 H0 (V m) c from rfl, Pipeline.ΦD_eq, scopedRest0_eq, ownSems00_eq, hbmPts0_eq]
  unfold Dat.owesAt Pipeline.owesWithin
  rw [show (dats m 0 c).owed (Fin.castSucc t0_0) = 0 from rfl, show (dats m 0 c).owed (Fin.succ t0_0) = 0 from rfl]
  unfold owns
  iintro ⟨⟨⟨HR0, HR1, HR2⟩, Hg, ⟨Hq0, Hq1⟩, ⟨Hh0, Hh1⟩⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩,
    ⟨%d5, %g5, -, H5⟩, ⟨%d6, %g6, -, H6⟩, ⟨%d7, %g7, -, H7⟩⟩
  icases HR0 with ⟨%r0, HR0⟩
  icases HR1 with ⟨%r1, HR1⟩
  ihave Hk := ring_split kA kR kcell 32768 c (V m c main_v3) $$ [Hq0 HR0 Hh0]
  · isplitl [Hq0]; · iexact Hq0
    isplitl [HR0]; · iexists r0; iexact HR0
    iexact Hh0
  ihave Hv := ring_split vA vR vcell 16384 c (V m c main_v4) $$ [Hq1 HR1 Hh1]
  · isplitl [Hq1]; · iexact Hq1
    isplitl [HR1]; · iexists r1; iexact HR1
    iexact Hh1
  icases Hk with ⟨Hk, Hlk⟩
  icases Hv with ⟨Hv, Hlv⟩
  have hlen : len c g0 = (ins m c).ln := by
    funext b
    exact congrFun e0 _
  have hfl : Fits c g0 := fun b => by rw [hlen]; exact lens_le m hm c _
  have hins : insOf (st0_1 t0_0) (st0_2 t0_0) (st0_3 t0_0) (st0_4 t0_0) c g0 g1 g2 g3 g4 (V m c main_v3) (V m c main_v4) = ins m c := by
    unfold insOf
    rw [e1, e2, e3, e4, hlen]
    rfl
  have hset : (st0_0 t0_0).view.set = Finset.univ := (hstage0_0 0).set_eq_univ
  rw [hset]
  iapply (body_run (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0)
    c g0 (V m c main_v3) (V m c main_v4) hfl g1 g2 g3 g4 W _)
  isplitl [H0]; · iexact H0
  isplitl [H1]; · iexact H1
  isplitl [H2]; · iexact H2
  isplitl [H3]; · iexact H3
  isplitl [H4]; · iexact H4
  isplitl [Hk]; · iexact Hk
  isplitl [Hv]; · iexact Hv
  isplitl [HR2]; · iexact HR2
  isplitl [H5]; · iexists g5; iexact H5
  isplitl [H6]; · iexists g6; iexact H6
  isplitl [H7]; · iexists g7; iexact H7
  isplitl [HW]; · iexact HW
  iintro ⟨H0, H1, H2, H3, H4, Hk, Hv, HR2, ⟨%f5, H5, %h5⟩, ⟨%f6, H6, %h6⟩, ⟨%f7, H7⟩, ⟨%W', HW'⟩⟩
  rw [hins] at h5 h6
  ihave Hk2 := ring_join kA kR kcell 32768 c (V m c main_v3) r0 $$ [Hk Hlk]
  · isplitl [Hk]; · iexact Hk
    iexact Hlk
  ihave Hv2 := ring_join vA vR vcell 16384 c (V m c main_v4) r1 $$ [Hv Hlv]
  · isplitl [Hv]; · iexact Hv
    iexact Hlv
  icases Hk2 with ⟨Hq0, HR0, Hh0⟩
  icases Hv2 with ⟨Hq1, HR1, Hh1⟩
  isplitl [HR0 HR1 HR2 Hg Hq0 Hq1 Hh0 Hh1]
  · isplitl [HR0 HR1 HR2]
    · isplitl [HR0]; · iexact HR0
      isplitl [HR1]; · iexact HR1
      iexact HR2
    isplitl [Hg]; · iexact Hg
    isplitl [Hq0 Hq1]
    · isplitl [Hq0]; · iexact Hq0
      iexact Hq1
    isplitl [Hh0]; · iexact Hh0
    iexact Hh1
  isplitl [HW']
  · iexists W'
    isplitr
    · ipureintro; exact fun _ _ => Or.inl trivial
    iexact HW'
  isplitl [H0]
  · iexists g0; isplitr
    · ipureintro; exact e0
    iexact H0
  isplitl [H1]
  · iexists g1; isplitr
    · ipureintro; exact e1
    iexact H1
  isplitl [H2]
  · iexists g2; isplitr
    · ipureintro; exact e2
    iexact H2
  isplitl [H3]
  · iexists g3; isplitr
    · ipureintro; exact e3
    iexact H3
  isplitl [H4]
  · iexists g4; isplitr
    · ipureintro; exact e4
    iexact H4
  isplitl [H5]
  · iexists f5; isplitr
    · ipureintro; exact h5.full
    iexact H5
  isplitl [H6]
  · iexists f6; isplitr
    · ipureintro; exact h6.full
    iexact H6
  iexists _; isplitr
  swap
  · iexact H7
  · ipureintro
    refine (read_full _ _ _).trans ?_
    rw [readAt_full, readAt_full, e3, e4]
    rfl

theorem defs₀_row (t : Fin cfg0.N) :
    defs₀ (F := F) .tc cfg0.body (cfg0.bodyArgs t (cfg0.slots t)) = bodyAt0 t := by
  unfold defs₀; rw [Defs.onTc_tc]

theorem body_obligation (hm : AllFit m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run -/

set_option maxHeartbeats 800000 in
/-- The program around the region: the host lines before it, the region, the host lines after it. -/
theorem hmain' : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem sfx_sub' : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  simp only [H0, Finset.mem_insert, Finset.mem_singleton] at hb
  simp only [hostOps1, List.mem_cons, List.mem_nil_iff, or_false] at hop
  rcases hb with rfl | rfl <;> rcases hop with rfl | rfl | rfl <;> simp only [StableHlo.reshape_bufs, Finset.mem_insert, Finset.mem_singleton, not_or] <;> exact ⟨StableHlo.devRef_ne_of_ne (by decide), StableHlo.devRef_ne_of_ne (by decide)⟩

set_option backward.isDefEq.respectTransparency.types false in
/-- The program runs to its end, every window's array at what the region left and every other buffer at what the last host lines made of it. -/
theorem run_main (hm : AllFit m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hm c).loose) (hshare := fun c => (dats m 0 c).share_full fun _ => rfl)
    (howed := fun _ _ => rfl) (V₀ := V0 m) (opss := [hostOps1]) (hsub := sfx_sub') (hfresh := sfx_fresh) (hkeep := sfx_keeps)
    (hmain := hmain' m) (hA := A_eq m) (hin := fun _ => .rfl) (hout := fun _ => .rfl)

end Cert.Kernel.Hand

end
-- ==== Proof.K.Post.lean ====
module

public import proofs.«01_k».proof.Proof.K.Launch
public import Idealize.ShloMosaic.Lib.StableHlo.Run
public import Idealize.ShloMosaic.Lib.Pipeline.FrameSuffix
public import Idealize.ShloMosaic.Lib.Pipeline.Value
public import Idealize.ShloMosaic.Lib.Pipeline.ValueKit
public import Idealize.ShloMosaic.Lib.Claim

@[expose] public section

set_option maxRecDepth 16384

noncomputable section

namespace Cert.Kernel.Hand

open Cert.Kernel Cert.Kernel.Gen Cert.Schedule
open Idealize.ShloMosaic Idealize.ShloMosaic.TcCoe Idealize.ShloMosaic.Tactic
open Idealize.SL Idealize.SL.Sem Idealize.ShloMosaic.StableHlo
open Idealize.ShloMosaic.Pipeline (Dat Cfg Window BodyObligation)

variable {F : FTy → Type} [FloatOps F]

variable (m : (ℓ : Loc nD τ sig) → Buf (Elt F) ℓ) (ρ : Dev nD → PrngReg)

/-! ## The results after the last host lines -/

theorem arr5 (c : Dev nD) : (dats m 0 c).arrAt 5 cfg0.N = res5 m c := by
  refine (dats m 0 c).arrAt_eq_of_after_last 5 t0_0 (by decide +kernel) _ fun j => ?_
  blk_simp
  rw [after5]
theorem arr6 (c : Dev nD) : (dats m 0 c).arrAt 6 cfg0.N = res6 m c := by
  refine (dats m 0 c).arrAt_eq_of_after_last 6 t0_0 (by decide +kernel) _ fun j => ?_
  blk_simp
  rw [after6]
theorem arr7 (c : Dev nD) : (dats m 0 c).arrAt 7 cfg0.N = res7 m c := by
  refine (dats m 0 c).arrAt_eq_of_after_last 7 t0_0 (by decide +kernel) _ fun j => ?_
  blk_simp
  rw [after7]

/-- The contents when the region is left. -/
abbrev exitV (c : Dev nD) : Valuation τ sig (Elt F) :=
  Pipeline.withArrays spec0 c (Gen.V0 m c) fun w => (dats m 0 c).arrAt w cfg0.N

theorem tail_main_v6 (V0 : Valuation τ sig (Elt F)) :
    after (List.flatten [Gen.hostOps1]) V0 (Proc.devRef .tc main_v6) = shapeCast _ (V0 (Proc.devRef .tc main_v5_0)) shapeCasts_S24x32x128_S24x1x4096 := by
  simp only [Gen.hostOps1, List.flatten_cons, List.flatten_nil, List.append_nil, List.cons_append, List.nil_append]
  after_results <;> rfl
theorem tail_main_v7 (V0 : Valuation τ sig (Elt F)) :
    after (List.flatten [Gen.hostOps1]) V0 (Proc.devRef .tc main_v7) = shapeCast _ (V0 (Proc.devRef .tc main_v5_1)) shapeCasts_S24x32x128_S24x1x4096 := by
  simp only [Gen.hostOps1, List.flatten_cons, List.flatten_nil, List.append_nil, List.cons_append, List.nil_append]
  after_results <;> rfl
theorem tail_main_v8 (V0 : Valuation τ sig (Elt F)) :
    after (List.flatten [Gen.hostOps1]) V0 (Proc.devRef .tc main_v8) = shapeCast _ (V0 (Proc.devRef .tc main_v5_2)) shapeCasts_S24x4x128_S24x1x4x128 := by
  simp only [Gen.hostOps1, List.flatten_cons, List.flatten_nil, List.append_nil, List.cons_append, List.nil_append]
  after_results <;> rfl

theorem fin_main_v6 (c : Dev nD) : Pipeline.afterTail₀ cfgs (dats m) 0 (Gen.V0 m) [Gen.hostOps1] c main_v6 = shapeCast _ (res5 m c) shapeCasts_S24x32x128_S24x1x4096 :=
  (tail_main_v6 (exitV m c)).trans (by rw [show exitV m c (Proc.devRef .tc main_v5_0) = res5 m c from (Pipeline.withArrays_arr spec0 Gen.launch0.win.arr_inj c (Gen.V0 m c) _ 5).trans (arr5 m c)])
theorem fin_main_v7 (c : Dev nD) : Pipeline.afterTail₀ cfgs (dats m) 0 (Gen.V0 m) [Gen.hostOps1] c main_v7 = shapeCast _ (res6 m c) shapeCasts_S24x32x128_S24x1x4096 :=
  (tail_main_v7 (exitV m c)).trans (by rw [show exitV m c (Proc.devRef .tc main_v5_1) = res6 m c from (Pipeline.withArrays_arr spec0 Gen.launch0.win.arr_inj c (Gen.V0 m c) _ 6).trans (arr6 m c)])
theorem fin_main_v8 (c : Dev nD) : Pipeline.afterTail₀ cfgs (dats m) 0 (Gen.V0 m) [Gen.hostOps1] c main_v8 = shapeCast _ (res7 m c) shapeCasts_S24x4x128_S24x1x4x128 :=
  (tail_main_v8 (exitV m c)).trans (by rw [show exitV m c (Proc.devRef .tc main_v5_2) = res7 m c from (Pipeline.withArrays_arr spec0 Gen.launch0.win.arr_inj c (Gen.V0 m c) _ 7).trans (arr7 m c)])

/-- A buffer that no window stages and no host line writes ends as launched. -/
theorem tail_keeps (c : Dev nD) (b : Ref sig .tc) (hw : ∀ w, Pipeline.arrRef spec0 w ≠ b) (h6 : b ≠ main_v6) (h7 : b ≠ main_v7) (h8 : b ≠ main_v8)
    (hV : V m c b = m ((c : Thread nD τ).loc b)) :
    Pipeline.afterTail₀ cfgs (dats m) 0 (Gen.V0 m) [Gen.hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact ⟨StableHlo.devRef_ne_of_ne h6, StableHlo.devRef_ne_of_ne h7, StableHlo.devRef_ne_of_ne h8⟩)),
    Pipeline.withArrays_of_ne _ c (V0 m c) _ b hw]
  exact hV

/-- The program runs to its end: each result is the region's, reshaped; the arguments are unchanged; every counter is back at zero. -/
theorem run (hm : AllFit m) : θ_run defs (onTc (τ := τ) (main (F := F))) ⟨m, fun _ => 0, ρ⟩ (fun r => (∀ c : Dev nD,
      (r.2.mem ((c.tc : Thread nD τ).loc main_v6) = shapeCast _ (res5 m c) shapeCasts_S24x32x128_S24x1x4096
      ∧ r.2.mem ((c.tc : Thread nD τ).loc main_v7) = shapeCast _ (res6 m c) shapeCasts_S24x32x128_S24x1x4096
      ∧ r.2.mem ((c.tc : Thread nD τ).loc main_v8) = shapeCast _ (res7 m c) shapeCasts_S24x4x128_S24x1x4x128)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
      ∧ r.2.sem = fun _ => 0) :=
  (θ_run defs _ _).mono (fun _ h => ⟨fun c =>
    ⟨⟨((h.1 c).2 main_v6 (Pipeline.mem_restRefs_of main_v6 (by decide) (by decide))).trans (fin_main_v6 m c),
      ((h.1 c).2 main_v7 (Pipeline.mem_restRefs_of main_v7 (by decide) (by decide))).trans (fin_main_v7 m c),
      ((h.1 c).2 main_v8 (Pipeline.mem_restRefs_of main_v8 (by decide) (by decide))).trans (fin_main_v8 m c)⟩,
      ((h.1 c).2 main_arg0 (Pipeline.mem_restRefs_of main_arg0 (by decide) (by decide))).trans (tail_keeps m c main_arg0 (by decide) (by decide) (by decide) (by decide) (V_main_arg0 m c)),
      ((h.1 c).2 main_arg1 (Pipeline.mem_restRefs_of main_arg1 (by decide) (by decide))).trans (tail_keeps m c main_arg1 (by decide) (by decide) (by decide) (by decide) (V_main_arg1 m c)),
      ((h.1 c).2 main_arg2 (Pipeline.mem_restRefs_of main_arg2 (by decide) (by decide))).trans (tail_keeps m c main_arg2 (by decide) (by decide) (by decide) (by decide) (V_main_arg2 m c)),
      ((h.1 c).2 main_arg3 (Pipeline.mem_restRefs_of main_arg3 (by decide) (by decide))).trans (tail_keeps m c main_arg3 (by decide) (by decide) (by decide) (by decide) (V_main_arg3 m c)),
      ((h.1 c).2 main_arg4 (Pipeline.mem_restRefs_of main_arg4 (by decide) (by decide))).trans (tail_keeps m c main_arg4 (by decide) (by decide) (by decide) (by decide) (V_main_arg4 m c)),
      ((h.1 c).1 4).trans (((dats m 0 c).arrAt_in 4 rfl _).trans ((A_eq m c 4).trans (V_main_arg5 m c))),
      ((h.1 c).1 0).trans (((dats m 0 c).arrAt_in 0 rfl _).trans ((A_eq m c 0).trans (V_main_arg6 m c)))⟩, h.2⟩) (run_main m ρ hm)

end Cert.Kernel.Hand

end
-- ==== Proof.KI.Ring.lean ====
module

public import proofs.«01_k».proof.Proof.Gen.KernelIdeal.Frame
public import proofs.«01_k».proof.Proof.Gen.KernelIdeal.Loops
public import proofs.«01_k».proof.Proof.Schedule
public import Idealize.ShloMosaic.Lib.LoopRemainder
public import Idealize.ShloMosaic.Lib.Tactic.Disch

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline's beside the counters of the copies in flight. -/
abbrev UU (nD : Nat) (τ : Topo) : Type := Pipeline.UD sig nD τ
local notation "𝕄" => MT nD τ sig Unit (Elt F) ℕ (UU nD τ) ℕ
abbrev 𝒱₀ : Variants := Variants.none

/-! ## The checks of the words that name a chunk and a slot -/

theorem toInt_ofNat (n : ℕ) (h : n < 2000) : (BitVec.ofNat 32 n).toInt = n := by
  rw [BitVec.toInt_eq_toNat_of_lt (by rw [BitVec.toNat_ofNat]; omega), BitVec.toNat_ofNat]; omega

/-- The offsets of a chunk of a live sequence are in bounds, and its rows are whole words at either width. -/
theorem chunk_in (b i : BitVec 32) (h : k0_cond1 b = 1#1) (hb : 0 ≤ b.toInt) (hi : 0 ≤ i.toInt) (hi' : i.toInt < 30) :
    4096 ∣ (k0_mult1 i).toNat ∧ ∀ a, (k0_off3 b i) a + S1x4096x128.size a ≤ S24x122880x128.size a := by
  have hm : (k0_mult1 i).toNat = i.toNat * 4096 := by
    show (i * 4096#32).toNat = _
    rw [BitVec.toNat_mul]
    have := i.isLt
    rw [BitVec.toInt_eq_toNat_cond] at hi hi'
    show i.toNat * 4096 % 2 ^ 32 = _
    split at hi <;> split at hi' <;> omega
  refine ⟨hm ▸ Dvd.intro_left _ rfl, ?_⟩
  have hb' : b.toNat < 24 := by
    by_contra hc
    have e : b.slt 24#32 = false := by
      rw [BitVec.slt, show (24#32 : BitVec 32).toInt = 24 by decide]
      have := b.isLt
      rw [BitVec.toInt_eq_toNat_cond] at hb ⊢
      split at hb <;> simp_all <;> omega
    have e' : k0_cond1 b = Scalar.cmpi .ne (Scalar.extui (BitVec.ofBool (b.slt 24#32)) : BitVec 32) 0#32 := rfl
    rw [e', e] at h
    exact absurd h (by decide)
  have hi2 : i.toNat < 30 := by
    rw [BitVec.toInt_eq_toNat_cond] at hi hi'
    have := i.isLt
    split at hi <;> split at hi' <;> omega
  intro a; fin_cases a
  · show b.toNat + 1 ≤ 24; omega
  · show (k0_mult1 i).toNat + 4096 ≤ 122880; omega
  · show 0 + 128 ≤ 128; omega

theorem chunk_words (p : ℕ) (hp : p ∣ 4096) (b i : BitVec 32) (h : 4096 ∣ (k0_mult1 i).toNat) (hinb : ∀ a, (k0_off3 b i) a + S1x4096x128.size a ≤ S24x122880x128.size a) :
    (Rect.unit (s := S24x122880x128) (k0_off3 b i) S1x4096x128.size hinb).WholeWords p := by
  refine .inl (.inr ⟨by decide, rfl, .inl ⟨?_, ?_⟩⟩)
  · show p ∣ (k0_mult1 i).toNat; exact hp.trans h
  · show p ∣ 4096; exact hp

theorem chk1 (b i : BitVec 32) (hb : 0 ≤ b.toInt) (hi : 0 ≤ i.toInt) (hi' : i.toInt < 30) : k0_chk1 b i :=
  ⟨fun h => (chunk_in b i h hb hi hi').1, fun h => (chunk_in b i h hb hi hi').2, fun h hinb => chunk_words _ (by decide) b i (chunk_in b i h hb hi hi').1 hinb⟩
theorem chk4 (b i : BitVec 32) (hb : 0 ≤ b.toInt) (hi : 0 ≤ i.toInt) (hi' : i.toInt < 30) : k0_chk4 b i :=
  ⟨fun h => (chunk_in b i h hb hi hi').1, fun h => (chunk_in b i h hb hi hi').2, fun h hinb => chunk_words _ (by decide) b i (chunk_in b i h hb hi hi').1 hinb⟩
theorem chk5 (b i : BitVec 32) (hi : 0 ≤ i.toInt) (hi' : i.toInt < 16) : k0_chk5 b i := by
  sl_disch
theorem chk2 (b i : BitVec 32) (hi : 0 ≤ i.toInt) (hi' : i.toInt < 16) : k0_chk2 b i := by
  sl_disch
theorem chk3 (b : BitVec 32) (hb : 0 ≤ b.toInt) (hb' : b.toInt < 2000) : k0_chk3 b := by
  sl_disch

/-! ## A ring of sixteen slots -/

theorem inbK (k : Fin 16) : ∀ a, (![k.val, 0, 0] : Fin 3 → Nat) a + S1x4096x128.size a ≤ S16x4096x128.size a := by
  have := k.isLt; intro a; fin_cases a
  · show k.val + 1 ≤ 16; omega
  · show 0 + 4096 ≤ 4096; omega
  · show 0 + 128 ≤ 128; omega

section Ring
variable {e : EltTy} (A : Memref sig .tc .hbm S24x122880x128 e) (R : Memref sig .tc .vmem S16x4096x128 e) (cell : Fin 16 → SemLoc sig) (N : ℕ)

/-- Slot `k` of the ring. -/
def slot (k : Fin 16) : Memref sig .tc .vmem S4096x128 e :=
  (R.slice (Rect.unit ![k.val, 0, 0] S1x4096x128.size (inbK k)) (fun _ => rfl)).squeeze S4096x128 squeezes_S1x4096x128_S4096x128
/-- The 4096 rows of the cache from the offsets `off`. -/
abbrev blk (off : Fin 3 → Nat) (h : ∀ a, off a + S1x4096x128.size a ≤ S24x122880x128.size a) : Memref sig .tc .hbm S4096x128 e :=
  (A.slice (Rect.unit off S1x4096x128.size h) (fun _ => rfl)).squeeze S4096x128 squeezes_S1x4096x128_S4096x128
/-- Slot `k`'s read share of the cache, on the elements `S`. -/
abbrev tok (c : Dev nD) (k : Fin 16) (S : Finset (Idx (A.view.loc (c : Thread nD τ)))) (fa : Buf (Elt F) (A.view.loc (c : Thread nD τ))) : sProp 𝕄 :=
  A.view.loc (c : Thread nD τ) ↦[S]{Transfers.shareTok fullShare 16 k} fa
/-- Slot `k` free. -/
abbrev free (c : Dev nD) (fa : Buf (Elt F) (A.view.loc (c : Thread nD τ))) (k : Fin 16) : sProp 𝕄 :=
  iprop(semVal ((c : Thread nD τ), cell k) 0 ∗ (∃ f, (slot R k).view.loc (c : Thread nD τ) ↦[(slot R k).view.set]{fullShare} f) ∗ tok A c k Finset.univ fa)
/-- Slot `k` being filled with chunk `q.2` of sequence `q.1`. -/
abbrev inflight (c : Dev nD) (fa : Buf (Elt F) (A.view.loc (c : Thread nD τ))) (k : Fin 16) (q : ℕ × ℕ) : sProp 𝕄 :=
  iprop(∃ off, ∃ h, ⌜off = ![q.1, q.2 * 4096, 0]⌝ ∗ (∃ f, Transfers.Flight (countersEmb (U := UU nD τ)) (c : Thread nD τ) (cell k) () N
            iprop(((slot R k).view.loc (c : Thread nD τ) ↦[(slot R k).view.set]{fullShare}
                    (slot R k).view.writes (Elt F) f [⟨Rect.whole S4096x128, ReadAs.same.apply ((blk A off h).view.read (Elt F) fa)⟩])
              ∗ tok A c k (blk A off h).view.set fa))
    ∗ tok A c k (Finset.univ \ (blk A off h).view.set) fa)
/-- Slot `k` in its state: free, or being filled. -/
abbrev Φ (c : Dev nD) (fa : Buf (Elt F) (A.view.loc (c : Thread nD τ))) (k : Fin 16) : Option (ℕ × ℕ) → sProp 𝕄
  | none => free A R cell c fa k
  | some q => inflight A R cell N c fa k q
end Ring

/-- The caches, the two rings and the lengths as the kernel is given them. -/
abbrev kA : Memref sig .tc .hbm S24x122880x128 .bf16 := Memref.whole main_v3
abbrev vA : Memref sig .tc .hbm S24x122880x128 .fp8e4m3 := Memref.whole main_v4
abbrev kR : Memref sig .tc .vmem S16x4096x128 .bf16 := Memref.whole cc0_scratch0
abbrev vR : Memref sig .tc .vmem S16x4096x128 .fp8e4m3 := Memref.whole cc0_scratch1
theorem inbC (k : Fin 16) : ∀ a, (![k.val] : Fin 1 → Nat) a + S1.size a ≤ S16.size a := by
  have := k.isLt; intro a; fin_cases a; show k.val + 1 ≤ 16; omega
/-- The semaphore of slot `k`, of the sixteen `C`. -/
abbrev cellOf (C : DmaSems sig S16) (k : Fin 16) : SemLoc sig :=
  SemLoc.dma ((C.slice (Rect.unit ![k.val] S1.size (inbC k))).squeeze S_ squeezes_S1_S_).sem
abbrev kcell (k : Fin 16) : SemLoc sig := cellOf cc0_scratch3 k
abbrev vcell (k : Fin 16) : SemLoc sig := cellOf cc0_scratch4 k
abbrev lenM : Memref sig .tc .smem S24 .i32 := Memref.whole cc0_stg0_0

/-- The length of sequence `b`, a sequence past the last counted as the last. -/
def len (c : Dev nD) (fl : Buf (Elt F) (lenM.view.loc (c : Thread nD τ))) (b : ℕ) : BitVec 32 :=
  fl (ix1 ⟨min b 23, by show _ < 24; omega⟩)
/-- The number of chunks of sequence `b`. -/
def nch (c : Dev nD) (fl : Buf (Elt F) (lenM.view.loc (c : Thread nD τ))) (b : ℕ) : ℕ := chunks (len c fl b).toNat

theorem one_le_nch (c : Dev nD) (fl : Buf (Elt F) (lenM.view.loc (c : Thread nD τ))) (b : ℕ) : 1 ≤ nch c fl b := one_le_chunks _
theorem nch_min (c : Dev nD) (fl : Buf (Elt F) (lenM.view.loc (c : Thread nD τ))) (b : ℕ) : nch c fl (min b 23) = nch c fl b := by
  unfold nch len; simp only [min_assoc, min_self]

/-- No length is above 30720. -/
abbrev Fits (c : Dev nD) (fl : Buf (Elt F) (lenM.view.loc (c : Thread nD τ))) : Prop := ∀ b, (len c fl b).toNat ≤ 30720

theorem nch_le {c : Dev nD} {fl : Buf (Elt F) (lenM.view.loc (c : Thread nD τ))} (h : Fits c fl) (b : ℕ) : nch c fl b ≤ 30 := chunks_le (h b)

/-- The words that name the chunk at position `p` and the slot it goes to. -/
def wordsAt (n : ℕ → ℕ) (p : ℕ) : BitVec 32 × BitVec 32 × BitVec 32 :=
  (BitVec.ofNat 32 (pos n p).1, BitVec.ofNat 32 (pos n p).2, BitVec.ofNat 32 (p % 16))

theorem live_iff (p : ℕ) (h : p < 2000) : k0_cond1 (BitVec.ofNat 32 p) = 1#1 ↔ p < 24 := by
  have hx := toInt_ofNat p h
  have hy : (24#32 : BitVec 32).toInt = 24 := by decide
  have e : (BitVec.ofNat 32 p).slt 24#32 = decide (p < 24) := by
    rw [BitVec.slt, hx, hy]; simp
  have e' : k0_cond1 (BitVec.ofNat 32 p) = Scalar.cmpi .ne (Scalar.extui (BitVec.ofBool ((BitVec.ofNat 32 p).slt 24#32)) : BitVec 32) 0#32 := rfl
  rw [e', e]
  by_cases hp : p < 24
  · simp only [hp, decide_true, iff_true]; decide
  · simp only [hp, decide_false, iff_false]; decide

theorem off4_eq (p : ℕ) (h : p < 2000) : k0_off4 (BitVec.ofNat 32 p) = ![min p 23] := by
  have hx := toInt_ofNat p h
  have e : Scalar.minsi (BitVec.ofNat 32 p) 23#32 = BitVec.ofNat 32 (min p 23) := by
    unfold Scalar.minsi IntOp.minsi
    rw [BitVec.slt, hx, show (23#32 : BitVec 32).toInt = 23 by decide]
    by_cases hp : p < 23
    · rw [min_eq_left (by omega)]; simp [hp]
    · rw [min_eq_right (by omega)]; simp [hp]
  show ![(Scalar.minsi (BitVec.ofNat 32 p) 23#32).toNat] = _
  rw [e, BitVec.toNat_ofNat, Nat.mod_eq_of_lt (by omega)]

/-- The ring of the key chunks, and of the value chunks. -/
abbrev kΦ (c : Dev nD) (fk : Buf (Elt F) (kA.view.loc (c : Thread nD τ))) := Φ kA kR kcell 32768 c fk
abbrev vΦ (c : Dev nD) (fv : Buf (Elt F) (vA.view.loc (c : Thread nD τ))) := Φ vA vR vcell 16384 c fv

theorem load_len (c : Dev nD) (fl : Buf (Elt F) (lenM.view.loc (c : Thread nD τ))) (off : Fin 1 → ℕ) (h) (b : ℕ) (hb : off = ![min b 23])  (i) :
    View.readAt (Elt F) lenM.view (Rect.unit (s := S24) off S1.size h).toLoadRect fl i = len c fl b := by
  subst hb
  unfold len
  show fl _ = fl _
  congr 1
  funext a
  fin_cases a
  apply Fin.ext
  have h1 : (i 0).val < 1 := (i 0).isLt
  show min b 23 + 1 * (i 0).val = min b 23
  omega

/-- The three words after those of position `p`, as the kernel computes them. -/
theorem words_next (c : Dev nD) (fl : Buf (Elt F) (lenM.view.loc (c : Thread nD τ))) (hfl : Fits c fl) (p : ℕ) (hp : p < 900) (off : Fin 1 → ℕ) (h)
    (hb : off = ![min (pos (nch c fl) p).1 23]) (i) :
    (Scalar.select (Scalar.cmpi .sge (Scalar.addi (BitVec.ofNat 32 (pos (nch c fl) p).2) 1#32)
        (chunksW (View.readAt (Elt F) lenM.view (Rect.unit (s := S24) off S1.size h).toLoadRect fl i)))
        (Scalar.addi (BitVec.ofNat 32 (pos (nch c fl) p).1) 1#32) (BitVec.ofNat 32 (pos (nch c fl) p).1),
     Scalar.select (Scalar.cmpi .sge (Scalar.addi (BitVec.ofNat 32 (pos (nch c fl) p).2) 1#32)
        (chunksW (View.readAt (Elt F) lenM.view (Rect.unit (s := S24) off S1.size h).toLoadRect fl i))) 0#32
        (Scalar.addi (BitVec.ofNat 32 (pos (nch c fl) p).2) 1#32),
     Scalar.select (Scalar.cmpi .eq (Scalar.addi (BitVec.ofNat 32 (p % 16)) 1#32) 16#32) 0#32 (Scalar.addi (BitVec.ofNat 32 (p % 16)) 1#32))
    = wordsAt (nch c fl) (p + 1) := by
  have e : View.readAt (Elt F) lenM.view (Rect.unit (s := S24) off S1.size h).toLoadRect fl i = len c fl (pos (nch c fl) p).1 := load_len c fl off h _ hb i
  rw [e, chunksW_eq _ (hfl _), next_slot]
  have hi : (pos (nch c fl) p).2 < 30 := (pos_snd_lt (one_le_nch c fl) p).trans_le (nch_le hfl _)
  have hb : (pos (nch c fl) p).1 ≤ p := pos_fst_le p
  obtain ⟨e1, e2⟩ := next_words (nch c fl) (pos (nch c fl) p) (by omega) (by omega) (nch_le hfl _) _ rfl
  rw [nch_min] at e1 e2
  unfold nch at e1 e2 ⊢
  rw [e1, e2]
  rfl

/-- What a position says of its words. -/
theorem word_facts {c : Dev nD} {fl : Buf (Elt F) (lenM.view.loc (c : Thread nD τ))} (hfl : Fits c fl) (p : ℕ) (hp : p < 900) :
    (0 ≤ (BitVec.ofNat 32 (pos (nch c fl) p).1).toInt ∧ (BitVec.ofNat 32 (pos (nch c fl) p).1).toInt < 2000)
    ∧ (0 ≤ (BitVec.ofNat 32 (pos (nch c fl) p).2).toInt ∧ (BitVec.ofNat 32 (pos (nch c fl) p).2).toInt < 30)
    ∧ (0 ≤ (BitVec.ofNat 32 (p % 16)).toInt ∧ (BitVec.ofNat 32 (p % 16)).toInt < 16)
    ∧ (BitVec.ofNat 32 (p % 16)).toNat = p % 16 := by
  have hb : (pos (nch c fl) p).1 ≤ p := pos_fst_le p
  have hi : (pos (nch c fl) p).2 < 30 := (pos_snd_lt (one_le_nch c fl) p).trans_le (nch_le hfl _)
  refine ⟨⟨?_, ?_⟩, ⟨?_, ?_⟩, ⟨?_, ?_⟩, ?_⟩
  · rw [toInt_ofNat _ (by omega)]; omega
  · rw [toInt_ofNat _ (by omega)]; omega
  · rw [toInt_ofNat _ (by omega)]; omega
  · rw [toInt_ofNat _ (by omega)]; omega
  · rw [toInt_ofNat _ (by omega)]; omega
  · rw [toInt_ofNat _ (by omega)]; omega
  · rw [BitVec.toNat_ofNat]; omega

theorem off3_eq (b i : ℕ) (hb : b < 2000) (hi : i < 30) : k0_off3 (BitVec.ofNat 32 b) (BitVec.ofNat 32 i) = ![b, i * 4096, 0] := by
  show ![(BitVec.ofNat 32 b).toNat, (BitVec.ofNat 32 i * 4096#32).toNat, 0] = _
  rw [BitVec.toNat_mul, BitVec.toNat_ofNat, BitVec.toNat_ofNat, Nat.mod_eq_of_lt (by omega : b < 2^32), Nat.mod_eq_of_lt (by omega : i < 2^32)]
  congr 2
  show i * 4096 % 2^32 = _
  omega

end Cert.KernelIdeal.Hand
-- ==== Proof.KI.Prologue.lean ====
module

public import proofs.«01_k».proof.Proof.KI.Ring

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

/-- The loop that starts the first fifteen key copies: before trip `k` the words are those of position `k`, and the copies at the positions below `k` are started. -/
@[sl_loop, reducible] noncomputable def loopInv_k0_t1 (c : Dev nD) (fl : Buf (Elt F) (lenM.view.loc (c : Thread nD τ))) (fk : Buf (Elt F) (kA.view.loc (c : Thread nD τ))) (hfl : Fits c fl)  :
    Gen.LoopInvTy_k0_t1 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) (Memref.whole cc0_scratch2) (Memref.isWhole_whole _) cc0_scratch3 cc0_scratch4 (0#32, 0#32, 0#32) where
  inv := fun k acc => iprop(⌜acc = wordsAt (nch c fl) k⌝ ∗ (lenM.view.loc (c : Thread nD τ) ↦{fullShare} fl)
    ∗ Ring.AtW (kΦ c fk) (ringSt (nch c fl) 0 k))
  step := fun k acc => by
    have hk : k.val < 15 := k.isLt
    generalize hp : k.val = p at *
    obtain ⟨⟨hb0, hb1⟩, ⟨hi0, hi1⟩, ⟨hs0, hs1⟩, hsw⟩ := word_facts hfl p (by omega)
    have hc1 := chk1 _ _ hb0 hi0 hi1
    have hc2 := chk2 (BitVec.ofNat 32 (pos (nch c fl) p).1) _ hs0 hs1
    have hc3 := chk3 _ hb0 hb1
    have hpb := pos_fst_le (n := nch c fl) p
    have hpi := (pos_snd_lt (one_le_nch c fl) p).trans_le (nch_le hfl _)
    have hw : (BitVec.ofNat 32 (p % 16)).toNat < 16 := by omega
    have hoff := off4_eq (pos (nch c fl) p).1 (by omega)
    have hslot : p % 16 = (Ring.slotOfW (BitVec.ofNat 32 (p % 16)) hw).val := hsw.symm
    by_cases h1 : k0_cond1 (BitVec.ofNat 32 (pos (nch c fl) p).1) = 1#1
    · have hlt := (pos_fst_lt (one_le_nch c fl) p).mp ((live_iff _ (by omega)).mp h1)
      rw [Ring.AtW_focusW (kΦ c fk) _ _ hw, ringSt_issue 0 p _ hslot (by omega) (by omega)]
      iintro ⟨%hacc, HL, ⟨⟨Hcell, ⟨%f, Hslot⟩, Htok⟩, Hrest⟩⟩
      subst hacc
      unfold wordsAt k0_t1_body
      rw [k0_part1_eq_skeleton]
      unfold k0_part1_skel
      sl_exec
      sl_step
      isplitr
      · ipureintro; exact words_next c fl hfl p (by omega) _ _ hoff _
      isplitl [HL]; · iexact HL
      rw [← ringSt_issued 0 p _ hslot (by omega) (by omega) hlt]
      iapply (Ring.AtW_update (kΦ c fk) _ _ _)
      isplitr [Hrest]
      · iexists _, _
        isplitr
        · ipureintro; exact off3_eq _ _ (by omega) (by omega)
        isplitl [Hcell]
        · iexists f; iexact Hcell
        · iexact Htok
      · iexact Hrest
    · have hge : start (nch c fl) 24 ≤ p := by
        by_contra hlt
        exact h1 ((live_iff _ (by omega)).mpr ((pos_fst_lt (one_le_nch c fl) p).mpr (by omega)))
      iintro ⟨%hacc, HL, HR⟩
      subst hacc
      unfold wordsAt k0_t1_body
      rw [k0_part1_eq_skeleton]
      unfold k0_part1_skel
      sl_exec
      sl_step
      isplitr
      · ipureintro; exact words_next c fl hfl p (by omega) _ _ hoff _
      isplitl [HL]; · iexact HL
      rw [← ringSt_past 0 p hge]; iexact HR
/-- The loop that starts the first fifteen value copies: before trip `k` the words are those of position `k`, and the copies at the positions below `k` are started. -/
@[sl_loop, reducible] noncomputable def loopInv_k0_t2 (c : Dev nD) (fl : Buf (Elt F) (lenM.view.loc (c : Thread nD τ))) (fv : Buf (Elt F) (vA.view.loc (c : Thread nD τ))) (hfl : Fits c fl)  :
    Gen.LoopInvTy_k0_t2 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) (Memref.whole cc0_scratch2) (Memref.isWhole_whole _) cc0_scratch3 cc0_scratch4 (0#32, 0#32, 0#32) where
  inv := fun k acc => iprop(⌜acc = wordsAt (nch c fl) k⌝ ∗ (lenM.view.loc (c : Thread nD τ) ↦{fullShare} fl)
    ∗ Ring.AtW (vΦ c fv) (ringSt (nch c fl) 0 k))
  step := fun k acc => by
    have hk : k.val < 15 := k.isLt
    generalize hp : k.val = p at *
    obtain ⟨⟨hb0, hb1⟩, ⟨hi0, hi1⟩, ⟨hs0, hs1⟩, hsw⟩ := word_facts hfl p (by omega)
    have hc1 := chk4 _ _ hb0 hi0 hi1
    have hc2 := chk5 (BitVec.ofNat 32 (pos (nch c fl) p).1) _ hs0 hs1
    have hc3 := (show k0_chk6 _ from chk3 _ hb0 hb1)
    have hpb := pos_fst_le (n := nch c fl) p
    have hpi := (pos_snd_lt (one_le_nch c fl) p).trans_le (nch_le hfl _)
    have hw : (BitVec.ofNat 32 (p % 16)).toNat < 16 := by omega
    have hoff := off4_eq (pos (nch c fl) p).1 (by omega)
    have hslot : p % 16 = (Ring.slotOfW (BitVec.ofNat 32 (p % 16)) hw).val := hsw.symm
    by_cases h1 : k0_cond2 (BitVec.ofNat 32 (pos (nch c fl) p).1) = 1#1
    · have hlt := (pos_fst_lt (one_le_nch c fl) p).mp ((live_iff _ (by omega)).mp h1)
      rw [Ring.AtW_focusW (vΦ c fv) _ _ hw, ringSt_issue 0 p _ hslot (by omega) (by omega)]
      iintro ⟨%hacc, HL, ⟨⟨Hcell, ⟨%f, Hslot⟩, Htok⟩, Hrest⟩⟩
      subst hacc
      unfold wordsAt k0_t2_body
      rw [k0_part2_eq_skeleton]
      unfold k0_part2_skel
      sl_exec
      sl_step
      isplitr
      · ipureintro; exact words_next c fl hfl p (by omega) _ _ hoff _
      isplitl [HL]; · iexact HL
      rw [← ringSt_issued 0 p _ hslot (by omega) (by omega) hlt]
      iapply (Ring.AtW_update (vΦ c fv) _ _ _)
      isplitr [Hrest]
      · iexists _, _
        isplitr
        · ipureintro; exact off3_eq _ _ (by omega) (by omega)
        isplitl [Hcell]
        · iexists f; iexact Hcell
        · iexact Htok
      · iexact Hrest
    · have hge : start (nch c fl) 24 ≤ p := by
        by_contra hlt
        exact h1 ((live_iff _ (by omega)).mpr ((pos_fst_lt (one_le_nch c fl) p).mpr (by omega)))
      iintro ⟨%hacc, HL, HR⟩
      subst hacc
      unfold wordsAt k0_t2_body
      rw [k0_part2_eq_skeleton]
      unfold k0_part2_skel
      sl_exec
      sl_step
      isplitr
      · ipureintro; exact words_next c fl hfl p (by omega) _ _ hoff _
      isplitl [HL]; · iexact HL
      rw [← ringSt_past 0 p hge]; iexact HR
end

end Cert.KernelIdeal.Hand
-- ==== Proof.KI.Tile.lean ====
module

public import proofs.«01_k».proof.Proof.KI.Prologue
public import Idealize.ShloMosaic.Lib.Ring.Pair
public import Idealize.ShloMosaic.Lib.WritesUnit
public import Idealize.ShloMosaic.Lib.PointwiseCore

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a load of a filled slot reads -/

/-- The 256 rows from row `o` of chunk `i` of sequence `b` of a cache `f`. -/
def tile {α : Type} (f : S24x122880x128.Idx → α) (b i o : ℕ) : S1x256x128.Idx → α := fun y =>
  f (ix3 ⟨min b 23, by show _ < 24; omega⟩ ⟨min (i * 4096 + o + (y 1).val) 122879, by show _ < 122880; omega⟩ ⟨(y 2).val, (y 2).isLt⟩)

/-- A box of 256 rows of slot `k` is within it. -/
theorem slot_incl {e : EltTy} (R : Memref sig .tc .vmem S16x4096x128 e) (k : Fin 16) (off : Fin 3 → ℕ) (h) (h0 : off 0 = k.val) :
    R.view.setOn (Rect.unit (s := S16x4096x128) off S1x256x128.size h).toLoadRect.set ≤ (slot R k).view.set := by
  refine (Memref.setOn_subset_slice_of_within R (Rect.unit ![k.val, 0, 0] S1x4096x128.size (inbK k)) (fun _ => rfl) _ ?_).trans ?_
  · refine decide_eq_true fun a => ?_
    have h1 := h 1
    have h2 := h 2
    change off 1 + 256 ≤ 4096 at h1
    change off 2 + 128 ≤ 128 at h2
    fin_cases a
    · show k.val ≤ off 0 ∧ off 0 + 1 * (1 - 1) < k.val + 1 * 1 ∧ (1 = 1 ∨ _)
      omega
    · show 0 ≤ off 1 ∧ off 1 + 1 * (256 - 1) < 0 + 1 * 4096 ∧ (1 = 1 ∨ _)
      omega
    · show 0 ≤ off 2 ∧ off 2 + 1 * (128 - 1) < 0 + 1 * 128 ∧ (1 = 1 ∨ _)
      omega
  · unfold slot; rw [Memref.set_view_squeeze]

theorem squeeze_idx (h : S4096x128.numel = S1x4096x128.numel) (a : Fin 4096) (b : Fin 128) :
    Shape.reshapeEquiv h (ix2 a b) = (ix3 (⟨0, by decide⟩ : Fin 1) a b : S1x4096x128.Idx) := by
  pointwise

theorem slot_load {e : EltTy} (A : Memref sig .tc .hbm S24x122880x128 e) (R : Memref sig .tc .vmem S16x4096x128 e) (k : Fin 16)
    (off : Fin 3 → ℕ) (h) (o : ℕ) (h0 : off = ![k.val, o, 0]) (g : (slot R k).view.ty.Contents (Elt F)) (offc : Fin 3 → ℕ) (hc) (b i : ℕ) (hoc : offc = ![b, i * 4096, 0])
    (fa : A.view.ty.Contents (Elt F)) :
    View.readAt (Elt F) R.view (Rect.unit (s := S16x4096x128) off S1x256x128.size h).toLoadRect
      ((slot R k).view.writes (Elt F) g [⟨Rect.whole S4096x128, ReadAs.same.apply ((blk A offc hc).view.read (Elt F) fa)⟩])
    = tile (View.read (Elt F) A.view fa) b i o := by
  subst h0 hoc
  have ho := h 1
  change o + 256 ≤ 4096 at ho
  have hb := hc 0
  change b + 1 ≤ 24 at hb
  have hi := hc 1
  change i * 4096 + 4096 ≤ 122880 at hi
  funext y
  have e := congrFun (View.read_writes_whole (slot R k).view g (ReadAs.same.apply ((blk A ![b, i * 4096, 0] hc).view.read (Elt F) fa)))
    (ix2 ⟨o + (y 1).val, by have : (y 1).val < 256 := (y 1).isLt; show _ < 4096; omega⟩ ⟨(y 2).val, (y 2).isLt⟩)
  refine Eq.trans ?_ (e.trans ?_)
  · show View.read (Elt F) R.view _ _ = View.read (Elt F) R.view _ _
    congr 1
    rw [show (Shape.reshapeEquiv _).toEmbedding _ = _ from squeeze_idx _ _ _]
    have h0 : (y 0).val < 1 := (y 0).isLt
    funext a; fin_cases a <;> apply Fin.ext
    · show k.val + 1 * (y 0).val = k.val + 1 * 0; omega
    · show o + 1 * (y 1).val = 0 + 1 * (o + (y 1).val); omega
    · show 0 + 1 * (y 2).val = 0 + 1 * (y 2).val; omega
  · show View.read (Elt F) A.view fa _ = View.read (Elt F) A.view fa _
    congr 1
    rw [show (Shape.reshapeEquiv _).toEmbedding _ = _ from squeeze_idx _ _ _]
    have hb := hc 0
    have hi := hc 1
    have h1 : (y 1).val < 256 := (y 1).isLt
    have ho := h 1
    funext a; fin_cases a <;> apply Fin.ext
    · have hb' : b + 1 ≤ 24 := hb
      show b + 1 * 0 = min b 23; omega
    · have hi' : i * 4096 + 4096 ≤ 122880 := hi
      have ho' : o + 256 ≤ 4096 := ho
      show i * 4096 + 1 * (o + (y 1).val) = min (i * 4096 + o + (y 1).val) 122879; omega
    · show 0 + 1 * (y 2).val = (y 2).val; omega

end Cert.KernelIdeal.Hand
-- ==== Proof.KI.Pieces.lean ====
module

public import proofs.«01_k».proof.Proof.KI.Tile

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic

variable {F : FTy → Type} [FloatOps F]

/-! ## The scores of a chunk -/

/-- The scratch array of scores. -/
abbrev sM : Memref sig .tc .vmem S30x8x4096 .f32 := Memref.whole cc0_scratch2

/-- Where head group `g`'s rows begin in half `h` of a product of 64 rows. -/
def groupOff (h : Fin 2) (g : Fin 4) : Fin 2 → ℕ := ![32 * h.val + 8 * g.val, 0]
theorem groupOff_slices (h : Fin 2) (g : Fin 4) : S64x256.Slices (groupOff h g) S8x256 := by
  refine ⟨rfl, fun a => ?_⟩
  fin_cases h <;> fin_cases g <;> fin_cases a <;> decide

/-- The scores of 256 columns: each column takes the rows of its own head group, and a column at or past `lim` tokens is minus infinity. -/
def halfScore (v51 v69 v87 : IVec S8x256 1) (v114 : IVec S8x256 32) (s2 : FVec F S64x256 .f32) (h : Fin 2) (lim : BitVec 32) : FVec F S8x256 .f32 :=
  select (cmpi .slt v114 (broadcast S8x256 lim))
    (select v87 (extractStridedSlice S8x256 (groupOff h 3) s2 (groupOff_slices h 3))
      (select v69 (extractStridedSlice S8x256 (groupOff h 2) s2 (groupOff_slices h 2))
        (select v51 (extractStridedSlice S8x256 (groupOff h 1) s2 (groupOff_slices h 1)) (extractStridedSlice S8x256 (groupOff h 0) s2 (groupOff_slices h 0)))))
    (broadcast S8x256 (Scalar.ofBits .f32 0xFF800000#32))

/-- The scores of columns `256 j` to `256 j + 255` of a chunk whose sixteen blocks of 256 rows are `T`. -/
def scoreOf (v51 v69 v87 : IVec S8x256 1) (v114 : IVec S8x256 32) (q2 : FVec F S64x256 .bf16) (left : BitVec 32) (T : Fin 16 → Vec F S1x256x128 .bf16)
    (j : Fin 16) : FVec F S8x256 .f32 :=
  halfScore v51 v69 v87 v114 (k0_pay4 q2 (T ⟨2 * (j.val / 2), by omega⟩) (T ⟨2 * (j.val / 2) + 1, by omega⟩)) ⟨j.val % 2, by omega⟩
    (Scalar.subi left (BitVec.ofNat 32 (64 * j.val)))

/-- The running maximum over the lanes after `n` of a chunk's sixteen score blocks. -/
def maxOf (H : Fin 16 → FVec F S8x256 .f32) (m : FVec F S8x128 .f32) : (n : ℕ) → n ≤ 16 → FVec F S8x128 .f32
  | 0, _ => m
  | n + 1, h => maximumf (maxOf H m n (by omega))
      (maximumf (extractStridedSlice S8x128 ![0, 0] (H ⟨n, h⟩) slices_S8x256_o0_0_S8x128) (extractStridedSlice S8x128 ![0, 128] (H ⟨n, h⟩) slices_S8x256_o0_128_S8x128))

/-- A score block as it is stored. -/
def stored (H : FVec F S8x256 .f32) : Vec F S1x8x256 .f32 := shapeCast S1x8x256 H shapeCasts_S8x256_S1x8x256

/-! ## The stores of a chunk's scores -/

/-- Where block `j` of chunk `w` is stored. -/
def sOff (w : BitVec 32) (j : ℕ) : Fin 3 → ℕ := ![w.toNat, 0, 256 * j]
theorem sOff_inb (w : BitVec 32) (hw : w.toNat < 30) (j : ℕ) (hj : j < 16) : ∀ a, sOff w j a + S1x8x256.size a ≤ S30x8x4096.size a := by
  intro a; fin_cases a
  · show w.toNat + 1 ≤ 30; omega
  · show 0 + 8 ≤ 8; omega
  · show 256 * j + 256 ≤ 4096; omega

/-- The first `n` block stores of chunk `w`, the newest first. -/
def pcs (w : BitVec 32) (hw : w.toNat < 30) (P : Fin 16 → Vec F S1x8x256 .f32) : (n : ℕ) → n ≤ 16 → List (View.Piece (Elt F) S30x8x4096 .f32)
  | 0, _ => []
  | n + 1, h => ⟨Rect.unit (s := S30x8x4096) (sOff w n) S1x8x256.size (sOff_inb w hw n h), P ⟨n, h⟩⟩ :: pcs w hw P n (by omega)

/-- The element of block `j` of chunk `i` at `y`. -/
abbrev sIx (i : ℕ) (hi : i < 30) (j : Fin 16) (y : S1x8x256.Idx) : S30x8x4096.Idx :=
  ix3 ⟨i, hi⟩ ⟨(y 1).val, (y 1).isLt⟩ ⟨256 * j.val + (y 2).val, by have h : (y 2).val < 256 := (y 2).isLt; omega⟩

/-- The scratch array holds the blocks `P` of the chunks below `k`. -/
def SInv (fs : sM.view.ty.Contents (Elt F)) (k : ℕ) (P : ℕ → Fin 16 → Vec F S1x8x256 .f32) : Prop :=
  ∀ i (hi : i < 30), i < k → ∀ j y, View.read (Elt F) sM.view fs (sIx i hi j y) = P i j y

/-- Another chunk's elements are as they were. -/
theorem pcs_other (w : BitVec 32) (hw) (P : Fin 16 → Vec F S1x8x256 .f32) (fs : sM.view.ty.Contents (Elt F)) (i : ℕ) (hi) (hne : i ≠ w.toNat) (j) (y) :
    ∀ n h, View.read (Elt F) sM.view (sM.view.writes (Elt F) fs (pcs w hw P n h)) (sIx i hi j y) = View.read (Elt F) sM.view fs (sIx i hi j y)
  | 0, _ => rfl
  | n + 1, h => by
    rw [show pcs w hw P (n + 1) h = ⟨Rect.unit (s := S30x8x4096) (sOff w n) S1x8x256.size (sOff_inb w hw n h), P ⟨n, h⟩⟩ :: pcs w hw P n (by omega) from rfl,
      View.read_writes_cons_unit_of_not_mem sM.view fs (sOff_inb w hw n h) _ _ _ rfl 0 (by show i < w.toNat ∨ w.toNat + 1 ≤ i; omega)]
    exact pcs_other w hw P fs i hi hne j y n _

/-- The chunk's own elements are the blocks stored. -/
theorem pcs_own (w : BitVec 32) (hw) (P : Fin 16 → Vec F S1x8x256 .f32) (fs : sM.view.ty.Contents (Elt F)) (hi) (j) (y) :
    ∀ n h, j.val < n → View.read (Elt F) sM.view (sM.view.writes (Elt F) fs (pcs w hw P n h)) (sIx w.toNat hi j y) = P j y
  | 0, _, hj => absurd hj (Nat.not_lt_zero _)
  | n + 1, h, hj => by
    have h0 : (y 0).val < 1 := (y 0).isLt
    have h2 : (y 2).val < 256 := (y 2).isLt
    rw [show pcs w hw P (n + 1) h = ⟨Rect.unit (s := S30x8x4096) (sOff w n) S1x8x256.size (sOff_inb w hw n h), P ⟨n, h⟩⟩ :: pcs w hw P n (by omega) from rfl]
    by_cases e : j.val = n
    · have ej : j = ⟨n, h⟩ := Fin.ext e
      rw [View.read_writes_cons_unit_of_mem sM.view fs (sOff_inb w hw n h) _ _ _ y rfl (fun a => by
        fin_cases a
        · show w.toNat = w.toNat + (y 0).val; omega
        · show (y 1).val = 0 + (y 1).val; omega
        · show 256 * j.val + (y 2).val = 256 * n + (y 2).val; omega), ej]
    · rw [View.read_writes_cons_unit_of_not_mem sM.view fs (sOff_inb w hw n h) _ _ _ rfl 2
        (by show 256 * j.val + (y 2).val < 256 * n ∨ 256 * n + 256 ≤ 256 * j.val + (y 2).val; omega)]
      exact pcs_own w hw P fs hi j y n _ (by omega)

theorem SInv_step (fs : sM.view.ty.Contents (Elt F)) (k : ℕ) (P : ℕ → Fin 16 → Vec F S1x8x256 .f32) (w : BitVec 32) (hw) (hk : w.toNat = k) (h : SInv fs k P) :
    SInv (sM.view.writes (Elt F) fs (pcs w hw (P k) 16 le_rfl)) (k + 1) P := by
  intro i hi hlt j y
  by_cases e : i = k
  · subst e
    subst hk
    exact pcs_own w hw _ fs hi j y 16 le_rfl j.isLt
  · rw [pcs_other w hw _ fs i hi (by omega) j y]
    exact h i hi (by omega) j y

/-- A load of block `j` of chunk `w` reads the block. -/
theorem SInv_load {fs : sM.view.ty.Contents (Elt F)} {k : ℕ} {P : ℕ → Fin 16 → Vec F S1x8x256 .f32} (h : SInv fs k P) (w : BitVec 32) (hw : w.toNat < k) (hk : k ≤ 30)
    (j : Fin 16) (off : Fin 3 → ℕ) (hinb) (hoff : off = sOff w j.val) :
    View.readAt (Elt F) sM.view (Rect.unit (s := S30x8x4096) off S1x8x256.size hinb).toLoadRect fs = P w.toNat j := by
  subst hoff
  funext y
  have h0 : (y 0).val < 1 := (y 0).isLt
  refine Eq.trans ?_ (h w.toNat (by omega) hw j y)
  show View.read (Elt F) sM.view fs _ = View.read (Elt F) sM.view fs _
  congr 1
  funext a; fin_cases a <;> apply Fin.ext
  · show w.toNat + 1 * (y 0).val = w.toNat; omega
  · show 0 + 1 * (y 1).val = (y 1).val; omega
  · show 256 * j.val + 1 * (y 2).val = 256 * j.val + (y 2).val; omega

end Cert.KernelIdeal.Hand
-- ==== Proof.KI.Scores.lean ====
module

public import proofs.«01_k».proof.Proof.KI.Pieces
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem iv_word (k : ℕ) : Scf.iv 0#32 1#32 k = BitVec.ofNat 32 k := by
  unfold Scf.iv; rw [BitVec.mul_one, BitVec.zero_add]

/-- The loops over the chunks of a sequence make one trip for each chunk. -/
theorem t4_trips (v : BitVec 32) (h : v.toNat ≤ 30720) : (k0_t4_loop v).trips = chunks v.toNat := by
  show Scf.trips 0#32 (Scalar.addi 0#32 (Scalar.muli (Scalar.divsi (Scalar.subi (chunksW v) 0#32) 1#32) 1#32)) 1#32 = _
  rw [Scalar.muli_divsi_one, chunksW_eq v h]
  have hc := chunks_le h
  generalize chunks v.toNat = q at hc
  interval_cases q <;> decide

theorem chk11 (w : BitVec 32) (hi : 0 ≤ w.toInt) (hi' : w.toInt < 16) : k0_chk11 w := by
  sl_disch

/-- Where the 256 rows from row `o` of slot `k` are. -/
def rowsOff (k o : ℕ) : Fin 3 → ℕ := ![k, o, 0]
theorem rowsOff_inb (k : Fin 16) (n : Fin 16) : ∀ a, rowsOff k.val (256 * n.val) a + S1x256x128.size a ≤ S16x4096x128.size a := by
  intro a; fin_cases a
  · show k.val + 1 ≤ 16; omega
  · show 256 * n.val + 256 ≤ 4096; omega
  · show 0 + 128 ≤ 128; omega

/-- The sixteen blocks of 256 rows of a slot that a chunk has been copied to. -/
def landed {e : EltTy} (A : Memref sig .tc .hbm S24x122880x128 e) (R : Memref sig .tc .vmem S16x4096x128 e) (k : Fin 16) (offc : Fin 3 → ℕ) (hc : ∀ a, offc a + S1x4096x128.size a ≤ S24x122880x128.size a)
    (fa : A.view.ty.Contents (Elt F)) (n : Fin 16) : Vec F S1x256x128 e :=
  View.readAt (Elt F) R.view (Rect.unit (s := S16x4096x128) (rowsOff k.val (256 * n.val)) S1x256x128.size (rowsOff_inb k n)).toLoadRect
    ((slot R k).view.writes (Elt F) (slot R k).view.junk [⟨Rect.whole S4096x128, ReadAs.same.apply ((blk A offc hc).view.read (Elt F) fa)⟩])

/-- They are the chunk's. -/
theorem landed_eq {e : EltTy} (A : Memref sig .tc .hbm S24x122880x128 e) (R : Memref sig .tc .vmem S16x4096x128 e) (k : Fin 16) (offc : Fin 3 → ℕ) (hc : ∀ a, offc a + S1x4096x128.size a ≤ S24x122880x128.size a)
    (fa : A.view.ty.Contents (Elt F)) (b i : ℕ) (h : offc = ![b, i * 4096, 0]) :
    landed A R k offc hc fa = fun n => tile (View.read (Elt F) A.view fa) b i (256 * n.val) := by
  funext n
  exact slot_load A R k _ _ _ rfl _ offc hc b i h fa

/-! ## The values of a sequence's scores -/

/-- The scores of chunk `i` of sequence `b`. -/
def scoresAt (v51 v69 v87 : IVec S8x256 1) (v114 : IVec S8x256 32) (q2 : FVec F S64x256 .bf16) (len : BitVec 32) (fa : S24x122880x128.Idx → Elt F .bf16) (b i : ℕ) :
    Fin 16 → FVec F S8x256 .f32 :=
  scoreOf v51 v69 v87 v114 q2 (Scalar.subi len (Scalar.muli (BitVec.ofNat 32 i) 1024#32)) fun n => tile fa b i (256 * n.val)

/-- The running maximum over the lanes after the chunks below `k`. -/
def maxAt (S : ℕ → Fin 16 → FVec F S8x256 .f32) : ℕ → FVec F S8x128 .f32
  | 0 => k0_pay250
  | k + 1 => maxOf (S k) (maxAt S k) 16 le_rfl

section
variable (v51 v69 v87 : IVec S8x256 1) (v114 : IVec S8x256 32) (v146 : FVec F S64x256 .bf16) (v139 arg24 left : BitVec 32) (hleft : left = Scalar.subi v139 (Scalar.muli arg24 1024#32)) (T : Fin 16 → Vec F S1x256x128 .bf16) (m : FVec F S8x128 .f32)
include hleft

/-- The maximum the printed body carries on from a chunk is the running maximum over its blocks. -/
theorem max_nest : k0_pay255 v51 v69 v87 v114 left
        (k0_pay54 v51 v69 v87 v114 left
          (k0_pay46 v51 v69 v87 v114 left
            (k0_pay40 v51 v69 v87 v114 left
              (k0_pay34 v51 v69 v87 v114 left
                (k0_pay28 v51 v69 v87 v114 left
                  (k0_pay21 v51 v69 v87 v114 left
                    (k0_pay13 v146 (T 2)
                      (T 3))
                    (k0_pay16 v51 v69 v87 v114 v146 left
                      (k0_pay7 v51 v69 v87 v114 v139 v146 m arg24 (T 0) (T 1))
                      (k0_pay8 v146 (T 0) (T 1))
                      (k0_pay9 v146 (T 0) (T 1))
                      (k0_pay10 v51 v146 (T 0) (T 1))
                      (T 2) (T 3))
                    (k0_pay17 v146 (T 2) (T 3))
                    (k0_pay18 v146 (T 2) (T 3)))
                  (k0_pay22 v146 (T 4) (T 5))
                  (k0_pay25 v51 v69 v87 v114 v146 left (T 4) (T 5)))
                (k0_pay29 v146 (T 6) (T 7))
                (k0_pay30 v51 v69 v87 v114 v146 left (T 6) (T 7)))
              (k0_pay35 v146 (T 8) (T 9))
              (k0_pay36 v51 v69 v87 v114 v146 left (T 8) (T 9)))
            (k0_pay41 v146 (T 10) (T 11))
            (k0_pay42 v51 v69 v87 v114 v146 left (T 10) (T 11)))
          (k0_pay47 v146 (T 12) (T 13))
          (k0_pay48 v51 v69 v87 v146 (T 12) (T 13))
          (k0_pay49 v114 left) (Scalar.ofBits .f32 0xFF800000#32))
        (k0_pay55 v146 (T 14) (T 15))
        (k0_pay56 v51 v69 v87 v146 (T 14) (T 15))
        (Scalar.subi left 896#32)
   = maxOf (scoreOf v51 v69 v87 v114 v146 left T) m 16 le_rfl := by
  subst hleft
  rfl
end

/-- One more block store. -/
theorem cons_pcs (w : BitVec 32) (hw : w.toNat < 30) (P : Fin 16 → Vec F S1x8x256 .f32) (n : ℕ) (h : n + 1 ≤ 16) (off : Fin 3 → ℕ) (inb : ∀ a, off a + S1x8x256.size a ≤ S30x8x4096.size a)
    (p : Vec F S1x8x256 .f32) (L : List (View.Piece (Elt F) S30x8x4096 .f32)) (j : Fin 16) (hj : j = ⟨n, h⟩) (ho : off = sOff w n) (hp : p = P j) (hL : L = pcs w hw P n (by omega)) :
    (⟨Rect.unit (s := S30x8x4096) off S1x8x256.size inb, p⟩ : View.Piece (Elt F) S30x8x4096 .f32) :: L = pcs w hw P (n + 1) h := by
  subst ho hj hp hL; rfl

/-- The scores the body stores for chunk `k`: sixteen blocks. -/
def stores4 (v51 v69 v87 : IVec S8x256 1) (v114 : IVec S8x256 32) (v146 : FVec F S64x256 .bf16) (v139 left : BitVec 32) (T : Fin 16 → Vec F S1x256x128 .bf16)
    (t : Fin k0_t3_loop.trips) (v118 : BitVec 32) (hw7 : k0_chk7 t v118) (k : Fin (k0_t4_loop v118).trips) : List (View.Piece (Elt F) S30x8x4096 .f32) :=
    [⟨Rect.unit (s := S30x8x4096) (k0_off50 v118 k) S1x8x256.size (k0_off50_inb t v118 hw7 k), k0_pay254 v51 v69 v87 v114 left (k0_pay55 v146 (T 14) (T 15))⟩,
     ⟨Rect.unit (s := S30x8x4096) (k0_off49 v118 k) S1x8x256.size (k0_off49_inb t v118 hw7 k), k0_pay252 v114 (k0_pay56 v51 v69 v87 v146 (T 14) (T 15)) (Scalar.subi left 896#32)⟩,
     ⟨Rect.unit (s := S30x8x4096) (k0_off46 v118 k) S1x8x256.size (k0_off46_inb t v118 hw7 k), k0_pay53 v51 v69 v87 v114 left (k0_pay47 v146 (T 12) (T 13))⟩,
     ⟨Rect.unit (s := S30x8x4096) (k0_off45 v118 k) S1x8x256.size (k0_off45_inb t v118 hw7 k), k0_pay51 (k0_pay48 v51 v69 v87 v146 (T 12) (T 13)) (k0_pay49 v114 left) (Scalar.ofBits .f32 0xFF800000#32)⟩,
     ⟨Rect.unit (s := S30x8x4096) (k0_off42 v118 k) S1x8x256.size (k0_off42_inb t v118 hw7 k), k0_pay45 v51 v69 v87 v114 left (k0_pay41 v146 (T 10) (T 11))⟩,
     ⟨Rect.unit (s := S30x8x4096) (k0_off41 v118 k) S1x8x256.size (k0_off41_inb t v118 hw7 k), k0_pay43 (k0_pay42 v51 v69 v87 v114 v146 left (T 10) (T 11))⟩,
     ⟨Rect.unit (s := S30x8x4096) (k0_off38 v118 k) S1x8x256.size (k0_off38_inb t v118 hw7 k), k0_pay39 v51 v69 v87 v114 left (k0_pay35 v146 (T 8) (T 9))⟩,
     ⟨Rect.unit (s := S30x8x4096) (k0_off37 v118 k) S1x8x256.size (k0_off37_inb t v118 hw7 k), k0_pay37 (k0_pay36 v51 v69 v87 v114 v146 left (T 8) (T 9))⟩,
     ⟨Rect.unit (s := S30x8x4096) (k0_off34 v118 k) S1x8x256.size (k0_off34_inb t v118 hw7 k), k0_pay33 v51 v69 v87 v114 left (k0_pay29 v146 (T 6) (T 7))⟩,
     ⟨Rect.unit (s := S30x8x4096) (k0_off33 v118 k) S1x8x256.size (k0_off33_inb t v118 hw7 k), k0_pay31 v51 v69 v87 v114 v146 left (T 6) (T 7)⟩,
     ⟨Rect.unit (s := S30x8x4096) (k0_off30 v118 k) S1x8x256.size (k0_off30_inb t v118 hw7 k), k0_pay27 v51 v69 v87 v114 left (k0_pay22 v146 (T 4) (T 5))⟩,
     ⟨Rect.unit (s := S30x8x4096) (k0_off29 v118 k) S1x8x256.size (k0_off29_inb t v118 hw7 k), k0_pay24 v51 v69 v87 v114 v146 left (T 4) (T 5)⟩,
     ⟨Rect.unit (s := S30x8x4096) (k0_off26 v118 k) S1x8x256.size (k0_off26_inb t v118 hw7 k), k0_pay20 v51 v69 v87 v114 left (k0_pay13 v146 (T 2) (T 3)) (k0_pay17 v146 (T 2) (T 3)) (k0_pay18 v146 (T 2) (T 3))⟩,
     ⟨Rect.unit (s := S30x8x4096) (k0_off25 v118 k) S1x8x256.size (k0_off25_inb t v118 hw7 k), k0_pay15 v51 v69 v87 v114 v146 left (T 2) (T 3)⟩,
     ⟨Rect.unit (s := S30x8x4096) (k0_off22 v118 k) S1x8x256.size (k0_off22_inb t v118 hw7 k), k0_pay12 v69 v87 v114 left (k0_pay8 v146 (T 0) (T 1)) (k0_pay9 v146 (T 0) (T 1)) (k0_pay10 v51 v146 (T 0) (T 1))⟩,
     ⟨Rect.unit (s := S30x8x4096) (k0_off21 v118 k) S1x8x256.size (k0_off21_inb t v118 hw7 k), k0_pay6 v51 v69 v87 v114 v139 v146 (Scf.iv 0#32 1#32 k.val) (T 0) (T 1)⟩]

theorem stores4_eq (v51 v69 v87 : IVec S8x256 1) (v114 : IVec S8x256 32) (v146 : FVec F S64x256 .bf16) (v139 left : BitVec 32) (T : Fin 16 → Vec F S1x256x128 .bf16)
    (t : Fin k0_t3_loop.trips) (v118 : BitVec 32) (hw7 : k0_chk7 t v118) (k : Fin (k0_t4_loop v118).trips) (hleft : left = Scalar.subi v139 (Scalar.muli (Scf.iv 0#32 1#32 k.val) 1024#32))
    (hw : (Scf.iv 0#32 1#32 k.val).toNat < 30) :
    stores4 v51 v69 v87 v114 v146 v139 left T t v118 hw7 k = pcs (Scf.iv 0#32 1#32 k.val) hw (fun j => stored (scoreOf v51 v69 v87 v114 v146 left T j)) 16 le_rfl := by
  subst hleft
  unfold stores4
  refine cons_pcs _ _ _ _ _ _ _ _ _ 15 rfl rfl (show _ = stored (scoreOf v51 v69 v87 v114 v146 (Scalar.subi v139 (Scalar.muli (Scf.iv 0#32 1#32 k.val) 1024#32)) T 15) from rfl) ?_
  refine cons_pcs _ _ _ _ _ _ _ _ _ 14 rfl rfl (show _ = stored (scoreOf v51 v69 v87 v114 v146 (Scalar.subi v139 (Scalar.muli (Scf.iv 0#32 1#32 k.val) 1024#32)) T 14) from rfl) ?_
  refine cons_pcs _ _ _ _ _ _ _ _ _ 13 rfl rfl (show _ = stored (scoreOf v51 v69 v87 v114 v146 (Scalar.subi v139 (Scalar.muli (Scf.iv 0#32 1#32 k.val) 1024#32)) T 13) from rfl) ?_
  refine cons_pcs _ _ _ _ _ _ _ _ _ 12 rfl rfl (show _ = stored (scoreOf v51 v69 v87 v114 v146 (Scalar.subi v139 (Scalar.muli (Scf.iv 0#32 1#32 k.val) 1024#32)) T 12) from rfl) ?_
  refine cons_pcs _ _ _ _ _ _ _ _ _ 11 rfl rfl (show _ = stored (scoreOf v51 v69 v87 v114 v146 (Scalar.subi v139 (Scalar.muli (Scf.iv 0#32 1#32 k.val) 1024#32)) T 11) from rfl) ?_
  refine cons_pcs _ _ _ _ _ _ _ _ _ 10 rfl rfl (show _ = stored (scoreOf v51 v69 v87 v114 v146 (Scalar.subi v139 (Scalar.muli (Scf.iv 0#32 1#32 k.val) 1024#32)) T 10) from rfl) ?_
  refine cons_pcs _ _ _ _ _ _ _ _ _ 9 rfl rfl (show _ = stored (scoreOf v51 v69 v87 v114 v146 (Scalar.subi v139 (Scalar.muli (Scf.iv 0#32 1#32 k.val) 1024#32)) T 9) from rfl) ?_
  refine cons_pcs _ _ _ _ _ _ _ _ _ 8 rfl rfl (show _ = stored (scoreOf v51 v69 v87 v114 v146 (Scalar.subi v139 (Scalar.muli (Scf.iv 0#32 1#32 k.val) 1024#32)) T 8) from rfl) ?_
  refine cons_pcs _ _ _ _ _ _ _ _ _ 7 rfl rfl (show _ = stored (scoreOf v51 v69 v87 v114 v146 (Scalar.subi v139 (Scalar.muli (Scf.iv 0#32 1#32 k.val) 1024#32)) T 7) from rfl) ?_
  refine cons_pcs _ _ _ _ _ _ _ _ _ 6 rfl rfl (show _ = stored (scoreOf v51 v69 v87 v114 v146 (Scalar.subi v139 (Scalar.muli (Scf.iv 0#32 1#32 k.val) 1024#32)) T 6) from rfl) ?_
  refine cons_pcs _ _ _ _ _ _ _ _ _ 5 rfl rfl (show _ = stored (scoreOf v51 v69 v87 v114 v146 (Scalar.subi v139 (Scalar.muli (Scf.iv 0#32 1#32 k.val) 1024#32)) T 5) from rfl) ?_
  refine cons_pcs _ _ _ _ _ _ _ _ _ 4 rfl rfl (show _ = stored (scoreOf v51 v69 v87 v114 v146 (Scalar.subi v139 (Scalar.muli (Scf.iv 0#32 1#32 k.val) 1024#32)) T 4) from rfl) ?_
  refine cons_pcs _ _ _ _ _ _ _ _ _ 3 rfl rfl (show _ = stored (scoreOf v51 v69 v87 v114 v146 (Scalar.subi v139 (Scalar.muli (Scf.iv 0#32 1#32 k.val) 1024#32)) T 3) from rfl) ?_
  refine cons_pcs _ _ _ _ _ _ _ _ _ 2 rfl rfl (show _ = stored (scoreOf v51 v69 v87 v114 v146 (Scalar.subi v139 (Scalar.muli (Scf.iv 0#32 1#32 k.val) 1024#32)) T 2) from rfl) ?_
  refine cons_pcs _ _ _ _ _ _ _ _ _ 1 rfl rfl (show _ = stored (scoreOf v51 v69 v87 v114 v146 (Scalar.subi v139 (Scalar.muli (Scf.iv 0#32 1#32 k.val) 1024#32)) T 1) from rfl) ?_
  refine cons_pcs _ _ _ _ _ _ _ _ _ 0 rfl rfl (show _ = stored (scoreOf v51 v69 v87 v114 v146 (Scalar.subi v139 (Scalar.muli (Scf.iv 0#32 1#32 k.val) 1024#32)) T 0) from rfl) ?_
  rfl

/-- Five values equal one by one are equal together. -/
theorem five_eq {A B C D E : Type} {a a' : A} {b b' : B} {x x' : C} {y y' : D} {z z' : E} (h1 : a = a') (h2 : b = b') (h3 : x = x') (h4 : y = y') (h5 : z = z') :
    (a, b, x, y, z) = (a', b', x', y', z') := by
  subst h1 h2 h3 h4 h5; rfl

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 400000 in
/-- The loop over a sequence's key chunks: before trip `k` the scores of the chunks below `k` are in the scratch array and the carried maximum is theirs. -/
@[sl_loop, reducible] noncomputable def loopInv_k0_t4 (c : Dev nD) (fl : Buf (Elt F) (lenM.view.loc (c : Thread nD τ))) (fk : Buf (Elt F) (kA.view.loc (c : Thread nD τ))) (hfl : Fits c fl)
   (v51 v69 v87 : IVec S8x256 1) (v88 v89 v90 : IVec S8x128 1) (v114 : IVec S8x256 32) (t : Fin k0_t3_loop.trips) (a16 a17 a18 a22 : BitVec 32) (v118 : Elt F .i32) (hv : v118 = len c fl t.val) (hw7 : k0_chk7 t v118)
   (v137 : BitVec 32) (v139 : Elt F .i32) (v146 : FVec F S64x256 .bf16) (v150 : FVec F S4x128 .f32) (v151 : FVec F S32x128 .f32) (v159 : FVec F S8x128 .f32) :
    Gen.LoopInvTy_k0_t4 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v51 v69 v87 v88 v89 v90 v114 t a16 a17 a18 a22 v118 hw7 v137 v139 v146 v150 v151 v159 (a16, a17, a18, a22, k0_pay250 (F := F)) where
  inv := fun k acc => iprop(⌜acc = (BitVec.ofNat 32 (pos (nch c fl) (start (nch c fl) t.val + k + 15)).1, BitVec.ofNat 32 (pos (nch c fl) (start (nch c fl) t.val + k + 15)).2,
        BitVec.ofNat 32 ((start (nch c fl) t.val + k + 15) % 16), BitVec.ofNat 32 ((start (nch c fl) t.val + k) % 16),
        maxAt (scoresAt v51 v69 v87 v114 v146 v139 (View.read (Elt F) kA.view fk) t.val) k)⌝
    ∗ (lenM.view.loc (c : Thread nD τ) ↦{fullShare} fl)
    ∗ Ring.AtW (kΦ c fk) (ringSt (nch c fl) (start (nch c fl) t.val + k) (start (nch c fl) t.val + k + 15))
    ∗ (∃ fs, (sM.view.loc (c : Thread nD τ) ↦{fullShare} fs) ∗ ⌜SInv fs k fun i j => stored (scoresAt v51 v69 v87 v114 v146 v139 (View.read (Elt F) kA.view fk) t.val i j)⌝)
    ∗ ∃ W0, owes (c : Thread nD τ) 0 W0)
  step := fun k acc => by
    subst hv
    have ht : t.val < 24 := t.isLt
    have hkn : k.val < nch c fl t.val := lt_of_lt_of_eq k.isLt (t4_trips _ (hfl _))
    have hn30 := nch_le hfl t.val
    have hst := start_le (fun b => nch_le hfl b) t.val
    have hss : start (nch c fl) (t.val + 1) = start (nch c fl) t.val + nch c fl t.val := rfl
    have hs24 := start_mono (n := nch c fl) (show t.val + 1 ≤ 24 by omega)
    have hpos := pos_at (one_le_nch c fl) t.val ht k.val hkn
    have hP : SInv (F := F) = SInv (F := F) := rfl
    generalize hWW : start (nch c fl) t.val + k.val = W at *
    have hWk : start (nch c fl) t.val + (k.val + 1) = W + 1 := by omega
    obtain ⟨I, hI⟩ : ∃ I, I = W + 15 := ⟨_, rfl⟩
    rw [hWk, show W + 1 + 15 = I + 1 by omega, ← hI]
    obtain ⟨⟨hb0, hb1⟩, ⟨hi0, hi1⟩, ⟨hs0, hs1⟩, hsw⟩ := word_facts hfl I (by omega)
    obtain ⟨-, -, ⟨hz0, hz1⟩, hzw⟩ := word_facts hfl W (by omega)
    have hc1 : k0_chk8 _ _ := chk1 _ _ hb0 hi0 hi1
    have hc2 : k0_chk9 _ _ := chk2 (BitVec.ofNat 32 (pos (nch c fl) I).1) _ hs0 hs1
    have hc3 : k0_chk10 _ := chk3 _ hb0 hb1
    have hc4 := chk11 _ hz0 hz1
    have hpb := pos_fst_le (n := nch c fl) I
    have hpi := (pos_snd_lt (one_le_nch c fl) I).trans_le (nch_le hfl _)
    have hw : (BitVec.ofNat 32 (I % 16)).toNat < 16 := by omega
    have hz : (BitVec.ofNat 32 (W % 16)).toNat < 16 := by omega
    have hoffL := off4_eq (pos (nch c fl) I).1 (by omega)
    have hslot : I % 16 = (Ring.slotOfW (BitVec.ofNat 32 (I % 16)) hw).val := hsw.symm
    have hslotW : W % 16 = (Ring.slotOfW (BitVec.ofNat 32 (W % 16)) hz).val := hzw.symm
    have hne : Ring.slotOfW (BitVec.ofNat 32 (W % 16)) hz ≠ Ring.slotOfW (BitVec.ofNat 32 (I % 16)) hw := by
      intro e; rw [Fin.ext_iff, ← hslot, ← hslotW] at e; omega
    have hltW : W < start (nch c fl) 24 := by omega
    have hkw : (Scf.iv 0#32 1#32 k.val).toNat = k.val := by rw [iv_word, BitVec.toNat_ofNat, Nat.mod_eq_of_lt (by omega)]
    have hk30 : (Scf.iv 0#32 1#32 k.val).toNat < 30 := by omega
    have hval : ∀ off hoff, off = ![(pos (nch c fl) W).1, (pos (nch c fl) W).2 * 4096, 0] →
        scoreOf v51 v69 v87 v114 v146 (Scalar.subi v139 (Scalar.muli (Scf.iv 0#32 1#32 k.val) 1024#32)) (landed (F := F) kA kR (Ring.slotOfW (BitVec.ofNat 32 (W % 16)) hz) off hoff fk)
          = scoresAt v51 v69 v87 v114 v146 v139 (View.read (Elt F) kA.view fk) t.val k.val := by
      intro off hoff e
      rw [hpos] at e
      rw [landed_eq kA kR _ off hoff fk t.val k.val e, iv_word]; rfl
    have hq19 := slot_incl kR (Ring.slotOfW (BitVec.ofNat 32 (W % 16)) hz) (k0_off19 (BitVec.ofNat 32 (W % 16))) (k0_off19_inb _ hc4) rfl
    have hq20 := slot_incl kR (Ring.slotOfW (BitVec.ofNat 32 (W % 16)) hz) (k0_off20 (BitVec.ofNat 32 (W % 16))) (k0_off20_inb _ hc4) rfl
    have hq23 := slot_incl kR (Ring.slotOfW (BitVec.ofNat 32 (W % 16)) hz) (k0_off23 (BitVec.ofNat 32 (W % 16))) (k0_off23_inb _ hc4) rfl
    have hq24 := slot_incl kR (Ring.slotOfW (BitVec.ofNat 32 (W % 16)) hz) (k0_off24 (BitVec.ofNat 32 (W % 16))) (k0_off24_inb _ hc4) rfl
    have hq27 := slot_incl kR (Ring.slotOfW (BitVec.ofNat 32 (W % 16)) hz) (k0_off27 (BitVec.ofNat 32 (W % 16))) (k0_off27_inb _ hc4) rfl
    have hq28 := slot_incl kR (Ring.slotOfW (BitVec.ofNat 32 (W % 16)) hz) (k0_off28 (BitVec.ofNat 32 (W % 16))) (k0_off28_inb _ hc4) rfl
    have hq31 := slot_incl kR (Ring.slotOfW (BitVec.ofNat 32 (W % 16)) hz) (k0_off31 (BitVec.ofNat 32 (W % 16))) (k0_off31_inb _ hc4) rfl
    have hq32 := slot_incl kR (Ring.slotOfW (BitVec.ofNat 32 (W % 16)) hz) (k0_off32 (BitVec.ofNat 32 (W % 16))) (k0_off32_inb _ hc4) rfl
    have hq35 := slot_incl kR (Ring.slotOfW (BitVec.ofNat 32 (W % 16)) hz) (k0_off35 (BitVec.ofNat 32 (W % 16))) (k0_off35_inb _ hc4) rfl
    have hq36 := slot_incl kR (Ring.slotOfW (BitVec.ofNat 32 (W % 16)) hz) (k0_off36 (BitVec.ofNat 32 (W % 16))) (k0_off36_inb _ hc4) rfl
    have hq39 := slot_incl kR (Ring.slotOfW (BitVec.ofNat 32 (W % 16)) hz) (k0_off39 (BitVec.ofNat 32 (W % 16))) (k0_off39_inb _ hc4) rfl
    have hq40 := slot_incl kR (Ring.slotOfW (BitVec.ofNat 32 (W % 16)) hz) (k0_off40 (BitVec.ofNat 32 (W % 16))) (k0_off40_inb _ hc4) rfl
    have hq43 := slot_incl kR (Ring.slotOfW (BitVec.ofNat 32 (W % 16)) hz) (k0_off43 (BitVec.ofNat 32 (W % 16))) (k0_off43_inb _ hc4) rfl
    have hq44 := slot_incl kR (Ring.slotOfW (BitVec.ofNat 32 (W % 16)) hz) (k0_off44 (BitVec.ofNat 32 (W % 16))) (k0_off44_inb _ hc4) rfl
    have hq47 := slot_incl kR (Ring.slotOfW (BitVec.ofNat 32 (W % 16)) hz) (k0_off47 (BitVec.ofNat 32 (W % 16))) (k0_off47_inb _ hc4) rfl
    have hq48 := slot_incl kR (Ring.slotOfW (BitVec.ofNat 32 (W % 16)) hz) (k0_off48 (BitVec.ofNat 32 (W % 16))) (k0_off48_inb _ hc4) rfl
    by_cases h1 : k0_cond3 (BitVec.ofNat 32 (pos (nch c fl) I).1) = 1#1
    · have hlt := (pos_fst_lt (one_le_nch c fl) I).mp ((live_iff _ (by omega)).mp h1)
      rw [Ring.AtW_focus2 (kΦ c fk) _ hne, ringSt_issue W I _ hslot (by omega) (by omega), ringSt_wait W I _ hslotW (by omega) hltW]
      iintro ⟨%hacc, HL, ⟨⟨Hcell, ⟨%f, Hslot⟩, Htok⟩, ⟨%off, %hoff, %hq, ⟨%g, HF⟩, Htw⟩, Hrest⟩, ⟨%fs, Hs, %hS⟩, ⟨%W0, Howe⟩⟩
      subst hacc
      unfold k0_t4_body
      rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
      unfold k0_part3_skel k0_part4_skel k0_part5_skel k0_part6_skel k0_part7_skel k0_part8_skel k0_part9_skel k0_part10_skel k0_part11_skel
      sl_exec
      sl_step
      have hH := hval off hoff hq
      isplitr
      · ipureintro
        refine five_eq ?_ ?_ (next_slot I) (next_slot W) ?_
        · exact congrArg Prod.fst (words_next c fl hfl I (by omega) _ _ hoffL _)
        · exact congrArg (fun x => x.2.1) (words_next c fl hfl I (by omega) _ _ hoffL _)
        · exact (max_nest v51 v69 v87 v114 v146 v139 (Scf.iv 0#32 1#32 k.val) _ rfl (landed (F := F) kA kR (Ring.slotOfW (BitVec.ofNat 32 (W % 16)) hz) off hoff fk) _).trans (by rw [hH]; rfl)
      isplitl [HL]; · iexact HL
      isplitl [Hcell Htok HF_dst Htw HF Hrest]
      · rw [← ringSt_waited W (I + 1) _ hslotW (by omega), ← ringSt_issued W I _ hslot (by omega) (by omega) hlt]
        iapply (Ring.AtW_update2 (kΦ c fk) _ hne _ _)
        isplitl [Hcell Htok]
        · iexists _, _
          isplitr
          · ipureintro; exact off3_eq _ _ (by omega) (by omega)
          isplitl [Hcell]
          · iexists f; iexact Hcell
          · iexact Htok
        isplitr [Hrest]
        · isplitl [HF]; · iexact HF
          isplitl [HF_dst]
          · iexists _; iexact HF_dst
          · iexact Htw
        · iexact Hrest
      isplitl [Hs]
      · iexists (sM.view.writes (Elt F) fs (stores4 v51 v69 v87 v114 v146 v139 (Scalar.subi v139 (Scalar.muli (Scf.iv 0#32 1#32 k.val) 1024#32)) (landed (F := F) kA kR (Ring.slotOfW (BitVec.ofNat 32 (W % 16)) hz) off hoff fk) t (len c fl t.val) hw7 k))
        isplitl [Hs]; · iexact Hs
        ipureintro
        rw [stores4_eq v51 v69 v87 v114 v146 v139 _ _ t (len c fl t.val) hw7 k rfl hk30, hH]
        exact SInv_step fs k.val (fun i j => stored (scoresAt v51 v69 v87 v114 v146 v139 (View.read (Elt F) kA.view fk) t.val i j)) _ hk30 hkw hS
      · iexists _; iexact Howe
    · have hge : start (nch c fl) 24 ≤ I := by
        by_contra hlt
        exact h1 ((live_iff _ (by omega)).mpr ((pos_fst_lt (one_le_nch c fl) I).mpr (by omega)))
      rw [Ring.AtW_focusW (kΦ c fk) _ _ hz, ringSt_wait W I _ hslotW (by omega) hltW]
      iintro ⟨%hacc, HL, ⟨⟨%off, %hoff, %hq, ⟨%g, HF⟩, Htw⟩, Hrest⟩, ⟨%fs, Hs, %hS⟩, ⟨%W0, Howe⟩⟩
      subst hacc
      unfold k0_t4_body
      rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
      unfold k0_part3_skel k0_part4_skel k0_part5_skel k0_part6_skel k0_part7_skel k0_part8_skel k0_part9_skel k0_part10_skel k0_part11_skel
      sl_exec
      sl_step
      have hH := hval off hoff hq
      isplitr
      · ipureintro
        refine five_eq ?_ ?_ (next_slot I) (next_slot W) ?_
        · exact congrArg Prod.fst (words_next c fl hfl I (by omega) _ _ hoffL _)
        · exact congrArg (fun x => x.2.1) (words_next c fl hfl I (by omega) _ _ hoffL _)
        · exact (max_nest v51 v69 v87 v114 v146 v139 (Scf.iv 0#32 1#32 k.val) _ rfl (landed (F := F) kA kR (Ring.slotOfW (BitVec.ofNat 32 (W % 16)) hz) off hoff fk) _).trans (by rw [hH]; rfl)
      isplitl [HL]; · iexact HL
      isplitl [HF_dst Htw HF Hrest]
      · rw [← ringSt_past (W + 1) I hge, ← ringSt_waited W I _ hslotW (by omega)]
        iapply (Ring.AtW_update (kΦ c fk) _ _ _)
        isplitr [Hrest]
        · isplitl [HF]; · iexact HF
          isplitl [HF_dst]
          · iexists _; iexact HF_dst
          · iexact Htw
        · iexact Hrest
      isplitl [Hs]
      · iexists (sM.view.writes (Elt F) fs (stores4 v51 v69 v87 v114 v146 v139 (Scalar.subi v139 (Scalar.muli (Scf.iv 0#32 1#32 k.val) 1024#32)) (landed (F := F) kA kR (Ring.slotOfW (BitVec.ofNat 32 (W % 16)) hz) off hoff fk) t (len c fl t.val) hw7 k))
        isplitl [Hs]; · iexact Hs
        ipureintro
        rw [stores4_eq v51 v69 v87 v114 v146 v139 _ _ t (len c fl t.val) hw7 k rfl hk30, hH]
        exact SInv_step fs k.val (fun i j => stored (scoresAt v51 v69 v87 v114 v146 v139 (View.read (Elt F) kA.view fk) t.val i j)) _ hk30 hkw hS
      · iexists _; iexact Howe
end
end Cert.KernelIdeal.Hand
-- ==== Proof.KI.Values.lean ====
module

public import proofs.«01_k».proof.Proof.KI.Scores
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The second loop over the chunks of a sequence makes as many trips. -/
theorem t6_trips (v : BitVec 32) (h : v.toNat ≤ 30720) : (k0_t6_loop v).trips = chunks v.toNat := t4_trips v h

theorem chk19 (w : BitVec 32) (hi : 0 ≤ w.toInt) (hi' : w.toInt < 16) : k0_chk19 w := by
  sl_disch

/-- A sequence's running sum of the weights after the first `2 * n` blocks of a chunk whose scaled scores are `S`. -/
def sumOf (m : FVec F S8x128 .f32) (S : Fin 16 → Vec F S1x8x256 .f32) (l : FVec F S8x128 .f32) : (n : ℕ) → n ≤ 8 → FVec F S8x128 .f32
  | 0, _ => l
  | n + 1, h => addf (k0_pay118 m (sumOf m S l n (by omega)) (S ⟨2 * n, by omega⟩) (S ⟨2 * n + 1, by omega⟩)) (k0_pay119 m (S ⟨2 * n + 1, by omega⟩))

/-- A sequence's running sum of the weighted values after the first `2 * n` blocks of a chunk: each pair of blocks adds the product of its masked weights with its tiles `T`. -/
def accOf (v33 v51 v69 v87 : IVec S8x256 1) (m : FVec F S8x128 .f32) (S : Fin 16 → Vec F S1x8x256 .f32) (T : Fin 16 → Vec F S1x256x128 .fp8e4m3) (a : FVec F S64x256 .f32) : (n : ℕ) → n ≤ 8 → FVec F S64x256 .f32
  | 0, _ => a
  | n + 1, h => k0_pay120 v33 v51 v69 v87 (accOf v33 v51 v69 v87 m S T a n (by omega)) (k0_pay113 v33 m (S ⟨2 * n, by omega⟩)) (k0_pay114 v51 m (S ⟨2 * n, by omega⟩))
      (k0_pay115 v69 m (S ⟨2 * n, by omega⟩)) (k0_pay116 v87 m (S ⟨2 * n, by omega⟩)) (k0_pay117 m (S ⟨2 * n + 1, by omega⟩)) (T ⟨2 * n, by omega⟩) (T ⟨2 * n + 1, by omega⟩)

/-- The running sum of the weights after the chunks below `k`, chunk `i`'s scores being `S i`. -/
def sumAt (m : FVec F S8x128 .f32) (S : ℕ → Fin 16 → Vec F S1x8x256 .f32) : ℕ → FVec F S8x128 .f32
  | 0 => k0_pay264
  | k + 1 => sumOf m (S k) (sumAt m S k) 8 le_rfl

/-- The running sum of the weighted values after the chunks below `k`, chunk `i`'s tiles being `T i`. -/
def accAt (v33 v51 v69 v87 : IVec S8x256 1) (m : FVec F S8x128 .f32) (S : ℕ → Fin 16 → Vec F S1x8x256 .f32) (T : ℕ → Fin 16 → Vec F S1x256x128 .fp8e4m3) : ℕ → FVec F S64x256 .f32
  | 0 => k0_pay265
  | k + 1 => accOf v33 v51 v69 v87 m (S k) (T k) (accAt v33 v51 v69 v87 m S T k) 8 le_rfl

/-- Six values equal one by one are equal together. -/
theorem six_eq {A B C D E G : Type} {a a' : A} {b b' : B} {x x' : C} {y y' : D} {z z' : E} {u u' : G} (h1 : a = a') (h2 : b = b') (h3 : x = x') (h4 : y = y') (h5 : z = z') (h6 : u = u') :
    (a, b, x, y, z, u) = (a', b', x', y', z', u') := by
  subst h1 h2 h3 h4 h5 h6; rfl

section
variable (v33 v51 v69 v87 : IVec S8x256 1) (m : FVec F S8x128 .f32) (S : Fin 16 → Vec F S1x8x256 .f32) (T : Fin 16 → Vec F S1x256x128 .fp8e4m3) (l : FVec F S8x128 .f32) (a : FVec F S64x256 .f32)

/-- The sum of weights the printed body carries on from a chunk is the running sum over its blocks. -/
theorem sum_nest :
     (k0_pay175 (k0_pay110 m) (k0_pay170 (k0_pay110 m) (k0_pay166 (k0_pay110 m) (k0_pay156 (k0_pay110 m) (k0_pay151 (k0_pay110 m) (k0_pay146 (k0_pay110 m) (k0_pay142 (k0_pay110 m)
      (k0_pay132 (k0_pay110 m) (k0_pay127 (k0_pay110 m) (k0_pay122 (k0_pay110 m) (k0_pay118 m l (S 0) (S 1)) (k0_pay119 m (S 1)) (S 2)) (S 3)) (k0_pay129 (S 4)) (S 5)) (S 6) (S 7))
      (k0_pay143 (k0_pay110 m) (S 7)) (S 8)) (S 9)) (k0_pay153 (S 10)) (S 11)) (S 12) (S 13)) (k0_pay167 (k0_pay110 m) (S 13)) (S 14)) (S 15))
      = sumOf m S l 8 le_rfl := by
  rfl

/-- The weighted sum the printed body carries on from a chunk is the running sum over its pairs of blocks. -/
theorem acc_nest :
     (k0_pay176 v33 v51 v69 v87 (k0_pay110 m) (k0_pay168 v33 v51 v69 v87 (k0_pay158 (k0_pay152 v33 v51 v69 v87 (k0_pay110 m) (k0_pay144 v33 v51 v69 v87 (k0_pay134 (k0_pay128 v33 v51
      v69 v87 (k0_pay110 m) (k0_pay120 v33 v51 v69 v87 a (k0_pay113 v33 m (S 0)) (k0_pay114 v51 m (S 0)) (k0_pay115 v69 m (S 0)) (k0_pay116 v87 m (S 0)) (k0_pay117 m (S 1)) (T 0) (T
      1)) (k0_pay123 (k0_pay110 m) (S 2)) (k0_pay124 v33 (k0_pay110 m) (S 2)) (k0_pay125) (S 3) (T 2) (T 3)) (k0_pay133 v33 v51 v69 v87 (k0_pay110 m) (k0_pay129 (S 4)) (S 5)) (T 4)
      (T 5)) (k0_pay137 v33 (k0_pay110 m) (S 6)) (k0_pay138 v51 (k0_pay110 m) (S 6)) (k0_pay139 v69 (k0_pay110 m) (S 6)) (k0_pay140 v87 (k0_pay110 m) (S 6)) (k0_pay141 (k0_pay110 m)
      (S 7)) (T 6) (T 7)) (k0_pay147 (k0_pay110 m) (S 8)) (k0_pay148 v33 (k0_pay110 m) (S 8)) (k0_pay149) (S 9) (T 8) (T 9)) (k0_pay157 v33 v51 v69 v87 (k0_pay110 m) (k0_pay153 (S
      10)) (S 11)) (T 10) (T 11)) (k0_pay161 v33 (k0_pay110 m) (S 12)) (k0_pay162 v51 (k0_pay110 m) (S 12)) (k0_pay163 v69 (k0_pay110 m) (S 12)) (k0_pay164 v87 (k0_pay110 m) (S 12))
      (k0_pay165 (k0_pay110 m) (S 13)) (T 12) (T 13)) (k0_pay171 (k0_pay110 m) (S 14)) (k0_pay172 v33 (k0_pay110 m) (S 14)) (k0_pay173) (S 15) (T 14) (T 15))
      = accOf v33 v51 v69 v87 m S T a 8 le_rfl := by
  rfl
end

/-- The blocks of scores of row `w` as the scratch array holds them. -/
def rowsAt (fs : BufTy.Contents (Elt F) sM.view.ty) (w : BitVec 32) (hw : w.toNat < 30) (j : Fin 16) : Vec F S1x8x256 .f32 :=
  View.readAt (Elt F) sM.view (Rect.unit (s := S30x8x4096) (sOff w j.val) S1x8x256.size (sOff_inb w hw j.val j.isLt)).toLoadRect fs

theorem rowsAt_eq (fs : BufTy.Contents (Elt F) sM.view.ty) (k : ℕ) (P : ℕ → Fin 16 → Vec F S1x8x256 .f32) (h : SInv fs k P) (w : BitVec 32) (hw : w.toNat < 30) (hwk : w.toNat < k) (hk : k ≤ 30) :
    rowsAt fs w hw = P w.toNat := by
  funext j; exact SInv_load h w hwk hk j _ _ rfl

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 400000 in
/-- The loop over a sequence's value chunks: before trip `k` the carried sums are those over the chunks below `k`. -/
@[sl_loop, reducible] noncomputable def loopInv_k0_t6 (c : Dev nD) (fl : Buf (Elt F) (lenM.view.loc (c : Thread nD τ))) (fv : Buf (Elt F) (vA.view.loc (c : Thread nD τ))) (hfl : Fits c fl)
   (v33 v51 v69 v87 : IVec S8x256 1) (t : Fin k0_t3_loop.trips) (a19 a20 a21 a23 arg15 : BitVec 32) (v118 : Elt F .i32) (hv : v118 = len c fl t.val) (hw7 : k0_chk7 t v118)
   (v137 : BitVec 32) (v188 v204 v205 : FVec F S8x128 .f32) (P : ℕ → Fin 16 → Vec F S1x8x256 .f32) (fs : Buf (Elt F) (sM.view.loc (c : Thread nD τ))) (hS : SInv fs (nch c fl t.val) P) :
    Gen.LoopInvTy_k0_t6 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v33 v51 v69 v87 t a19 a20 a21 a23 arg15 v118 hw7 v137 v188 v204 v205 (a19, a20, a21, a23, k0_pay264 (F := F), k0_pay265 (F := F)) where
  inv := fun k acc => iprop(⌜acc = (BitVec.ofNat 32 (pos (nch c fl) (start (nch c fl) t.val + k + 15)).1, BitVec.ofNat 32 (pos (nch c fl) (start (nch c fl) t.val + k + 15)).2,
        BitVec.ofNat 32 ((start (nch c fl) t.val + k + 15) % 16), BitVec.ofNat 32 ((start (nch c fl) t.val + k) % 16),
        sumAt (k0_pay263 v188 v204 v205) P k, accAt v33 v51 v69 v87 (k0_pay263 v188 v204 v205) P (fun i n => tile (View.read (Elt F) vA.view fv) t.val i (256 * n.val)) k)⌝
    ∗ (lenM.view.loc (c : Thread nD τ) ↦{fullShare} fl)
    ∗ Ring.AtW (vΦ c fv) (ringSt (nch c fl) (start (nch c fl) t.val + k) (start (nch c fl) t.val + k + 15))
    ∗ (sM.view.loc (c : Thread nD τ) ↦{fullShare} fs)
    ∗ ∃ W0, owes (c : Thread nD τ) 0 W0)
  step := fun k acc => by
    subst hv
    have ht : t.val < 24 := t.isLt
    have hkn : k.val < nch c fl t.val := lt_of_lt_of_eq k.isLt (t6_trips _ (hfl _))
    have hn30 := nch_le hfl t.val
    have hst := start_le (fun b => nch_le hfl b) t.val
    have hss : start (nch c fl) (t.val + 1) = start (nch c fl) t.val + nch c fl t.val := rfl
    have hs24 := start_mono (n := nch c fl) (show t.val + 1 ≤ 24 by omega)
    have hpos := pos_at (one_le_nch c fl) t.val ht k.val hkn
    have hP : SInv (F := F) = SInv (F := F) := rfl
    generalize hWW : start (nch c fl) t.val + k.val = W at *
    have hWk : start (nch c fl) t.val + (k.val + 1) = W + 1 := by omega
    obtain ⟨I, hI⟩ : ∃ I, I = W + 15 := ⟨_, rfl⟩
    rw [hWk, show W + 1 + 15 = I + 1 by omega, ← hI]
    obtain ⟨⟨hb0, hb1⟩, ⟨hi0, hi1⟩, ⟨hs0, hs1⟩, hsw⟩ := word_facts hfl I (by omega)
    obtain ⟨-, -, ⟨hz0, hz1⟩, hzw⟩ := word_facts hfl W (by omega)
    have hc1 : k0_chk16 _ _ := chk4 _ _ hb0 hi0 hi1
    have hc2 : k0_chk17 _ _ := chk5 (BitVec.ofNat 32 (pos (nch c fl) I).1) _ hs0 hs1
    have hc3 : k0_chk18 _ := chk3 _ hb0 hb1
    have hc4 := chk19 _ hz0 hz1
    have hpb := pos_fst_le (n := nch c fl) I
    have hpi := (pos_snd_lt (one_le_nch c fl) I).trans_le (nch_le hfl _)
    have hw : (BitVec.ofNat 32 (I % 16)).toNat < 16 := by omega
    have hz : (BitVec.ofNat 32 (W % 16)).toNat < 16 := by omega
    have hoffL := off4_eq (pos (nch c fl) I).1 (by omega)
    have hslot : I % 16 = (Ring.slotOfW (BitVec.ofNat 32 (I % 16)) hw).val := hsw.symm
    have hslotW : W % 16 = (Ring.slotOfW (BitVec.ofNat 32 (W % 16)) hz).val := hzw.symm
    have hne : Ring.slotOfW (BitVec.ofNat 32 (W % 16)) hz ≠ Ring.slotOfW (BitVec.ofNat 32 (I % 16)) hw := by
      intro e; rw [Fin.ext_iff, ← hslot, ← hslotW] at e; omega
    have hltW : W < start (nch c fl) 24 := by omega
    have hkw : (Scf.iv 0#32 1#32 k.val).toNat = k.val := by rw [iv_word, BitVec.toNat_ofNat, Nat.mod_eq_of_lt (by omega)]
    have hk30 : (Scf.iv 0#32 1#32 k.val).toNat < 30 := by omega
    have hval : ∀ off hoff, off = ![(pos (nch c fl) W).1, (pos (nch c fl) W).2 * 4096, 0] →
        landed (F := F) vA vR (Ring.slotOfW (BitVec.ofNat 32 (W % 16)) hz) off hoff fv
          = fun n => tile (View.read (Elt F) vA.view fv) t.val k.val (256 * n.val) := by
      intro off hoff e
      rw [hpos] at e
      exact landed_eq vA vR _ off hoff fv t.val k.val e
    have hrows : rowsAt fs (Scf.iv 0#32 1#32 k.val) hk30 = P k.val := by
      rw [rowsAt_eq fs _ P hS _ hk30 (by omega) hn30, hkw]
    have hq99 := slot_incl vR (Ring.slotOfW (BitVec.ofNat 32 (W % 16)) hz) (k0_off99 (BitVec.ofNat 32 (W % 16))) (k0_off99_inb _ hc4) rfl
    have hq100 := slot_incl vR (Ring.slotOfW (BitVec.ofNat 32 (W % 16)) hz) (k0_off100 (BitVec.ofNat 32 (W % 16))) (k0_off100_inb _ hc4) rfl
    have hq103 := slot_incl vR (Ring.slotOfW (BitVec.ofNat 32 (W % 16)) hz) (k0_off103 (BitVec.ofNat 32 (W % 16))) (k0_off103_inb _ hc4) rfl
    have hq104 := slot_incl vR (Ring.slotOfW (BitVec.ofNat 32 (W % 16)) hz) (k0_off104 (BitVec.ofNat 32 (W % 16))) (k0_off104_inb _ hc4) rfl
    have hq107 := slot_incl vR (Ring.slotOfW (BitVec.ofNat 32 (W % 16)) hz) (k0_off107 (BitVec.ofNat 32 (W % 16))) (k0_off107_inb _ hc4) rfl
    have hq108 := slot_incl vR (Ring.slotOfW (BitVec.ofNat 32 (W % 16)) hz) (k0_off108 (BitVec.ofNat 32 (W % 16))) (k0_off108_inb _ hc4) rfl
    have hq111 := slot_incl vR (Ring.slotOfW (BitVec.ofNat 32 (W % 16)) hz) (k0_off111 (BitVec.ofNat 32 (W % 16))) (k0_off111_inb _ hc4) rfl
    have hq112 := slot_incl vR (Ring.slotOfW (BitVec.ofNat 32 (W % 16)) hz) (k0_off112 (BitVec.ofNat 32 (W % 16))) (k0_off112_inb _ hc4) rfl
    have hq115 := slot_incl vR (Ring.slotOfW (BitVec.ofNat 32 (W % 16)) hz) (k0_off115 (BitVec.ofNat 32 (W % 16))) (k0_off115_inb _ hc4) rfl
    have hq116 := slot_incl vR (Ring.slotOfW (BitVec.ofNat 32 (W % 16)) hz) (k0_off116 (BitVec.ofNat 32 (W % 16))) (k0_off116_inb _ hc4) rfl
    have hq119 := slot_incl vR (Ring.slotOfW (BitVec.ofNat 32 (W % 16)) hz) (k0_off119 (BitVec.ofNat 32 (W % 16))) (k0_off119_inb _ hc4) rfl
    have hq120 := slot_incl vR (Ring.slotOfW (BitVec.ofNat 32 (W % 16)) hz) (k0_off120 (BitVec.ofNat 32 (W % 16))) (k0_off120_inb _ hc4) rfl
    have hq123 := slot_incl vR (Ring.slotOfW (BitVec.ofNat 32 (W % 16)) hz) (k0_off123 (BitVec.ofNat 32 (W % 16))) (k0_off123_inb _ hc4) rfl
    have hq124 := slot_incl vR (Ring.slotOfW (BitVec.ofNat 32 (W % 16)) hz) (k0_off124 (BitVec.ofNat 32 (W % 16))) (k0_off124_inb _ hc4) rfl
    have hq127 := slot_incl vR (Ring.slotOfW (BitVec.ofNat 32 (W % 16)) hz) (k0_off127 (BitVec.ofNat 32 (W % 16))) (k0_off127_inb _ hc4) rfl
    have hq128 := slot_incl vR (Ring.slotOfW (BitVec.ofNat 32 (W % 16)) hz) (k0_off128 (BitVec.ofNat 32 (W % 16))) (k0_off128_inb _ hc4) rfl
    by_cases h1 : k0_cond5 (BitVec.ofNat 32 (pos (nch c fl) I).1) = 1#1
    · have hlt := (pos_fst_lt (one_le_nch c fl) I).mp ((live_iff _ (by omega)).mp h1)
      rw [Ring.AtW_focus2 (vΦ c fv) _ hne, ringSt_issue W I _ hslot (by omega) (by omega), ringSt_wait W I _ hslotW (by omega) hltW]
      iintro ⟨%hacc, HL, ⟨⟨Hcell, ⟨%f, Hslot⟩, Htok⟩, ⟨%off, %hoff, %hq, ⟨%g, HF⟩, Htw⟩, Hrest⟩, Hs, ⟨%W0, Howe⟩⟩
      subst hacc
      unfold k0_t6_body
      rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
      unfold k0_part21_skel k0_part22_skel k0_part23_skel k0_part24_skel k0_part25_skel k0_part26_skel k0_part27_skel k0_part28_skel k0_part29_skel k0_part30_skel k0_part31_skel k0_part32_skel
      sl_exec
      sl_step
      have hH := hval off hoff hq
      isplitr
      · ipureintro
        refine six_eq ?_ ?_ (next_slot I) (next_slot W) ?_ ?_
        · exact congrArg Prod.fst (words_next c fl hfl I (by omega) _ _ hoffL _)
        · exact congrArg (fun x => x.2.1) (words_next c fl hfl I (by omega) _ _ hoffL _)
        · exact (sum_nest (k0_pay263 v188 v204 v205) (rowsAt fs (Scf.iv 0#32 1#32 k.val) hk30) _).trans (by rw [hrows]; rfl)
        · exact (acc_nest v33 v51 v69 v87 (k0_pay263 v188 v204 v205) (rowsAt fs (Scf.iv 0#32 1#32 k.val) hk30) (landed (F := F) vA vR (Ring.slotOfW (BitVec.ofNat 32 (W % 16)) hz) off hoff fv) _).trans (by rw [hH, hrows]; rfl)
      isplitl [HL]; · iexact HL
      isplitl [Hcell Htok HF_dst Htw HF Hrest]
      · rw [← ringSt_waited W (I + 1) _ hslotW (by omega), ← ringSt_issued W I _ hslot (by omega) (by omega) hlt]
        iapply (Ring.AtW_update2 (vΦ c fv) _ hne _ _)
        isplitl [Hcell Htok]
        · iexists _, _
          isplitr
          · ipureintro; exact off3_eq _ _ (by omega) (by omega)
          isplitl [Hcell]
          · iexists f; iexact Hcell
          · iexact Htok
        isplitr [Hrest]
        · isplitl [HF]; · iexact HF
          isplitl [HF_dst]
          · iexists _; iexact HF_dst
          · iexact Htw
        · iexact Hrest
      isplitl [Hs]; · iexact Hs
      iexists _; iexact Howe
    · have hge : start (nch c fl) 24 ≤ I := by
        by_contra hlt
        exact h1 ((live_iff _ (by omega)).mpr ((pos_fst_lt (one_le_nch c fl) I).mpr (by omega)))
      rw [Ring.AtW_focusW (vΦ c fv) _ _ hz, ringSt_wait W I _ hslotW (by omega) hltW]
      iintro ⟨%hacc, HL, ⟨⟨%off, %hoff, %hq, ⟨%g, HF⟩, Htw⟩, Hrest⟩, Hs, ⟨%W0, Howe⟩⟩
      subst hacc
      unfold k0_t6_body
      rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
      unfold k0_part21_skel k0_part22_skel k0_part23_skel k0_part24_skel k0_part25_skel k0_part26_skel k0_part27_skel k0_part28_skel k0_part29_skel k0_part30_skel k0_part31_skel k0_part32_skel
      sl_exec
      sl_step
      have hH := hval off hoff hq
      isplitr
      · ipureintro
        refine six_eq ?_ ?_ (next_slot I) (next_slot W) ?_ ?_
        · exact congrArg Prod.fst (words_next c fl hfl I (by omega) _ _ hoffL _)
        · exact congrArg (fun x => x.2.1) (words_next c fl hfl I (by omega) _ _ hoffL _)
        · exact (sum_nest (k0_pay263 v188 v204 v205) (rowsAt fs (Scf.iv 0#32 1#32 k.val) hk30) _).trans (by rw [hrows]; rfl)
        · exact (acc_nest v33 v51 v69 v87 (k0_pay263 v188 v204 v205) (rowsAt fs (Scf.iv 0#32 1#32 k.val) hk30) (landed (F := F) vA vR (Ring.slotOfW (BitVec.ofNat 32 (W % 16)) hz) off hoff fv) _).trans (by rw [hH, hrows]; rfl)
      isplitl [HL]; · iexact HL
      isplitl [HF_dst Htw HF Hrest]
      · rw [← ringSt_past (W + 1) I hge, ← ringSt_waited W I _ hslotW (by omega)]
        iapply (Ring.AtW_update (vΦ c fv) _ _ _)
        isplitr [Hrest]
        · isplitl [HF]; · iexact HF
          isplitl [HF_dst]
          · iexists _; iexact HF_dst
          · iexact Htw
        · iexact Hrest
      isplitl [Hs]; · iexact Hs
      iexists _; iexact Howe
end
end Cert.KernelIdeal.Hand
-- ==== Proof.KI.Check.lean ====
module

public import proofs.«01_k».proof.Proof.KI.Values
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Blocks of a row of the score array. -/
theorem row_in (k : ℕ) (hk : k < 30) (o : ℕ) (ho : o + 256 ≤ 4096) : ∀ a, (![(Scf.iv 0#32 1#32 k).toNat, 0, o] : Fin 3 → ℕ) a + S1x8x256.size a ≤ S30x8x4096.size a := by
  have e : (Scf.iv 0#32 1#32 k).toNat = k := by rw [iv_word, BitVec.toNat_ofNat, Nat.mod_eq_of_lt (by omega)]
  intro a; fin_cases a
  · show (Scf.iv 0#32 1#32 k).toNat + 1 ≤ 30; omega
  · show 0 + 8 ≤ 8; omega
  · show o + 256 ≤ 4096; omega

/-- The facts the run assumes of a sequence's length hold of every length the cache has room for. -/
theorem chk7 (t : Fin k0_t3_loop.trips) (v : BitVec 32) (h : v.toNat ≤ 30720) : k0_chk7 t v := by
  have ht : t.val < 24 := t.isLt
  have lt4 : ∀ k : Fin (k0_t4_loop v).trips, k.val < 30 := fun k => (lt_of_lt_of_eq k.isLt (t4_trips v h)).trans_le (chunks_le h)
  have lt6 : ∀ k : Fin (k0_t6_loop v).trips, k.val < 30 := lt4
  have hiv : ∀ k, Scf.iv 0#32 1#32 k = BitVec.ofNat 32 k := iv_word
  have hc : k0_cond1 (Scf.iv 0#32 1#32 t.val) = 1#1 := by rw [hiv]; exact (live_iff _ (by omega)).mpr ht
  have ht0 : 0 ≤ (Scf.iv 0#32 1#32 t.val).toInt := by rw [hiv, toInt_ofNat _ (by omega)]; omega
  have hin : ∀ k, k < 30 → _ := fun k hk => chunk_in (Scf.iv 0#32 1#32 t.val) (Scf.iv 0#32 1#32 k) hc ht0 (by rw [hiv, toInt_ofNat _ (by omega)]; omega) (by rw [hiv, toInt_ofNat _ (by omega)]; omega)
  have ok : (k0_t4_loop v).OK := by
    show Scf.OK 0#32 (Scalar.addi 0#32 (Scalar.muli (Scalar.divsi (Scalar.subi (chunksW v) 0#32) 1#32) 1#32)) 1#32
    rw [Scalar.muli_divsi_one, chunksW_eq v h]
    have hc := chunks_le h
    generalize chunks v.toNat = q at hc
    interval_cases q <;> decide
  have dv : ∀ k : Fin (k0_t4_loop v).trips, 4096 ∣ (k0_mult4 v k).toNat := fun k => (hin k.val (lt4 k)).1
  have inb : ∀ k : Fin (k0_t4_loop v).trips, ∀ a, (k0_off18 t v k) a + S1x4096x128.size a ≤ S24x122880x128.size a := fun k => (hin k.val (lt4 k)).2
  have none5 : Fin (k0_t5_loop v).trips → False := fun k => Scf.rem_no_trip _ _ k
  have none7 : Fin (k0_t7_loop v).trips → False := fun k => Scf.rem_no_trip _ _ k
  have ww : ∀ k : Fin (k0_t4_loop v).trips, ∀ (hinb : ∀ a, (k0_off18 t v k) a + S1x4096x128.size a ≤ S24x122880x128.size a), (Rect.unit (s := S24x122880x128) (k0_off18 t v k) S1x4096x128.size hinb).WholeWords 2 :=
    fun k hinb => chunk_words _ (by decide) _ _ (dv k) hinb
  have ww' : ∀ k : Fin (k0_t4_loop v).trips, ∀ (hinb : ∀ a, (k0_off18 t v k) a + S1x4096x128.size a ≤ S24x122880x128.size a), (Rect.unit (s := S24x122880x128) (k0_off18 t v k) S1x4096x128.size hinb).WholeWords 4 :=
    fun k hinb => chunk_words _ (by decide) _ _ (dv k) hinb
  refine ⟨?_, ?_, ?_⟩
  · refine And.intro ok (And.intro dv (And.intro inb (And.intro ww ?_)))
    iterate 16 refine And.intro (fun k => row_in k.val (lt4 k) _ (by decide)) ?_
    refine And.intro (Scf.rem_ok _ _) ?_
    iterate 10 refine And.intro (fun k => (none5 k).elim) ?_
    exact fun k => (none5 k).elim
  · iterate 8 refine And.intro (fun k => (none5 k).elim) ?_
    refine And.intro ok (And.intro dv (And.intro inb (And.intro ww' ?_)))
    iterate 16 refine And.intro (fun k => row_in k.val (lt4 k) _ (by decide)) ?_
    refine And.intro (Scf.rem_ok _ _) ?_
    iterate 2 refine And.intro (fun k => (none7 k).elim) ?_
    exact fun k => (none7 k).elim
  · iterate 15 refine And.intro (fun k => (none7 k).elim) ?_
    exact fun k => (none7 k).elim

end Cert.KernelIdeal.Hand
-- ==== Proof.KI.Rows.lean ====
module

public import proofs.«01_k».proof.Proof.KI.Check
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The rows of the inputs -/

/-- Row `b` of a 24x32x128 array, and of a 24x4x128 array. -/
def row32 {e : EltTy} (g : S24x32x128.Idx → Elt F e) (b : ℕ) : Vec F S1x32x128 e := fun y => g (ix3 ⟨min b 23, by show _ < 24; omega⟩ ⟨(y 1).val, (y 1).isLt⟩ ⟨(y 2).val, (y 2).isLt⟩)
def row4 {e : EltTy} (g : S24x4x128.Idx → Elt F e) (b : ℕ) : Vec F S1x4x128 e := fun y => g (ix3 ⟨min b 23, by show _ < 24; omega⟩ ⟨(y 1).val, (y 1).isLt⟩ ⟨(y 2).val, (y 2).isLt⟩)

theorem load_row32 {e : EltTy} (M : Memref sig .tc .vmem S24x32x128 e) (f : M.view.ty.Contents (Elt F)) (b : ℕ) (hb : b < 24) (off : Fin 3 → ℕ) (hinb) (hoff : off = ![b, 0, 0]) :
    View.readAt (Elt F) M.view (Rect.unit (s := S24x32x128) off S1x32x128.size hinb).toLoadRect f = row32 (View.read (Elt F) M.view f) b := by
  subst hoff; funext y
  have h0 : (y 0).val < 1 := (y 0).isLt
  show View.read (Elt F) M.view f _ = View.read (Elt F) M.view f _
  congr 1
  funext a; fin_cases a <;> apply Fin.ext
  · show b + 1 * (y 0).val = min b 23; omega
  · show 0 + 1 * (y 1).val = (y 1).val; omega
  · show 0 + 1 * (y 2).val = (y 2).val; omega
theorem load_row4 {e : EltTy} (M : Memref sig .tc .vmem S24x4x128 e) (f : M.view.ty.Contents (Elt F)) (b : ℕ) (hb : b < 24) (off : Fin 3 → ℕ) (hinb) (hoff : off = ![b, 0, 0]) :
    View.readAt (Elt F) M.view (Rect.unit (s := S24x4x128) off S1x4x128.size hinb).toLoadRect f = row4 (View.read (Elt F) M.view f) b := by
  subst hoff; funext y
  have h0 : (y 0).val < 1 := (y 0).isLt
  show View.read (Elt F) M.view f _ = View.read (Elt F) M.view f _
  congr 1
  funext a; fin_cases a <;> apply Fin.ext
  · show b + 1 * (y 0).val = min b 23; omega
  · show 0 + 1 * (y 1).val = (y 1).val; omega
  · show 0 + 1 * (y 2).val = (y 2).val; omega

/-! ## The rows of the results -/

/-- Where group `g` of row `w` of a result is. -/
def oOff (w : BitVec 32) (g : ℕ) : Fin 3 → ℕ := ![w.toNat, 8 * g, 0]
theorem oOff_inb (w : BitVec 32) (hw : w.toNat < 24) (g : ℕ) (hg : g < 4) : ∀ a, oOff w g a + S1x8x128.size a ≤ S24x32x128.size a := by
  intro a; fin_cases a
  · show w.toNat + 1 ≤ 24; omega
  · show 8 * g + 8 ≤ 32; omega
  · show 0 + 128 ≤ 128; omega

/-- The first `n` group stores of row `w`, the newest first. -/
def opcs {e : EltTy} (w : BitVec 32) (hw : w.toNat < 24) (P : Fin 4 → Vec F S1x8x128 e) : (n : ℕ) → n ≤ 4 → List (View.Piece (Elt F) S24x32x128 e)
  | 0, _ => []
  | n + 1, h => ⟨Rect.unit (s := S24x32x128) (oOff w n) S1x8x128.size (oOff_inb w hw n h), P ⟨n, h⟩⟩ :: opcs w hw P n (by omega)

/-- The element of group `g` of row `b` at `y`. -/
abbrev oIx (b : ℕ) (hb : b < 24) (g : Fin 4) (y : S1x8x128.Idx) : S24x32x128.Idx :=
  ix3 ⟨b, hb⟩ ⟨8 * g.val + (y 1).val, by have h : (y 1).val < 8 := (y 1).isLt; show _ < 32; omega⟩ ⟨(y 2).val, (y 2).isLt⟩

/-- The result holds the groups `P` of the rows below `k`. -/
def OInv {e : EltTy} (M : Memref sig .tc .vmem S24x32x128 e) (f : M.view.ty.Contents (Elt F)) (k : ℕ) (P : ℕ → Fin 4 → Vec F S1x8x128 e) : Prop :=
  ∀ b (hb : b < 24), b < k → ∀ g y, View.read (Elt F) M.view f (oIx b hb g y) = P b g y

theorem opcs_other {e : EltTy} (M : Memref sig .tc .vmem S24x32x128 e) (w : BitVec 32) (hw) (P : Fin 4 → Vec F S1x8x128 e) (f : M.view.ty.Contents (Elt F)) (b : ℕ) (hb) (hne : b ≠ w.toNat) (g) (y) :
    ∀ n h, View.read (Elt F) M.view (M.view.writes (Elt F) f (opcs w hw P n h)) (oIx b hb g y) = View.read (Elt F) M.view f (oIx b hb g y)
  | 0, _ => rfl
  | n + 1, h => by
    rw [show opcs w hw P (n + 1) h = ⟨Rect.unit (s := S24x32x128) (oOff w n) S1x8x128.size (oOff_inb w hw n h), P ⟨n, h⟩⟩ :: opcs w hw P n (by omega) from rfl,
      View.read_writes_cons_unit_of_not_mem M.view f (oOff_inb w hw n h) _ _ _ rfl 0 (by show b < w.toNat ∨ w.toNat + 1 ≤ b; omega)]
    exact opcs_other M w hw P f b hb hne g y n _

theorem opcs_own {e : EltTy} (M : Memref sig .tc .vmem S24x32x128 e) (w : BitVec 32) (hw) (P : Fin 4 → Vec F S1x8x128 e) (f : M.view.ty.Contents (Elt F)) (hb) (g) (y) :
    ∀ n h, g.val < n → View.read (Elt F) M.view (M.view.writes (Elt F) f (opcs w hw P n h)) (oIx w.toNat hb g y) = P g y
  | 0, _, hj => absurd hj (Nat.not_lt_zero _)
  | n + 1, h, hj => by
    have h0 : (y 0).val < 1 := (y 0).isLt
    have h1 : (y 1).val < 8 := (y 1).isLt
    rw [show opcs w hw P (n + 1) h = ⟨Rect.unit (s := S24x32x128) (oOff w n) S1x8x128.size (oOff_inb w hw n h), P ⟨n, h⟩⟩ :: opcs w hw P n (by omega) from rfl]
    by_cases e : g.val = n
    · have ej : g = ⟨n, h⟩ := Fin.ext e
      rw [View.read_writes_cons_unit_of_mem M.view f (oOff_inb w hw n h) _ _ _ y rfl (fun a => by
        fin_cases a
        · show w.toNat = w.toNat + (y 0).val; omega
        · show 8 * g.val + (y 1).val = 8 * n + (y 1).val; omega
        · show (y 2).val = 0 + (y 2).val; omega), ej]
    · rw [View.read_writes_cons_unit_of_not_mem M.view f (oOff_inb w hw n h) _ _ _ rfl 1
        (by show 8 * g.val + (y 1).val < 8 * n ∨ 8 * n + 8 ≤ 8 * g.val + (y 1).val; omega)]
      exact opcs_own M w hw P f hb g y n _ (by omega)

/-- The four stores of a row's groups put the row beside those before it. -/
theorem OInv_step {e : EltTy} (M : Memref sig .tc .vmem S24x32x128 e) (f : M.view.ty.Contents (Elt F)) (k : ℕ) (P : ℕ → Fin 4 → Vec F S1x8x128 e) (w : BitVec 32) (hw) (hk : w.toNat = k) (h : OInv M f k P) :
    OInv M (M.view.writes (Elt F) f (opcs w hw (P k) 4 le_rfl)) (k + 1) P := by
  intro b hb hlt g y
  by_cases e : b = k
  · subst e
    subst hk
    exact opcs_own M w hw _ f hb g y 4 le_rfl g.isLt
  · rw [opcs_other M w hw _ f b hb (by omega) g y]
    exact h b hb (by omega) g y

/-! ## The results of a sequence -/

/-- The inputs as values: queries, new keys, new values and their scales, the two caches, and the lengths. -/
structure Ins (F : FTy → Type) where
  q : S24x32x128.Idx → Elt F .bf16
  kn : S24x4x128.Idx → Elt F .bf16
  vn : S24x4x128.Idx → Elt F .bf16
  vs : S24x4x128.Idx → Elt F .f32
  ka : S24x122880x128.Idx → Elt F .bf16
  va : S24x122880x128.Idx → Elt F .fp8e4m3
  ln : ℕ → BitVec 32

/-- The lane masks. -/
structure Masks where
  v33 : IVec S8x256 1
  v51 : IVec S8x256 1
  v69 : IVec S8x256 1
  v87 : IVec S8x256 1
  v88 : IVec S8x128 1
  v89 : IVec S8x128 1
  v90 : IVec S8x128 1
  v114 : IVec S8x256 32

namespace Ins
variable (K : Masks) (x : Ins F) (b : ℕ)

/-- The score of the new key. -/
def sn : FVec F S8x128 .f32 := k0_pay249 K.v88 K.v89 K.v90 (k0_pay246 (row4 x.kn b)) (k0_pay247 (row32 x.q b)) (k0_pay248 (row32 x.q b) (row4 x.kn b))
/-- The scores of chunk `i`. -/
def sc (i : ℕ) : Fin 16 → FVec F S8x256 .f32 := scoresAt K.v51 K.v69 K.v87 K.v114 (k0_pay245 (row32 x.q b)) (x.ln b) x.ka b i
/-- The running maximum of the cache's scores. -/
def mx : FVec F S8x128 .f32 := maxAt (x.sc K b) (chunks (x.ln b).toNat)
/-- The maximum of all scores, scaled. -/
def mm : FVec F S8x128 .f32 := k0_pay263 (x.sn K b) (k0_pay261 (x.mx K b)) (k0_pay262 (x.mx K b))
/-- The sum of the cache's weights, lane by lane. -/
def ls : FVec F S8x128 .f32 := sumAt (x.mm K b) (fun i j => stored (x.sc K b i j)) (chunks (x.ln b).toNat)
/-- The weighted sum of the cache's values. -/
def acc : FVec F S64x256 .f32 := accAt K.v33 K.v51 K.v69 K.v87 (x.mm K b) (fun i j => stored (x.sc K b i j)) (fun i n => tile x.va b i (256 * n.val)) (chunks (x.ln b).toNat)
def pn : FVec F S8x128 .f32 := k0_pay266 (x.sn K b) (k0_pay261 (x.mx K b)) (k0_pay262 (x.mx K b))
def den : FVec F S8x128 .f32 := k0_pay267 (x.sn K b) (k0_pay261 (x.mx K b)) (k0_pay262 (x.mx K b)) (x.ls K b)
def num : FVec F S32x128 .f32 := k0_pay268 (x.acc K b)
def sv : FVec F S4x128 .f32 := k0_pay269 (row4 x.vs b)
def vc : FVec F S4x128 .fp8e4m3 := k0_pay270 (row4 x.vs b) (row4 x.vn b)

/-- The groups of row `b` of the cache's part of the result. -/
def out8 : Fin 4 → Vec F S1x8x128 .f32
  | 0 => k0_pay275 (x.den K b) (x.num K b) (x.sv b)
  | 1 => k0_pay281 (x.den K b) (x.num K b) (x.sv b)
  | 2 => k0_pay287 (x.den K b) (x.num K b) (x.sv b)
  | 3 => k0_pay2 (k0_pay289 (x.den K b)) (k0_pay291 (x.sv b)) (k0_pay292 (x.num K b))
/-- The groups of row `b` of the result. -/
def out7 : Fin 4 → Vec F S1x8x128 .bf16
  | 0 => k0_pay276 (x.pn K b) (x.den K b) (x.num K b) (x.sv b) (x.vc b)
  | 1 => k0_pay283 (k0_pay277 (x.den K b)) (k0_pay278 (x.pn K b)) (k0_pay279 (x.sv b)) (k0_pay280 (x.den K b) (x.num K b) (x.sv b)) (k0_pay282 (x.vc b))
  | 2 => k0_pay288 (x.pn K b) (x.den K b) (x.num K b) (x.sv b) (k0_pay271 (x.vc b))
  | 3 => k0_pay3 (k0_pay271 (x.vc b)) (k0_pay289 (x.den K b)) (k0_pay290 (x.pn K b)) (k0_pay291 (x.sv b)) (k0_pay292 (x.num K b))
end Ins

end Cert.KernelIdeal.Hand
-- ==== Proof.KI.Seq.lean ====
module

public import proofs.«01_k».proof.Proof.KI.Rows
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What the body's operands hold, as values. -/
abbrev insOf (arg1 : Memref sig .tc .vmem S24x32x128 .bf16) (arg2 : Memref sig .tc .vmem S24x4x128 .bf16) (arg3 : Memref sig .tc .vmem S24x4x128 .bf16) (arg4 : Memref sig .tc .vmem S24x4x128 .f32) (c : Dev nD) (fl : Buf (Elt F) (lenM.view.loc (c : Thread nD τ)))
    (f1 : arg1.view.ty.Contents (Elt F)) (f2 : arg2.view.ty.Contents (Elt F)) (f3 : arg3.view.ty.Contents (Elt F)) (f4 : arg4.view.ty.Contents (Elt F)) (fk : kA.view.ty.Contents (Elt F)) (fv : vA.view.ty.Contents (Elt F)) : Ins F :=
  ⟨View.read (Elt F) arg1.view f1, View.read (Elt F) arg2.view f2, View.read (Elt F) arg3.view f3, View.read (Elt F) arg4.view f4, View.read (Elt F) kA.view fk, View.read (Elt F) vA.view fv, len c fl⟩

/-- The eight words the loop over the sequences carries at sequence `b`. -/
def seqWords (n : ℕ → ℕ) (b : ℕ) : BitVec 32 × BitVec 32 × BitVec 32 × BitVec 32 × BitVec 32 × BitVec 32 × BitVec 32 × BitVec 32 :=
  (BitVec.ofNat 32 (pos n (start n b + 15)).1, BitVec.ofNat 32 (pos n (start n b + 15)).2, BitVec.ofNat 32 ((start n b + 15) % 16),
   BitVec.ofNat 32 (pos n (start n b + 15)).1, BitVec.ofNat 32 (pos n (start n b + 15)).2, BitVec.ofNat 32 ((start n b + 15) % 16),
   BitVec.ofNat 32 (start n b % 16), BitVec.ofNat 32 (start n b % 16))

variable {F : FTy → Type} [FloatOps F] in
/-- The stores of a row of the result, the newest first, put the row beside those before it. -/
theorem OInv_row7 (M : Memref sig .tc .vmem S24x32x128 .bf16) (f : M.view.ty.Contents (Elt F)) (K : Masks) (x : Ins F) (b : Fin k0_t3_loop.trips) (hb : b.val < 24) (h : OInv M f b.val fun b => x.out7 K b)
    (pn den : FVec F S8x128 .f32) (num : FVec F S32x128 .f32) (sv : FVec F S4x128 .f32) (vc : FVec F S4x128 .fp8e4m3)
    (e1 : pn = x.pn K b.val) (e2 : den = x.den K b.val) (e3 : num = x.num K b.val) (e4 : sv = x.sv b.val) (e5 : vc = x.vc b.val) :
    OInv M (M.view.writes (Elt F) f
      [⟨Rect.unit (s := S24x32x128) (k0_off172 b) S1x8x128.size (k0_off172_inb b), k0_pay3 (k0_pay271 vc) (k0_pay289 den) (k0_pay290 pn) (k0_pay291 sv) (k0_pay292 num)⟩,
       ⟨Rect.unit (s := S24x32x128) (k0_off171 b) S1x8x128.size (k0_off171_inb b), k0_pay288 pn den num sv (k0_pay271 vc)⟩,
       ⟨Rect.unit (s := S24x32x128) (k0_off170 b) S1x8x128.size (k0_off170_inb b), k0_pay283 (k0_pay277 den) (k0_pay278 pn) (k0_pay279 sv) (k0_pay280 den num sv) (k0_pay282 vc)⟩,
       ⟨Rect.unit (s := S24x32x128) (k0_off169 b) S1x8x128.size (k0_off169_inb b), k0_pay276 pn den num sv vc⟩]) (b.val + 1) fun b => x.out7 K b := by
  subst e1 e2 e3 e4 e5
  have hw : (Scf.iv 0#32 1#32 b.val).toNat = b.val := by rw [iv_word, BitVec.toNat_ofNat, Nat.mod_eq_of_lt (by omega)]
  exact OInv_step M f b.val (fun b => x.out7 K b) (Scf.iv 0#32 1#32 b.val) (by omega) hw h

variable {F : FTy → Type} [FloatOps F] in
/-- The same of the cache's part. -/
theorem OInv_row8 (M : Memref sig .tc .vmem S24x32x128 .f32) (f : M.view.ty.Contents (Elt F)) (K : Masks) (x : Ins F) (b : Fin k0_t3_loop.trips) (hb : b.val < 24) (h : OInv M f b.val fun b => x.out8 K b)
    (den : FVec F S8x128 .f32) (num : FVec F S32x128 .f32) (sv : FVec F S4x128 .f32)
    (e2 : den = x.den K b.val) (e3 : num = x.num K b.val) (e4 : sv = x.sv b.val) :
    OInv M (M.view.writes (Elt F) f
      [⟨Rect.unit (s := S24x32x128) (k0_off172 b) S1x8x128.size (k0_off172_inb b), k0_pay2 (k0_pay289 den) (k0_pay291 sv) (k0_pay292 num)⟩,
       ⟨Rect.unit (s := S24x32x128) (k0_off171 b) S1x8x128.size (k0_off171_inb b), k0_pay287 den num sv⟩,
       ⟨Rect.unit (s := S24x32x128) (k0_off170 b) S1x8x128.size (k0_off170_inb b), k0_pay281 den num sv⟩,
       ⟨Rect.unit (s := S24x32x128) (k0_off169 b) S1x8x128.size (k0_off169_inb b), k0_pay275 den num sv⟩]) (b.val + 1) fun b => x.out8 K b := by
  subst e2 e3 e4
  have hw : (Scf.iv 0#32 1#32 b.val).toNat = b.val := by rw [iv_word, BitVec.toNat_ofNat, Nat.mod_eq_of_lt (by omega)]
  exact OInv_step M f b.val (fun b => x.out8 K b) (Scf.iv 0#32 1#32 b.val) (by omega) hw h

section
variable {F : FTy → Type} [FloatOps F] (K : Masks) (x : Ins F) (b : ℕ) (Q : Vec F S1x32x128 .bf16) (Kn : Vec F S1x4x128 .bf16) (L : BitVec 32) (n : ℕ)
  (hQ : Q = row32 x.q b) (hK : Kn = row4 x.kn b) (hL : L = x.ln b) (hn : n = chunks (x.ln b).toNat)
include hQ hK hL hn

/-- What the body has for the new key's weight. -/
theorem pn_eq : k0_pay266 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n)) = x.pn K b := by
  subst hQ hK hL hn; rfl
/-- What the body has for the sum of the weights. -/
theorem den_eq : k0_pay267 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))
    (sumAt (k0_pay263 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))) (fun i j => stored (scoresAt K.v51 K.v69 K.v87 K.v114 (k0_pay245 Q) L x.ka b i j)) n) = x.den K b := by
  subst hQ hK hL hn; rfl
/-- What the body has for the weighted sum of the values. -/
theorem num_eq : k0_pay268 (accAt K.v33 K.v51 K.v69 K.v87 (k0_pay263 (k0_pay249 K.v88 K.v89 K.v90 (k0_pay246 Kn) (k0_pay247 Q) (k0_pay248 Q Kn)) (k0_pay261 (maxAt (scoresAt K.v51 K.v69 K.v87 K.v114 (k0_pay245 Q) L x.ka b) n)) (k0_pay262 (maxAt (scoresAt K.v51 K.v69 K.v87 K.v114 (k0_pay245 Q) L x.ka b) n))) (fun i j => stored (scoresAt K.v51 K.v69 K.v87 K.v114 (k0_pay245 Q) L x.ka b i j)) (fun i n => tile x.va b i (256 * n.val)) n) = x.num K b := by
  subst hQ hK hL hn; rfl
end

/-- The same fact at an equal count of chunks. -/
theorem SInv_cast {fs : sM.view.ty.Contents (Elt F)} {k k' : ℕ} {P : ℕ → Fin 16 → Vec F S1x8x256 .f32} (e : k = k') (h : SInv fs k P) : SInv fs k' P := e ▸ h

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 3000000 in
/-- The loop over the sequences: before trip `b` both rings wait for the sequence's first chunk and the results hold the rows below `b`. -/
@[sl_loop, reducible] noncomputable def loopInv_k0_t3 (c : Dev nD) (fl : Buf (Elt F) (lenM.view.loc (c : Thread nD τ))) (fk : Buf (Elt F) (kA.view.loc (c : Thread nD τ))) (fv : Buf (Elt F) (vA.view.loc (c : Thread nD τ))) (hfl : Fits c fl)
   (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
   (v33 v51 v69 v87 : IVec S8x256 1) (v88 v89 v90 : IVec S8x128 1) (v114 : IVec S8x256 32) :
    Gen.LoopInvTy_k0_t3 (F := F) Unit ℕ (UU nD τ) ℕ 𝒱₀ c none Set.univ lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4
      v33 v51 v69 v87 v88 v89 v90 v114 0#32 1#32 (seqWords (nch c fl) 0) where
  inv := fun b acc => iprop(⌜acc = seqWords (nch c fl) b⌝
    ∗ (lenM.view.loc (c : Thread nD τ) ↦{fullShare} fl)
    ∗ (arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ Ring.AtW (kΦ c fk) (ringSt (nch c fl) (start (nch c fl) b) (start (nch c fl) b + 15))
    ∗ Ring.AtW (vΦ c fv) (ringSt (nch c fl) (start (nch c fl) b) (start (nch c fl) b + 15))
    ∗ (∃ fs, (sM.view.loc (c : Thread nD τ) ↦{fullShare} fs))
    ∗ (∃ f7, (arg7.view.loc (c : Thread nD τ) ↦[arg7.view.set]{fullShare} f7) ∗ ⌜OInv arg7 f7 b fun b => (insOf arg1 arg2 arg3 arg4 c fl f1 f2 f3 f4 fk fv).out7 ⟨v33, v51, v69, v87, v88, v89, v90, v114⟩ b⌝)
    ∗ (∃ f8, (arg8.view.loc (c : Thread nD τ) ↦[arg8.view.set]{fullShare} f8) ∗ ⌜OInv arg8 f8 b fun b => (insOf arg1 arg2 arg3 arg4 c fl f1 f2 f3 f4 fk fv).out8 ⟨v33, v51, v69, v87, v88, v89, v90, v114⟩ b⌝)
    ∗ ∃ W0, owes (c : Thread nD τ) 0 W0)
  step := fun b acc => by
    have hb : b.val < 24 := b.isLt
    have h7 : ∀ v : BitVec 32, v = len c fl b.val → k0_chk7 b v := fun v e => chk7 b v (e ▸ hfl _)
    have hL : ∀ i, View.readAt (Elt F) lenM.view (Rect.unit (s := S24) (k0_off9 b) S1.size (k0_off9_inb b)).toLoadRect fl i = len c fl b.val := by
      intro i
      refine load_len c fl _ _ b.val ?_ i
      show ![(Scf.iv 0#32 1#32 b.val).toNat] = _
      rw [iv_word, BitVec.toNat_ofNat, Nat.mod_eq_of_lt (by omega), Nat.min_eq_left (by omega)]
    have hc7 : ∀ i, k0_chk7 b (View.readAt (Elt F) lenM.view (Rect.unit (s := S24) (k0_off9 b) S1.size (k0_off9_inb b)).toLoadRect fl i) := fun i => h7 _ (hL i)
    iintro ⟨%hacc, HL, H1, H2, H3, H4, Hk, Hv, ⟨%fs, Hs⟩, ⟨%f7, Hf7, %hO7⟩, ⟨%f8, Hf8, %hO8⟩, ⟨%W0, Howe⟩⟩
    subst hacc
    unfold k0_t3_body seqWords
    rw [k0_part45_eq_skeleton, k0_part46_eq_skeleton, k0_part47_eq_skeleton, k0_part48_eq_skeleton, k0_part49_eq_skeleton]
    unfold k0_part45_skel k0_part46_skel k0_part47_skel k0_part48_skel k0_part49_skel
    sl_exec
    have hv : loopInv_k0_t3.sl.r c fl b = len c fl b.val := hL _
    have hS0 : SInv fs 0 fun i j => stored (scoresAt v51 v69 v87 v114 (k0_pay245 (View.readAt (Elt F) arg1.view (Rect.unit (s := S24x32x128) (k0_off10 b) S1x32x128.size (k0_off10_inb b)).toLoadRect f1)) (loopInv_k0_t3.sl.r c fl b) (View.read (Elt F) kA.view fk) b.val i j) := fun _ _ h => absurd h (Nat.not_lt_zero _)
    rw [Prog.bind_assoc]
    sl_exec
    have htr : (k0_t4_loop (loopInv_k0_t3.sl.r c fl b)).trips = nch c fl b.val := (t4_trips _ (hv ▸ hfl _)).trans (congrArg (fun v : BitVec 32 => chunks v.toNat) hv)
    have hS := SInv_cast htr hL4
    rw [Prog.bind_assoc]
    sl_exec
    rw [Prog.bind_assoc]
    sl_exec
    rw [Prog.bind_assoc]
    sl_exec
    sl_step
    have he : start (nch c fl) b.val + (k0_t4_loop (loopInv_k0_t3.sl.r c fl b)).trips = start (nch c fl) (b.val + 1) := by rw [htr]; rfl
    have hof : ![(Scf.iv 0#32 1#32 b.val).toNat, 0, 0] = ![b.val, 0, 0] := by rw [iv_word, BitVec.toNat_ofNat, Nat.mod_eq_of_lt (by omega)]
    have hrq := load_row32 arg1 f1 b.val hb (k0_off10 b) (k0_off10_inb b) hof
    have hrk := load_row4 arg2 f2 b.val hb (k0_off11 b) (k0_off11_inb b) hof
    have hrv := load_row4 arg3 f3 b.val hb (k0_off168 b) (k0_off168_inb b) hof
    have hrs := load_row4 arg4 f4 b.val hb (k0_off168 b) (k0_off168_inb b) hof
    isplitr
    · ipureintro
      exact congrArg (fun s => ((BitVec.ofNat 32 (pos (nch c fl) (s + 15)).1, BitVec.ofNat 32 (pos (nch c fl) (s + 15)).2, BitVec.ofNat 32 ((s + 15) % 16), BitVec.ofNat 32 (pos (nch c fl) (s + 15)).1, BitVec.ofNat 32 (pos (nch c fl) (s + 15)).2, BitVec.ofNat 32 ((s + 15) % 16), BitVec.ofNat 32 (s % 16), BitVec.ofNat 32 (s % 16)) : BitVec 32 × BitVec 32 × BitVec 32 × BitVec 32 × BitVec 32 × BitVec 32 × BitVec 32 × BitVec 32)) he
    isplitl [HL]; · iexact HL
    isplitl [H1]; · iexact H1
    isplitl [H2]; · iexact H2
    isplitl [H3]; · iexact H3
    isplitl [H4]; · iexact H4
    isplitl [Hk]
    · rw [← he]; iexact Hk
    isplitl [Hv]
    · rw [← he]; iexact Hv
    isplitl [Hs]
    · iexists fsL0; iexact Hs
    isplitl [Hf7]
    · iexists _
      isplitl [Hf7]; · iexact Hf7
      ipureintro
      refine OInv_row7 arg7 f7 ⟨v33, v51, v69, v87, v88, v89, v90, v114⟩ (insOf arg1 arg2 arg3 arg4 c fl f1 f2 f3 f4 fk fv) b hb hO7 _ _ _ _ _ ?_ ?_ ?_ ?_ ?_
      · exact pn_eq ⟨v33, v51, v69, v87, v88, v89, v90, v114⟩ (insOf arg1 arg2 arg3 arg4 c fl f1 f2 f3 f4 fk fv) b.val _ _ _ _ hrq hrk hv htr
      · exact den_eq ⟨v33, v51, v69, v87, v88, v89, v90, v114⟩ (insOf arg1 arg2 arg3 arg4 c fl f1 f2 f3 f4 fk fv) b.val _ _ _ _ hrq hrk hv htr
      · exact num_eq ⟨v33, v51, v69, v87, v88, v89, v90, v114⟩ (insOf arg1 arg2 arg3 arg4 c fl f1 f2 f3 f4 fk fv) b.val _ _ _ _ hrq hrk hv htr
      · exact congrArg k0_pay269 hrs
      · exact congr (congrArg k0_pay270 hrs) hrv
    isplitl [Hf8]
    · iexists _
      isplitl [Hf8]; · iexact Hf8
      ipureintro
      refine OInv_row8 arg8 f8 ⟨v33, v51, v69, v87, v88, v89, v90, v114⟩ (insOf arg1 arg2 arg3 arg4 c fl f1 f2 f3 f4 fk fv) b hb hO8 _ _ _ ?_ ?_ ?_
      · exact den_eq ⟨v33, v51, v69, v87, v88, v89, v90, v114⟩ (insOf arg1 arg2 arg3 arg4 c fl f1 f2 f3 f4 fk fv) b.val _ _ _ _ hrq hrk hv htr
      · exact num_eq ⟨v33, v51, v69, v87, v88, v89, v90, v114⟩ (insOf arg1 arg2 arg3 arg4 c fl f1 f2 f3 f4 fk fv) b.val _ _ _ _ hrq hrk hv htr
      · exact congrArg k0_pay269 hrs
    · iexists _; iexact Howe
end
end Cert.KernelIdeal.Hand
-- ==== Proof.KI.Body.lean ====
module

public import proofs.«01_k».proof.Proof.KI.Seq
public import Idealize.ShloMosaic.Lib.LoopRemainder

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The lane masks the body computes. -/
def masks : Masks :=
  ⟨k0_pay297 k0_pay294 k0_pay295 k0_pay296, k0_pay298 (iota .tc S8x256 32 [1] iota_S8x256_d1_w32), k0_pay299 (iota .tc S8x256 32 [1] iota_S8x256_d1_w32),
    k0_pay300 (iota .tc S8x256 32 [1] iota_S8x256_d1_w32) 4#32,
    k0_pay301 (k0_pay298 (iota .tc S8x256 32 [1] iota_S8x256_d1_w32)), k0_pay302 (k0_pay299 (iota .tc S8x256 32 [1] iota_S8x256_d1_w32)),
    k0_pay303 (iota .tc S8x256 32 [1] iota_S8x256_d1_w32) 4#32,
    k0_pay304 (iota .tc S8x256 32 [1] iota_S8x256_d1_w32)⟩

/-- A fact of the rows before `k`, restated at an equal `k`. -/
theorem OInv_end {e : EltTy} {M : Memref sig .tc .vmem S24x32x128 e} {f : M.view.ty.Contents (Elt F)} {k k' : ℕ} {P : ℕ → Fin 4 → Vec F S1x8x128 e} (h : k = k') (hO : OInv M f k P) : OInv M f k' P := h ▸ hO

section
variable (arg1 : Memref sig .tc .vmem S24x32x128 .bf16) (harg1 : arg1.IsWhole) (arg2 : Memref sig .tc .vmem S24x4x128 .bf16) (harg2 : arg2.IsWhole) (arg3 : Memref sig .tc .vmem S24x4x128 .bf16) (harg3 : arg3.IsWhole) (arg4 : Memref sig .tc .vmem S24x4x128 .f32) (harg4 : arg4.IsWhole)
  (arg7 : Memref sig .tc .vmem S24x32x128 .bf16) (harg7 : arg7.IsWhole) (arg8 : Memref sig .tc .vmem S24x32x128 .f32) (harg8 : arg8.IsWhole) (arg9 : Memref sig .tc .vmem S24x4x128 .fp8e4m3) (harg9 : arg9.IsWhole)

set_option maxHeartbeats 3000000 in
/-- The body, run from the operands at `fl`, `f1`..`f4` and the caches' shares at `fk`, `fv` with both rings free, ends with both rings free, the operands
    as they were, every row of the first two results in place, and the third result stored whole. -/
theorem body_run (c : Dev nD) (fl : Buf (Elt F) (lenM.view.loc (c : Thread nD τ))) (fk : Buf (Elt F) (kA.view.loc (c : Thread nD τ))) (fv : Buf (Elt F) (vA.view.loc (c : Thread nD τ))) (hfl : Fits c fl)
   (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
   (W : Waits sig Unit) (Kc : PUnit → sProp 𝕄) :
    iprop((lenM.view.loc (c : Thread nD τ) ↦{fullShare} fl)
      ∗ (arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3) ∗ (arg4.view.loc (c : Thread nD τ) ↦[arg4.view.set]{fullShare} f4)
      ∗ Ring.AtW (kΦ c fk) (fun _ => none) ∗ Ring.AtW (vΦ c fv) (fun _ => none)
      ∗ (∃ fs, (sM.view.loc (c : Thread nD τ) ↦{fullShare} fs))
      ∗ (∃ f7, (arg7.view.loc (c : Thread nD τ) ↦[arg7.view.set]{fullShare} f7))
      ∗ (∃ f8, (arg8.view.loc (c : Thread nD τ) ↦[arg8.view.set]{fullShare} f8))
      ∗ (∃ f9, (arg9.view.loc (c : Thread nD τ) ↦[arg9.view.set]{fullShare} f9))
      ∗ owes (c : Thread nD τ) 0 W
      ∗ (iprop((lenM.view.loc (c : Thread nD τ) ↦{fullShare} fl)
          ∗ (arg1.view.loc (c : Thread nD τ) ↦[arg1.view.set]{fullShare} f1) ∗ (arg2.view.loc (c : Thread nD τ) ↦[arg2.view.set]{fullShare} f2)
          ∗ (arg3.view.loc (c : Thread nD τ) ↦[arg3.view.set]{fullShare} f3) ∗ (arg4.view.loc (c : Thread nD τ) ↦[arg4.view.set]{fullShare} f4)
          ∗ Ring.AtW (kΦ c fk) (fun _ => none) ∗ Ring.AtW (vΦ c fv) (fun _ => none)
          ∗ (∃ fs, (sM.view.loc (c : Thread nD τ) ↦{fullShare} fs))
          ∗ (∃ f7, (arg7.view.loc (c : Thread nD τ) ↦[arg7.view.set]{fullShare} f7) ∗ ⌜OInv arg7 f7 24 fun b => (insOf arg1 arg2 arg3 arg4 c fl f1 f2 f3 f4 fk fv).out7 masks b⌝)
          ∗ (∃ f8, (arg8.view.loc (c : Thread nD τ) ↦[arg8.view.set]{fullShare} f8) ∗ ⌜OInv arg8 f8 24 fun b => (insOf arg1 arg2 arg3 arg4 c fl f1 f2 f3 f4 fk fv).out8 masks b⌝)
          ∗ (∃ f9, (arg9.view.loc (c : Thread nD τ) ↦[arg9.view.set]{fullShare} arg9.view.writes (Elt F) f9
              [⟨Rect.unit (s := S24x4x128) ![0, 0, 0] S24x4x128.size inb_S24x4x128_S24x4x128_0_0_0,
                k0_pay293 (View.readAt (Elt F) arg3.view (Rect.unit (s := S24x4x128) ![0, 0, 0] S24x4x128.size inb_S24x4x128_S24x4x128_0_0_0).toLoadRect f3)
                  (View.readAt (Elt F) arg4.view (Rect.unit (s := S24x4x128) ![0, 0, 0] S24x4x128.size inb_S24x4x128_S24x4x128_0_0_0).toLoadRect f4)⟩]))
          ∗ (∃ W', owes (c : Thread nD τ) 0 W')) -∗ Kc ⟨⟩))
    ⊢ wp frame (wpE (defs₀ (F := F)) 𝒱₀ c none) Set.univ
        (cc0_gqa_decode lenM (Memref.isWhole_whole _) arg1 harg1 arg2 harg2 arg3 harg3 arg4 harg4 kA (Memref.isWhole_whole _) vA (Memref.isWhole_whole _) arg7 harg7 arg8 harg8 arg9 harg9 kR (Memref.isWhole_whole _) vR (Memref.isWhole_whole _) sM (Memref.isWhole_whole _) cc0_scratch3 cc0_scratch4) Kc := by
  rw [← ringSt_start (nch c fl)]
  iintro ⟨HL, H1, H2, H3, H4, Hk, Hv, ⟨%fs, Hs⟩, ⟨%f7, Hf7⟩, ⟨%f8, Hf8⟩, ⟨%f9, Hf9⟩, Howe, Hc⟩
  have h0 : (0#32, 0#32, 0#32) = wordsAt (nch c fl) 0 := rfl
  rw [cc0_gqa_decode_eq_skeleton]; unfold cc0_gqa_decode_skel
  rw [k0_part50_eq_skeleton, k0_part51_eq_skeleton, k0_part52_eq_skeleton]
  unfold k0_part50_skel k0_part51_skel k0_part52_skel
  rw [Prog.bind_assoc]
  sl_exec
  rw [Prog.bind_assoc]
  sl_exec
  have ht1 : Scf.trips k0_t1_loop.lb k0_t1_loop.ub k0_t1_loop.st = 15 := by decide
  rw [ht1]
  have hO7 : OInv arg7 f7 0 fun b => (insOf arg1 arg2 arg3 arg4 c fl f1 f2 f3 f4 fk fv).out7 ⟨k0_pay297 k0_pay294 k0_pay295 k0_pay296, k0_pay298 body_run.sl.v15, k0_pay299 body_run.sl.v15, k0_pay300 body_run.sl.v15 4#32, k0_pay301 (k0_pay298 body_run.sl.v15), k0_pay302 (k0_pay299 body_run.sl.v15), k0_pay303 body_run.sl.v15 4#32, k0_pay304 body_run.sl.v15⟩ b := fun _ _ h => absurd h (Nat.not_lt_zero _)
  have hO8 : OInv arg8 f8 0 fun b => (insOf arg1 arg2 arg3 arg4 c fl f1 f2 f3 f4 fk fv).out8 ⟨k0_pay297 k0_pay294 k0_pay295 k0_pay296, k0_pay298 body_run.sl.v15, k0_pay299 body_run.sl.v15, k0_pay300 body_run.sl.v15 4#32, k0_pay301 (k0_pay298 body_run.sl.v15), k0_pay302 (k0_pay299 body_run.sl.v15), k0_pay303 body_run.sl.v15 4#32, k0_pay304 body_run.sl.v15⟩ b := fun _ _ h => absurd h (Nat.not_lt_zero _)
  have hr : ringSt (nch c fl) 0 15 = ringSt (nch c fl) (start (nch c fl) 0) (start (nch c fl) 0 + 15) := rfl
  rw [hr, show (BitVec.ofNat 32 (pos (nch c fl) 15).1, BitVec.ofNat 32 (pos (nch c fl) 15).2, BitVec.ofNat 32 (15 % 16), BitVec.ofNat 32 (pos (nch c fl) 15).1, BitVec.ofNat 32 (pos (nch c fl) 15).2, BitVec.ofNat 32 (15 % 16), 0#32, 0#32) = seqWords (nch c fl) 0 from rfl]
  sl_exec
  sl_step
  have ht3 : k0_t3_loop.trips = 24 := by decide
  have hre : ∀ T, T = 24 → ringSt (nch c fl) (start (nch c fl) T) (start (nch c fl) T + 15) = ringSt (nch c fl) 0 0 := by
    intro T e; subst e; rw [ringSt_start, ringSt_end _ _ le_rfl]
  iapply Hc
  isplitl [HL]; · iexact HL
  isplitl [H1]; · iexact H1
  isplitl [H2]; · iexact H2
  isplitl [H3]; · iexact H3
  isplitl [H4]; · iexact H4
  isplitl [Hk]; · rw [← hre _ ht3]; iexact Hk
  isplitl [Hv]; · rw [← hre _ ht3]; iexact Hv
  isplitl [Hs]; · iexists _; iexact Hs
  isplitl [Hf7]
  · iexists _
    isplitl [Hf7]; · iexact Hf7
    ipureintro
    exact OInv_end ht3 hL10
  isplitl [Hf8]
  · iexists _
    isplitl [Hf8]; · iexact Hf8
    ipureintro
    exact OInv_end ht3 hL12
  isplitl [Hf9]; · iexists _; iexact Hf9
  iexists _; iexact Howe
end
end Cert.KernelIdeal.Hand
-- ==== Proof.KI.Cut.lean ====
module

public import proofs.«01_k».proof.Proof.KI.Ring
public import Idealize.ShloMosaic.Lib.Ring.FamCut
public import Idealize.ShloMosaic.Lib.ViewIndex

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable {e : EltTy} (A : Memref sig .tc .hbm S24x122880x128 e) (R : Memref sig .tc .vmem S16x4096x128 e) (cell : Fin 16 → SemLoc sig) (N : ℕ)

/-- Two slots have no element in common. -/
theorem slot_disjoint (k k' : Fin 16) (h : k ≠ k') : Disjoint (slot R k).view.set (slot R k').view.set := by
  have e0 : ∀ k, (slot R k).view.set = (R.view.slice (Rect.unit ![k.val, 0, 0] S1x4096x128.size (inbK k))).set := fun k => View.set_reshape _ _
  rw [e0, e0]
  refine View.disjoint_slice (Rect.unit_disjoint (0 : Fin 3) ?_)
  have := fun h' => h (Fin.ext h')
  show k.val + 1 ≤ k'.val ∨ k'.val + 1 ≤ k.val
  omega

/-- What is left of the ring's buffer beside its slots, and of the cache beside the slots' read shares. -/
abbrev leftover (c : Dev nD) (fa : Buf (Elt F) (A.view.loc (c : Thread nD τ))) : sProp 𝕄 :=
  iprop((∃ f, R.view.loc (c : Thread nD τ) ↦[Ring.restOf fun k : Fin 16 => (slot R k).view.set]{fullShare} f)
    ∗ (A.view.loc (c : Thread nD τ) ↦[Finset.univ]{Transfers.shareDrop fullShare 16} fa))

/-- Sixteen free slots, part by part. -/
theorem free_eq (c : Dev nD) (fa : Buf (Elt F) (A.view.loc (c : Thread nD τ))) :
    (Ring.AtW (Φ A R cell N c fa) (fun _ => none) : sProp 𝕄)
      = iprop((bigSep Finset.univ fun k : Fin 16 => semVal ((c : Thread nD τ), cell k) 0)
        ∗ (bigSep Finset.univ fun k : Fin 16 => iprop(∃ f, (slot R k).view.loc (c : Thread nD τ) ↦[(slot R k).view.set]{fullShare} f))
        ∗ (bigSep Finset.univ fun k : Fin 16 => tok A c k Finset.univ fa)) := by
  exact (BI.bigSep_sep _ _ _).trans (congrArg _ (BI.bigSep_sep _ _ _))

/-- The counters at zero, the ring's buffer and the cache make sixteen free slots. -/
theorem ring_split (c : Dev nD) (fa : Buf (Elt F) (A.view.loc (c : Thread nD τ))) :
    iprop((bigSep Finset.univ fun k : Fin 16 => semVal ((c : Thread nD τ), cell k) 0)
      ∗ (∃ f, R.view.loc (c : Thread nD τ) ↦{fullShare} f) ∗ (A.view.loc (c : Thread nD τ) ↦{fullShare} fa))
    ⊢ (iprop(Ring.AtW (Φ A R cell N c fa) (fun _ => none) ∗ leftover A R c fa) : sProp 𝕄) := by
  iintro ⟨Hs, HR, HA⟩
  ihave HR2 := Ring.fam_split_ex (fun k : Fin 16 => (slot R k).view.set) (slot_disjoint R) $$ HR
  ihave HA2 := Transfers.pointsTo_toks_split fullShare 16 $$ HA
  icases HR2 with ⟨HR, Hr⟩
  icases HA2 with ⟨Hd, HA⟩
  isplitl [Hs HR HA]
  · rw [free_eq]
    isplitl [Hs]; · iexact Hs
    isplitl [HR]; · iexact HR
    iexact HA
  · isplitl [Hr]; · iexact Hr
    iexact Hd

/-- And sixteen free slots make them again. -/
theorem ring_join (c : Dev nD) (fa : Buf (Elt F) (A.view.loc (c : Thread nD τ))) (f₀ : Buf (Elt F) (R.view.loc (c : Thread nD τ))) :
    (iprop(Ring.AtW (Φ A R cell N c fa) (fun _ => none) ∗ leftover A R c fa) : sProp 𝕄)
    ⊢ iprop((bigSep Finset.univ fun k : Fin 16 => semVal ((c : Thread nD τ), cell k) 0)
      ∗ (∃ f, R.view.loc (c : Thread nD τ) ↦{fullShare} f) ∗ (A.view.loc (c : Thread nD τ) ↦{fullShare} fa)) := by
  rw [free_eq]
  iintro ⟨⟨Hs, HR, HA⟩, Hr, Hd⟩
  isplitl [Hs]; · iexact Hs
  isplitl [HR Hr]
  · iapply Ring.fam_join (fun k : Fin 16 => (slot R k).view.set) (slot_disjoint R) f₀
    isplitl [HR]; · iexact HR
    iexact Hr
  · iapply Transfers.pointsTo_toks_join fullShare 16
    isplitl [Hd]; · iexact Hd
    iexact HA
end

end Cert.KernelIdeal.Hand

end
-- ==== Proof.KI.Launch.lean ====
module

public import proofs.«01_k».proof.Proof.KI.Body
public import proofs.«01_k».proof.Proof.KI.Cut

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the region leaves in the results -/

/-- The array whose row `b` holds the four groups `P b`. -/
def rows {e : EltTy} (P : ℕ → Fin 4 → Vec F S1x8x128 e) : Vec F S24x32x128 e := fun i =>
  P (i 0).val ⟨(i 1).val / 8, by have h : (i 1).val < 32 := (i 1).isLt; omega⟩ (ix3 0 ⟨(i 1).val % 8, Nat.mod_lt _ (by decide)⟩ ⟨(i 2).val, (i 2).isLt⟩)

/-- With all 24 rows stored the result is that array. -/
theorem OInv.full {e : EltTy} {M : Memref sig .tc .vmem S24x32x128 e} {f : M.view.ty.Contents (Elt F)} {P : ℕ → Fin 4 → Vec F S1x8x128 e}
    (h : OInv M f 24 P) : View.read (Elt F) M.view f = rows P := by
  funext i
  have hb : (i 0).val < 24 := (i 0).isLt
  have hi : (i 1).val < 32 := (i 1).isLt
  refine Eq.trans (congrArg (View.read (Elt F) M.view f) ?_)
    (h (i 0).val hb hb ⟨(i 1).val / 8, by omega⟩ (ix3 0 ⟨(i 1).val % 8, Nat.mod_lt _ (by decide)⟩ ⟨(i 2).val, (i 2).isLt⟩))
  funext a; fin_cases a
  · rfl
  · exact Fin.ext (Nat.div_add_mod (i 1).val 8).symm
  · rfl

/-- A load of a whole array is its contents. -/
theorem readAt_full {e : EltTy} (M : Memref sig .tc .vmem S24x4x128 e) (f : M.view.ty.Contents (Elt F)) :
    View.readAt (Elt F) M.view (Rect.unit (s := S24x4x128) ![0, 0, 0] S24x4x128.size inb_S24x4x128_S24x4x128_0_0_0).toLoadRect f = View.read (Elt F) M.view f := by
  funext x
  refine congrArg (View.read (Elt F) M.view f) ?_
  funext a; fin_cases a <;> exact Fin.ext (by show 0 + 1 * (x _).val = (x _).val; omega)

/-- A store of a whole array leaves what it stored. -/
theorem read_full {e : EltTy} (M : Memref sig .tc .vmem S24x4x128 e) (f : M.view.ty.Contents (Elt F)) (w : Vec F S24x4x128 e) :
    View.read (Elt F) M.view (M.view.writes (Elt F) f [⟨Rect.unit (s := S24x4x128) ![0, 0, 0] S24x4x128.size inb_S24x4x128_S24x4x128_0_0_0, w⟩]) = w := by
  funext y
  exact View.read_writes_cons_unit_of_mem (v := M.view) (f := f) (off := ![0, 0, 0]) (size := S24x4x128.size) inb_S24x4x128_S24x4x128_0_0_0 w [] y y rfl
    (fun a => by fin_cases a <;> exact (Nat.zero_add _).symm)

/-- The inputs of the region on core `c`. -/
def ins (c : Dev nD) : Ins F :=
  ⟨iblk m c 1 t0_0, iblk m c 2 t0_0, iblk m c 3 t0_0, iblk m c 4 t0_0, V m c main_v3, V m c main_v4,
    fun b => iblk m c 0 t0_0 (ix1 ⟨min b 23, by show _ < 24; omega⟩)⟩

/-- The three results: the attention over the cache and the new row, the part of the cache alone, the new row's codes. -/
def res5 (c : Dev nD) : Vec F S24x32x128 .bf16 := rows fun b => (ins m c).out7 masks b
def res6 (c : Dev nD) : Vec F S24x32x128 .f32 := rows fun b => (ins m c).out8 masks b
def res7 (c : Dev nD) : Vec F S24x4x128 .fp8e4m3 := k0_pay293 (ins m c).vn (ins m c).vs

/-! ## The semaphores and the caches of the body's own copies -/

/-- The semaphores of the two rings. -/
abbrev osem0 : Fin 16 ⊕ Fin 16 → SemLoc sig := Sum.elim kcell vcell
theorem ownSemFacts0 : Pipeline.OwnSemFacts spec0 osem0 := by decide
theorem ownSems00_eq (c : Dev nD) :
    (Pipeline.ownSems0 (Ix := Unit) (Name := ℕ) (U := UU nD τ) (Lvl := ℕ) (Val := Elt F) (τ := τ) osem0 c : sProp 𝕄)
      = iprop((bigSep Finset.univ fun k : Fin 16 => semVal ((c : Thread nD τ), kcell k) 0) ∗ (bigSep Finset.univ fun k : Fin 16 => semVal ((c : Thread nD τ), vcell k) 0)) :=
  BI.bigSep_univ_sum _
/-- The caches, which the body's own copies read. -/
def H0 : Finset (Ref sig .tc) := {main_v3, main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v3) ↦{fullShare} V m c main_v3) ∗ (((c : Thread nD τ).loc main_v4) ↦{fullShare} V m c main_v4)) := by
  rw [BI.bigSep_eq_bigSepL_of_eq [main_v3, main_v4] (by decide) (by decide)]; rfl

/-! ## The region's proof data -/

/-- What the region is proved over: the windows' blocks, what the body leaves in the results, and what it keeps. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res5 m c
    | ⟨6, _⟩ => res6 m c
    | ⟨7, _⟩ => res7 m c
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0 (c : Dev nD) (t) : (dats m 0 c).after 0 t = iblk m c 0 t := by dsimp only [dats]
theorem after1 (c : Dev nD) (t) : (dats m 0 c).after 1 t = iblk m c 1 t := by dsimp only [dats]
theorem after2 (c : Dev nD) (t) : (dats m 0 c).after 2 t = iblk m c 2 t := by dsimp only [dats]
theorem after3 (c : Dev nD) (t) : (dats m 0 c).after 3 t = iblk m c 3 t := by dsimp only [dats]
theorem after4 (c : Dev nD) (t) : (dats m 0 c).after 4 t = iblk m c 4 t := by dsimp only [dats]
theorem after5 (c : Dev nD) (t) : (dats m 0 c).after 5 t = res5 m c := by dsimp only [dats]
theorem after6 (c : Dev nD) (t) : (dats m 0 c).after 6 t = res6 m c := by dsimp only [dats]
theorem after7 (c : Dev nD) (t) : (dats m 0 c).after 7 t = res7 m c := by dsimp only [dats]

theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- No length the kernel is given is above 30720. -/
abbrev AllFit : Prop := ∀ (c : Dev nD) (i : S24.Idx), (BitVec.toNat (w := 32) (m ((c : Thread nD τ).loc main_arg6) i)) ≤ 30720

theorem lens_le (hm : AllFit m) (c : Dev nD) (i : S24.Idx) : (BitVec.toNat (w := 32) (iblk m c 0 t0_0 i)) ≤ 30720 := by
  have h : ∀ j : S24.Idx, (BitVec.toNat (w := 32) (V m c main_arg6 j)) ≤ 30720 := by rw [V_main_arg6]; exact hm c
  exact h _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 3000000 in
/-- The body at the one grid point: it leaves the three results, and everything else as it was. -/
theorem sound_body (hm : AllFit m) (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before0, before1, before2, before3, before4, after0, after1, after2, after3, after4, after5, after6, after7]
  rw [show (dats m 0 c).Φ (Fin.succ t0_0) = (dats m 0 c).Φ (Fin.castSucc t0_0) from rfl]
  rw [show (dats m 0 c).Φ (Fin.castSucc t0_0) = Pipeline.ΦD osem0 spec0 H0 (V m) c from rfl, Pipeline.ΦD_eq, scopedRest0_eq, ownSems00_eq, hbmPts0_eq]
  unfold Dat.owesAt Pipeline.owesWithin
  rw [show (dats m 0 c).owed (Fin.castSucc t0_0) = 0 from rfl, show (dats m 0 c).owed (Fin.succ t0_0) = 0 from rfl]
  unfold owns
  iintro ⟨⟨⟨HR0, HR1, HR2⟩, Hg, ⟨Hq0, Hq1⟩, ⟨Hh0, Hh1⟩⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩,
    ⟨%d5, %g5, -, H5⟩, ⟨%d6, %g6, -, H6⟩, ⟨%d7, %g7, -, H7⟩⟩
  icases HR0 with ⟨%r0, HR0⟩
  icases HR1 with ⟨%r1, HR1⟩
  ihave Hk := ring_split kA kR kcell 32768 c (V m c main_v3) $$ [Hq0 HR0 Hh0]
  · isplitl [Hq0]; · iexact Hq0
    isplitl [HR0]; · iexists r0; iexact HR0
    iexact Hh0
  ihave Hv := ring_split vA vR vcell 16384 c (V m c main_v4) $$ [Hq1 HR1 Hh1]
  · isplitl [Hq1]; · iexact Hq1
    isplitl [HR1]; · iexists r1; iexact HR1
    iexact Hh1
  icases Hk with ⟨Hk, Hlk⟩
  icases Hv with ⟨Hv, Hlv⟩
  have hlen : len c g0 = (ins m c).ln := by
    funext b
    exact congrFun e0 _
  have hfl : Fits c g0 := fun b => by rw [hlen]; exact lens_le m hm c _
  have hins : insOf (st0_1 t0_0) (st0_2 t0_0) (st0_3 t0_0) (st0_4 t0_0) c g0 g1 g2 g3 g4 (V m c main_v3) (V m c main_v4) = ins m c := by
    unfold insOf
    rw [e1, e2, e3, e4, hlen]
    rfl
  have hset : (st0_0 t0_0).view.set = Finset.univ := (hstage0_0 0).set_eq_univ
  rw [hset]
  iapply (body_run (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0)
    c g0 (V m c main_v3) (V m c main_v4) hfl g1 g2 g3 g4 W _)
  isplitl [H0]; · iexact H0
  isplitl [H1]; · iexact H1
  isplitl [H2]; · iexact H2
  isplitl [H3]; · iexact H3
  isplitl [H4]; · iexact H4
  isplitl [Hk]; · iexact Hk
  isplitl [Hv]; · iexact Hv
  isplitl [HR2]; · iexact HR2
  isplitl [H5]; · iexists g5; iexact H5
  isplitl [H6]; · iexists g6; iexact H6
  isplitl [H7]; · iexists g7; iexact H7
  isplitl [HW]; · iexact HW
  iintro ⟨H0, H1, H2, H3, H4, Hk, Hv, HR2, ⟨%f5, H5, %h5⟩, ⟨%f6, H6, %h6⟩, ⟨%f7, H7⟩, ⟨%W', HW'⟩⟩
  rw [hins] at h5 h6
  ihave Hk2 := ring_join kA kR kcell 32768 c (V m c main_v3) r0 $$ [Hk Hlk]
  · isplitl [Hk]; · iexact Hk
    iexact Hlk
  ihave Hv2 := ring_join vA vR vcell 16384 c (V m c main_v4) r1 $$ [Hv Hlv]
  · isplitl [Hv]; · iexact Hv
    iexact Hlv
  icases Hk2 with ⟨Hq0, HR0, Hh0⟩
  icases Hv2 with ⟨Hq1, HR1, Hh1⟩
  isplitl [HR0 HR1 HR2 Hg Hq0 Hq1 Hh0 Hh1]
  · isplitl [HR0 HR1 HR2]
    · isplitl [HR0]; · iexact HR0
      isplitl [HR1]; · iexact HR1
      iexact HR2
    isplitl [Hg]; · iexact Hg
    isplitl [Hq0 Hq1]
    · isplitl [Hq0]; · iexact Hq0
      iexact Hq1
    isplitl [Hh0]; · iexact Hh0
    iexact Hh1
  isplitl [HW']
  · iexists W'
    isplitr
    · ipureintro; exact fun _ _ => Or.inl trivial
    iexact HW'
  isplitl [H0]
  · iexists g0; isplitr
    · ipureintro; exact e0
    iexact H0
  isplitl [H1]
  · iexists g1; isplitr
    · ipureintro; exact e1
    iexact H1
  isplitl [H2]
  · iexists g2; isplitr
    · ipureintro; exact e2
    iexact H2
  isplitl [H3]
  · iexists g3; isplitr
    · ipureintro; exact e3
    iexact H3
  isplitl [H4]
  · iexists g4; isplitr
    · ipureintro; exact e4
    iexact H4
  isplitl [H5]
  · iexists f5; isplitr
    · ipureintro; exact h5.full
    iexact H5
  isplitl [H6]
  · iexists f6; isplitr
    · ipureintro; exact h6.full
    iexact H6
  iexists _; isplitr
  swap
  · iexact H7
  · ipureintro
    refine (read_full _ _ _).trans ?_
    rw [readAt_full, readAt_full, e3, e4]
    rfl

theorem defs₀_row (t : Fin cfg0.N) :
    defs₀ (F := F) .tc cfg0.body (cfg0.bodyArgs t (cfg0.slots t)) = bodyAt0 t := by
  unfold defs₀; rw [Defs.onTc_tc]

theorem body_obligation (hm : AllFit m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run -/

set_option maxHeartbeats 800000 in
/-- The program around the region: the host lines before it, the region, the host lines after it. -/
theorem hmain' : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem sfx_sub' : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  simp only [H0, Finset.mem_insert, Finset.mem_singleton] at hb
  simp only [hostOps1, List.mem_cons, List.mem_nil_iff, or_false] at hop
  rcases hb with rfl | rfl <;> rcases hop with rfl | rfl | rfl <;> simp only [StableHlo.reshape_bufs, Finset.mem_insert, Finset.mem_singleton, not_or] <;> exact ⟨StableHlo.devRef_ne_of_ne (by decide), StableHlo.devRef_ne_of_ne (by decide)⟩

set_option backward.isDefEq.respectTransparency.types false in
/-- The program runs to its end, every window's array at what the region left and every other buffer at what the last host lines made of it. -/
theorem run_main (hm : AllFit m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hm c).loose) (hshare := fun c => (dats m 0 c).share_full fun _ => rfl)
    (howed := fun _ _ => rfl) (V₀ := V0 m) (opss := [hostOps1]) (hsub := sfx_sub') (hfresh := sfx_fresh) (hkeep := sfx_keeps)
    (hmain := hmain' m) (hA := A_eq m) (hin := fun _ => .rfl) (hout := fun _ => .rfl)

end Cert.KernelIdeal.Hand

end
-- ==== Proof.KI.Post.lean ====
module

public import proofs.«01_k».proof.Proof.KI.Launch
public import Idealize.ShloMosaic.Lib.StableHlo.Run
public import Idealize.ShloMosaic.Lib.Pipeline.FrameSuffix
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Schedule
open Idealize.ShloMosaic Idealize.ShloMosaic.TcCoe Idealize.ShloMosaic.Tactic
open Idealize.SL Idealize.SL.Sem Idealize.ShloMosaic.StableHlo
open Idealize.ShloMosaic.Pipeline (Dat Cfg Window BodyObligation)

variable {F : FTy → Type} [FloatOps F]

variable (m : (ℓ : Loc nD τ sig) → Buf (Elt F) ℓ) (ρ : Dev nD → PrngReg)

/-! ## The results after the last host lines -/

theorem arr5 (c : Dev nD) : (dats m 0 c).arrAt 5 cfg0.N = res5 m c := by
  refine (dats m 0 c).arrAt_eq_of_after_last 5 t0_0 (by decide +kernel) _ fun j => ?_
  blk_simp
  rw [after5]
theorem arr6 (c : Dev nD) : (dats m 0 c).arrAt 6 cfg0.N = res6 m c := by
  refine (dats m 0 c).arrAt_eq_of_after_last 6 t0_0 (by decide +kernel) _ fun j => ?_
  blk_simp
  rw [after6]
theorem arr7 (c : Dev nD) : (dats m 0 c).arrAt 7 cfg0.N = res7 m c := by
  refine (dats m 0 c).arrAt_eq_of_after_last 7 t0_0 (by decide +kernel) _ fun j => ?_
  blk_simp
  rw [after7]

/-- The contents when the region is left. -/
abbrev exitV (c : Dev nD) : Valuation τ sig (Elt F) :=
  Pipeline.withArrays spec0 c (Gen.V0 m c) fun w => (dats m 0 c).arrAt w cfg0.N

theorem tail_main_v6 (V0 : Valuation τ sig (Elt F)) :
    after (List.flatten [Gen.hostOps1]) V0 (Proc.devRef .tc main_v6) = shapeCast _ (V0 (Proc.devRef .tc main_v5_0)) shapeCasts_S24x32x128_S24x1x4096 := by
  simp only [Gen.hostOps1, List.flatten_cons, List.flatten_nil, List.append_nil, List.cons_append, List.nil_append]
  after_results <;> rfl
theorem tail_main_v7 (V0 : Valuation τ sig (Elt F)) :
    after (List.flatten [Gen.hostOps1]) V0 (Proc.devRef .tc main_v7) = shapeCast _ (V0 (Proc.devRef .tc main_v5_1)) shapeCasts_S24x32x128_S24x1x4096 := by
  simp only [Gen.hostOps1, List.flatten_cons, List.flatten_nil, List.append_nil, List.cons_append, List.nil_append]
  after_results <;> rfl
theorem tail_main_v8 (V0 : Valuation τ sig (Elt F)) :
    after (List.flatten [Gen.hostOps1]) V0 (Proc.devRef .tc main_v8) = shapeCast _ (V0 (Proc.devRef .tc main_v5_2)) shapeCasts_S24x4x128_S24x1x4x128 := by
  simp only [Gen.hostOps1, List.flatten_cons, List.flatten_nil, List.append_nil, List.cons_append, List.nil_append]
  after_results <;> rfl

theorem fin_main_v6 (c : Dev nD) : Pipeline.afterTail₀ cfgs (dats m) 0 (Gen.V0 m) [Gen.hostOps1] c main_v6 = shapeCast _ (res5 m c) shapeCasts_S24x32x128_S24x1x4096 :=
  (tail_main_v6 (exitV m c)).trans (by rw [show exitV m c (Proc.devRef .tc main_v5_0) = res5 m c from (Pipeline.withArrays_arr spec0 Gen.launch0.win.arr_inj c (Gen.V0 m c) _ 5).trans (arr5 m c)])
theorem fin_main_v7 (c : Dev nD) : Pipeline.afterTail₀ cfgs (dats m) 0 (Gen.V0 m) [Gen.hostOps1] c main_v7 = shapeCast _ (res6 m c) shapeCasts_S24x32x128_S24x1x4096 :=
  (tail_main_v7 (exitV m c)).trans (by rw [show exitV m c (Proc.devRef .tc main_v5_1) = res6 m c from (Pipeline.withArrays_arr spec0 Gen.launch0.win.arr_inj c (Gen.V0 m c) _ 6).trans (arr6 m c)])
theorem fin_main_v8 (c : Dev nD) : Pipeline.afterTail₀ cfgs (dats m) 0 (Gen.V0 m) [Gen.hostOps1] c main_v8 = shapeCast _ (res7 m c) shapeCasts_S24x4x128_S24x1x4x128 :=
  (tail_main_v8 (exitV m c)).trans (by rw [show exitV m c (Proc.devRef .tc main_v5_2) = res7 m c from (Pipeline.withArrays_arr spec0 Gen.launch0.win.arr_inj c (Gen.V0 m c) _ 7).trans (arr7 m c)])

/-- A buffer that no window stages and no host line writes ends as launched. -/
theorem tail_keeps (c : Dev nD) (b : Ref sig .tc) (hw : ∀ w, Pipeline.arrRef spec0 w ≠ b) (h6 : b ≠ main_v6) (h7 : b ≠ main_v7) (h8 : b ≠ main_v8)
    (hV : V m c b = m ((c : Thread nD τ).loc b)) :
    Pipeline.afterTail₀ cfgs (dats m) 0 (Gen.V0 m) [Gen.hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact ⟨StableHlo.devRef_ne_of_ne h6, StableHlo.devRef_ne_of_ne h7, StableHlo.devRef_ne_of_ne h8⟩)),
    Pipeline.withArrays_of_ne _ c (V0 m c) _ b hw]
  exact hV

/-- The program runs to its end: each result is the region's, reshaped; the arguments are unchanged; every counter is back at zero. -/
theorem run (hm : AllFit m) : θ_run defs (onTc (τ := τ) (main (F := F))) ⟨m, fun _ => 0, ρ⟩ (fun r => (∀ c : Dev nD,
      (r.2.mem ((c.tc : Thread nD τ).loc main_v6) = shapeCast _ (res5 m c) shapeCasts_S24x32x128_S24x1x4096
      ∧ r.2.mem ((c.tc : Thread nD τ).loc main_v7) = shapeCast _ (res6 m c) shapeCasts_S24x32x128_S24x1x4096
      ∧ r.2.mem ((c.tc : Thread nD τ).loc main_v8) = shapeCast _ (res7 m c) shapeCasts_S24x4x128_S24x1x4x128)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
      ∧ r.2.sem = fun _ => 0) :=
  (θ_run defs _ _).mono (fun _ h => ⟨fun c =>
    ⟨⟨((h.1 c).2 main_v6 (Pipeline.mem_restRefs_of main_v6 (by decide) (by decide))).trans (fin_main_v6 m c),
      ((h.1 c).2 main_v7 (Pipeline.mem_restRefs_of main_v7 (by decide) (by decide))).trans (fin_main_v7 m c),
      ((h.1 c).2 main_v8 (Pipeline.mem_restRefs_of main_v8 (by decide) (by decide))).trans (fin_main_v8 m c)⟩,
      ((h.1 c).2 main_arg0 (Pipeline.mem_restRefs_of main_arg0 (by decide) (by decide))).trans (tail_keeps m c main_arg0 (by decide) (by decide) (by decide) (by decide) (V_main_arg0 m c)),
      ((h.1 c).2 main_arg1 (Pipeline.mem_restRefs_of main_arg1 (by decide) (by decide))).trans (tail_keeps m c main_arg1 (by decide) (by decide) (by decide) (by decide) (V_main_arg1 m c)),
      ((h.1 c).2 main_arg2 (Pipeline.mem_restRefs_of main_arg2 (by decide) (by decide))).trans (tail_keeps m c main_arg2 (by decide) (by decide) (by decide) (by decide) (V_main_arg2 m c)),
      ((h.1 c).2 main_arg3 (Pipeline.mem_restRefs_of main_arg3 (by decide) (by decide))).trans (tail_keeps m c main_arg3 (by decide) (by decide) (by decide) (by decide) (V_main_arg3 m c)),
      ((h.1 c).2 main_arg4 (Pipeline.mem_restRefs_of main_arg4 (by decide) (by decide))).trans (tail_keeps m c main_arg4 (by decide) (by decide) (by decide) (by decide) (V_main_arg4 m c)),
      ((h.1 c).1 4).trans (((dats m 0 c).arrAt_in 4 rfl _).trans ((A_eq m c 4).trans (V_main_arg5 m c))),
      ((h.1 c).1 0).trans (((dats m 0 c).arrAt_in 0 rfl _).trans ((A_eq m c 0).trans (V_main_arg6 m c)))⟩, h.2⟩) (run_main m ρ hm)

end Cert.KernelIdeal.Hand

end
-- ==== Proof.Val.Const.lean ====
/- The kernel's constants as extended reals, and the words of its masks. -/
module

public import proofs.«01_k».proof.Proof.KI.Body
public import Idealize.ShloMosaic.Lib.Pointwise
public import Idealize.ShloMosaic.Lib.IdealHost

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.Tactic

/-! ## Constants -/

/-- The scale of the scores. -/
def SC : EReal := Ideal.ofBits .f32 0x3DB504F3#32
/-- 448. -/
def CP : EReal := Ideal.ofBits .f32 0x43E00000#32

theorem neg_inf : Ideal.ofBits .f32 0xFF800000#32 = (⊥ : EReal) := by
  simp [Ideal.ofBits, Ideal.ieee, -EReal.coe_mul]

theorem SC_pos : ∃ r : ℝ, 0 < r ∧ SC = (r : EReal) := by
  refine ⟨11863283 / 134217728, by norm_num, ?_⟩
  unfold SC
  simp [Ideal.ofBits, Ideal.ieee, -EReal.coe_mul]
  try norm_num

theorem CP_pos : 0 ≤ CP := by
  unfold CP
  simp [Ideal.ofBits, Ideal.ieee, -EReal.coe_mul]
  try norm_num

theorem bot_SC : (⊥ : EReal) * SC = ⊥ := by
  obtain ⟨r, hr, e⟩ := SC_pos
  rw [e, EReal.bot_mul_coe_of_pos hr]

/-- A scaled number is below a bound exactly when the number is below the bound's quotient. -/
theorem SC_mul_le (z : EReal) : ∃ w : EReal, ∀ x : EReal, x * SC ≤ z ↔ x ≤ w := by
  obtain ⟨r, hr, e⟩ := SC_pos
  refine ⟨z / SC, fun x => ?_⟩
  rw [e, EReal.le_div_iff_mul_le (by exact_mod_cast hr) (EReal.coe_ne_top r)]

/-! ## Masks -/

/-- The mask of head group `g`. -/
def maskOf : Fin 4 → IVec S8x256 1
  | 0 => masks.v33
  | 1 => masks.v51
  | 2 => masks.v69
  | 3 => masks.v87

/-- Column `l` is head group `l % 4`'s. -/
theorem mask_iff (g : Fin 4) (r : Fin 8) (l : Fin 256) : maskOf g (ix2 r l) = 1#1 ↔ l.val % 4 = g.val := by
  have h : ∀ (g : Fin 4) (l : Fin 256), maskOf g (ix2 (0 : Fin 8) l) = 1#1 ↔ l.val % 4 = g.val := by
    intro g
    fin_cases g <;> unfold maskOf masks <;> pointwise [k0_pay297, k0_pay294, k0_pay295, k0_pay296, k0_pay298, k0_pay299, k0_pay300] <;> decide +kernel
  have e : maskOf g (ix2 r l) = maskOf g (ix2 (0 : Fin 8) l) := by
    fin_cases g <;> unfold maskOf masks <;> pointwise [k0_pay297, k0_pay294, k0_pay295, k0_pay296, k0_pay298, k0_pay299, k0_pay300]
  rw [e]
  exact h g l

/-- The same masks over the first 128 columns. -/
theorem half_mask (r : Fin 8) (l : Fin 128) :
    masks.v88 (ix2 r l) = maskOf 1 (ix2 r ⟨l.val, by omega⟩) ∧ masks.v89 (ix2 r l) = maskOf 2 (ix2 r ⟨l.val, by omega⟩) ∧ masks.v90 (ix2 r l) = maskOf 3 (ix2 r ⟨l.val, by omega⟩) := by
  refine ⟨?_, ?_, ?_⟩ <;> unfold maskOf masks <;> pointwise [k0_pay301, k0_pay302, k0_pay303]

/-- Column `l` is token `l / 4`'s. -/
theorem tok_eq (r : Fin 8) (l : Fin 256) : masks.v114 (ix2 r l) = BitVec.ofNat 32 (l.val / 4) := by
  have h : ∀ l : Fin 256, masks.v114 (ix2 (0 : Fin 8) l) = BitVec.ofNat 32 (l.val / 4) := by
    unfold masks
    pointwise [k0_pay304]
    decide +kernel
  have e : masks.v114 (ix2 r l) = masks.v114 (ix2 (0 : Fin 8) l) := by
    unfold masks; pointwise [k0_pay304]
  rw [e]
  exact h l

end Cert.Val

end
-- ==== Proof.Val.Score.lean ====
/- The kernel's score blocks at the extended reals. -/
module

public import proofs.«01_k».proof.Proof.Val.Const

@[expose] public section

set_option maxRecDepth 16384

noncomputable section

namespace Cert.Val

open Cert.KernelIdeal Cert.KernelIdeal.Gen Cert.KernelIdeal.Hand Cert.Schedule
open Idealize.ShloMosaic Idealize.ShloMosaic.TcCoe Idealize.ShloMosaic.Tactic

/-- A block of 64 rows of products: half `h` holds the products with the keys of its own block. -/
theorem prod_eq (Q : Vec Ideal S1x32x128 .bf16) (A B : Vec Ideal S1x256x128 .bf16) (h : Fin 2) (w : Fin 32) (n : Fin 256) :
    k0_pay4 (k0_pay245 Q) A B (ix2 ⟨32 * h.val + w.val, by omega⟩ n)
      = ∑ d : Fin 128, (Q (ix3 0 w d) : EReal) * ((if h = 0 then A else B) (ix3 0 n d) : EReal) := by
  fin_cases h
  · pointwise [k0_pay4, k0_pay245, k0_pay244]
    simp only [zero_mul, Finset.sum_const_zero, add_zero, zero_add]
  · pointwise [k0_pay4, k0_pay245, k0_pay244]
    simp only [zero_mul, Finset.sum_const_zero, add_zero, zero_add]

variable (x : Ins Ideal) (b : ℕ)

/-- The product of query row `r` of column `col`'s head group with the key at `col`. -/
def raw (r : Fin 8) (col : ℕ) : EReal :=
  ∑ d : Fin 128, (x.q (ix3 ⟨min b 23, by show _ < 24; omega⟩ ⟨8 * (col % 4) + r.val, by show _ < 32; omega⟩ d) : EReal)
    * (x.ka (ix3 ⟨min b 23, by show _ < 24; omega⟩ ⟨min col 122879, by show _ < 122880; omega⟩ d) : EReal)

/-- The same, minus infinity past the sequence's length. -/
def sraw (r : Fin 8) (col : ℕ) : EReal := if col / 4 < (x.ln b).toNat then raw x b r col else ⊥

theorem lim_word (len : BitVec 32) (hl : len.toNat ≤ 30720) (i : ℕ) (hi : i < 30) (j : Fin 16) (l : Fin 256) :
    IntOp.cmpi .slt (BitVec.ofNat 32 (l.val / 4)) (Scalar.subi (Scalar.subi len (Scalar.muli (BitVec.ofNat 32 i) 1024#32)) (BitVec.ofNat 32 (64 * j.val))) = 1#1
      ↔ (4096 * i + 256 * j.val + l.val) / 4 < len.toNat := by
  have := j.isLt
  have := l.isLt
  show IntOp.cmpi .slt (BitVec.ofNat 32 (l.val / 4)) (len - BitVec.ofNat 32 i * 1024#32 - BitVec.ofNat 32 (64 * j.val)) = 1#1 ↔ _
  word_omega

/-- Four nested choices by the masks take the column's own head group. -/
theorem ladder (r : Fin 8) (l : Fin 256) (A : Fin 4 → EReal) :
    Scalar.select (maskOf 3 (ix2 r l)) (A 3) (Scalar.select (maskOf 2 (ix2 r l)) (A 2) (Scalar.select (maskOf 1 (ix2 r l)) (A 1) (A 0))) = A ⟨l.val % 4, by omega⟩ := by
  have h1 : maskOf 1 (ix2 r l) = 1 ↔ l.val % 4 = 1 := mask_iff 1 r l
  have h2 : maskOf 2 (ix2 r l) = 1 ↔ l.val % 4 = 2 := mask_iff 2 r l
  have h3 : maskOf 3 (ix2 r l) = 1 ↔ l.val % 4 = 3 := mask_iff 3 r l
  unfold Scalar.select
  simp only [h1, h2, h3]
  have hl := Nat.mod_lt l.val (show 0 < 4 by decide)
  have h : ∀ q (hq : q < 4), (if q = 3 then A 3 else if q = 2 then A 2 else if q = 1 then A 1 else A 0) = A ⟨q, hq⟩ := by
    intro q hq; interval_cases q <;> rfl
  exact h _ hl

/-- Column `l` of score block `j` of chunk `i`. -/
theorem score_eq (hl : (x.ln b).toNat ≤ 30720) (i : ℕ) (hi : i < 30) (j : Fin 16) (r : Fin 8) (l : Fin 256) :
    x.sc masks b i j (ix2 r l) = sraw x b r (4096 * i + 256 * j.val + l.val) := by
  have hj := j.isLt
  have hll := l.isLt
  obtain ⟨h, hh⟩ : ∃ h : Fin 2, h = ⟨j.val % 2, by omega⟩ := ⟨_, rfl⟩
  have hp : ∀ g : Fin 4, l.val % 4 = g.val → k0_pay4 (k0_pay245 (row32 x.q b)) (tile x.ka b i (256 * (2 * (j.val / 2)))) (tile x.ka b i (256 * (2 * (j.val / 2) + 1)))
      (ix2 ⟨32 * h.val + (⟨8 * g.val + r.val, by omega⟩ : Fin 32).val, by have := h.isLt; show _ < 64; simp only; omega⟩ l) = raw x b r (4096 * i + 256 * j.val + l.val) := by
    intro g hg
    rw [prod_eq]
    unfold raw
    refine Finset.sum_congr rfl fun d _ => ?_
    have e1 : row32 x.q b (ix3 0 (⟨8 * g.val + r.val, by omega⟩ : Fin 32) d) = x.q (ix3 ⟨min b 23, by show _ < 24; omega⟩ ⟨8 * ((4096 * i + 256 * j.val + l.val) % 4) + r.val, by show _ < 32; omega⟩ d) := by
      unfold row32
      congr 1
      funext a; fin_cases a <;> apply Fin.ext
      · rfl
      · show 8 * g.val + r.val = 8 * ((4096 * i + 256 * j.val + l.val) % 4) + r.val; omega
      · rfl
    have e2 : (if h = 0 then tile x.ka b i (256 * (2 * (j.val / 2))) else tile x.ka b i (256 * (2 * (j.val / 2) + 1))) (ix3 0 l d)
        = x.ka (ix3 ⟨min b 23, by show _ < 24; omega⟩ ⟨min (4096 * i + 256 * j.val + l.val) 122879, by show _ < 122880; omega⟩ d) := by
      subst hh
      rcases Nat.mod_two_eq_zero_or_one j.val with e | e
      · rw [if_pos (Fin.ext e)]
        unfold tile
        congr 1
        funext a; fin_cases a <;> apply Fin.ext
        · rfl
        · show min (i * 4096 + 256 * (2 * (j.val / 2)) + l.val) 122879 = min (4096 * i + 256 * j.val + l.val) 122879; congr 1; omega
        · rfl
      · rw [if_neg (fun h => by have := congrArg Fin.val h; simp only [e] at this; exact absurd this (by decide))]
        unfold tile
        congr 1
        funext a; fin_cases a <;> apply Fin.ext
        · rfl
        · show min (i * 4096 + 256 * (2 * (j.val / 2) + 1) + l.val) 122879 = min (4096 * i + 256 * j.val + l.val) 122879; congr 1; omega
        · rfl
    rw [e1, e2]
  unfold Ins.sc scoresAt scoreOf halfScore
  rw [← hh]
  pointwise
  have hL := ladder r l fun g => k0_pay4 (k0_pay245 (row32 x.q b)) (tile x.ka b i (256 * (2 * (j.val / 2)))) (tile x.ka b i (256 * (2 * (j.val / 2) + 1)))
      (ix2 ⟨32 * h.val + (⟨8 * g.val + r.val, by omega⟩ : Fin 32).val, by have := h.isLt; show _ < 64; simp only; omega⟩ l)
  have hi2 : ∀ g : Fin 4, (ix2 ⟨32 * h.val + (⟨8 * g.val + r.val, by omega⟩ : Fin 32).val, by have := h.isLt; show _ < 64; simp only; omega⟩ l : S64x256.Idx)
      = ix2 ⟨groupOff h g 0 + r.val, by have := h.isLt; show 32 * h.val + 8 * g.val + r.val < 64; omega⟩ ⟨groupOff h g 1 + l.val, by show 0 + l.val < 256; omega⟩ := fun g => by
    funext a; fin_cases a <;> apply Fin.ext
    · show 32 * h.val + (8 * g.val + r.val) = 32 * h.val + 8 * g.val + r.val; omega
    · show l.val = 0 + l.val; omega
  simp only [hi2] at hL
  have hw := lim_word (x.ln b) hl i hi j l
  rw [← tok_eq r l] at hw
  unfold sraw
  by_cases hlt : (4096 * i + 256 * j.val + l.val) / 4 < (x.ln b).toNat
  · rw [if_pos hlt, hw.mpr hlt]
    refine (show Scalar.select 1#1 _ _ = _ from if_pos rfl).trans (hL.trans ?_)
    exact hp ⟨l.val % 4, by omega⟩ rfl
  · rw [if_neg hlt]
    exact (show Scalar.select _ _ _ = _ from if_neg (mt hw.mp hlt)).trans neg_inf

end Cert.Val

end
-- ==== Proof.Val.Math.lean ====
/- Sums and suprema over the columns of a row, taken block by block and lane by lane. -/
module

public import Idealize.ShloMosaic.Lib.Pointwise

@[expose] public section

noncomputable section

namespace Cert.Val

open Finset

/-! ## Sums -/

/-- A sum taken block by block. -/
theorem sum_blocks (B m : ℕ) (f : ℕ → EReal) : ∑ u ∈ range m, ∑ k ∈ range B, f (B * u + k) = ∑ c ∈ range (B * m), f c := by
  induction m with
  | zero => simp
  | succ m ih => rw [sum_range_succ, ih, Nat.mul_succ, sum_range_add]

/-- A sum over every fourth column. -/
theorem sum_fourth (N g : ℕ) (hg : g < 4) (f : ℕ → EReal) :
    ∑ c ∈ range (4 * N), (if c % 4 = g then f c else 0) = ∑ t ∈ range N, f (4 * t + g) := by
  rw [← sum_blocks]
  refine sum_congr rfl fun t _ => ?_
  have e : ∀ k, k < 4 → ((4 * t + k) % 4 = g ↔ k = g) := fun k hk => by omega
  simp only [sum_range_succ, sum_range_zero, e 0 (by omega), e 1 (by omega), e 2 (by omega), e 3 (by omega)]
  interval_cases g <;> simp

/-- The lanes of the residue of `n`, in the order the rotations take them and in their own order. -/
theorem sum_lanes (G : ℕ → EReal) (n : ℕ) : ∑ k ∈ range 32, G ((n + 124 * k) % 128) = ∑ l ∈ range 128, if l % 4 = n % 4 then G l else 0 := by
  rw [show (128 : ℕ) = 4 * 32 from rfl, sum_fourth 32 (n % 4) (by omega)]
  refine sum_nbij' (fun k => (n + 124 * k) % 128 / 4) (fun q => (n / 4 + 31 * q) % 32) ?_ ?_ ?_ ?_ ?_ <;> intro k hk <;> rw [mem_range] at hk
  · rw [mem_range]; omega
  · rw [mem_range]; omega
  · show (n / 4 + 31 * ((n + 124 * k) % 128 / 4)) % 32 = k; omega
  · show (n + 124 * ((n / 4 + 31 * k) % 32)) % 128 / 4 = k; omega
  · congr 1; omega

/-- Rotations by 4, 8, 16, 32 and 64 lanes, each added to what is there, sum the lanes of one residue. -/
theorem roll_sum (x0 x1 x2 x3 x4 x5 : ℕ → EReal) (hp : ∀ n, x0 (n % 128) = x0 n)
    (h1 : ∀ n, x1 n = x0 n + x0 (n + 124)) (h2 : ∀ n, x2 n = x1 n + x1 (n + 120)) (h3 : ∀ n, x3 n = x2 n + x2 (n + 112))
    (h4 : ∀ n, x4 n = x3 n + x3 (n + 96)) (h5 : ∀ n, x5 n = x4 n + x4 (n + 64)) (n : ℕ) :
    x5 n = ∑ l ∈ range 128, if l % 4 = n % 4 then x0 l else 0 := by
  rw [← sum_lanes x0 n]
  have hq : ∀ a b, a % 128 = b % 128 → x0 a = x0 b := fun a b h => by rw [← hp a, ← hp b, h]
  have step : ∀ (s : ℕ) (x y : ℕ → EReal) (d : ℕ), d % 128 = 124 * s % 128 → (∀ n, x n = ∑ k ∈ range s, x0 (n + 124 * k)) → (∀ n, y n = x n + x (n + d)) →
      ∀ n, y n = ∑ k ∈ range (s + s), x0 (n + 124 * k) := fun s x y d hd hx hy n => by
    rw [hy, hx, hx, sum_range_add]
    congr 1
    refine sum_congr rfl fun k _ => hq _ _ ?_
    omega
  have e0 : ∀ n, x0 n = ∑ k ∈ range 1, x0 (n + 124 * k) := fun n => by simp
  have e := step 16 x4 x5 64 rfl (step 8 x3 x4 96 rfl (step 4 x2 x3 112 rfl (step 2 x1 x2 120 rfl (step 1 x0 x1 124 rfl e0 h1) h2) h3) h4) h5 n
  rw [e]
  exact sum_congr rfl fun k _ => hq _ _ (by omega)

/-! ## Suprema, told by their upper bounds -/

theorem roll_max (x0 x1 x2 x3 x4 x5 : ℕ → EReal) (hp : ∀ n, x0 (n % 128) = x0 n)
    (h1 : ∀ n, x1 n = max (x0 n) (x0 (n + 124))) (h2 : ∀ n, x2 n = max (x1 n) (x1 (n + 120))) (h3 : ∀ n, x3 n = max (x2 n) (x2 (n + 112)))
    (h4 : ∀ n, x4 n = max (x3 n) (x3 (n + 96))) (h5 : ∀ n, x5 n = max (x4 n) (x4 (n + 64))) (n : ℕ) (z : EReal) :
    x5 n ≤ z ↔ ∀ l < 128, l % 4 = n % 4 → x0 l ≤ z := by
  have hq : ∀ a b, a % 128 = b % 128 → x0 a = x0 b := fun a b h => by rw [← hp a, ← hp b, h]
  have step : ∀ (s : ℕ) (x y : ℕ → EReal) (d : ℕ), d % 128 = 124 * s % 128 → (∀ n, x n ≤ z ↔ ∀ k < s, x0 (n + 124 * k) ≤ z) → (∀ n, y n = max (x n) (x (n + d))) →
      ∀ n, y n ≤ z ↔ ∀ k < s + s, x0 (n + 124 * k) ≤ z := fun s x y d hd hx hy n => by
    rw [hy, max_le_iff, hx, hx]
    constructor
    · rintro ⟨ha, hb⟩ k hk
      by_cases h : k < s
      · exact ha k h
      · rw [hq (n + 124 * k) (n + d + 124 * (k - s)) (by omega)]
        exact hb _ (by omega)
    · refine fun h => ⟨fun k hk => h k (by omega), fun k hk => ?_⟩
      rw [hq (n + d + 124 * k) (n + 124 * (k + s)) (by omega)]
      exact h _ (by omega)
  have e0 : ∀ n, x0 n ≤ z ↔ ∀ k < 1, x0 (n + 124 * k) ≤ z := fun n =>
    ⟨fun h k hk => by obtain rfl : k = 0 := by omega
                      simpa using h, fun h => by simpa using h 0 (by omega)⟩
  rw [step 16 x4 x5 64 rfl (step 8 x3 x4 96 rfl (step 4 x2 x3 112 rfl (step 2 x1 x2 120 rfl (step 1 x0 x1 124 rfl e0 h1) h2) h3) h4) h5 n]
  constructor
  · intro h l hl hm
    rw [hq l (n + 124 * ((n / 4 + 31 * (l / 4)) % 32)) (by omega)]
    exact h _ (by omega)
  · intro h k hk
    rw [← hp]
    exact h _ (by omega) (by omega)

end Cert.Val

end
-- ==== Proof.Val.Max.lean ====
/- The kernel's maximum and the scores of the new key at the extended reals. -/
module

public import proofs.«01_k».proof.Proof.Val.Score
public import proofs.«01_k».proof.Proof.Val.Math

@[expose] public section

set_option maxRecDepth 16384

noncomputable section

namespace Cert.Val

open Cert.KernelIdeal Cert.KernelIdeal.Gen Cert.KernelIdeal.Hand Cert.Schedule
open Idealize.ShloMosaic Idealize.ShloMosaic.TcCoe Idealize.ShloMosaic.Tactic

/-- The lanes of a row, repeated without end. -/
def lane (v : FVec Ideal S8x128 .f32) (r : Fin 8) (n : ℕ) : EReal := v (ix2 r ⟨n % 128, Nat.mod_lt _ (by decide)⟩)

theorem lane_mod (v : FVec Ideal S8x128 .f32) (r : Fin 8) (n : ℕ) : lane v r (n % 128) = lane v r n := by
  unfold lane; congr 3; exact Nat.mod_mod _ _

theorem lane_at (v : FVec Ideal S8x128 .f32) (r : Fin 8) (l : Fin 128) : lane v r l.val = v (ix2 r l) := by
  unfold lane; congr 2; exact Fin.ext (Nat.mod_eq_of_lt l.isLt)

theorem lane_roll (v : FVec Ideal S8x128 .f32) (r : Fin 8) (n : ℕ) :
    lane (dynamicRotate 1 4#32 none v rotates_S8x128_d1) r n = lane v r (n + 124)
    ∧ lane (dynamicRotate 1 8#32 none v rotates_S8x128_d1) r n = lane v r (n + 120)
    ∧ lane (dynamicRotate 1 16#32 none v rotates_S8x128_d1) r n = lane v r (n + 112)
    ∧ lane (dynamicRotate 1 32#32 none v rotates_S8x128_d1) r n = lane v r (n + 96)
    ∧ lane (dynamicRotate 1 64#32 none v rotates_S8x128_d1) r n = lane v r (n + 64) := by
  refine ⟨?_, ?_, ?_, ?_, ?_⟩ <;> unfold lane <;> pointwise <;> congr 2 <;> apply Fin.ext <;> simp only [] <;> omega

/-! ## The running maximum -/

theorem maxOf_le (H : Fin 16 → FVec Ideal S8x256 .f32) (f : ℕ → EReal) (base : ℕ) (r : Fin 8) (hH : ∀ j l, H j (ix2 r l) = f (base + 256 * j.val + l.val))
    (m : FVec Ideal S8x128 .f32) (l : Fin 128) (z : EReal) :
    ∀ n h, (maxOf H m n h (ix2 r l) : EReal) ≤ z ↔ (m (ix2 r l) : EReal) ≤ z ∧ ∀ u < 2 * n, f (base + 128 * u + l.val) ≤ z
  | 0, _ => ⟨fun h => ⟨h, fun u hu => absurd hu (by omega)⟩, fun h => h.1⟩
  | n + 1, h => by
    have ih := maxOf_le H f base r hH m l z n (by omega)
    have e : maxOf H m (n + 1) h (ix2 r l) = max (maxOf H m n (by omega) (ix2 r l) : EReal) (max (f (base + 128 * (2 * n) + l.val)) (f (base + 128 * (2 * n + 1) + l.val))) := by
      rw [show base + 128 * (2 * n) + l.val = base + 256 * (⟨n, h⟩ : Fin 16).val + (⟨l.val, by omega⟩ : Fin 256).val by simp only []; omega,
        show base + 128 * (2 * n + 1) + l.val = base + 256 * (⟨n, h⟩ : Fin 16).val + (⟨128 + l.val, by omega⟩ : Fin 256).val by simp only []; omega, ← hH, ← hH]
      rw [show maxOf H m (n + 1) h = maximumf (maxOf H m n (by omega))
        (maximumf (extractStridedSlice S8x128 ![0, 0] (H ⟨n, h⟩) slices_S8x256_o0_0_S8x128) (extractStridedSlice S8x128 ![0, 128] (H ⟨n, h⟩) slices_S8x256_o0_128_S8x128)) from rfl]
      pointwise
    rw [e, max_le_iff, max_le_iff, ih]
    constructor
    · rintro ⟨⟨h0, h1⟩, h2, h3⟩
      refine ⟨h0, fun u hu => ?_⟩
      rcases Nat.lt_or_ge u (2 * n) with hq | hq
      · exact h1 u hq
      · obtain rfl | rfl : u = 2 * n ∨ u = 2 * n + 1 := by omega
        · exact h2
        · exact h3
    · rintro ⟨h0, h1⟩
      exact ⟨⟨h0, fun u hu => h1 u (by omega)⟩, h1 _ (by omega), h1 _ (by omega)⟩

variable (x : Ins Ideal) (b : ℕ)

theorem maxAt_le (hl : (x.ln b).toNat ≤ 30720) (r : Fin 8) (l : Fin 128) (z : EReal) :
    ∀ k ≤ 30, (maxAt (x.sc masks b) k (ix2 r l) : EReal) ≤ z ↔ ∀ u < 32 * k, sraw x b r (128 * u + l.val) ≤ z
  | 0, _ => by
    have e : maxAt (x.sc masks b) 0 (ix2 r l) = (⊥ : EReal) := by
      unfold maxAt; pointwise [k0_pay250]; exact neg_inf
    rw [e]
    exact ⟨fun _ u hu => absurd hu (by omega), fun _ => bot_le⟩
  | k + 1, hk => by
    have ih := maxAt_le hl r l z k (by omega)
    unfold maxAt
    rw [maxOf_le (x.sc masks b k) (sraw x b r) (4096 * k) r (fun j l => score_eq x b hl k (by omega) j r l), ih]
    constructor
    · rintro ⟨h0, h1⟩ u hu
      rcases Nat.lt_or_ge u (32 * k) with hq | hq
      · exact h0 u hq
      · have := h1 (u - 32 * k) (by omega)
        rwa [show 4096 * k + 128 * (u - 32 * k) + l.val = 128 * u + l.val by omega] at this
    · intro h
      refine ⟨fun u hu => h u (by omega), fun u hu => ?_⟩
      have := h (32 * k + u) (by omega)
      rwa [show 128 * (32 * k + u) + l.val = 4096 * k + 128 * u + l.val by omega] at this

/-! ## The maximum of a head -/

/-- The new key's scaled score. -/
def snv (r : Fin 8) (g : Fin 4) : EReal :=
  (∑ d : Fin 128, (x.q (ix3 ⟨min b 23, by show _ < 24; omega⟩ ⟨8 * g.val + r.val, by show _ < 32; omega⟩ d) : EReal)
    * (x.kn (ix3 ⟨min b 23, by show _ < 24; omega⟩ g d) : EReal)) * SC

/-- The greatest scaled score of a head. -/
def top (r : Fin 8) (g : Fin 4) : EReal := max (Finset.univ.fold max ⊥ fun t : Fin 30720 => sraw x b r (4 * t.val + g.val) * SC) (snv x b r g)

theorem sn_eq (r : Fin 8) (l : Fin 128) : x.sn masks b (ix2 r l) = snv x b r ⟨l.val % 4, by omega⟩ := by
  have hL := ladder r (⟨l.val, by omega⟩ : Fin 256) fun g => ∑ d : Fin 128, (row32 x.q b (ix3 0 ⟨8 * g.val + r.val, by show _ < 32; omega⟩ d) : EReal) * (row4 x.kn b (ix3 0 g d) : EReal)
  obtain ⟨m1, m2, m3⟩ := half_mask r l
  rw [← m1, ← m2, ← m3] at hL
  unfold Ins.sn snv
  pointwise [k0_pay249, k0_pay246, k0_pay247, k0_pay248, k0_pay244]
  refine congrArg (· * SC) (Eq.trans ?_ (hL.trans ?_))
  · have e0 : ∀ p, (⟨8 * (0 : Fin 4).val + r.val, p⟩ : Fin 32) = ⟨r.val, by omega⟩ := fun p => Fin.ext (by show 8 * 0 + r.val = r.val; omega)
    simp only [e0]
    rfl
  · rfl

theorem mm_eq (hl : (x.ln b).toNat ≤ 30720) (r : Fin 8) (l : Fin 128) : x.mm masks b (ix2 r l) = top x b r ⟨l.val % 4, by omega⟩ := by
  have hc := chunks_le hl
  have hc2 : (x.ln b).toNat ≤ 1024 * chunks (x.ln b).toNat := by unfold chunks; omega
  have key : ∀ z : EReal, lane (maximumf (k0_pay261 (x.mx masks b)) (k0_pay262 (x.mx masks b))) r l.val ≤ z ↔ ∀ t : Fin 30720, sraw x b r (4 * t.val + l.val % 4) ≤ z := by
    intro z
    have hr := lane_roll
    rw [roll_max (lane (x.mx masks b) r) _ _ _ _ (lane (maximumf (k0_pay261 (x.mx masks b)) (k0_pay262 (x.mx masks b))) r) (lane_mod _ r)
      (fun n => congrArg (max _) (hr _ r n).1) (fun n => congrArg (max _) (hr _ r n).2.1) (fun n => congrArg (max _) (hr _ r n).2.2.1)
      (fun n => congrArg (max _) (hr _ r n).2.2.2.1) (fun n => congrArg (max _) (hr _ r n).2.2.2.2) l.val z]
    have hm : ∀ l' : ℕ, l' < 128 → (lane (x.mx masks b) r l' ≤ z ↔ ∀ u < 32 * chunks (x.ln b).toNat, sraw x b r (128 * u + l') ≤ z) := fun l' h => by
      rw [lane_at _ r ⟨l', h⟩]
      exact maxAt_le x b hl r ⟨l', h⟩ z _ hc
    constructor
    · intro h t
      by_cases ht : t.val < (x.ln b).toNat
      · have := (hm ((4 * t.val + l.val % 4) % 128) (by omega)).mp (h _ (by omega) (by omega)) ((4 * t.val + l.val % 4) / 128) (by omega)
        rwa [Nat.div_add_mod] at this
      · unfold sraw
        rw [if_neg (by omega)]
        exact bot_le
    · intro h l' hl' hm'
      rw [hm l' hl']
      intro u hu
      have := h ⟨(128 * u + l') / 4, by omega⟩
      rwa [show 4 * (⟨(128 * u + l') / 4, by omega⟩ : Fin 30720).val + l.val % 4 = 128 * u + l' by simp only []; omega] at this
  have e : x.mm masks b (ix2 r l) = max (lane (maximumf (k0_pay261 (x.mx masks b)) (k0_pay262 (x.mx masks b))) r l.val * SC) (snv x b r ⟨l.val % 4, by omega⟩) := by
    rw [lane_at, ← sn_eq]; rfl
  rw [e]
  unfold top
  refine congrArg (max · _) (eq_of_forall_ge_iff fun z => ?_)
  obtain ⟨w, hw⟩ := SC_mul_le z
  rw [hw, key, Finset.fold_max_le]
  simp only [hw, bot_le, true_and, Finset.mem_univ, forall_true_left]

/-- The new key's weight. -/
def pnv (r : Fin 8) (g : Fin 4) : EReal := Ideal.exp (snv x b r g - top x b r g)

theorem pn_eq (hl : (x.ln b).toNat ≤ 30720) (r : Fin 8) (l : Fin 128) : x.pn masks b (ix2 r l) = pnv x b r ⟨l.val % 4, by omega⟩ := by
  unfold pnv
  rw [← sn_eq, ← mm_eq x b hl]
  rfl

end Cert.Val

end
-- ==== Proof.Val.Pair.lean ====
/- One pair of blocks of weights and of weighted values at the extended reals. -/
module

public import proofs.«01_k».proof.Proof.Val.Max

@[expose] public section

set_option maxRecDepth 16384

noncomputable section

namespace Cert.Val

open Cert.KernelIdeal Cert.KernelIdeal.Gen Cert.KernelIdeal.Hand Cert.Schedule
open Idealize.ShloMosaic Idealize.ShloMosaic.TcCoe Idealize.ShloMosaic.Tactic

/-! ## One block of weights -/

theorem weight_eq (m : FVec Ideal S8x128 .f32) (S : Vec Ideal S1x8x256 .f32) (r : Fin 8) (k : Fin 256) :
    k0_pay111 m S (ix2 r k) = Ideal.exp ((S (ix3 0 r k) : EReal) * SC - m (ix2 r ⟨k.val % 128, by omega⟩)) := by
  have hc : k0_pay110 m (ix2 r k) = m (ix2 r ⟨k.val % 128, by omega⟩) := by
    by_cases h : k.val < 128
    · pointwise [k0_pay110]
      rw [dif_pos h]
      congr 2; apply Fin.ext; show k.val = k.val % 128; omega
    · pointwise [k0_pay110]
      rw [dif_neg h]
      congr 2; apply Fin.ext; show k.val - 128 = k.val % 128; omega
  rw [← hc]
  pointwise [k0_pay111]
  rfl

/-- The code of a weight. -/
def code (p : EReal) : EReal := min (p * CP) CP

/-- The code of a weight in the rows of head group `g`, 0 outside of the group's columns. -/
def coded (g : Fin 4) (p : FVec Ideal S8x256 .f32) (r : Fin 8) (k : Fin 256) : EReal :=
  Scalar.select (maskOf g (ix2 r k)) (code (p (ix2 r k))) 0

/-- A pair of blocks adds, to the rows of head group `g` and the columns of its own half, that group's columns. -/
theorem pair_eq (a : FVec Ideal S64x256 .f32) (m : FVec Ideal S8x128 .f32) (A B : Vec Ideal S1x8x256 .f32) (Ta Tb : Vec Ideal S1x256x128 .fp8e4m3)
    (h : Fin 2) (g : Fin 4) (r : Fin 8) (d : Fin 128) :
    k0_pay120 masks.v33 masks.v51 masks.v69 masks.v87 a (k0_pay113 masks.v33 m A) (k0_pay114 masks.v51 m A) (k0_pay115 masks.v69 m A) (k0_pay116 masks.v87 m A) (k0_pay117 m B) Ta Tb
      (ix2 ⟨32 * h.val + 8 * g.val + r.val, by omega⟩ ⟨128 * h.val + d.val, by omega⟩)
      = (a (ix2 ⟨32 * h.val + 8 * g.val + r.val, by omega⟩ ⟨128 * h.val + d.val, by omega⟩) : EReal)
        + ∑ k : Fin 256, coded g (k0_pay111 m (if h = 0 then A else B)) r k * ((if h = 0 then Ta else Tb) (ix3 0 k d) : EReal) := by
  have hB : k0_pay117 m B = k0_pay111 m B := rfl
  rw [hB]
  have key (p : FVec Ideal S8x256 .f32) (s : Fin 8) (k : Fin 256) (hs : s = r) : coded g p s k = coded g p r k := by rw [hs]
  have inn (g : Fin 4) (p : FVec Ideal S8x256 .f32) (k : Fin 256) (t : EReal) : Scalar.select (maskOf g (ix2 r k)) (code (p (ix2 r k)) * t) 0 = coded g p r k * t := by
    unfold coded Scalar.select
    split
    · rfl
    · exact (zero_mul t).symm
  fin_cases h <;> fin_cases g <;> pointwise [k0_pay120, k0_pay113, k0_pay114, k0_pay115, k0_pay116, k0_pay112]
  all_goals refine congrArg (fun e : EReal => _ + e) (Finset.sum_congr rfl fun x _ => ?_)
  all_goals first
    | exact inn 0 _ _ _
    | exact inn 1 _ _ _
    | refine congrArg (fun e : EReal => e * _) ?_
      (repeat rw [dif_neg (by omega)])
      (try rw [dif_pos (by omega)])
      refine key _ _ _ (Fin.ext ?_)
      dsimp only
      omega

end Cert.Val

end
-- ==== Proof.Val.Sum.lean ====
/- The kernel's sums of weights and of weighted values at the extended reals. -/
module

public import proofs.«01_k».proof.Proof.Val.Pair

@[expose] public section

set_option maxRecDepth 16384

noncomputable section

namespace Cert.Val

open Cert.KernelIdeal Cert.KernelIdeal.Gen Cert.KernelIdeal.Hand Cert.Schedule
open Idealize.ShloMosaic Idealize.ShloMosaic.TcCoe Idealize.ShloMosaic.Tactic
open Finset

/-! ## Over the blocks of a chunk -/

theorem sumOf_eq (m : FVec Ideal S8x128 .f32) (S : Fin 16 → Vec Ideal S1x8x256 .f32) (w : ℕ → EReal) (base : ℕ) (r : Fin 8)
    (hS : ∀ j k, k0_pay111 m (S j) (ix2 r k) = w (base + 256 * j.val + k.val)) (a : FVec Ideal S8x128 .f32) (l : Fin 128) :
    ∀ n h, (sumOf m S a n h (ix2 r l) : EReal) = a (ix2 r l) + ∑ u ∈ range (4 * n), w (base + 128 * u + l.val)
  | 0, _ => by simp [sumOf]
  | n + 1, h => by
    have e : (sumOf m S a (n + 1) h (ix2 r l) : EReal) = sumOf m S a n (by omega) (ix2 r l) + w (base + 128 * (4 * n) + l.val) + w (base + 128 * (4 * n + 1) + l.val)
        + w (base + 128 * (4 * n + 1 + 1) + l.val) + w (base + 128 * (4 * n + 1 + 1 + 1) + l.val) := by
      rw [show base + 128 * (4 * n) + l.val = base + 256 * (⟨2 * n, by omega⟩ : Fin 16).val + (⟨l.val, by omega⟩ : Fin 256).val by simp only []; omega,
        show base + 128 * (4 * n + 1) + l.val = base + 256 * (⟨2 * n, by omega⟩ : Fin 16).val + (⟨128 + l.val, by omega⟩ : Fin 256).val by simp only []; omega,
        show base + 128 * (4 * n + 1 + 1) + l.val = base + 256 * (⟨2 * n + 1, by omega⟩ : Fin 16).val + (⟨l.val, by omega⟩ : Fin 256).val by simp only []; omega,
        show base + 128 * (4 * n + 1 + 1 + 1) + l.val = base + 256 * (⟨2 * n + 1, by omega⟩ : Fin 16).val + (⟨128 + l.val, by omega⟩ : Fin 256).val by simp only []; omega,
        ← hS, ← hS, ← hS, ← hS]
      rw [show sumOf m S a (n + 1) h = addf (addf (addf (addf (sumOf m S a n (by omega))
          (extractStridedSlice S8x128 ![0, 0] (k0_pay111 m (S ⟨2 * n, by omega⟩)) slices_S8x256_o0_0_S8x128))
          (extractStridedSlice S8x128 ![0, 128] (k0_pay111 m (S ⟨2 * n, by omega⟩)) slices_S8x256_o0_128_S8x128))
          (extractStridedSlice S8x128 ![0, 0] (k0_pay111 m (S ⟨2 * n + 1, by omega⟩)) slices_S8x256_o0_0_S8x128))
          (extractStridedSlice S8x128 ![0, 128] (k0_pay111 m (S ⟨2 * n + 1, by omega⟩)) slices_S8x256_o0_128_S8x128) from rfl]
      pointwise
    rw [e, sumOf_eq m S w base r hS a l n (by omega), show 4 * (n + 1) = 4 * n + 1 + 1 + 1 + 1 by omega]
    rw [sum_range_succ, sum_range_succ, sum_range_succ, sum_range_succ]
    simp only [← add_assoc]

theorem accOf_eq (m : FVec Ideal S8x128 .f32) (S : Fin 16 → Vec Ideal S1x8x256 .f32) (T : Fin 16 → Vec Ideal S1x256x128 .fp8e4m3) (f : ℕ → EReal) (base : ℕ)
    (h : Fin 2) (g : Fin 4) (r : Fin 8) (d : Fin 128) (hS : ∀ j k, coded g (k0_pay111 m (S j)) r k * (T j (ix3 0 k d) : EReal) = f (base + 256 * j.val + k.val)) (a : FVec Ideal S64x256 .f32) :
    ∀ n hn, (accOf masks.v33 masks.v51 masks.v69 masks.v87 m S T a n hn (ix2 ⟨32 * h.val + 8 * g.val + r.val, by omega⟩ ⟨128 * h.val + d.val, by omega⟩) : EReal)
      = a (ix2 ⟨32 * h.val + 8 * g.val + r.val, by omega⟩ ⟨128 * h.val + d.val, by omega⟩) + ∑ u ∈ range n, ∑ k ∈ range 256, f (base + 512 * u + (256 * h.val + k))
  | 0, _ => by simp [accOf]
  | n + 1, hn => by
    have e := pair_eq (accOf masks.v33 masks.v51 masks.v69 masks.v87 m S T a n (by omega)) m (S ⟨2 * n, by omega⟩) (S ⟨2 * n + 1, by omega⟩) (T ⟨2 * n, by omega⟩) (T ⟨2 * n + 1, by omega⟩) h g r d
    refine e.trans ?_
    rw [accOf_eq m S T f base h g r d hS a n (by omega), sum_range_succ, ← add_assoc]
    refine congrArg (HAdd.hAdd _) ?_
    rw [sum_range]
    refine sum_congr rfl fun k _ => ?_
    have hj : ∀ q (hq : q < 2), (h = ⟨q, hq⟩) → coded g (k0_pay111 m (S ⟨2 * n + q, by omega⟩)) r k * (T ⟨2 * n + q, by omega⟩ (ix3 0 k d) : EReal) = f (base + 512 * n + (256 * h.val + k.val)) := by
      rintro q hq rfl
      rw [hS]
      congr 1
      simp only []
      omega
    fin_cases h
    · exact hj 0 (by decide) rfl
    · exact hj 1 (by decide) rfl

variable (x : Ins Ideal) (b : ℕ)

/-- The weight of column `col`. -/
def pw (r : Fin 8) (col : ℕ) : EReal := Ideal.exp (sraw x b r col * SC - top x b r ⟨col % 4, by omega⟩)

theorem pw_zero (r : Fin 8) (col : ℕ) (h : (x.ln b).toNat ≤ col / 4) : pw x b r col = 0 := by
  unfold pw sraw
  rw [if_neg (by omega), bot_SC]
  simp [EReal.bot_sub]

theorem code_zero : code 0 = 0 := by
  unfold code
  rw [zero_mul]
  exact min_eq_left CP_pos

theorem block_eq (hl : (x.ln b).toNat ≤ 30720) (i : ℕ) (hi : i < 30) (j : Fin 16) (r : Fin 8) (k : Fin 256) :
    k0_pay111 (x.mm masks b) (stored (x.sc masks b i j)) (ix2 r k) = pw x b r (4096 * i + 256 * j.val + k.val) := by
  have e : stored (x.sc masks b i j) (ix3 0 r k) = x.sc masks b i j (ix2 r k) := by
    pointwise [stored]
  rw [weight_eq, mm_eq x b hl, e, score_eq x b hl i hi]
  unfold pw
  congr 4
  show k.val % 128 % 4 = (4096 * i + 256 * j.val + k.val) % 4
  omega

/-! ## Over the chunks -/

theorem sumAt_eq (hl : (x.ln b).toNat ≤ 30720) (r : Fin 8) (l : Fin 128) :
    ∀ k ≤ 30, (sumAt (x.mm masks b) (fun i j => stored (x.sc masks b i j)) k (ix2 r l) : EReal) = ∑ u ∈ range (32 * k), pw x b r (128 * u + l.val)
  | 0, _ => by
    unfold sumAt; pointwise [k0_pay264]
    simp
  | k + 1, hk => by
    unfold sumAt
    rw [sumOf_eq _ _ (pw x b r) (4096 * k) r (fun j l => block_eq x b hl k (by omega) j r l), sumAt_eq hl r l k (by omega), show 32 * (k + 1) = 32 * k + 4 * 8 by omega, sum_range_add]
    refine congrArg (_ + ·) (sum_congr rfl fun u _ => ?_)
    congr 1; omega

/-- The value at column `col`. -/
def vat (col : ℕ) (d : Fin 128) : EReal :=
  (x.va (ix3 ⟨min b 23, by show _ < 24; omega⟩ ⟨min col 122879, by show _ < 122880; omega⟩ d) : EReal)

/-- What column `col` adds to head group `g`. -/
def part (g : Fin 4) (r : Fin 8) (d : Fin 128) (col : ℕ) : EReal := if col % 4 = g.val then code (pw x b r col) * vat x b col d else 0

theorem part_eq (hl : (x.ln b).toNat ≤ 30720) (i : ℕ) (hi : i < 30) (g : Fin 4) (r : Fin 8) (d : Fin 128) (j : Fin 16) (k : Fin 256) :
    coded g (k0_pay111 (x.mm masks b) (stored (x.sc masks b i j))) r k * (tile x.va b i (256 * j.val) (ix3 0 k d) : EReal) = part x b g r d (4096 * i + 256 * j.val + k.val) := by
  unfold coded part Scalar.select
  rw [block_eq x b hl i hi]
  have hm : maskOf g (ix2 r k) = 1 ↔ k.val % 4 = g.val := mask_iff g r k
  simp only [hm]
  rw [show (4096 * i + 256 * j.val + k.val) % 4 = k.val % 4 by omega]
  split
  · refine congrArg (HMul.hMul _) ?_
    unfold tile vat
    refine congrArg x.va ?_
    funext a; fin_cases a <;> apply Fin.ext
    · rfl
    · show min (i * 4096 + 256 * j.val + k.val) 122879 = min (4096 * i + 256 * j.val + k.val) 122879; congr 1; omega
    · rfl
  · exact zero_mul _

theorem accAt_eq (hl : (x.ln b).toNat ≤ 30720) (h : Fin 2) (g : Fin 4) (r : Fin 8) (d : Fin 128) :
    ∀ k ≤ 30, (accAt masks.v33 masks.v51 masks.v69 masks.v87 (x.mm masks b) (fun i j => stored (x.sc masks b i j)) (fun i n => tile x.va b i (256 * n.val)) k
        (ix2 ⟨32 * h.val + 8 * g.val + r.val, by omega⟩ ⟨128 * h.val + d.val, by omega⟩) : EReal)
      = ∑ u ∈ range (8 * k), ∑ k' ∈ range 256, part x b g r d (512 * u + (256 * h.val + k'))
  | 0, _ => by
    unfold accAt; pointwise [k0_pay265]
    simp
  | k + 1, hk => by
    unfold accAt
    rw [accOf_eq _ _ _ (part x b g r d) (4096 * k) h g r d (fun j l => part_eq x b hl k (by omega) g r d j l), accAt_eq hl h g r d k (by omega), show 8 * (k + 1) = 8 * k + 8 by omega, sum_range_add]
    refine congrArg (_ + ·) (sum_congr rfl fun u _ => sum_congr rfl fun k' _ => ?_)
    congr 1; omega

/-! ## Over the sequence -/

/-- A sum of terms that vanish from `n` on may stop anywhere past `n`. -/
theorem sum_tail (f : ℕ → EReal) (n N M : ℕ) (hN : n ≤ N) (hM : N ≤ M) (hf : ∀ t, n ≤ t → f t = 0) : ∑ t ∈ range N, f t = ∑ t : Fin M, f t.val := by
  rw [← sum_range]
  refine sum_subset (range_subset_range.mpr hM) fun t _ ht => hf t ?_
  rw [mem_range] at ht
  omega

theorem den_eq (hl : (x.ln b).toNat ≤ 30720) (r : Fin 8) (l : Fin 128) :
    x.den masks b (ix2 r l) = (∑ t : Fin 30720, pw x b r (4 * t.val + l.val % 4)) + pnv x b r ⟨l.val % 4, by omega⟩ := by
  have hc := chunks_le hl
  have hc2 : (x.ln b).toNat ≤ 1024 * chunks (x.ln b).toNat := by unfold chunks; omega
  obtain ⟨S, hS⟩ : ∃ S : FVec Ideal S8x128 .f32, x.den masks b = addf S (x.pn masks b) ∧ lane S r l.val = ∑ k ∈ range 128, if k % 4 = l.val % 4 then lane (x.ls masks b) r k else 0 :=
    ⟨_, rfl, roll_sum (lane (x.ls masks b) r) _ _ _ _ (lane _ r) (lane_mod _ r)
      (fun n => congrArg (HAdd.hAdd _) (lane_roll _ r n).1) (fun n => congrArg (HAdd.hAdd _) (lane_roll _ r n).2.1) (fun n => congrArg (HAdd.hAdd _) (lane_roll _ r n).2.2.1)
      (fun n => congrArg (HAdd.hAdd _) (lane_roll _ r n).2.2.2.1) (fun n => congrArg (HAdd.hAdd _) (lane_roll _ r n).2.2.2.2) l.val⟩
  rw [hS.1]
  refine (show addf S (x.pn masks b) (ix2 r l) = (S (ix2 r l) : EReal) + x.pn masks b (ix2 r l) from rfl).trans ?_
  rw [pn_eq x b hl, ← lane_at S, hS.2]
  refine congrArg (· + _) ?_
  rw [← sum_tail (fun t => pw x b r (4 * t + l.val % 4)) (x.ln b).toNat (1024 * chunks (x.ln b).toNat) 30720 hc2 (by omega) fun t ht => pw_zero x b r _ (by omega),
    ← sum_fourth _ _ (by omega) (pw x b r), show 4 * (1024 * chunks (x.ln b).toNat) = 128 * (32 * chunks (x.ln b).toNat) by omega, ← sum_blocks, sum_comm]
  refine sum_congr rfl fun k hk => ?_
  rw [mem_range] at hk
  rw [lane_at _ r ⟨k, hk⟩, show x.ls masks b (ix2 r ⟨k, hk⟩) = _ from sumAt_eq x b hl r ⟨k, hk⟩ _ hc]
  have e : ∀ u, (128 * u + k) % 4 = k % 4 := fun u => by omega
  simp only [e]
  split
  · rfl
  · rw [sum_const_zero]

theorem num_eq (hl : (x.ln b).toNat ≤ 30720) (g : Fin 4) (r : Fin 8) (d : Fin 128) :
    x.num masks b (ix2 ⟨8 * g.val + r.val, by omega⟩ d) = ∑ t : Fin 30720, code (pw x b r (4 * t.val + g.val)) * vat x b (4 * t.val + g.val) d := by
  have hc := chunks_le hl
  have hc2 : (x.ln b).toNat ≤ 1024 * chunks (x.ln b).toNat := by unfold chunks; omega
  have e : x.num masks b (ix2 ⟨8 * g.val + r.val, by omega⟩ d)
      = (x.acc masks b (ix2 ⟨32 * (0 : Fin 2).val + 8 * g.val + r.val, by show 32 * 0 + 8 * g.val + r.val < 64; omega⟩ ⟨128 * (0 : Fin 2).val + d.val, by show 128 * 0 + d.val < 256; omega⟩) : EReal)
        + x.acc masks b (ix2 ⟨32 * (1 : Fin 2).val + 8 * g.val + r.val, by show 32 * 1 + 8 * g.val + r.val < 64; omega⟩ ⟨128 * (1 : Fin 2).val + d.val, by show 128 * 1 + d.val < 256; omega⟩) := by
    unfold Ins.num
    pointwise [k0_pay268]
    congr 3 <;> apply Fin.ext <;> simp <;> omega
  rw [e]
  unfold Ins.acc
  rw [accAt_eq x b hl 0 g r d _ hc, accAt_eq x b hl 1 g r d _ hc, ← sum_add_distrib,
    ← sum_tail (fun t => code (pw x b r (4 * t + g.val)) * vat x b (4 * t + g.val) d) (x.ln b).toNat (1024 * chunks (x.ln b).toNat) 30720 hc2 (by omega) fun t ht => by
      rw [pw_zero x b r _ (by omega), code_zero, zero_mul],
    ← sum_fourth _ _ g.isLt (fun c => code (pw x b r c) * vat x b c d), show 4 * (1024 * chunks (x.ln b).toNat) = 512 * (8 * chunks (x.ln b).toNat) by omega, ← sum_blocks 512]
  refine sum_congr rfl fun u _ => ?_
  rw [show (512 : ℕ) = 256 + 256 from rfl, sum_range_add]
  refine congrArg₂ (· + ·) (sum_congr rfl fun k _ => ?_) (sum_congr rfl fun k _ => ?_)
  · show part x b g r d (512 * u + (256 * 0 + k)) = part x b g r d (512 * u + k)
    congr 1; omega
  · rfl

end Cert.Val

end
-- ==== Proof.Val.Out.lean ====
/- The kernel's results at the extended reals. -/
module

public import proofs.«01_k».proof.Proof.Val.Sum

@[expose] public section

set_option maxRecDepth 16384

noncomputable section

namespace Cert.Val

open Cert.KernelIdeal Cert.KernelIdeal.Gen Cert.KernelIdeal.Hand Cert.Schedule
open Idealize.ShloMosaic Idealize.ShloMosaic.TcCoe Idealize.ShloMosaic.Tactic

variable (x : Ins Ideal) (b : ℕ)

/-- The reciprocal the codes of the weights are scaled back by. -/
def RC : EReal := Ideal.ofBits .f32 0x3B124925#32
/-- The least code. -/
def CN : EReal := Ideal.ofBits .f32 0xC3E00000#32

/-- A value scale, and the code of a new value. -/
def vsv (g : Fin 4) (d : Fin 128) : EReal := x.vs (ix3 ⟨min b 23, by show _ < 24; omega⟩ g d)
def vcv (g : Fin 4) (d : Fin 128) : EReal := min CP (max CN (Ideal.div (x.vn (ix3 ⟨min b 23, by show _ < 24; omega⟩ g d)) (vsv x b g d)))

/-- The sum of a head's weights. -/
def dnv (r : Fin 8) (g : Fin 4) : EReal := (∑ t : Fin 30720, pw x b r (4 * t.val + g.val)) + pnv x b r g
/-- The cache's part of a result. -/
def cachePart (g : Fin 4) (r : Fin 8) (d : Fin 128) : EReal :=
  Ideal.div ((∑ t : Fin 30720, code (pw x b r (4 * t.val + g.val)) * vat x b (4 * t.val + g.val) d) * RC * vsv x b g d) (dnv x b r g)
/-- The new value's part of a result. -/
def newPart (g : Fin 4) (r : Fin 8) (d : Fin 128) : EReal := Ideal.div (pnv x b r g * vcv x b g d * vsv x b g d) (dnv x b r g)

theorem den_at (hl : (x.ln b).toNat ≤ 30720) (r : Fin 8) (g : Fin 4) (p) : x.den masks b (ix2 r ⟨g.val, p⟩) = dnv x b r g := by
  rw [den_eq x b hl]
  unfold dnv
  have e : g.val % 4 = g.val := Nat.mod_eq_of_lt g.isLt
  simp only [e]

theorem pn_at (hl : (x.ln b).toNat ≤ 30720) (r : Fin 8) (g : Fin 4) (p) : x.pn masks b (ix2 r ⟨g.val, p⟩) = pnv x b r g := by
  rw [pn_eq x b hl]
  have e : g.val % 4 = g.val := Nat.mod_eq_of_lt g.isLt
  simp only [e]

theorem sv_eq (g : Fin 4) (d : Fin 128) : x.sv b (ix2 g d) = vsv x b g d := by
  unfold Ins.sv
  pointwise [k0_pay269]
  rfl

theorem vc_eq (g : Fin 4) (d : Fin 128) : x.vc b (ix2 g d) = vcv x b g d := by
  unfold Ins.vc
  pointwise [k0_pay270, k0_pay269]
  rfl

theorem out8_eq (hl : (x.ln b).toNat ≤ 30720) (g : Fin 4) (r : Fin 8) (d : Fin 128) : x.out8 masks b g (ix3 0 r d) = cachePart x b g r d := by
  unfold cachePart
  rw [← num_eq x b hl, ← den_at x b hl r g (by show _ < 128; omega)]
  fin_cases g <;> unfold Ins.out8 <;>
    pointwise [k0_pay275, k0_pay274, k0_pay273, k0_pay272, k0_pay281, k0_pay280, k0_pay279, k0_pay277, k0_pay287, k0_pay286, k0_pay285, k0_pay284, k0_pay2, k0_pay1, k0_pay289, k0_pay291, k0_pay292] <;>
    rw [sv_eq] <;> rfl

theorem out7_eq (hl : (x.ln b).toNat ≤ 30720) (g : Fin 4) (r : Fin 8) (d : Fin 128) : x.out7 masks b g (ix3 0 r d) = cachePart x b g r d + newPart x b g r d := by
  unfold cachePart newPart
  rw [← num_eq x b hl, ← den_at x b hl r g (by show _ < 128; omega), ← pn_at x b hl r g (by show _ < 128; omega)]
  fin_cases g <;> unfold Ins.out7 <;>
    pointwise [k0_pay276, k0_pay274, k0_pay273, k0_pay272, k0_pay271, k0_pay283, k0_pay282, k0_pay280, k0_pay279, k0_pay278, k0_pay277, k0_pay288, k0_pay286, k0_pay285, k0_pay284, k0_pay3, k0_pay1, k0_pay289, k0_pay290, k0_pay291, k0_pay292] <;>
    rw [sv_eq, vc_eq] <;> rfl

end Cert.Val

end
-- ==== Proof.Val.KerIn.lean ====
/- The kernel's inputs and results at an index, from its arguments. -/
module

public import proofs.«01_k».proof.Proof.KI.Post
public import proofs.«01_k».proof.Proof.Val.Out

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.Tactic
open Idealize.ShloMosaic.StableHlo (after)

variable (m : (ℓ : Loc nD τ sig) → Buf (Elt Ideal) ℓ) (c : Dev nD)

/-! ## The host lines before the region -/

theorem V_q : V m c main_v0 = shapeCast S24x32x128 (m ((c : Thread nD τ).loc main_arg0)) shapeCasts_S24x1x4096_S24x32x128 := by
  simp only [V, V0, hostOps0, List.flatten_cons, List.flatten_nil, List.append_nil, List.cons_append, List.nil_append]
  after_results <;> rfl
theorem V_kn : V m c main_v1 = shapeCast S24x4x128 (m ((c : Thread nD τ).loc main_arg1)) shapeCasts_S24x1x4x128_S24x4x128 := by
  simp only [V, V0, hostOps0, List.flatten_cons, List.flatten_nil, List.append_nil, List.cons_append, List.nil_append]
  after_results <;> rfl
theorem V_vn : V m c main_v2 = shapeCast S24x4x128 (m ((c : Thread nD τ).loc main_arg2)) shapeCasts_S24x1x4x128_S24x4x128 := by
  simp only [V, V0, hostOps0, List.flatten_cons, List.flatten_nil, List.append_nil, List.cons_append, List.nil_append]
  after_results <;> rfl
theorem V_ka : V m c main_v3 = shapeCast S24x122880x128 (m ((c : Thread nD τ).loc main_arg3)) shapeCasts_S24x30720x4x128_S24x122880x128 := by
  simp only [V, V0, hostOps0, List.flatten_cons, List.flatten_nil, List.append_nil, List.cons_append, List.nil_append]
  after_results <;> rfl
theorem V_va : V m c main_v4 = shapeCast S24x122880x128 (m ((c : Thread nD τ).loc main_arg4)) shapeCasts_S24x30720x4x128_S24x122880x128 := by
  simp only [V, V0, hostOps0, List.flatten_cons, List.flatten_nil, List.append_nil, List.cons_append, List.nil_append]
  after_results <;> rfl

/-! ## The blocks are the arrays -/

theorem blk_0 : iblk m c 0 t0_0 = V m c main_arg6 := by
  funext y
  blk_ext [iblk] <;> exact (congrArg (· + _) (Nat.zero_mul _)).trans (Nat.zero_add _)
theorem blk_1 : iblk m c 1 t0_0 = V m c main_v0 := by
  funext y
  blk_ext [iblk] <;> exact (congrArg (· + _) (Nat.zero_mul _)).trans (Nat.zero_add _)
theorem blk_2 : iblk m c 2 t0_0 = V m c main_v1 := by
  funext y
  blk_ext [iblk] <;> exact (congrArg (· + _) (Nat.zero_mul _)).trans (Nat.zero_add _)
theorem blk_3 : iblk m c 3 t0_0 = V m c main_v2 := by
  funext y
  blk_ext [iblk] <;> exact (congrArg (· + _) (Nat.zero_mul _)).trans (Nat.zero_add _)
theorem blk_4 : iblk m c 4 t0_0 = V m c main_arg5 := by
  funext y
  blk_ext [iblk] <;> exact (congrArg (· + _) (Nat.zero_mul _)).trans (Nat.zero_add _)

/-! ## The inputs at an index -/

variable (b : Fin 24) (g : Fin 4) (d : Fin 128)

theorem row_eq (p) : (⟨min b.val 23, p⟩ : Fin 24) = b := Fin.ext (by show min b.val 23 = b.val; omega)
theorem col_eq (t : Fin 30720) (p) : (⟨min (4 * t.val + g.val) 122879, p⟩ : Fin 122880) = ⟨4 * t.val + g.val, by omega⟩ :=
  Fin.ext (by show min (4 * t.val + g.val) 122879 = 4 * t.val + g.val; omega)

theorem heads_cast (X : FVec Ideal S24x1x4096 .bf16) (w : Fin 32) : shapeCast S24x32x128 X shapeCasts_S24x1x4096_S24x32x128 (ix3 b w d) = X (ix3 b 0 ⟨128 * w.val + d.val, by omega⟩) := by
  have e : ∀ p, (⟨w.val * 128 + d.val, p⟩ : Fin 4096) = ⟨128 * w.val + d.val, by omega⟩ := fun p => Fin.ext (by show w.val * 128 + d.val = 128 * w.val + d.val; omega)
  pointwise
  simp only [e]
theorem new_cast (X : FVec Ideal S24x1x4x128 .bf16) : shapeCast S24x4x128 X shapeCasts_S24x1x4x128_S24x4x128 (ix3 b g d) = X (ix4 b 0 g d) := by
  pointwise
theorem cache_cast {e : FTy} (X : FVec Ideal S24x30720x4x128 e) (t : Fin 30720) :
    shapeCast S24x122880x128 X shapeCasts_S24x30720x4x128_S24x122880x128 (ix3 b ⟨4 * t.val + g.val, by omega⟩ d) = X (ix4 b t g d) := by
  pointwise

theorem q_at (w : Fin 32) (p) : (ins m c).q (ix3 ⟨min b.val 23, p⟩ w d) = m ((c : Thread nD τ).loc main_arg0) (ix3 b 0 ⟨128 * w.val + d.val, by omega⟩) := by
  rw [row_eq, show (ins m c).q = iblk m c 1 t0_0 from rfl, blk_1, V_q]
  exact heads_cast b d _ w
theorem kn_at (p) : (ins m c).kn (ix3 ⟨min b.val 23, p⟩ g d) = m ((c : Thread nD τ).loc main_arg1) (ix4 b 0 g d) := by
  rw [row_eq, show (ins m c).kn = iblk m c 2 t0_0 from rfl, blk_2, V_kn]
  exact new_cast b g d _
theorem vn_at (p) : (ins m c).vn (ix3 ⟨min b.val 23, p⟩ g d) = m ((c : Thread nD τ).loc main_arg2) (ix4 b 0 g d) := by
  rw [row_eq, show (ins m c).vn = iblk m c 3 t0_0 from rfl, blk_3, V_vn]
  exact new_cast b g d _
theorem vs_at (p) : (ins m c).vs (ix3 ⟨min b.val 23, p⟩ g d) = m ((c : Thread nD τ).loc main_arg5) (ix3 b g d) := by
  rw [row_eq, show (ins m c).vs = iblk m c 4 t0_0 from rfl, blk_4, V_main_arg5]
theorem ka_at (t : Fin 30720) (p q) : (ins m c).ka (ix3 ⟨min b.val 23, p⟩ ⟨min (4 * t.val + g.val) 122879, q⟩ d) = m ((c : Thread nD τ).loc main_arg3) (ix4 b t g d) := by
  rw [row_eq, col_eq, show (ins m c).ka = V m c main_v3 from rfl, V_ka]
  exact cache_cast (e := .bf16) b g d _ t
theorem va_at (t : Fin 30720) (p q) : (ins m c).va (ix3 ⟨min b.val 23, p⟩ ⟨min (4 * t.val + g.val) 122879, q⟩ d) = m ((c : Thread nD τ).loc main_arg4) (ix4 b t g d) := by
  rw [row_eq, col_eq, show (ins m c).va = V m c main_v4 from rfl, V_va]
  exact cache_cast (e := .fp8e4m3) b g d _ t
theorem ln_at : (ins m c).ln b.val = m ((c : Thread nD τ).loc main_arg6) (ix1 b) := by
  rw [show (ins m c).ln b.val = iblk m c 0 t0_0 (ix1 ⟨min b.val 23, by show _ < 24; omega⟩) from rfl, row_eq, blk_0, V_main_arg6]

/-! ## The results at an index -/

variable (hm : AllFit m) (j : Fin 8)

theorem fit_at (hm : AllFit m) : ((ins m c).ln b.val).toNat ≤ 30720 := by
  rw [ln_at]
  exact hm c (ix1 b)

theorem res5_at (hm : AllFit m) : res5 m c (ix3 b ⟨8 * g.val + j.val, by omega⟩ d) = cachePart (ins m c) b g j d + newPart (ins m c) b g j d := by
  have e1 : (⟨(8 * g.val + j.val) / 8, by omega⟩ : Fin 4) = g := Fin.ext (by show (8 * g.val + j.val) / 8 = g.val; omega)
  have e2 : (⟨(8 * g.val + j.val) % 8, by omega⟩ : Fin 8) = j := Fin.ext (by show (8 * g.val + j.val) % 8 = j.val; omega)
  rw [← out7_eq (ins m c) b (fit_at m c b hm)]
  exact congrArg₂ (fun g j => (ins m c).out7 masks b g (ix3 0 j d)) e1 e2
theorem res6_at (hm : AllFit m) : res6 m c (ix3 b ⟨8 * g.val + j.val, by omega⟩ d) = cachePart (ins m c) b g j d := by
  have e1 : (⟨(8 * g.val + j.val) / 8, by omega⟩ : Fin 4) = g := Fin.ext (by show (8 * g.val + j.val) / 8 = g.val; omega)
  have e2 : (⟨(8 * g.val + j.val) % 8, by omega⟩ : Fin 8) = j := Fin.ext (by show (8 * g.val + j.val) % 8 = j.val; omega)
  rw [← out8_eq (ins m c) b (fit_at m c b hm)]
  exact congrArg₂ (fun g j => (ins m c).out8 masks b g (ix3 0 j d)) e1 e2
theorem res7_at : res7 m c (ix3 b g d) = vcv (ins m c) b g d := by
  unfold vcv vsv
  rw [row_eq]
  unfold res7
  pointwise [k0_pay293]
  rfl

end Cert.Val

end
-- ==== Proof.Val.RefHost.lean ====
/- The reference's host lines before its region, read as values. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.RefVal

open Cert.ReferenceIdeal Cert.ReferenceIdeal.Gen
open Idealize.ShloMosaic Idealize.ShloMosaic.TcCoe Idealize.ShloMosaic.Tactic
open Idealize.ShloMosaic.StableHlo (after)

/-! ## The host lines as values of the arguments -/

variable (a0 : FVec Ideal S24x1x4096 .bf16) (a1 : FVec Ideal S24x1x4x128 .bf16) (a3 : FVec Ideal S24x30720x4x128 .bf16) (a6 : IVec S24 32)

/-- The queries by head. -/
def qh : FVec Ideal S24x1x4x8x128 .bf16 := shapeCast S24x1x4x8x128 a0 shapeCasts_S24x1x4096_S24x1x4x8x128
/-- The scaled products with the cache. -/
def prodC : FVec Ideal S24x1x4x8x30720 .f32 :=
  mulf (transpose S24x1x4x8x30720 [0, 3, 1, 4, 2] (Host.dotGeneral dot_S24x30720x4x128_S24x1x4x8x128_S24x4x30720x1x8_3_4_1_13_02_02 none a3 (qh a0)) transposes_S24x4x30720x1x8_S24x1x4x8x30720_0_3_1_4_2)
    (broadcastInDim S24x1x4x8x30720 ![] bcast_S_S24x1x4x8x30720 (constant (F := Ideal) S_ .f32 0x3DB504F3#32))
/-- Which tokens lie within a sequence. -/
def within : IVec S24x30720 1 :=
  cmpi .slt (broadcastInDim S24x30720 ![0, 1] bcast_S1x30720_S24x30720_0_1 (broadcastInDim S1x30720 ![1] bcast_S30720_S1x30720_1 (iotaInDim S30720 32 0)))
    (broadcastInDim S24x30720 ![0, 1] bcast_S24x1_S24x30720_0_1 (broadcastInDim S24x1 ![0] bcast_S24_S24x1_0 a6))
/-- The scores of the cache, minus infinity past the length. -/
def scoreC : FVec Ideal S24x1x4x8x30720 .f32 :=
  select (broadcastInDim S24x1x4x8x30720 ![0, 1, 2, 3, 4] bcast_S24x1x1x1x30720_S24x1x4x8x30720_0_1_2_3_4 (broadcastInDim S24x1x1x1x30720 ![0, 4] bcast_S24x30720_S24x1x1x1x30720_0_4 (within a6)))
    (prodC a0 a3) (broadcastInDim S24x1x4x8x30720 ![] bcast_S_S24x1x4x8x30720 (constant (F := Ideal) S_ .f32 0xFF800000#32))
/-- The scores of the new key. -/
def scoreN : FVec Ideal S24x1x4x8 .f32 :=
  mulf (Host.dotGeneral dot_S24x1x4x8x128_S24x1x4x128_S24x1x4x8_4_3_3_n_012_012 none (qh a0) a1) (broadcastInDim S24x1x4x8 ![] bcast_S_S24x1x4x8 (constant (F := Ideal) S_ .f32 0x3DB504F3#32))
/-- The greatest score of a head. -/
def topS : FVec Ideal S24x1x4x8 .f32 :=
  maximumf (Host.reduce FloatOps.maximumf (scoreC a0 a3 a6) (constant (F := Ideal) S_ .f32 0xFF800000#32) reducesTo_S24x1x4x8x30720_S24x1x4x8_d4 h_S_) (scoreN a0 a1)
/-- The weights of the cache. -/
def wC : FVec Ideal S24x1x4x8x30720 .f32 :=
  Host.exp (subf (scoreC a0 a3 a6) (broadcastInDim S24x1x4x8x30720 ![0, 1, 2, 3, 4] bcast_S24x1x4x8x1_S24x1x4x8x30720_0_1_2_3_4 (broadcastInDim S24x1x4x8x1 ![0, 1, 2, 3] bcast_S24x1x4x8_S24x1x4x8x1_0_1_2_3 (topS a0 a1 a3 a6))))
/-- The weights of the new key. -/
def wN : FVec Ideal S24x1x4x8 .f32 := Host.exp (subf (scoreN a0 a1) (topS a0 a1 a3 a6))
/-- The sums of the weights. -/
def wSum : FVec Ideal S24x1x4x8 .f32 :=
  addf (Host.reduceAdd (wC a0 a1 a3 a6) (constant (F := Ideal) S_ .f32 0x00000000#32) reducesTo_S24x1x4x8x30720_S24x1x4x8_d4 h_S_) (wN a0 a1 a3 a6)

variable (m : (ℓ : Loc nD τ sig) → Buf (Elt Ideal) ℓ) (c : Dev nD)

theorem V_wC : V m c main_v21 = wC (m ((c : Thread nD τ).loc main_arg0)) (m ((c : Thread nD τ).loc main_arg1)) (m ((c : Thread nD τ).loc main_arg3)) (m ((c : Thread nD τ).loc main_arg6)) := by
  simp only [V, V0, hostOps0, hostOps0_1, hostOps0_2, List.flatten_cons, List.flatten_nil, List.append_nil, List.cons_append, List.nil_append]
  after_results <;> rfl
theorem V_wN : V m c main_v23 = wN (m ((c : Thread nD τ).loc main_arg0)) (m ((c : Thread nD τ).loc main_arg1)) (m ((c : Thread nD τ).loc main_arg3)) (m ((c : Thread nD τ).loc main_arg6)) := by
  simp only [V, V0, hostOps0, hostOps0_1, hostOps0_2, List.flatten_cons, List.flatten_nil, List.append_nil, List.cons_append, List.nil_append]
  after_results <;> rfl
theorem V_wSum : V m c main_v25 = wSum (m ((c : Thread nD τ).loc main_arg0)) (m ((c : Thread nD τ).loc main_arg1)) (m ((c : Thread nD τ).loc main_arg3)) (m ((c : Thread nD τ).loc main_arg6)) := by
  simp only [V, V0, hostOps0, hostOps0_1, hostOps0_2, List.flatten_cons, List.flatten_nil, List.append_nil, List.cons_append, List.nil_append]
  after_results <;> rfl

end Cert.RefVal

end
-- ==== Proof.Val.RefRun.lean ====
/- What the reference's region leaves in its results. -/
module

public import proofs.«01_k».proof.Proof.Val.RefHost

@[expose] public section

set_option maxRecDepth 16384

noncomputable section

namespace Cert.RefVal

open Cert.ReferenceIdeal Cert.ReferenceIdeal.Gen Cert.ReferenceIdeal.Value
open Idealize.ShloMosaic Idealize.ShloMosaic.TcCoe Idealize.ShloMosaic.Tactic

variable (m : (ℓ : Loc nD τ sig) → Buf (Elt Ideal) ℓ) (c : Dev nD)

/-! ## The blocks are the arrays -/

theorem at_zero {a n y : ℕ} (h : a = 0) : a * n + y = y := by rw [h, Nat.zero_mul, Nat.zero_add]

theorem iblk_0 (t : Fin cfg0.N) : iblk m c 0 t = V m c main_v21 := by
  funext y
  blk_ext [iblk] <;> first | exact at_zero rfl | rfl
theorem iblk_1 (t : Fin cfg0.N) : iblk m c 1 t = V m c main_v23 := by
  funext y
  blk_ext [iblk] <;> first | exact at_zero rfl | rfl
theorem whole_2 (t : Fin cfg0.N) (X : Vec Ideal S24x1x4x8 .f32) : ((cfg0.win 2).blk t).view.read (Elt Ideal) X = X := by
  funext y
  blk_ext <;> first | exact at_zero rfl | rfl
theorem iblk_2 (t : Fin cfg0.N) : iblk m c 2 t = V m c main_v25 := by
  unfold iblk
  exact whole_2 t _
theorem iblk_3 (t : Fin cfg0.N) : iblk m c 3 t = V m c main_arg2 := by
  funext y
  blk_ext [iblk] <;> first | exact at_zero rfl | rfl
theorem iblk_4 (t : Fin cfg0.N) : iblk m c 4 t = V m c main_arg4 := by
  funext y
  blk_ext [iblk] <;> first | exact at_zero rfl | rfl
theorem iblk_5 (t : Fin cfg0.N) : iblk m c 5 t = V m c main_arg5 := by
  funext y
  blk_ext [iblk] <;> first | exact at_zero rfl | rfl

/-! ## What the body leaves, from its blocks -/

variable (x0 : Vec Ideal S24x1x4x8x30720 .f32) (x1 x2 : Vec Ideal S24x1x4x8 .f32) (x3 : Vec Ideal S24x1x4x128 .bf16) (x4 : Vec Ideal S24x30720x4x128 .fp8e4m3) (x5 : Vec Ideal S24x4x128 .f32)

theorem pay8_eq : k0_pay8 x0 x1 x2 x3 x4 x5 = k0_pay5 x0 x2 x4 x5 := by
  unfold k0_pay8
  iterate 4 rw [View.ld_unit_lit _ _ (by decide)]
theorem pay9_eq : k0_pay9 x0 x1 x2 x3 x4 x5 = k0_pay6 x3 x5 := by
  unfold k0_pay9
  iterate 2 rw [View.ld_unit_lit _ _ (by decide)]
theorem out0_6_eq : out0_6 x0 x1 x2 x3 x4 x5 = k0_pay2 (k0_pay3 x1) (k0_pay4 x2) x5 (k0_pay5 x0 x2 x4 x5) (k0_pay6 x3 x5) k0_pay7 := by
  unfold out0_6
  rw [pay8_eq, pay9_eq, View.canon_cons_unit_lit _ _ _ (by decide)]
  iterate 3 rw [View.ld_unit_lit _ _ (by decide)]
  rfl
theorem out0_7_eq : out0_7 x0 x1 x2 x3 x4 x5 = k0_pay5 x0 x2 x4 x5 := by
  unfold out0_7
  rw [pay8_eq, View.canon_cons_unit_lit _ _ _ (by decide)]
theorem out0_8_eq : out0_8 x0 x1 x2 x3 x4 x5 = k0_pay1 (k0_pay6 x3 x5) k0_pay7 := by
  unfold out0_8
  rw [pay9_eq, View.canon_cons_unit_lit _ _ _ (by decide)]
  rfl

/-! ## The results -/

variable (a0 : FVec Ideal S24x1x4096 .bf16) (a1 : FVec Ideal S24x1x4x128 .bf16) (a2 : FVec Ideal S24x1x4x128 .bf16) (a3 : FVec Ideal S24x30720x4x128 .bf16) (a4 : FVec Ideal S24x30720x4x128 .fp8e4m3) (a5 : FVec Ideal S24x4x128 .f32) (a6 : IVec S24 32)

/-- The attention over the cache and the new row. -/
def ref0 : FVec Ideal S24x1x4x8x128 .bf16 :=
  k0_pay2 (k0_pay3 (wN a0 a1 a3 a6)) (k0_pay4 (wSum a0 a1 a3 a6)) a5 (k0_pay5 (wC a0 a1 a3 a6) (wSum a0 a1 a3 a6) a4 a5) (k0_pay6 a2 a5) k0_pay7
/-- The part of the cache. -/
def ref1 : FVec Ideal S24x1x4x8x128 .f32 := k0_pay5 (wC a0 a1 a3 a6) (wSum a0 a1 a3 a6) a4 a5
/-- The new row's codes. -/
def ref2 : FVec Ideal S24x1x4x128 .fp8e4m3 := k0_pay1 (k0_pay6 a2 a5) k0_pay7

theorem reg0_eq : reg_main_v26_0 m c = ref0 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_after_last 6 t0_0 (by decide +kernel) _ fun j => ?_
  blk_simp
  rw [after0_6, out0_6_eq, iblk_0, iblk_1, iblk_2, iblk_3, iblk_4, iblk_5, V_wC, V_wN, V_wSum, V_main_arg2, V_main_arg4, V_main_arg5]
  rfl
theorem reg1_eq : reg_main_v26_1 m c = ref1 (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) := by
  refine (dats m 0 c).arrAt_eq_of_after_last 7 t0_0 (by decide +kernel) _ fun j => ?_
  blk_simp
  rw [after0_7, out0_7_eq, iblk_0, iblk_2, iblk_4, iblk_5, V_wC, V_wSum, V_main_arg4, V_main_arg5]
  rfl
theorem reg2_eq : reg_main_v26_2 m c = ref2 (m ((c : Thread nD τ).loc main_arg2)) (m ((c : Thread nD τ).loc main_arg5)) := by
  refine (dats m 0 c).arrAt_eq_of_after_last 8 t0_0 (by decide +kernel) _ fun j => ?_
  blk_simp
  rw [after0_8, out0_8_eq, iblk_3, iblk_5, V_main_arg2, V_main_arg5]
  rfl

end Cert.RefVal

end
-- ==== Proof.Val.RefRead.lean ====
/- The reference's values at an index, at the extended reals. -/
module

public import proofs.«01_k».proof.Proof.Val.RefHost
public import proofs.«01_k».proof.Proof.Val.Out

@[expose] public section

set_option maxRecDepth 16384

noncomputable section

namespace Cert.RefVal

open Cert.ReferenceIdeal Cert.ReferenceIdeal.Gen
open Idealize.ShloMosaic Idealize.ShloMosaic.TcCoe Idealize.ShloMosaic.Tactic
open Cert.Val (SC CP RC CN code neg_inf)

variable (a0 : FVec Ideal S24x1x4096 .bf16) (a1 : FVec Ideal S24x1x4x128 .bf16) (a3 : FVec Ideal S24x30720x4x128 .bf16) (a6 : IVec S24 32)
variable (b : Fin 24) (g : Fin 4) (j : Fin 8)

theorem prodC_eq (t : Fin 30720) : prodC a0 a3 (ix5 b 0 g j t)
    = (∑ d : Fin 128, (a3 (ix4 b t g d) : EReal) * a0 (ix3 b 0 ⟨128 * (8 * g.val + j.val) + d.val, by omega⟩)) * SC := by
  have e : ∀ d : Fin 128, ∀ p, (⟨g.val * 1024 + j.val * 128 + d.val, p⟩ : Fin 4096) = ⟨128 * (8 * g.val + j.val) + d.val, by omega⟩ := fun d p => Fin.ext (by simp only []; omega)
  unfold prodC qh
  pointwise
  simp only [e]
  rfl

theorem within_eq (hl : (a6 (ix1 b)).toNat ≤ 30720) (t : Fin 30720) : within a6 (ix2 b t) = 1#1 ↔ t.val < (a6 (ix1 b)).toNat := by
  unfold within
  pointwise
  word_omega

theorem scoreC_eq (hl : (a6 (ix1 b)).toNat ≤ 30720) (t : Fin 30720) :
    scoreC a0 a3 a6 (ix5 b 0 g j t) = if t.val < (a6 (ix1 b)).toNat then (prodC a0 a3 (ix5 b 0 g j t) : EReal) else ⊥ := by
  unfold scoreC
  pointwise
  unfold Scalar.select
  have hw : within a6 (ix2 b t) = 1 ↔ t.val < (a6 (ix1 b)).toNat := within_eq a6 b hl t
  simp only [hw]
  split
  · rfl
  · exact neg_inf

theorem scoreN_eq : scoreN a0 a1 (ix4 b 0 g j) = (∑ d : Fin 128, (a0 (ix3 b 0 ⟨128 * (8 * g.val + j.val) + d.val, by omega⟩) : EReal) * a1 (ix4 b 0 g d)) * SC := by
  have e : ∀ d : Fin 128, ∀ p, (⟨g.val * 1024 + j.val * 128 + d.val, p⟩ : Fin 4096) = ⟨128 * (8 * g.val + j.val) + d.val, by omega⟩ := fun d p => Fin.ext (by simp only []; omega)
  unfold scoreN qh
  pointwise
  simp only [e]
  rfl

/-- The host's maximum over the last of five axes. -/
theorem host_max {n0 n1 n2 n3 n4 : ℕ} (x : FVec Ideal ⟨5, ![n0, n1, n2, n3, n4]⟩ .f32) (h : (⟨5, ![n0, n1, n2, n3, n4]⟩ : Shape).ReducesTo [4] ⟨4, ![n0, n1, n2, n3]⟩) (hu)
    (p : Fin n0) (q : Fin n1) (r : Fin n2) (s : Fin n3) :
    (Host.reduce (FloatOps.maximumf (F := Ideal) (φ := .f32)) x (constant (F := Ideal) S_ .f32 0xFF800000#32) h hu : FVec Ideal ⟨4, ![n0, n1, n2, n3]⟩ .f32) (ix4 p q r s) = Finset.univ.fold max ⊥ fun k : Fin n4 => (x (ix5 p q r s k) : EReal) := by
  rw [← neg_inf]
  pointwise

/-- The same with one more value. -/
theorem host_max_with {n0 n1 n2 n3 n4 : ℕ} (x : FVec Ideal ⟨5, ![n0, n1, n2, n3, n4]⟩ .f32) (y : FVec Ideal ⟨4, ![n0, n1, n2, n3]⟩ .f32) (h : (⟨5, ![n0, n1, n2, n3, n4]⟩ : Shape).ReducesTo [4] ⟨4, ![n0, n1, n2, n3]⟩) (hu)
    (p : Fin n0) (q : Fin n1) (r : Fin n2) (s : Fin n3) :
    (maximumf (Host.reduce (FloatOps.maximumf (F := Ideal) (φ := .f32)) x (constant (F := Ideal) S_ .f32 0xFF800000#32) h hu : FVec Ideal ⟨4, ![n0, n1, n2, n3]⟩ .f32) y) (ix4 p q r s)
      = max (Finset.univ.fold max ⊥ fun k : Fin n4 => (x (ix5 p q r s k) : EReal)) (y (ix4 p q r s) : EReal) :=
  congrArg (max (α := EReal) · _) (host_max x h hu p q r s)

theorem topS_eq : topS a0 a1 a3 a6 (ix4 b 0 g j) = max (Finset.univ.fold max ⊥ fun t : Fin 30720 => (scoreC a0 a3 a6 (ix5 b 0 g j t) : EReal)) (scoreN a0 a1 (ix4 b 0 g j) : EReal) := by
  unfold topS
  generalize scoreC a0 a3 a6 = x, scoreN a0 a1 = y
  exact host_max_with x y reducesTo_S24x1x4x8x30720_S24x1x4x8_d4 h_S_ b 0 g j

theorem wC_eq (t : Fin 30720) : wC a0 a1 a3 a6 (ix5 b 0 g j t) = Ideal.exp ((scoreC a0 a3 a6 (ix5 b 0 g j t) : EReal) - topS a0 a1 a3 a6 (ix4 b 0 g j)) := by
  unfold wC
  pointwise

theorem wN_eq : wN a0 a1 a3 a6 (ix4 b 0 g j) = Ideal.exp ((scoreN a0 a1 (ix4 b 0 g j) : EReal) - topS a0 a1 a3 a6 (ix4 b 0 g j)) := by
  unfold wN
  pointwise

theorem wSum_eq : wSum a0 a1 a3 a6 (ix4 b 0 g j) = (∑ t : Fin 30720, (wC a0 a1 a3 a6 (ix5 b 0 g j t) : EReal)) + wN a0 a1 a3 a6 (ix4 b 0 g j) := by
  unfold wSum
  pointwise

/-! ## The region's results -/

variable (P : FVec Ideal S24x1x4x8x30720 .f32) (N L : FVec Ideal S24x1x4x8 .f32) (a2 : FVec Ideal S24x1x4x128 .bf16) (a4 : FVec Ideal S24x30720x4x128 .fp8e4m3) (a5 : FVec Ideal S24x4x128 .f32)
variable (d : Fin 128)

theorem cache_eq : k0_pay5 (F := Ideal) P L a4 a5 (ix5 b 0 g j d)
    = Ideal.div ((∑ t : Fin 30720, (a4 (ix4 b t g d) : EReal) * code (P (ix5 b 0 g j t))) * RC * a5 (ix3 b g d)) (L (ix4 b 0 g j)) := by
  pointwise [k0_pay5, k0_pay4]
  rfl

theorem codes_eq : k0_pay1 (F := Ideal) (k0_pay6 a2 a5) k0_pay7 (ix4 b 0 g d) = min CP (max CN (Ideal.div (a2 (ix4 b 0 g d)) (a5 (ix3 b g d)))) := by
  pointwise [k0_pay1, k0_pay6, k0_pay7]
  rfl

theorem both_eq (C : FVec Ideal S24x1x4x8x128 .f32) : k0_pay2 (F := Ideal) (k0_pay3 N) (k0_pay4 L) a5 C (k0_pay6 a2 a5) k0_pay7 (ix5 b 0 g j d)
    = (C (ix5 b 0 g j d) : EReal) + Ideal.div (N (ix4 b 0 g j) * k0_pay1 (F := Ideal) (k0_pay6 a2 a5) k0_pay7 (ix4 b 0 g d) * a5 (ix3 b g d)) (L (ix4 b 0 g j)) := by
  pointwise [k0_pay2, k0_pay3, k0_pay4]

end Cert.RefVal

end
-- ==== Proof.Val.Link.lean ====
/- The kernel's values are the reference's. -/
module

public import proofs.«01_k».proof.Proof.Val.RefRead

@[expose] public section

set_option maxRecDepth 16384

noncomputable section

namespace Cert.RefVal

open Cert.ReferenceIdeal Cert.ReferenceIdeal.Gen
open Cert.KernelIdeal.Hand (Ins)
open Idealize.ShloMosaic Idealize.ShloMosaic.TcCoe Idealize.ShloMosaic.Tactic
open Cert.Val (SC CP RC CN code raw sraw snv top pnv pw vat vsv vcv dnv cachePart newPart bot_SC)

/-- The kernel's inputs are these arguments, and every length fits. -/
structure Same (x : Ins Ideal) (a0 : FVec Ideal S24x1x4096 .bf16) (a1 a2 : FVec Ideal S24x1x4x128 .bf16) (a3 : FVec Ideal S24x30720x4x128 .bf16)
    (a4 : FVec Ideal S24x30720x4x128 .fp8e4m3) (a5 : FVec Ideal S24x4x128 .f32) (a6 : IVec S24 32) : Prop where
  q : ∀ (b : Fin 24) (w : Fin 32) (d : Fin 128) (p), x.q (ix3 ⟨min b.val 23, p⟩ w d) = a0 (ix3 b 0 ⟨128 * w.val + d.val, by omega⟩)
  kn : ∀ (b : Fin 24) (g : Fin 4) (d : Fin 128) (p), x.kn (ix3 ⟨min b.val 23, p⟩ g d) = a1 (ix4 b 0 g d)
  vn : ∀ (b : Fin 24) (g : Fin 4) (d : Fin 128) (p), x.vn (ix3 ⟨min b.val 23, p⟩ g d) = a2 (ix4 b 0 g d)
  vs : ∀ (b : Fin 24) (g : Fin 4) (d : Fin 128) (p), x.vs (ix3 ⟨min b.val 23, p⟩ g d) = a5 (ix3 b g d)
  ka : ∀ (b : Fin 24) (g : Fin 4) (d : Fin 128) (t : Fin 30720) (p q), x.ka (ix3 ⟨min b.val 23, p⟩ ⟨min (4 * t.val + g.val) 122879, q⟩ d) = a3 (ix4 b t g d)
  va : ∀ (b : Fin 24) (g : Fin 4) (d : Fin 128) (t : Fin 30720) (p q), x.va (ix3 ⟨min b.val 23, p⟩ ⟨min (4 * t.val + g.val) 122879, q⟩ d) = a4 (ix4 b t g d)
  ln : ∀ b : Fin 24, x.ln b.val = a6 (ix1 b)
  fit : ∀ b : Fin 24, (a6 (ix1 b)).toNat ≤ 30720

variable {x : Ins Ideal} {a0 : FVec Ideal S24x1x4096 .bf16} {a1 a2 : FVec Ideal S24x1x4x128 .bf16} {a3 : FVec Ideal S24x30720x4x128 .bf16}
  {a4 : FVec Ideal S24x30720x4x128 .fp8e4m3} {a5 : FVec Ideal S24x4x128 .f32} {a6 : IVec S24 32}
variable (h : Same x a0 a1 a2 a3 a4 a5 a6) (b : Fin 24) (g : Fin 4) (j : Fin 8) (d : Fin 128)
include h

theorem Same.raw_eq (t : Fin 30720) : prodC a0 a3 (ix5 b 0 g j t) = raw x b.val j (4 * t.val + g.val) * SC := by
  have e : ∀ p, (⟨8 * ((4 * t.val + g.val) % 4) + j.val, p⟩ : Fin 32) = ⟨8 * g.val + j.val, by omega⟩ := fun p => Fin.ext (by show 8 * ((4 * t.val + g.val) % 4) + j.val = 8 * g.val + j.val; omega)
  unfold raw
  simp only [e, h.q, h.ka]
  rw [prodC_eq]
  refine congrArg (· * SC) (Finset.sum_congr rfl fun d _ => mul_comm _ _)

theorem Same.score_eq (t : Fin 30720) : scoreC a0 a3 a6 (ix5 b 0 g j t) = sraw x b.val j (4 * t.val + g.val) * SC := by
  unfold sraw
  rw [scoreC_eq a0 a3 a6 b g j (h.fit b), h.raw_eq, h.ln, show (4 * t.val + g.val) / 4 = t.val from by omega]
  split
  · rfl
  · exact bot_SC.symm

theorem Same.new_eq : scoreN a0 a1 (ix4 b 0 g j) = snv x b.val j g := by
  unfold snv
  simp only [h.q, h.kn]
  exact scoreN_eq a0 a1 b g j

theorem Same.top_eq : topS a0 a1 a3 a6 (ix4 b 0 g j) = top x b.val j g := by
  unfold top
  simp only [← h.score_eq, ← h.new_eq]
  exact topS_eq a0 a1 a3 a6 b g j

theorem Same.weight_eq (t : Fin 30720) : wC a0 a1 a3 a6 (ix5 b 0 g j t) = pw x b.val j (4 * t.val + g.val) := by
  have e : ∀ p, (⟨(4 * t.val + g.val) % 4, p⟩ : Fin 4) = g := fun p => Fin.ext (by show (4 * t.val + g.val) % 4 = g.val; omega)
  unfold pw
  rw [e, ← h.score_eq, ← h.top_eq]
  exact wC_eq a0 a1 a3 a6 b g j t

theorem Same.new_weight_eq : wN a0 a1 a3 a6 (ix4 b 0 g j) = pnv x b.val j g := by
  unfold pnv
  rw [← h.new_eq, ← h.top_eq]
  exact wN_eq a0 a1 a3 a6 b g j

theorem Same.sum_eq : wSum a0 a1 a3 a6 (ix4 b 0 g j) = dnv x b.val j g := by
  unfold dnv
  simp only [← h.weight_eq, ← h.new_weight_eq]
  exact wSum_eq a0 a1 a3 a6 b g j

theorem Same.codes_eq : k0_pay1 (F := Ideal) (k0_pay6 a2 a5) k0_pay7 (ix4 b 0 g d) = vcv x b.val g d := by
  unfold vcv vsv
  simp only [h.vn, h.vs]
  exact Cert.RefVal.codes_eq b g a2 a5 d

theorem Same.cache_eq : k0_pay5 (F := Ideal) (wC a0 a1 a3 a6) (wSum a0 a1 a3 a6) a4 a5 (ix5 b 0 g j d) = cachePart x b.val g j d := by
  unfold cachePart vsv vat
  simp only [h.va, h.vs, ← h.weight_eq, ← h.sum_eq]
  rw [Cert.RefVal.cache_eq]
  refine congrArg (fun s => Ideal.div (s * RC * a5 (ix3 b g d)) (wSum a0 a1 a3 a6 (ix4 b 0 g j))) (Finset.sum_congr rfl fun t _ => mul_comm _ _)

theorem Same.both_eq : k0_pay2 (F := Ideal) (k0_pay3 (wN a0 a1 a3 a6)) (k0_pay4 (wSum a0 a1 a3 a6)) a5 (k0_pay5 (wC a0 a1 a3 a6) (wSum a0 a1 a3 a6) a4 a5) (k0_pay6 a2 a5) k0_pay7 (ix5 b 0 g j d)
    = cachePart x b.val g j d + newPart x b.val g j d := by
  rw [Cert.RefVal.both_eq, h.cache_eq, h.codes_eq, h.new_weight_eq, h.sum_eq]
  unfold newPart vsv
  rw [h.vs]

end Cert.RefVal

end
-- ==== Proof.Val.Equal.lean ====
/- The three results of the kernel are the reference's. -/
module

public import proofs.«01_k».proof.Proof.Val.KerIn
public import proofs.«01_k».proof.Proof.Val.RefRun
public import proofs.«01_k».proof.Proof.Val.Link

@[expose] public section

set_option maxRecDepth 16384

noncomputable section

namespace Cert.RefVal

open Cert.ReferenceIdeal Cert.ReferenceIdeal.Gen
open Idealize.ShloMosaic Idealize.ShloMosaic.TcCoe Idealize.ShloMosaic.Tactic

/-- Rows by head and rows by head group and query are the same row of 4096. -/
theorem heads_eq {e : FTy} (X : FVec Ideal Cert.KernelIdeal.S24x32x128 e) (Y : FVec Ideal S24x1x4x8x128 e)
    (h : ∀ (b : Fin 24) (g : Fin 4) (j : Fin 8) (d : Fin 128), X (ix3 b ⟨8 * g.val + j.val, by omega⟩ d) = Y (ix5 b 0 g j d)) :
    shapeCast S24x1x4096 X Cert.KernelIdeal.Gen.shapeCasts_S24x32x128_S24x1x4096 = shapeCast S24x1x4096 Y shapeCasts_S24x1x4x8x128_S24x1x4096 := by
  funext i
  rw [eq_ix3 i]
  generalize i 0 = b, i 1 = z, i 2 = n
  change Fin 24 at b; change Fin 1 at z; change Fin 4096 at n
  pointwise
  refine Eq.trans (congrArg (fun r => X (ix3 b r ⟨n.val % 128, by omega⟩)) (Fin.ext ?_)) (h b ⟨n.val / 1024, by omega⟩ ⟨n.val / 128 % 8, by omega⟩ ⟨n.val % 128, by omega⟩)
  show n.val / 128 = 8 * (n.val / 1024) + n.val / 128 % 8
  omega

theorem codes_cast {e : FTy} (X : FVec Ideal Cert.KernelIdeal.S24x4x128 e) (Y : FVec Ideal S24x1x4x128 e)
    (h : ∀ (b : Fin 24) (g : Fin 4) (d : Fin 128), X (ix3 b g d) = Y (ix4 b 0 g d)) :
    shapeCast S24x1x4x128 X Cert.KernelIdeal.Gen.shapeCasts_S24x4x128_S24x1x4x128 = Y := by
  funext i
  rw [eq_ix4 i]
  generalize i 0 = b, i 1 = z, i 2 = g, i 3 = d
  change Fin 24 at b; change Fin 1 at z; change Fin 4 at g; change Fin 128 at d
  pointwise
  rw [show z = 0 from Subsingleton.elim _ _]
  exact h b g d

variable (m : (ℓ : Loc Cert.KernelIdeal.nD Cert.KernelIdeal.τ Cert.KernelIdeal.sig) → Buf (Elt Ideal) ℓ) (c : Dev Cert.KernelIdeal.nD)

theorem same (hm : Cert.KernelIdeal.Hand.AllFit m) : Same (Cert.KernelIdeal.Hand.ins m c)
    (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    (m ((c : Thread Cert.KernelIdeal.nD Cert.KernelIdeal.τ).loc Cert.KernelIdeal.main_arg4)) (m ((c : Thread Cert.KernelIdeal.nD Cert.KernelIdeal.τ).loc Cert.KernelIdeal.main_arg5))
    (m ((c : Thread Cert.KernelIdeal.nD Cert.KernelIdeal.τ).loc Cert.KernelIdeal.main_arg6)) where
  q b w d p := Cert.Val.q_at m c b d w p
  kn b g d p := Cert.Val.kn_at m c b g d p
  vn b g d p := Cert.Val.vn_at m c b g d p
  vs b g d p := Cert.Val.vs_at m c b g d p
  ka b g d t p q := Cert.Val.ka_at m c b g d t p q
  va b g d t p q := Cert.Val.va_at m c b g d t p q
  ln b := Cert.Val.ln_at m c b
  fit b := hm c (ix1 b)

theorem result0 (hm : Cert.KernelIdeal.Hand.AllFit m) :
    shapeCast S24x1x4096 (Cert.KernelIdeal.Hand.res5 m c) Cert.KernelIdeal.Gen.shapeCasts_S24x32x128_S24x1x4096
      = shapeCast S24x1x4096 (ref0
          (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5))
          (m ((c : Thread Cert.KernelIdeal.nD Cert.KernelIdeal.τ).loc Cert.KernelIdeal.main_arg6))) shapeCasts_S24x1x4x8x128_S24x1x4096 :=
  heads_eq (e := .bf16) _ _ fun b g j d => (Cert.Val.res5_at m c b g d j hm).trans ((same m c hm).both_eq b g j d).symm

theorem result1 (hm : Cert.KernelIdeal.Hand.AllFit m) :
    shapeCast S24x1x4096 (Cert.KernelIdeal.Hand.res6 m c) Cert.KernelIdeal.Gen.shapeCasts_S24x32x128_S24x1x4096
      = shapeCast S24x1x4096 (ref1
          (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5))
          (m ((c : Thread Cert.KernelIdeal.nD Cert.KernelIdeal.τ).loc Cert.KernelIdeal.main_arg6))) shapeCasts_S24x1x4x8x128_S24x1x4096 :=
  heads_eq (e := .f32) _ _ fun b g j d => (Cert.Val.res6_at m c b g d j hm).trans ((same m c hm).cache_eq b g j d).symm

theorem result2 (hm : Cert.KernelIdeal.Hand.AllFit m) :
    shapeCast S24x1x4x128 (Cert.KernelIdeal.Hand.res7 m c) Cert.KernelIdeal.Gen.shapeCasts_S24x4x128_S24x1x4x128
      = ref2 (m ((c : Thread Cert.KernelIdeal.nD Cert.KernelIdeal.τ).loc Cert.KernelIdeal.main_arg2)) (m ((c : Thread Cert.KernelIdeal.nD Cert.KernelIdeal.τ).loc Cert.KernelIdeal.main_arg5)) :=
  codes_cast (e := .fp8e4m3) _ _ fun b g d => (Cert.Val.res7_at m c b g d).trans ((same m c hm).codes_eq b g d).symm

end Cert.RefVal

end
-- ==== Proof.lean ====
module

public import proofs.«01_k».proof.Defs
public import proofs.«01_k».proof.Proof.K.Post
public import proofs.«01_k».proof.Proof.KI.Post
public import proofs.«01_k».proof.Proof.Gen.ReferenceIdeal.Frame
public import proofs.«01_k».proof.Proof.Gen.ReferenceIdeal.Run
public import proofs.«01_k».proof.Proof.Val.Equal
public import Idealize.ShloMosaic.Lib.Pointwise

@[expose] public section

noncomputable section

namespace Cert.Proof

open Idealize.ShloMosaic Idealize.ShloMosaic.TcCoe Idealize.SL.Sem

instance facts_pre : Cert.Pre_lengths_fit.Facts := ⟨by decide⟩

/-- The precondition at one sequence: its length is from 0 to 30720. -/
theorem fit_of {F : FTy → Type} [FloatOps F] (a0) (a1) (a2) (a3) (a4) (a5) (a6 : IVec Cert.Pre_lengths_fit.S24 32)
    (h : Cert.Pre_lengths_fit.fn (F := F) a0 a1 a2 a3 a4 a5 a6 = fun _ => 1#1) (i : Cert.Pre_lengths_fit.S24.Idx) : (a6 i).toNat ≤ 30720 := by
  have hi := congrFun h i
  revert hi
  pointwise [Cert.Pre_lengths_fit.fn]
  word_omega

theorem frame_K : Cert.quiescent_Kernel := fun m ρ hpre =>
  (θ_run _ _ _).mono (fun _ h => ⟨fun c => (h.1 c).2, h.2⟩)
    (Cert.Kernel.Hand.run m ρ fun c i => fit_of _ _ _ _ _ _ _ (hpre c) i)
theorem frame_KI : Cert.quiescent_KernelIdeal := fun m ρ hpre =>
  (θ_run _ _ _).mono (fun _ h => ⟨fun c => (h.1 c).2, h.2⟩)
    (Cert.KernelIdeal.Hand.run m ρ fun c i => fit_of _ _ _ _ _ _ _ (hpre c) i)

open Cert.RefVal Cert.KernelIdeal.Hand in
/-- The kernel's results are the reference's: the kernel's own are the common values. -/
theorem algebraic : Cert.algebraic_KernelIdeal_ReferenceIdeal := fun m g m' g' hpre hag => by
  have hm : AllFit m := fun c i => fit_of _ _ _ _ _ _ _ (hpre c) i
  refine ⟨fun c => shapeCast _ (res5 m c) Cert.KernelIdeal.Gen.shapeCasts_S24x32x128_S24x1x4096,
    fun c => shapeCast _ (res6 m c) Cert.KernelIdeal.Gen.shapeCasts_S24x32x128_S24x1x4096,
    fun c => shapeCast _ (res7 m c) Cert.KernelIdeal.Gen.shapeCasts_S24x4x128_S24x1x4x128, ?_, ?_⟩
  · exact (θ_run _ _ _).mono (fun _ h c => ⟨(h.1 c).1.1, (h.1 c).1.2.1, (h.1 c).1.2.2, (h.1 c).2⟩) (Cert.KernelIdeal.Hand.run m g hm)
  · refine (θ_run _ _ _).mono (fun _ h c => ?_) (Cert.ReferenceIdeal.Value.run m' g')
    obtain ⟨h0, h1, h2, h3⟩ := h c
    obtain ⟨e0, e1, e2, e3, e4, e5, e6⟩ := hag c
    refine ⟨h0.trans ?_, h1.trans ?_, h2.trans ?_, h3⟩
    · rw [reg0_eq, e0, e1, e2, e3, e4, e5, e6]
      exact (result0 m c hm).symm
    · rw [reg1_eq, e0, e1, e3, e4, e5, e6]
      exact (result1 m c hm).symm
    · rw [reg2_eq, e2, e5]
      exact (result2 m c hm).symm

end Cert.Proof

theorem Cert.Proof.claim : Cert.Claim :=
  ⟨Cert.Kernel.Gen.facts, Cert.KernelIdeal.Gen.facts, Cert.ReferenceIdeal.Gen.facts, Cert.Proof.facts_pre,
    frame_K, frame_KI, fun m ρ _ => Cert.ReferenceIdeal.Gen.frame m ρ, trivial, algebraic⟩

end
